-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S512x512
  ∧ IdealRules.bf16_pack.Statement Cert.KernelIdeal.S16x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S18944x3584 : Shape := ⟨2, ![18944, 3584]⟩
abbrev S18944x448x2 : Shape := ⟨3, ![18944, 448, 2]⟩
abbrev S2x256x8 : Shape := ⟨3, ![2, 256, 8]⟩
abbrev S18944x56 : Shape := ⟨2, ![18944, 56]⟩
abbrev S3584x3584 : Shape := ⟨2, ![3584, 3584]⟩
abbrev S_ : Shape := ⟨0, ![]⟩

class Facts : Prop where
  bitsLt_bf16_f32 : FTy.bits .bf16 < FTy.bits .f32
  bcast_S_S18944x3584 : S_.BroadcastsInDim S18944x3584 (![] : Fin 0 → Fin S18944x3584.rank)
  reducesTo_S18944x3584_S_d0_1 : S18944x3584.ReducesTo [0, 1] S_
  h_S_ : 0 < S_.numel
  natLt_16_32 : 16 < 32
  bcast_S_S2x256x8 : S_.BroadcastsInDim S2x256x8 (![] : Fin 0 → Fin S2x256x8.rank)
  reducesTo_S2x256x8_S_d0_1_2 : S2x256x8.ReducesTo [0, 1, 2] S_
  bcast_S_S18944x56 : S_.BroadcastsInDim S18944x56 (![] : Fin 0 → Fin S18944x56.rank)
  reducesTo_S18944x56_S_d0_1 : S18944x56.ReducesTo [0, 1] S_
  bcast_S_S3584x3584 : S_.BroadcastsInDim S3584x3584 (![] : Fin 0 → Fin S3584x3584.rank)
  reducesTo_S3584x3584_S_d0_1 : S3584x3584.ReducesTo [0, 1] S_

variable [Facts]

def fn_part1 {F : FTy → Type} [FloatOps F] (main_v4 : IVec S_ 1) (main_v10 : IVec S_ 1) (main_v14 : IVec S_ 1) (main_v15 : FVec F S3584x3584 .f32) (main_cst_5 : FVec F S_ .f32) : IVec S_ 1 × IVec S_ 1 × IVec S_ 1 × IVec S_ 1 :=
  let main_v16 : FVec F S3584x3584 .f32 := broadcastInDim S3584x3584 ![] bcast_S_S3584x3584 main_cst_5
  let main_v17 : IVec S3584x3584 1 := cmpf .olt main_v15 main_v16
  let main_c_6 : IVec S_ 1 := constantI S_ 1 1#1
  let main_v18 : IVec S_ 1 := (fun x v => Host.reduce IntOp.andi x v reducesTo_S3584x3584_S_d0_1 h_S_) main_v17 main_c_6
  (main_v4, main_v10, main_v14, main_v18)

def fn {F : FTy → Type} [FloatOps F] (main_arg0 : FVec F S18944x3584 .bf16) (main_arg1 : IVec S18944x448x2 8) (main_arg2 : IVec S2x256x8 16) (main_arg3 : FVec F S18944x56 .f32) (main_arg4 : FVec F S3584x3584 .f32) : IVec S_ 1 × IVec S_ 1 × IVec S_ 1 × IVec S_ 1 :=
  let main_v0 : FVec F S18944x3584 .f32 := (extf .f32 · bitsLt_bf16_f32) main_arg0
  let main_v1 : FVec F S18944x3584 .f32 := Host.absf main_v0
  let main_cst : FVec F S_ .f32 := constant S_ .f32 0x7F800000#32
  let main_v2 : FVec F S18944x3584 .f32 := broadcastInDim S18944x3584 ![] bcast_S_S18944x3584 main_cst
  let main_v3 : IVec S18944x3584 1 := cmpf .olt main_v1 main_v2
  let main_c : IVec S_ 1 := constantI S_ 1 1#1
  let main_v4 : IVec S_ 1 := (fun x v => Host.reduce IntOp.andi x v reducesTo_S18944x3584_S_d0_1 h_S_) main_v3 main_c
  let main_v5 : IVec S2x256x8 32 := (extui 32 · natLt_16_32) main_arg2
  let main_c_0 : IVec S_ 32 := constantI S_ 32 32640#32
  let main_v6 : IVec S2x256x8 32 := broadcastInDim S2x256x8 ![] bcast_S_S2x256x8 main_c_0
  let main_v7 : IVec S2x256x8 32 := andi main_v5 main_v6
  let main_c_1 : IVec S_ 32 := constantI S_ 32 32640#32
  let main_v8 : IVec S2x256x8 32 := broadcastInDim S2x256x8 ![] bcast_S_S2x256x8 main_c_1
  let main_v9 : IVec S2x256x8 1 := cmpi .ne main_v7 main_v8
  let main_c_2 : IVec S_ 1 := constantI S_ 1 1#1
  let main_v10 : IVec S_ 1 := (fun x v => Host.reduce IntOp.andi x v reducesTo_S2x256x8_S_d0_1_2 h_S_) main_v9 main_c_2
  let main_v11 : FVec F S18944x56 .f32 := Host.absf main_arg3
  let main_cst_3 : FVec F S_ .f32 := constant S_ .f32 0x7F800000#32
  let main_v12 : FVec F S18944x56 .f32 := broadcastInDim S18944x56 ![] bcast_S_S18944x56 main_cst_3
  let main_v13 : IVec S18944x56 1 := cmpf .olt main_v11 main_v12
  let main_c_4 : IVec S_ 1 := constantI S_ 1 1#1
  let main_v14 : IVec S_ 1 := (fun x v => Host.reduce IntOp.andi x v reducesTo_S18944x56_S_d0_1 h_S_) main_v13 main_c_4
  let main_v15 : FVec F S3584x3584 .f32 := Host.absf main_arg4
  let main_cst_5 : FVec F S_ .f32 := constant S_ .f32 0x7F800000#32
  fn_part1 (F := F) main_v4 main_v10 main_v14 main_v15 main_cst_5
-- ==== Kernel.lean ====
abbrev S18944x3584 : Shape := ⟨2, ![18944, 3584]⟩
abbrev S18944x448x2 : Shape := ⟨3, ![18944, 448, 2]⟩
abbrev S2x256x8 : Shape := ⟨3, ![2, 256, 8]⟩
abbrev S18944x56 : Shape := ⟨2, ![18944, 56]⟩
abbrev S3584x3584 : Shape := ⟨2, ![3584, 3584]⟩
abbrev S3x3584x3584 : Shape := ⟨3, ![3, 3584, 3584]⟩
abbrev S512x512 : Shape := ⟨2, ![512, 512]⟩
abbrev S3x512x512 : Shape := ⟨3, ![3, 512, 512]⟩
abbrev S1x512x512 : Shape := ⟨3, ![1, 512, 512]⟩
abbrev S2x448x18944 : Shape := ⟨3, ![2, 448, 18944]⟩
abbrev S56x18944 : Shape := ⟨2, ![56, 18944]⟩
abbrev S2x128x8 : Shape := ⟨3, ![2, 128, 8]⟩
abbrev S_ : Shape := ⟨0, ![]⟩
abbrev S2x8x128 : Shape := ⟨3, ![2, 8, 128]⟩
abbrev S448x18944 : Shape := ⟨2, ![448, 18944]⟩
abbrev S1x18944 : Shape := ⟨2, ![1, 18944]⟩
abbrev S8x128 : Shape := ⟨2, ![8, 128]⟩
abbrev S2x64x512 : Shape := ⟨3, ![2, 64, 512]⟩
abbrev S8x512 : Shape := ⟨2, ![8, 512]⟩
abbrev S3x512x3584 : Shape := ⟨3, ![3, 512, 3584]⟩
abbrev S64x512 : Shape := ⟨2, ![64, 512]⟩
abbrev S1x512 : Shape := ⟨2, ![1, 512]⟩
abbrev S4x64x512 : Shape := ⟨3, ![4, 64, 512]⟩
abbrev S2x3x3584x512 : Shape := ⟨4, ![2, 3, 3584, 512]⟩
abbrev S1x64x512 : Shape := ⟨3, ![1, 64, 512]⟩
abbrev S128x128 : Shape := ⟨2, ![128, 128]⟩
abbrev S1x8x128 : Shape := ⟨3, ![1, 8, 128]⟩
abbrev S1x1x128 : Shape := ⟨3, ![1, 1, 128]⟩
abbrev S1x128 : Shape := ⟨2, ![1, 128]⟩
abbrev S8x128x1 : Shape := ⟨3, ![8, 128, 1]⟩
abbrev S16x128 : Shape := ⟨2, ![16, 128]⟩
abbrev S1x1x16x128 : Shape := ⟨4, ![1, 1, 16, 128]⟩
abbrev S1x512x3584 : Shape := ⟨3, ![1, 512, 3584]⟩
abbrev S512x3584 : Shape := ⟨2, ![512, 3584]⟩
abbrev S1x1x3584x512 : Shape := ⟨4, ![1, 1, 3584, 512]⟩
abbrev S3584x512 : Shape := ⟨2, ![3584, 512]⟩
abbrev S1x1x512x512 : Shape := ⟨4, ![1, 1, 512, 512]⟩
abbrev S64x8x512 : Shape := ⟨3, ![64, 8, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S18944 : Shape := ⟨1, ![18944]⟩
abbrev S18944x448 : Shape := ⟨2, ![18944, 448]⟩
abbrev S1x1 : Shape := ⟨2, ![1, 1]⟩

abbrev nBuf : Space → Nat
  | .hbm => 24
  | .vmem => 20
  | .smem => 0
  | _ => 0

abbrev bufTy : (tb : Table) → Fin (tcTables nBuf tb) → BufTy
  | .hbm, ⟨0, _⟩ => ⟨S18944x3584, .bf16⟩
  | .hbm, ⟨1, _⟩ => ⟨S18944x448x2, .i8⟩
  | .hbm, ⟨2, _⟩ => ⟨S2x256x8, .i16⟩
  | .hbm, ⟨3, _⟩ => ⟨S18944x56, .f32⟩
  | .hbm, ⟨4, _⟩ => ⟨S3584x3584, .f32⟩
  | .hbm, ⟨5, _⟩ => ⟨S3x3584x3584, .bf16⟩
  | .hbm, ⟨6, _⟩ => ⟨S2x448x18944, .i8⟩
  | .hbm, ⟨7, _⟩ => ⟨S56x18944, .f32⟩
  | .hbm, ⟨8, _⟩ => ⟨S2x256x8, .i32⟩
  | .hbm, ⟨9, _⟩ => ⟨S2x128x8, .i32⟩
  | .hbm, ⟨10, _⟩ => ⟨S2x128x8, .i32⟩
  | .hbm, ⟨11, _⟩ => ⟨S_, .i32⟩
  | .hbm, ⟨12, _⟩ => ⟨S2x128x8, .i32⟩
  | .hbm, ⟨13, _⟩ => ⟨S2x128x8, .i32⟩
  | .hbm, ⟨14, _⟩ => ⟨S2x128x8, .i32⟩
  | .hbm, ⟨15, _⟩ => ⟨S2x8x128, .i32⟩
  | .hbm, ⟨16, _⟩ => ⟨S2x8x128, .i32⟩
  | .hbm, ⟨17, _⟩ => ⟨S448x18944, .f32⟩
  | .hbm, ⟨18, _⟩ => ⟨S1x18944, .f32⟩
  | .hbm, ⟨19, _⟩ => ⟨S8x128, .f32⟩
  | .hbm, ⟨20, _⟩ => ⟨S18944, .f32⟩
  | .hbm, ⟨21, _⟩ => ⟨S18944x448, .f32⟩
  | .hbm, ⟨22, _⟩ => ⟨S1x1, .f32⟩
  | .hbm, ⟨23, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S3x512x512, .bf16⟩
  | .local _ .vmem, ⟨3, _⟩ => ⟨S3x512x512, .bf16⟩
  | .local _ .vmem, ⟨4, _⟩ => ⟨S2x64x512, .i8⟩
  | .local _ .vmem, ⟨5, _⟩ => ⟨S2x64x512, .i8⟩
  | .local _ .vmem, ⟨6, _⟩ => ⟨S2x8x128, .i32⟩
  | .local _ .vmem, ⟨7, _⟩ => ⟨S8x512, .f32⟩
  | .local _ .vmem, ⟨8, _⟩ => ⟨S8x512, .f32⟩
  | .local _ .vmem, ⟨9, _⟩ => ⟨S512x512, .bf16⟩
  | .local _ .vmem, ⟨10, _⟩ => ⟨S512x512, .bf16⟩
  | .local _ .vmem, ⟨11, _⟩ => ⟨S3x512x3584, .bf16⟩
  | .local _ .vmem, ⟨12, _⟩ => ⟨S3x512x3584, .bf16⟩
  | .local _ .vmem, ⟨13, _⟩ => ⟨S64x512, .f32⟩
  | .local _ .vmem, ⟨14, _⟩ => ⟨S64x512, .f32⟩
  | .local _ .vmem, ⟨15, _⟩ => ⟨S1x512, .f32⟩
  | .local _ .vmem, ⟨16, _⟩ => ⟨S1x512, .f32⟩
  | .local _ .vmem, ⟨17, _⟩ => ⟨S8x128, .f32⟩
  | .local _ .vmem, ⟨18, _⟩ => ⟨S4x64x512, .i32⟩
  | .local _ .vmem, ⟨19, _⟩ => ⟨S2x3x3584x512, .bf16⟩
  | _, _ => ⟨S18944x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17

abbrev nD : Nat := 1
abbrev τ : Topo := Topo.v7x

variable {F : FTy → Type} [BitOps F]

abbrev grid0 : Pipeline.Grid := ⟨2, ![7, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![38, 7], ![false, false]⟩

def k1_cond1 (i : grid1.Coords) : BitVec 1 :=
  let arg0 : BitVec 32 := BitVec.ofNat 32 (i 0).val
  let c0_i32_4 : BitVec 32 := 0#32
  let v12 : BitVec 1 := Scalar.cmpi .eq arg0 c0_i32_4
  let v13 : BitVec 32 := Scalar.extui v12
  let c0_i32_5 : BitVec 32 := 0#32
  let v14 : BitVec 1 := Scalar.cmpi .ne v13 c0_i32_5
  v14

@[reducible] def k1_t1_loop : Scf.Loop 32 :=
  let c0_i32_27 : BitVec 32 := 0#32
  let c16_i32_28 : BitVec 32 := 16#32
  let v50 : BitVec 32 := Scalar.addi c0_i32_27 c16_i32_28
  let c1_i32_29 : BitVec 32 := 1#32
  ⟨c0_i32_27, v50, c1_i32_29⟩
def k1_mult1 (k1_t1 : Fin k1_t1_loop.trips) : BitVec 32 :=
  let c0_i32_27 : BitVec 32 := 0#32
  let c1_i32_29 : BitVec 32 := 1#32
  let arg12 : BitVec 32 := Scf.iv c0_i32_27 c1_i32_29 k1_t1
  let c4_i32 : BitVec 32 := 4#32
  let v51 : BitVec 32 := Scalar.divsi arg12 c4_i32
  let c128_i32_32 : BitVec 32 := 128#32
  let v53 : BitVec 32 := Scalar.muli v51 c128_i32_32
  v53
def k1_mult2 (k1_t1 : Fin k1_t1_loop.trips) : BitVec 32 :=
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_33 : BitVec 32 := 128#32
  let v55 : BitVec 32 := Scalar.muli v52 c128_i32_33
  v55
def k1_off1 (k1_t1 : Fin k1_t1_loop.trips) : Fin 2 → Nat :=
  let c0_i32_27 : BitVec 32 := 0#32
  let c1_i32_29 : BitVec 32 := 1#32
  let arg12 : BitVec 32 := Scf.iv c0_i32_27 c1_i32_29 k1_t1
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v57 : Index := Scalar.indexCast v54
  let c4_i32_31 : BitVec 32 := 4#32
  let v52 : BitVec 32 := Scalar.remsi arg12 c4_i32_31
  let c128_i32_33 : BitVec 32 := 128#32
  let v55 : BitVec 32 := Scalar.muli v52 c128_i32_33
  let v56 : BitVec 32 := v55
  let v58 : Index := Scalar.indexCast v56
  ![v57.toNat, v58.toNat]
def k1_off2 (k1_t1 : Fin k1_t1_loop.trips) (c0_i32_37 : BitVec 32) : Fin 3 → Nat :=
  let c0_43 : Index := 0#32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c16_i32_36 : BitVec 32 := 16#32
  let v64 : BitVec 32 := Scalar.muli v52 c16_i32_36
  let v65 : BitVec 32 := Scalar.addi v64 c0_i32_37
  let v70 : Index := Scalar.indexCast v65
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v71 : Index := Scalar.indexCast v54
  ![0, v70.toNat, v71.toNat]
def k1_off3 (k1_t1 : Fin k1_t1_loop.trips) (c0_i32_37 : BitVec 32) : Fin 3 → Nat :=
  let c1_46 : Index := 1#32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c16_i32_36 : BitVec 32 := 16#32
  let v64 : BitVec 32 := Scalar.muli v52 c16_i32_36
  let v65 : BitVec 32 := Scalar.addi v64 c0_i32_37
  let v84 : Index := Scalar.indexCast v65
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v85 : Index := Scalar.indexCast v54
  ![1, v84.toNat, v85.toNat]
def k1_off4 (k1_t1 : Fin k1_t1_loop.trips) (c0_i32_37 : BitVec 32) : Fin 3 → Nat :=
  let c2_50 : Index := 2#32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c16_i32_36 : BitVec 32 := 16#32
  let v64 : BitVec 32 := Scalar.muli v52 c16_i32_36
  let v65 : BitVec 32 := Scalar.addi v64 c0_i32_37
  let v96 : Index := Scalar.indexCast v65
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v97 : Index := Scalar.indexCast v54
  ![2, v96.toNat, v97.toNat]
def k1_off5 (k1_t1 : Fin k1_t1_loop.trips) (c0_i32_37 : BitVec 32) : Fin 3 → Nat :=
  let c3_53 : Index := 3#32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c16_i32_36 : BitVec 32 := 16#32
  let v64 : BitVec 32 := Scalar.muli v52 c16_i32_36
  let v65 : BitVec 32 := Scalar.addi v64 c0_i32_37
  let v110 : Index := Scalar.indexCast v65
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v111 : Index := Scalar.indexCast v54
  ![3, v110.toNat, v111.toNat]
def k1_off6 (k1_t1 : Fin k1_t1_loop.trips) (c0_i32_39 : BitVec 32) : Fin 2 → Nat :=
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c2_i32_38 : BitVec 32 := 2#32
  let v66 : BitVec 32 := Scalar.muli v52 c2_i32_38
  let v67 : BitVec 32 := Scalar.addi v66 c0_i32_39
  let v121 : Index := Scalar.indexCast v67
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v122 : Index := Scalar.indexCast v54
  ![v121.toNat, v122.toNat]
def k1_mult3 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_34 : BitVec 32 := 128#32
  let v62 : BitVec 32 := Scalar.muli v52 c128_i32_34
  let c0_i32_35 : BitVec 32 := 0#32
  let v63 : BitVec 32 := Scalar.addi v62 c0_i32_35
  let v219 : BitVec 32 := Scalar.addi v11 v63
  v219
def k1_off7 (i : grid1.Coords) (k1_t1 : Fin k1_t1_loop.trips) (c0_i32_35 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v221 : Index := Scalar.indexCast v9
  let c0_78 : Index := 0#32
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_34 : BitVec 32 := 128#32
  let v62 : BitVec 32 := Scalar.muli v52 c128_i32_34
  let v63 : BitVec 32 := Scalar.addi v62 c0_i32_35
  let v219 : BitVec 32 := Scalar.addi v11 v63
  let v220 : BitVec 32 := v219
  let v222 : Index := Scalar.indexCast v220
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v223 : Index := Scalar.indexCast v54
  ![v221.toNat, 0, v222.toNat, v223.toNat]
def k1_mult4 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_34 : BitVec 32 := 128#32
  let v62 : BitVec 32 := Scalar.muli v52 c128_i32_34
  let c0_i32_35 : BitVec 32 := 0#32
  let v63 : BitVec 32 := Scalar.addi v62 c0_i32_35
  let v228 : BitVec 32 := Scalar.addi v11 v63
  v228
def k1_off8 (i : grid1.Coords) (k1_t1 : Fin k1_t1_loop.trips) (c0_i32_35 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v230 : Index := Scalar.indexCast v9
  let c1_79 : Index := 1#32
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_34 : BitVec 32 := 128#32
  let v62 : BitVec 32 := Scalar.muli v52 c128_i32_34
  let v63 : BitVec 32 := Scalar.addi v62 c0_i32_35
  let v228 : BitVec 32 := Scalar.addi v11 v63
  let v229 : BitVec 32 := v228
  let v231 : Index := Scalar.indexCast v229
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v232 : Index := Scalar.indexCast v54
  ![v230.toNat, 1, v231.toNat, v232.toNat]
def k1_mult5 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_34 : BitVec 32 := 128#32
  let v62 : BitVec 32 := Scalar.muli v52 c128_i32_34
  let c0_i32_35 : BitVec 32 := 0#32
  let v63 : BitVec 32 := Scalar.addi v62 c0_i32_35
  let v237 : BitVec 32 := Scalar.addi v11 v63
  v237
def k1_off9 (i : grid1.Coords) (k1_t1 : Fin k1_t1_loop.trips) (c0_i32_35 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v239 : Index := Scalar.indexCast v9
  let c2_80 : Index := 2#32
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_34 : BitVec 32 := 128#32
  let v62 : BitVec 32 := Scalar.muli v52 c128_i32_34
  let v63 : BitVec 32 := Scalar.addi v62 c0_i32_35
  let v237 : BitVec 32 := Scalar.addi v11 v63
  let v238 : BitVec 32 := v237
  let v240 : Index := Scalar.indexCast v238
  let c4_i32 : BitVec 32 := 4#32
  let v51 : BitVec 32 := Scalar.divsi arg12 c4_i32
  let c128_i32_32 : BitVec 32 := 128#32
  let v53 : BitVec 32 := Scalar.muli v51 c128_i32_32
  let v54 : BitVec 32 := v53
  let v241 : Index := Scalar.indexCast v54
  ![v239.toNat, 2, v240.toNat, v241.toNat]
def k1_mult6 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_81 : BitVec 32 := 128#32
  let v245 : BitVec 32 := Scalar.muli v52 c128_i32_81
  let c16_i32_82 : BitVec 32 := 16#32
  let v246 : BitVec 32 := Scalar.addi v245 c16_i32_82
  let v402 : BitVec 32 := Scalar.addi v11 v246
  v402
def k1_mult7 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_81 : BitVec 32 := 128#32
  let v245 : BitVec 32 := Scalar.muli v52 c128_i32_81
  let c16_i32_82 : BitVec 32 := 16#32
  let v246 : BitVec 32 := Scalar.addi v245 c16_i32_82
  let v411 : BitVec 32 := Scalar.addi v11 v246
  v411
def k1_mult8 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_81 : BitVec 32 := 128#32
  let v245 : BitVec 32 := Scalar.muli v52 c128_i32_81
  let c16_i32_82 : BitVec 32 := 16#32
  let v246 : BitVec 32 := Scalar.addi v245 c16_i32_82
  let v420 : BitVec 32 := Scalar.addi v11 v246
  v420
def k1_mult9 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_129 : BitVec 32 := 128#32
  let v428 : BitVec 32 := Scalar.muli v52 c128_i32_129
  let c32_i32 : BitVec 32 := 32#32
  let v429 : BitVec 32 := Scalar.addi v428 c32_i32
  let v585 : BitVec 32 := Scalar.addi v11 v429
  v585
def k1_mult10 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_129 : BitVec 32 := 128#32
  let v428 : BitVec 32 := Scalar.muli v52 c128_i32_129
  let c32_i32 : BitVec 32 := 32#32
  let v429 : BitVec 32 := Scalar.addi v428 c32_i32
  let v594 : BitVec 32 := Scalar.addi v11 v429
  v594
def k1_mult11 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_129 : BitVec 32 := 128#32
  let v428 : BitVec 32 := Scalar.muli v52 c128_i32_129
  let c32_i32 : BitVec 32 := 32#32
  let v429 : BitVec 32 := Scalar.addi v428 c32_i32
  let v603 : BitVec 32 := Scalar.addi v11 v429
  v603
def k1_mult12 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_176 : BitVec 32 := 128#32
  let v611 : BitVec 32 := Scalar.muli v52 c128_i32_176
  let c48_i32 : BitVec 32 := 48#32
  let v612 : BitVec 32 := Scalar.addi v611 c48_i32
  let v768 : BitVec 32 := Scalar.addi v11 v612
  v768
def k1_mult13 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_176 : BitVec 32 := 128#32
  let v611 : BitVec 32 := Scalar.muli v52 c128_i32_176
  let c48_i32 : BitVec 32 := 48#32
  let v612 : BitVec 32 := Scalar.addi v611 c48_i32
  let v777 : BitVec 32 := Scalar.addi v11 v612
  v777
def k1_mult14 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_176 : BitVec 32 := 128#32
  let v611 : BitVec 32 := Scalar.muli v52 c128_i32_176
  let c48_i32 : BitVec 32 := 48#32
  let v612 : BitVec 32 := Scalar.addi v611 c48_i32
  let v786 : BitVec 32 := Scalar.addi v11 v612
  v786
def k1_mult15 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_222 : BitVec 32 := 128#32
  let v794 : BitVec 32 := Scalar.muli v52 c128_i32_222
  let c64_i32 : BitVec 32 := 64#32
  let v795 : BitVec 32 := Scalar.addi v794 c64_i32
  let v951 : BitVec 32 := Scalar.addi v11 v795
  v951
def k1_mult16 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_222 : BitVec 32 := 128#32
  let v794 : BitVec 32 := Scalar.muli v52 c128_i32_222
  let c64_i32 : BitVec 32 := 64#32
  let v795 : BitVec 32 := Scalar.addi v794 c64_i32
  let v960 : BitVec 32 := Scalar.addi v11 v795
  v960
def k1_mult17 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_222 : BitVec 32 := 128#32
  let v794 : BitVec 32 := Scalar.muli v52 c128_i32_222
  let c64_i32 : BitVec 32 := 64#32
  let v795 : BitVec 32 := Scalar.addi v794 c64_i32
  let v969 : BitVec 32 := Scalar.addi v11 v795
  v969
def k1_mult18 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_268 : BitVec 32 := 128#32
  let v977 : BitVec 32 := Scalar.muli v52 c128_i32_268
  let c80_i32 : BitVec 32 := 80#32
  let v978 : BitVec 32 := Scalar.addi v977 c80_i32
  let v1134 : BitVec 32 := Scalar.addi v11 v978
  v1134
def k1_mult19 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_268 : BitVec 32 := 128#32
  let v977 : BitVec 32 := Scalar.muli v52 c128_i32_268
  let c80_i32 : BitVec 32 := 80#32
  let v978 : BitVec 32 := Scalar.addi v977 c80_i32
  let v1143 : BitVec 32 := Scalar.addi v11 v978
  v1143
def k1_mult20 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_268 : BitVec 32 := 128#32
  let v977 : BitVec 32 := Scalar.muli v52 c128_i32_268
  let c80_i32 : BitVec 32 := 80#32
  let v978 : BitVec 32 := Scalar.addi v977 c80_i32
  let v1152 : BitVec 32 := Scalar.addi v11 v978
  v1152
def k1_mult21 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_314 : BitVec 32 := 128#32
  let v1160 : BitVec 32 := Scalar.muli v52 c128_i32_314
  let c96_i32 : BitVec 32 := 96#32
  let v1161 : BitVec 32 := Scalar.addi v1160 c96_i32
  let v1317 : BitVec 32 := Scalar.addi v11 v1161
  v1317
def k1_mult22 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_314 : BitVec 32 := 128#32
  let v1160 : BitVec 32 := Scalar.muli v52 c128_i32_314
  let c96_i32 : BitVec 32 := 96#32
  let v1161 : BitVec 32 := Scalar.addi v1160 c96_i32
  let v1326 : BitVec 32 := Scalar.addi v11 v1161
  v1326
def k1_mult23 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_314 : BitVec 32 := 128#32
  let v1160 : BitVec 32 := Scalar.muli v52 c128_i32_314
  let c96_i32 : BitVec 32 := 96#32
  let v1161 : BitVec 32 := Scalar.addi v1160 c96_i32
  let v1335 : BitVec 32 := Scalar.addi v11 v1161
  v1335
def k1_mult24 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_360 : BitVec 32 := 128#32
  let v1343 : BitVec 32 := Scalar.muli v52 c128_i32_360
  let c112_i32 : BitVec 32 := 112#32
  let v1344 : BitVec 32 := Scalar.addi v1343 c112_i32
  let v1500 : BitVec 32 := Scalar.addi v11 v1344
  v1500
def k1_mult25 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_360 : BitVec 32 := 128#32
  let v1343 : BitVec 32 := Scalar.muli v52 c128_i32_360
  let c112_i32 : BitVec 32 := 112#32
  let v1344 : BitVec 32 := Scalar.addi v1343 c112_i32
  let v1509 : BitVec 32 := Scalar.addi v11 v1344
  v1509
def k1_mult26 (i : grid1.Coords) (k1_t1 : Fin k1_t1_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t1
  let c4_i32_31 : BitVec 32 := 4#32
  let v52 : BitVec 32 := Scalar.remsi arg12 c4_i32_31
  let c128_i32_360 : BitVec 32 := 128#32
  let v1343 : BitVec 32 := Scalar.muli v52 c128_i32_360
  let c112_i32 : BitVec 32 := 112#32
  let v1344 : BitVec 32 := Scalar.addi v1343 c112_i32
  let v1518 : BitVec 32 := Scalar.addi v11 v1344
  v1518
def k1_cond2 (i : grid1.Coords) : BitVec 1 :=
  let arg0 : BitVec 32 := BitVec.ofNat 32 (i 0).val
  let c0_i32_6 : BitVec 32 := 0#32
  let v15 : BitVec 1 := Scalar.cmpi .sgt arg0 c0_i32_6
  let v16 : BitVec 32 := Scalar.extui v15
  let c0_i32_7 : BitVec 32 := 0#32
  let v17 : BitVec 1 := Scalar.cmpi .ne v16 c0_i32_7
  v17

@[reducible] def k1_t2_loop : Scf.Loop 32 :=
  let c0_i32_27 : BitVec 32 := 0#32
  let c16_i32_28 : BitVec 32 := 16#32
  let v50 : BitVec 32 := Scalar.addi c0_i32_27 c16_i32_28
  let c1_i32_29 : BitVec 32 := 1#32
  ⟨c0_i32_27, v50, c1_i32_29⟩
def k1_mult27 (k1_t2 : Fin k1_t2_loop.trips) : BitVec 32 :=
  let c0_i32_27 : BitVec 32 := 0#32
  let c1_i32_29 : BitVec 32 := 1#32
  let arg12 : BitVec 32 := Scf.iv c0_i32_27 c1_i32_29 k1_t2
  let c4_i32 : BitVec 32 := 4#32
  let v116 : BitVec 32 := Scalar.divsi arg12 c4_i32
  let c128_i32_73 : BitVec 32 := 128#32
  let v118 : BitVec 32 := Scalar.muli v116 c128_i32_73
  v118
def k1_mult28 (k1_t2 : Fin k1_t2_loop.trips) : BitVec 32 :=
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_74 : BitVec 32 := 128#32
  let v120 : BitVec 32 := Scalar.muli v117 c128_i32_74
  v120
def k1_off10 (k1_t2 : Fin k1_t2_loop.trips) : Fin 2 → Nat :=
  let c0_i32_27 : BitVec 32 := 0#32
  let c1_i32_29 : BitVec 32 := 1#32
  let arg12 : BitVec 32 := Scf.iv c0_i32_27 c1_i32_29 k1_t2
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v122 : Index := Scalar.indexCast v119
  let c4_i32_72 : BitVec 32 := 4#32
  let v117 : BitVec 32 := Scalar.remsi arg12 c4_i32_72
  let c128_i32_74 : BitVec 32 := 128#32
  let v120 : BitVec 32 := Scalar.muli v117 c128_i32_74
  let v121 : BitVec 32 := v120
  let v123 : Index := Scalar.indexCast v121
  ![v122.toNat, v123.toNat]
def k1_off11 (k1_t2 : Fin k1_t2_loop.trips) (c0_i32_78 : BitVec 32) : Fin 3 → Nat :=
  let c0_84 : Index := 0#32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c16_i32_77 : BitVec 32 := 16#32
  let v129 : BitVec 32 := Scalar.muli v117 c16_i32_77
  let v130 : BitVec 32 := Scalar.addi v129 c0_i32_78
  let v135 : Index := Scalar.indexCast v130
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v136 : Index := Scalar.indexCast v119
  ![0, v135.toNat, v136.toNat]
def k1_off12 (k1_t2 : Fin k1_t2_loop.trips) (c0_i32_78 : BitVec 32) : Fin 3 → Nat :=
  let c1_87 : Index := 1#32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c16_i32_77 : BitVec 32 := 16#32
  let v129 : BitVec 32 := Scalar.muli v117 c16_i32_77
  let v130 : BitVec 32 := Scalar.addi v129 c0_i32_78
  let v149 : Index := Scalar.indexCast v130
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v150 : Index := Scalar.indexCast v119
  ![1, v149.toNat, v150.toNat]
def k1_off13 (k1_t2 : Fin k1_t2_loop.trips) (c0_i32_78 : BitVec 32) : Fin 3 → Nat :=
  let c2_91 : Index := 2#32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c16_i32_77 : BitVec 32 := 16#32
  let v129 : BitVec 32 := Scalar.muli v117 c16_i32_77
  let v130 : BitVec 32 := Scalar.addi v129 c0_i32_78
  let v161 : Index := Scalar.indexCast v130
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v162 : Index := Scalar.indexCast v119
  ![2, v161.toNat, v162.toNat]
def k1_off14 (k1_t2 : Fin k1_t2_loop.trips) (c0_i32_78 : BitVec 32) : Fin 3 → Nat :=
  let c3_94 : Index := 3#32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c16_i32_77 : BitVec 32 := 16#32
  let v129 : BitVec 32 := Scalar.muli v117 c16_i32_77
  let v130 : BitVec 32 := Scalar.addi v129 c0_i32_78
  let v175 : Index := Scalar.indexCast v130
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v176 : Index := Scalar.indexCast v119
  ![3, v175.toNat, v176.toNat]
def k1_off15 (k1_t2 : Fin k1_t2_loop.trips) (c0_i32_80 : BitVec 32) : Fin 2 → Nat :=
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c2_i32_79 : BitVec 32 := 2#32
  let v131 : BitVec 32 := Scalar.muli v117 c2_i32_79
  let v132 : BitVec 32 := Scalar.addi v131 c0_i32_80
  let v186 : Index := Scalar.indexCast v132
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v187 : Index := Scalar.indexCast v119
  ![v186.toNat, v187.toNat]
def k1_mult29 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_75 : BitVec 32 := 128#32
  let v127 : BitVec 32 := Scalar.muli v117 c128_i32_75
  let c0_i32_76 : BitVec 32 := 0#32
  let v128 : BitVec 32 := Scalar.addi v127 c0_i32_76
  let v284 : BitVec 32 := Scalar.addi v11 v128
  v284
def k1_off16 (i : grid1.Coords) (k1_t2 : Fin k1_t2_loop.trips) (c0_i32_76 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v286 : Index := Scalar.indexCast v9
  let c0_120 : Index := 0#32
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_75 : BitVec 32 := 128#32
  let v127 : BitVec 32 := Scalar.muli v117 c128_i32_75
  let v128 : BitVec 32 := Scalar.addi v127 c0_i32_76
  let v284 : BitVec 32 := Scalar.addi v11 v128
  let v285 : BitVec 32 := v284
  let v287 : Index := Scalar.indexCast v285
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v288 : Index := Scalar.indexCast v119
  ![v286.toNat, 0, v287.toNat, v288.toNat]
def k1_mult30 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_75 : BitVec 32 := 128#32
  let v127 : BitVec 32 := Scalar.muli v117 c128_i32_75
  let c0_i32_76 : BitVec 32 := 0#32
  let v128 : BitVec 32 := Scalar.addi v127 c0_i32_76
  let v293 : BitVec 32 := Scalar.addi v11 v128
  v293
def k1_off17 (i : grid1.Coords) (k1_t2 : Fin k1_t2_loop.trips) (c0_i32_76 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v295 : Index := Scalar.indexCast v9
  let c1_121 : Index := 1#32
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_75 : BitVec 32 := 128#32
  let v127 : BitVec 32 := Scalar.muli v117 c128_i32_75
  let v128 : BitVec 32 := Scalar.addi v127 c0_i32_76
  let v293 : BitVec 32 := Scalar.addi v11 v128
  let v294 : BitVec 32 := v293
  let v296 : Index := Scalar.indexCast v294
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v297 : Index := Scalar.indexCast v119
  ![v295.toNat, 1, v296.toNat, v297.toNat]
def k1_mult31 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_75 : BitVec 32 := 128#32
  let v127 : BitVec 32 := Scalar.muli v117 c128_i32_75
  let c0_i32_76 : BitVec 32 := 0#32
  let v128 : BitVec 32 := Scalar.addi v127 c0_i32_76
  let v302 : BitVec 32 := Scalar.addi v11 v128
  v302
def k1_off18 (i : grid1.Coords) (k1_t2 : Fin k1_t2_loop.trips) (c0_i32_76 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v304 : Index := Scalar.indexCast v9
  let c2_122 : Index := 2#32
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_75 : BitVec 32 := 128#32
  let v127 : BitVec 32 := Scalar.muli v117 c128_i32_75
  let v128 : BitVec 32 := Scalar.addi v127 c0_i32_76
  let v302 : BitVec 32 := Scalar.addi v11 v128
  let v303 : BitVec 32 := v302
  let v305 : Index := Scalar.indexCast v303
  let c4_i32 : BitVec 32 := 4#32
  let v116 : BitVec 32 := Scalar.divsi arg12 c4_i32
  let c128_i32_73 : BitVec 32 := 128#32
  let v118 : BitVec 32 := Scalar.muli v116 c128_i32_73
  let v119 : BitVec 32 := v118
  let v306 : Index := Scalar.indexCast v119
  ![v304.toNat, 2, v305.toNat, v306.toNat]
def k1_mult32 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_123 : BitVec 32 := 128#32
  let v310 : BitVec 32 := Scalar.muli v117 c128_i32_123
  let c16_i32_124 : BitVec 32 := 16#32
  let v311 : BitVec 32 := Scalar.addi v310 c16_i32_124
  let v467 : BitVec 32 := Scalar.addi v11 v311
  v467
def k1_mult33 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_123 : BitVec 32 := 128#32
  let v310 : BitVec 32 := Scalar.muli v117 c128_i32_123
  let c16_i32_124 : BitVec 32 := 16#32
  let v311 : BitVec 32 := Scalar.addi v310 c16_i32_124
  let v476 : BitVec 32 := Scalar.addi v11 v311
  v476
def k1_mult34 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_123 : BitVec 32 := 128#32
  let v310 : BitVec 32 := Scalar.muli v117 c128_i32_123
  let c16_i32_124 : BitVec 32 := 16#32
  let v311 : BitVec 32 := Scalar.addi v310 c16_i32_124
  let v485 : BitVec 32 := Scalar.addi v11 v311
  v485
def k1_mult35 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_171 : BitVec 32 := 128#32
  let v493 : BitVec 32 := Scalar.muli v117 c128_i32_171
  let c32_i32 : BitVec 32 := 32#32
  let v494 : BitVec 32 := Scalar.addi v493 c32_i32
  let v650 : BitVec 32 := Scalar.addi v11 v494
  v650
def k1_mult36 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_171 : BitVec 32 := 128#32
  let v493 : BitVec 32 := Scalar.muli v117 c128_i32_171
  let c32_i32 : BitVec 32 := 32#32
  let v494 : BitVec 32 := Scalar.addi v493 c32_i32
  let v659 : BitVec 32 := Scalar.addi v11 v494
  v659
def k1_mult37 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_171 : BitVec 32 := 128#32
  let v493 : BitVec 32 := Scalar.muli v117 c128_i32_171
  let c32_i32 : BitVec 32 := 32#32
  let v494 : BitVec 32 := Scalar.addi v493 c32_i32
  let v668 : BitVec 32 := Scalar.addi v11 v494
  v668
def k1_mult38 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_218 : BitVec 32 := 128#32
  let v676 : BitVec 32 := Scalar.muli v117 c128_i32_218
  let c48_i32 : BitVec 32 := 48#32
  let v677 : BitVec 32 := Scalar.addi v676 c48_i32
  let v833 : BitVec 32 := Scalar.addi v11 v677
  v833
def k1_mult39 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_218 : BitVec 32 := 128#32
  let v676 : BitVec 32 := Scalar.muli v117 c128_i32_218
  let c48_i32 : BitVec 32 := 48#32
  let v677 : BitVec 32 := Scalar.addi v676 c48_i32
  let v842 : BitVec 32 := Scalar.addi v11 v677
  v842
def k1_mult40 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_218 : BitVec 32 := 128#32
  let v676 : BitVec 32 := Scalar.muli v117 c128_i32_218
  let c48_i32 : BitVec 32 := 48#32
  let v677 : BitVec 32 := Scalar.addi v676 c48_i32
  let v851 : BitVec 32 := Scalar.addi v11 v677
  v851
def k1_mult41 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_265 : BitVec 32 := 128#32
  let v859 : BitVec 32 := Scalar.muli v117 c128_i32_265
  let c64_i32 : BitVec 32 := 64#32
  let v860 : BitVec 32 := Scalar.addi v859 c64_i32
  let v1016 : BitVec 32 := Scalar.addi v11 v860
  v1016
def k1_mult42 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_265 : BitVec 32 := 128#32
  let v859 : BitVec 32 := Scalar.muli v117 c128_i32_265
  let c64_i32 : BitVec 32 := 64#32
  let v860 : BitVec 32 := Scalar.addi v859 c64_i32
  let v1025 : BitVec 32 := Scalar.addi v11 v860
  v1025
def k1_mult43 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_265 : BitVec 32 := 128#32
  let v859 : BitVec 32 := Scalar.muli v117 c128_i32_265
  let c64_i32 : BitVec 32 := 64#32
  let v860 : BitVec 32 := Scalar.addi v859 c64_i32
  let v1034 : BitVec 32 := Scalar.addi v11 v860
  v1034
def k1_mult44 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_311 : BitVec 32 := 128#32
  let v1042 : BitVec 32 := Scalar.muli v117 c128_i32_311
  let c80_i32 : BitVec 32 := 80#32
  let v1043 : BitVec 32 := Scalar.addi v1042 c80_i32
  let v1199 : BitVec 32 := Scalar.addi v11 v1043
  v1199
def k1_mult45 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_311 : BitVec 32 := 128#32
  let v1042 : BitVec 32 := Scalar.muli v117 c128_i32_311
  let c80_i32 : BitVec 32 := 80#32
  let v1043 : BitVec 32 := Scalar.addi v1042 c80_i32
  let v1208 : BitVec 32 := Scalar.addi v11 v1043
  v1208
def k1_mult46 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_311 : BitVec 32 := 128#32
  let v1042 : BitVec 32 := Scalar.muli v117 c128_i32_311
  let c80_i32 : BitVec 32 := 80#32
  let v1043 : BitVec 32 := Scalar.addi v1042 c80_i32
  let v1217 : BitVec 32 := Scalar.addi v11 v1043
  v1217
def k1_mult47 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_357 : BitVec 32 := 128#32
  let v1225 : BitVec 32 := Scalar.muli v117 c128_i32_357
  let c96_i32 : BitVec 32 := 96#32
  let v1226 : BitVec 32 := Scalar.addi v1225 c96_i32
  let v1382 : BitVec 32 := Scalar.addi v11 v1226
  v1382
def k1_mult48 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_357 : BitVec 32 := 128#32
  let v1225 : BitVec 32 := Scalar.muli v117 c128_i32_357
  let c96_i32 : BitVec 32 := 96#32
  let v1226 : BitVec 32 := Scalar.addi v1225 c96_i32
  let v1391 : BitVec 32 := Scalar.addi v11 v1226
  v1391
def k1_mult49 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_357 : BitVec 32 := 128#32
  let v1225 : BitVec 32 := Scalar.muli v117 c128_i32_357
  let c96_i32 : BitVec 32 := 96#32
  let v1226 : BitVec 32 := Scalar.addi v1225 c96_i32
  let v1400 : BitVec 32 := Scalar.addi v11 v1226
  v1400
def k1_mult50 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_403 : BitVec 32 := 128#32
  let v1408 : BitVec 32 := Scalar.muli v117 c128_i32_403
  let c112_i32 : BitVec 32 := 112#32
  let v1409 : BitVec 32 := Scalar.addi v1408 c112_i32
  let v1565 : BitVec 32 := Scalar.addi v11 v1409
  v1565
def k1_mult51 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_403 : BitVec 32 := 128#32
  let v1408 : BitVec 32 := Scalar.muli v117 c128_i32_403
  let c112_i32 : BitVec 32 := 112#32
  let v1409 : BitVec 32 := Scalar.addi v1408 c112_i32
  let v1574 : BitVec 32 := Scalar.addi v11 v1409
  v1574
def k1_mult52 (i : grid1.Coords) (k1_t2 : Fin k1_t2_loop.trips) : BitVec 32 :=
  let arg1 : BitVec 32 := BitVec.ofNat 32 (i 1).val
  let c512_i32 : BitVec 32 := 512#32
  let v11 : BitVec 32 := Scalar.muli arg1 c512_i32
  let c0_i32_27 : BitVec 32 := 0#32
  let c1_i32_29 : BitVec 32 := 1#32
  let arg12 : BitVec 32 := Scf.iv c0_i32_27 c1_i32_29 k1_t2
  let c4_i32_72 : BitVec 32 := 4#32
  let v117 : BitVec 32 := Scalar.remsi arg12 c4_i32_72
  let c128_i32_403 : BitVec 32 := 128#32
  let v1408 : BitVec 32 := Scalar.muli v117 c128_i32_403
  let c112_i32 : BitVec 32 := 112#32
  let v1409 : BitVec 32 := Scalar.addi v1408 c112_i32
  let v1583 : BitVec 32 := Scalar.addi v11 v1409
  v1583
def k1_off19 (i : grid1.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v57 : Index := Scalar.indexCast v10
  let c0_40 : Index := 0#32
  let c0_41 : Index := 0#32
  let c0_42 : Index := 0#32
  ![v57.toNat, 0, 0, 0]
def k1_off20 (i : grid1.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v60 : Index := Scalar.indexCast v10
  let c1_43 : Index := 1#32
  let c0_44 : Index := 0#32
  let c0_45 : Index := 0#32
  ![v60.toNat, 1, 0, 0]
def k1_off21 (i : grid1.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v63 : Index := Scalar.indexCast v10
  let c2_46 : Index := 2#32
  let c0_47 : Index := 0#32
  let c0_48 : Index := 0#32
  ![v63.toNat, 2, 0, 0]
def k1_mult53 (i : grid1.Coords) : BitVec 32 :=
  let arg1 : BitVec 32 := BitVec.ofNat 32 (i 1).val
  let c512_i32 : BitVec 32 := 512#32
  let v11 : BitVec 32 := Scalar.muli arg1 c512_i32
  v11
def k1_off22 (i : grid1.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v84 : Index := Scalar.indexCast v10
  let c0_56 : Index := 0#32
  let arg1 : BitVec 32 := BitVec.ofNat 32 (i 1).val
  let c512_i32 : BitVec 32 := 512#32
  let v11 : BitVec 32 := Scalar.muli arg1 c512_i32
  let v83 : BitVec 32 := v11
  let v85 : Index := Scalar.indexCast v83
  let c0_57 : Index := 0#32
  ![v84.toNat, 0, v85.toNat, 0]
def k1_off23 (i : grid1.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v89 : Index := Scalar.indexCast v10
  let c1_58 : Index := 1#32
  let arg1 : BitVec 32 := BitVec.ofNat 32 (i 1).val
  let c512_i32 : BitVec 32 := 512#32
  let v11 : BitVec 32 := Scalar.muli arg1 c512_i32
  let v83 : BitVec 32 := v11
  let v90 : Index := Scalar.indexCast v83
  let c0_59 : Index := 0#32
  ![v89.toNat, 1, v90.toNat, 0]
def k1_off24 (i : grid1.Coords) : Fin 4 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v94 : Index := Scalar.indexCast v10
  let c2_60 : Index := 2#32
  let arg1 : BitVec 32 := BitVec.ofNat 32 (i 1).val
  let c512_i32 : BitVec 32 := 512#32
  let v11 : BitVec 32 := Scalar.muli arg1 c512_i32
  let v83 : BitVec 32 := v11
  let v95 : Index := Scalar.indexCast v83
  let c0_61 : Index := 0#32
  ![v94.toNat, 2, v95.toNat, 0]
def k1_cond3 (i : grid1.Coords) : BitVec 1 :=
  let arg1 : BitVec 32 := BitVec.ofNat 32 (i 1).val
  let c6_i32 : BitVec 32 := 6#32
  let v113 : BitVec 1 := Scalar.cmpi .eq arg1 c6_i32
  let v114 : BitVec 32 := Scalar.extui v113
  let c0_i32_71 : BitVec 32 := 0#32
  let v115 : BitVec 1 := Scalar.cmpi .ne v114 c0_i32_71
  v115

def cc1_transform_0 (i : grid1.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c0_i32 : BitVec 32 := 0#32
  let c0_i32_0 : BitVec 32 := 0#32
  ![c0_i32.toNat, arg1.toNat, v0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c0_i32 : BitVec 32 := 0#32
  ![v0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![c0_i32_1.toNat, v1.toNat, c0_i32_2.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x64x512 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x8x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S3x512x3584 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]
-- ==== KernelIdeal.lean ====
variable {F : FTy → Type} [FloatOps F]
-- ==== ReferenceIdeal.lean ====
abbrev S18944x3584 : Shape := ⟨2, ![18944, 3584]⟩
abbrev S18944x448x2 : Shape := ⟨3, ![18944, 448, 2]⟩
abbrev S2x256x8 : Shape := ⟨3, ![2, 256, 8]⟩
abbrev S18944x56 : Shape := ⟨2, ![18944, 56]⟩
abbrev S3584x3584 : Shape := ⟨2, ![3584, 3584]⟩
abbrev S1x256x8 : Shape := ⟨3, ![1, 256, 8]⟩
abbrev S256x8 : Shape := ⟨2, ![256, 8]⟩
abbrev S256x1x8 : Shape := ⟨3, ![256, 1, 8]⟩
abbrev S256x256x8 : Shape := ⟨3, ![256, 256, 8]⟩
abbrev S65536x8 : Shape := ⟨2, ![65536, 8]⟩
abbrev S18944x448x1 : Shape := ⟨3, ![18944, 448, 1]⟩
abbrev S18944x448 : Shape := ⟨2, ![18944, 448]⟩
abbrev S_ : Shape := ⟨0, ![]⟩
abbrev S1 : Shape := ⟨1, ![1]⟩
abbrev S1x1x1 : Shape := ⟨3, ![1, 1, 1]⟩
abbrev S18944x448x8 : Shape := ⟨3, ![18944, 448, 8]⟩
abbrev S18944x56x64 : Shape := ⟨3, ![18944, 56, 64]⟩
abbrev S18944x56x1 : Shape := ⟨3, ![18944, 56, 1]⟩
abbrev S18944 : Shape := ⟨1, ![18944]⟩

abbrev nBuf : Space → Nat
  | .hbm => 66
  | .vmem => 0
  | .smem => 0
  | _ => 0

abbrev bufTy : (tb : Table) → Fin (tcTables nBuf tb) → BufTy
  | .hbm, ⟨0, _⟩ => ⟨S18944x3584, .bf16⟩
  | .hbm, ⟨1, _⟩ => ⟨S18944x448x2, .i8⟩
  | .hbm, ⟨2, _⟩ => ⟨S2x256x8, .i16⟩
  | .hbm, ⟨3, _⟩ => ⟨S18944x56, .f32⟩
  | .hbm, ⟨4, _⟩ => ⟨S3584x3584, .f32⟩
  | .hbm, ⟨5, _⟩ => ⟨S2x256x8, .bf16⟩
  | .hbm, ⟨6, _⟩ => ⟨S2x256x8, .f32⟩
  | .hbm, ⟨7, _⟩ => ⟨S1x256x8, .f32⟩
  | .hbm, ⟨8, _⟩ => ⟨S256x8, .f32⟩
  | .hbm, ⟨9, _⟩ => ⟨S256x1x8, .f32⟩
  | .hbm, ⟨10, _⟩ => ⟨S1x256x8, .f32⟩
  | .hbm, ⟨11, _⟩ => ⟨S256x8, .f32⟩
  | .hbm, ⟨12, _⟩ => ⟨S1x256x8, .f32⟩
  | .hbm, ⟨13, _⟩ => ⟨S256x256x8, .f32⟩
  | .hbm, ⟨14, _⟩ => ⟨S256x256x8, .f32⟩
  | .hbm, ⟨15, _⟩ => ⟨S256x256x8, .f32⟩
  | .hbm, ⟨16, _⟩ => ⟨S65536x8, .f32⟩
  | .hbm, ⟨17, _⟩ => ⟨S18944x448x1, .i8⟩
  | .hbm, ⟨18, _⟩ => ⟨S18944x448, .i8⟩
  | .hbm, ⟨19, _⟩ => ⟨S18944x448, .i32⟩
  | .hbm, ⟨20, _⟩ => ⟨S_, .i32⟩
  | .hbm, ⟨21, _⟩ => ⟨S18944x448, .i32⟩
  | .hbm, ⟨22, _⟩ => ⟨S18944x448, .i32⟩
  | .hbm, ⟨23, _⟩ => ⟨S18944x448x1, .i8⟩
  | .hbm, ⟨24, _⟩ => ⟨S18944x448, .i8⟩
  | .hbm, ⟨25, _⟩ => ⟨S18944x448, .i32⟩
  | .hbm, ⟨26, _⟩ => ⟨S18944x448, .i32⟩
  | .hbm, ⟨27, _⟩ => ⟨S_, .i32⟩
  | .hbm, ⟨28, _⟩ => ⟨S18944x448, .i32⟩
  | .hbm, ⟨29, _⟩ => ⟨S18944x448, .i1⟩
  | .hbm, ⟨30, _⟩ => ⟨S_, .i32⟩
  | .hbm, ⟨31, _⟩ => ⟨S18944x448, .i32⟩
  | .hbm, ⟨32, _⟩ => ⟨S18944x448, .i32⟩
  | .hbm, ⟨33, _⟩ => ⟨S18944x448, .i32⟩
  | .hbm, ⟨34, _⟩ => ⟨S18944x448x1, .i32⟩
  | .hbm, ⟨35, _⟩ => ⟨S1, .i32⟩
  | .hbm, ⟨36, _⟩ => ⟨S_, .i32⟩
  | .hbm, ⟨37, _⟩ => ⟨S18944x448x1, .i32⟩
  | .hbm, ⟨38, _⟩ => ⟨S18944x448x1, .i1⟩
  | .hbm, ⟨39, _⟩ => ⟨S1x1x1, .i32⟩
  | .hbm, ⟨40, _⟩ => ⟨S18944x448x1, .i32⟩
  | .hbm, ⟨41, _⟩ => ⟨S18944x448x1, .i1⟩
  | .hbm, ⟨42, _⟩ => ⟨S18944x448x1, .i1⟩
  | .hbm, ⟨43, _⟩ => ⟨S_, .i1⟩
  | .hbm, ⟨44, _⟩ => ⟨S18944x448, .i1⟩
  | .hbm, ⟨45, _⟩ => ⟨S18944x448x8, .f32⟩
  | .hbm, ⟨46, _⟩ => ⟨S18944x448x8, .i1⟩
  | .hbm, ⟨47, _⟩ => ⟨S_, .f32⟩
  | .hbm, ⟨48, _⟩ => ⟨S18944x448x8, .f32⟩
  | .hbm, ⟨49, _⟩ => ⟨S18944x448x8, .f32⟩
  | .hbm, ⟨50, _⟩ => ⟨S18944x56x64, .f32⟩
  | .hbm, ⟨51, _⟩ => ⟨S18944x56x1, .f32⟩
  | .hbm, ⟨52, _⟩ => ⟨S18944x56x64, .f32⟩
  | .hbm, ⟨53, _⟩ => ⟨S18944x56x64, .f32⟩
  | .hbm, ⟨54, _⟩ => ⟨S18944x3584, .f32⟩
  | .hbm, ⟨55, _⟩ => ⟨S18944x3584, .f32⟩
  | .hbm, ⟨56, _⟩ => ⟨S18944x3584, .f32⟩
  | .hbm, ⟨57, _⟩ => ⟨S18944x3584, .f32⟩
  | .hbm, ⟨58, _⟩ => ⟨S18944x3584, .f32⟩
  | .hbm, ⟨59, _⟩ => ⟨S18944x448x8, .f32⟩
  | .hbm, ⟨60, _⟩ => ⟨S_, .f32⟩
  | .hbm, ⟨61, _⟩ => ⟨S18944x448, .f32⟩
  | .hbm, ⟨62, _⟩ => ⟨S_, .f32⟩
  | .hbm, ⟨63, _⟩ => ⟨S18944, .f32⟩
  | .hbm, ⟨64, _⟩ => ⟨S_, .f32⟩
  | .hbm, ⟨65, _⟩ => ⟨S_, .f32⟩
  | _, _ => ⟨S18944x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_v32 : Ref sig .tc := ⟨.hbm, 61, rfl⟩
abbrev main_cst_0 : Ref sig .tc := ⟨.hbm, 62, rfl⟩
abbrev main_v33 : Ref sig .tc := ⟨.hbm, 63, rfl⟩
abbrev main_cst_1 : Ref sig .tc := ⟨.hbm, 64, rfl⟩
abbrev main_v34 : Ref sig .tc := ⟨.hbm, 65, rfl⟩

abbrev nD : Nat := 1
abbrev τ : Topo := Topo.v7x

variable {F : FTy → Type} [FloatOps F]
-- ==== Proof.Offsets.lean ====
/-
  Where one trip of the decode loop stores: the offsets of its 24 stores into the residual scratch in closed form. At grid point
  `(m, n)`, trip `t`, the row group `p` (16 rows) and the part `j`, the store is at `[m % 2, j, 512 n + 128 (t % 4) + 16 p, 128 (t / 4)]`.
-/
module

public import proofs.«01_k».proof.Proof.Gen.Kernel.Loops

@[expose] public section

set_option maxRecDepth 16384

namespace Cert.Proof.Kernel

open Cert.Kernel Cert.Kernel.Gen
open Idealize.ShloMosaic Idealize.ShloMosaic.Tactic

/-- The first part's store in closed form. -/
theorem off7_eq : ∀ (i : grid1.Coords) (k1_t1 : Fin k1_t1_loop.trips) (r : Fin 8), k1_off7 i k1_t1 (BitVec.ofNat 32 (16 * r.val))
    = ![(i 0).val % 2, 0, 512 * (i 1).val + 128 * (k1_t1.val % 4) + 16 * r.val, 128 * (k1_t1.val / 4)] := by
  intro i k1_t1 r
  have r_r : r.val < 8 := r.isLt
  have h_c0_i32_35 : Affine.IsInt (BitVec.ofNat 32 (16 * r.val)) (16 * (r.val : Int)) := Affine.ofNat _ (by omega)
  have r_i0 : (i 0).val < 38 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32 : Affine.IsInt 0#32 (0) := Affine.ofNat _ (by omega)
  have h_v0 : Affine.Fails _ := Affine.eq_fails h_c2_i32 h_c0_i32 (by omega)
  have h_c1_i32 : Affine.IsInt 1#32 (1) := Affine.ofNat _ (by omega)
  have h_v1 : Affine.IsInt _ (2) := Affine.select_fails h_v0 h_c1_i32 h_c2_i32 (by omega)
  have h_v2 : Affine.IsInt _ ((((i 0).val : Int) % 2)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 2) + 2) := Affine.addi h_v2 h_v1 (by omega)
  have h_v9 : Affine.IsInt _ ((((i 0).val : Int) % 2)) := Affine.select_fails h_v7 h_v8 h_v2 (by omega)
  have h_v221 : Affine.IsInt _ ((((i 0).val : Int) % 2)) := Affine.indexCast h_v9
  have h_c0_78 : Affine.IsInt 0#32 (0) := Affine.ofNat _ (by omega)
  have r_i1 : (i 1).val < 7 := (i 1).isLt
  have h_arg1 : Affine.IsInt (BitVec.ofNat 32 (i 1).val) (((i 1).val : Int)) := Affine.ofNat _ (by omega)
  have h_c512_i32 : Affine.IsInt 512#32 (512) := Affine.ofNat _ (by omega)
  have h_v11 : Affine.IsInt _ (512 * ((i 1).val : Int)) := Affine.muli h_arg1 h_c512_i32 (by omega)
  have h_c0_i32_27 : Affine.IsInt 0#32 (0) := Affine.ofNat _ (by omega)
  have h_c1_i32_29 : Affine.IsInt 1#32 (1) := Affine.ofNat _ (by omega)
  have r_k1_t1 : k1_t1.val < 16 := Nat.lt_of_lt_of_le k1_t1.isLt k1_t1_abs.2.1
  have h_arg12 : Affine.IsInt _ ((k1_t1.val : Int)) := Affine.iv h_c0_i32_27 h_c1_i32_29 k1_t1.val (by omega)
  have c_arg12 : (k1_t1.val : Int) ≤ 16 - 1 := Affine.iv_lt k1_t1_abs.1 k1_t1.isLt k1_t1_abs.2.2 h_arg12
  have h_c4_i32_31 : Affine.IsInt 4#32 (4) := Affine.ofNat _ (by omega)
  have h_v52 : Affine.IsInt _ (((k1_t1.val : Int) % 4)) := Affine.remsi h_arg12 h_c4_i32_31 (by omega)
  have h_c128_i32_34 : Affine.IsInt 128#32 (128) := Affine.ofNat _ (by omega)
  have h_v62 : Affine.IsInt _ (128 * ((k1_t1.val : Int) % 4)) := Affine.muli h_v52 h_c128_i32_34 (by omega)
  have h_v63 : Affine.IsInt _ (128 * ((k1_t1.val : Int) % 4) + 16 * (r.val : Int)) := Affine.addi h_v62 h_c0_i32_35 (by omega)
  have h_v219 : Affine.IsInt _ (512 * ((i 1).val : Int) + 128 * ((k1_t1.val : Int) % 4) + 16 * (r.val : Int)) := Affine.addi h_v11 h_v63 (by omega)
  have h_v222 : Affine.IsInt _ (512 * ((i 1).val : Int) + 128 * ((k1_t1.val : Int) % 4) + 16 * (r.val : Int)) := Affine.indexCast h_v219
  have h_c4_i32 : Affine.IsInt 4#32 (4) := Affine.ofNat _ (by omega)
  have h_v51 : Affine.IsInt _ (((k1_t1.val : Int) / 4)) := Affine.divsi h_arg12 h_c4_i32 (by omega)
  have h_c128_i32_32 : Affine.IsInt 128#32 (128) := Affine.ofNat _ (by omega)
  have h_v53 : Affine.IsInt _ (128 * ((k1_t1.val : Int) / 4)) := Affine.muli h_v51 h_c128_i32_32 (by omega)
  have h_v223 : Affine.IsInt _ (128 * ((k1_t1.val : Int) / 4)) := Affine.indexCast h_v53
  exact Affine.vec_cons h_v221 (by omega) <| Affine.vec_cons (Affine.ofNat 0 (by omega) : Affine.IsInt 0#32 0) (by omega) <| Affine.vec_cons h_v222 (by omega) <| Affine.vec_cons h_v223 (by omega) <| Affine.vec_nil

/-- The second part's: the first's with the part's coordinate 1. -/
theorem off8_eq (i : grid1.Coords) (t : Fin k1_t1_loop.trips) (r : Fin 8) : k1_off8 i t (BitVec.ofNat 32 (16 * r.val))
    = ![(i 0).val % 2, 1, 512 * (i 1).val + 128 * (t.val % 4) + 16 * r.val, 128 * (t.val / 4)] := by
  have h := off7_eq i t r
  have h0 := congrFun h 0; have h2 := congrFun h 2; have h3 := congrFun h 3
  funext a; fin_cases a
  · exact h0
  · rfl
  · exact h2
  · exact h3

/-- The third part's: the first's with the part's coordinate 2. -/
theorem off9_eq (i : grid1.Coords) (t : Fin k1_t1_loop.trips) (r : Fin 8) : k1_off9 i t (BitVec.ofNat 32 (16 * r.val))
    = ![(i 0).val % 2, 2, 512 * (i 1).val + 128 * (t.val % 4) + 16 * r.val, 128 * (t.val / 4)] := by
  have h := off7_eq i t r
  have h0 := congrFun h 0; have h2 := congrFun h 2; have h3 := congrFun h 3
  funext a; fin_cases a
  · exact h0
  · rfl
  · exact h2
  · exact h3

/-- The second printing of the loop stores where the first does. -/
theorem off16_eq (i : grid1.Coords) (t : Fin k1_t2_loop.trips) (r : Fin 8) : k1_off16 i t (BitVec.ofNat 32 (16 * r.val))
    = ![(i 0).val % 2, 0, 512 * (i 1).val + 128 * (t.val % 4) + 16 * r.val, 128 * (t.val / 4)] := off7_eq i t r
/-- Where a later phase's trip stores the second part, by piece. -/
theorem off17_eq (i : grid1.Coords) (t : Fin k1_t2_loop.trips) (r : Fin 8) : k1_off17 i t (BitVec.ofNat 32 (16 * r.val))
    = ![(i 0).val % 2, 1, 512 * (i 1).val + 128 * (t.val % 4) + 16 * r.val, 128 * (t.val / 4)] := off8_eq i t r
/-- Where a later phase's trip stores the third part, by piece. -/
theorem off18_eq (i : grid1.Coords) (t : Fin k1_t2_loop.trips) (r : Fin 8) : k1_off18 i t (BitVec.ofNat 32 (16 * r.val))
    = ![(i 0).val % 2, 2, 512 * (i 1).val + 128 * (t.val % 4) + 16 * r.val, 128 * (t.val / 4)] := off9_eq i t r

instance (i : grid1.Coords) (t : Fin k1_t1_loop.trips) : ClosedOff (k1_off7 i t (BitVec.ofNat 32 0)) := ⟨![(i 0).val % 2, 0, 512 * (i 1).val + 128 * (t.val % 4) + 0, 128 * (t.val / 4)], off7_eq i t ⟨0, by decide⟩⟩
instance (i : grid1.Coords) (t : Fin k1_t1_loop.trips) : ClosedOff (k1_off7 i t (BitVec.ofNat 32 16)) := ⟨![(i 0).val % 2, 0, 512 * (i 1).val + 128 * (t.val % 4) + 16, 128 * (t.val / 4)], off7_eq i t ⟨1, by decide⟩⟩
instance (i : grid1.Coords) (t : Fin k1_t1_loop.trips) : ClosedOff (k1_off7 i t (BitVec.ofNat 32 32)) := ⟨![(i 0).val % 2, 0, 512 * (i 1).val + 128 * (t.val % 4) + 32, 128 * (t.val / 4)], off7_eq i t ⟨2, by decide⟩⟩
instance (i : grid1.Coords) (t : Fin k1_t1_loop.trips) : ClosedOff (k1_off7 i t (BitVec.ofNat 32 48)) := ⟨![(i 0).val % 2, 0, 512 * (i 1).val + 128 * (t.val % 4) + 48, 128 * (t.val / 4)], off7_eq i t ⟨3, by decide⟩⟩
instance (i : grid1.Coords) (t : Fin k1_t1_loop.trips) : ClosedOff (k1_off7 i t (BitVec.ofNat 32 64)) := ⟨![(i 0).val % 2, 0, 512 * (i 1).val + 128 * (t.val % 4) + 64, 128 * (t.val / 4)], off7_eq i t ⟨4, by decide⟩⟩
instance (i : grid1.Coords) (t : Fin k1_t1_loop.trips) : ClosedOff (k1_off7 i t (BitVec.ofNat 32 80)) := ⟨![(i 0).val % 2, 0, 512 * (i 1).val + 128 * (t.val % 4) + 80, 128 * (t.val / 4)], off7_eq i t ⟨5, by decide⟩⟩
instance (i : grid1.Coords) (t : Fin k1_t1_loop.trips) : ClosedOff (k1_off7 i t (BitVec.ofNat 32 96)) := ⟨![(i 0).val % 2, 0, 512 * (i 1).val + 128 * (t.val % 4) + 96, 128 * (t.val / 4)], off7_eq i t ⟨6, by decide⟩⟩
instance (i : grid1.Coords) (t : Fin k1_t1_loop.trips) : ClosedOff (k1_off7 i t (BitVec.ofNat 32 112)) := ⟨![(i 0).val % 2, 0, 512 * (i 1).val + 128 * (t.val % 4) + 112, 128 * (t.val / 4)], off7_eq i t ⟨7, by decide⟩⟩
instance (i : grid1.Coords) (t : Fin k1_t1_loop.trips) : ClosedOff (k1_off8 i t (BitVec.ofNat 32 0)) := ⟨![(i 0).val % 2, 1, 512 * (i 1).val + 128 * (t.val % 4) + 0, 128 * (t.val / 4)], off8_eq i t ⟨0, by decide⟩⟩
instance (i : grid1.Coords) (t : Fin k1_t1_loop.trips) : ClosedOff (k1_off8 i t (BitVec.ofNat 32 16)) := ⟨![(i 0).val % 2, 1, 512 * (i 1).val + 128 * (t.val % 4) + 16, 128 * (t.val / 4)], off8_eq i t ⟨1, by decide⟩⟩
instance (i : grid1.Coords) (t : Fin k1_t1_loop.trips) : ClosedOff (k1_off8 i t (BitVec.ofNat 32 32)) := ⟨![(i 0).val % 2, 1, 512 * (i 1).val + 128 * (t.val % 4) + 32, 128 * (t.val / 4)], off8_eq i t ⟨2, by decide⟩⟩
instance (i : grid1.Coords) (t : Fin k1_t1_loop.trips) : ClosedOff (k1_off8 i t (BitVec.ofNat 32 48)) := ⟨![(i 0).val % 2, 1, 512 * (i 1).val + 128 * (t.val % 4) + 48, 128 * (t.val / 4)], off8_eq i t ⟨3, by decide⟩⟩
instance (i : grid1.Coords) (t : Fin k1_t1_loop.trips) : ClosedOff (k1_off8 i t (BitVec.ofNat 32 64)) := ⟨![(i 0).val % 2, 1, 512 * (i 1).val + 128 * (t.val % 4) + 64, 128 * (t.val / 4)], off8_eq i t ⟨4, by decide⟩⟩
instance (i : grid1.Coords) (t : Fin k1_t1_loop.trips) : ClosedOff (k1_off8 i t (BitVec.ofNat 32 80)) := ⟨![(i 0).val % 2, 1, 512 * (i 1).val + 128 * (t.val % 4) + 80, 128 * (t.val / 4)], off8_eq i t ⟨5, by decide⟩⟩
instance (i : grid1.Coords) (t : Fin k1_t1_loop.trips) : ClosedOff (k1_off8 i t (BitVec.ofNat 32 96)) := ⟨![(i 0).val % 2, 1, 512 * (i 1).val + 128 * (t.val % 4) + 96, 128 * (t.val / 4)], off8_eq i t ⟨6, by decide⟩⟩
instance (i : grid1.Coords) (t : Fin k1_t1_loop.trips) : ClosedOff (k1_off8 i t (BitVec.ofNat 32 112)) := ⟨![(i 0).val % 2, 1, 512 * (i 1).val + 128 * (t.val % 4) + 112, 128 * (t.val / 4)], off8_eq i t ⟨7, by decide⟩⟩
instance (i : grid1.Coords) (t : Fin k1_t1_loop.trips) : ClosedOff (k1_off9 i t (BitVec.ofNat 32 0)) := ⟨![(i 0).val % 2, 2, 512 * (i 1).val + 128 * (t.val % 4) + 0, 128 * (t.val / 4)], off9_eq i t ⟨0, by decide⟩⟩
instance (i : grid1.Coords) (t : Fin k1_t1_loop.trips) : ClosedOff (k1_off9 i t (BitVec.ofNat 32 16)) := ⟨![(i 0).val % 2, 2, 512 * (i 1).val + 128 * (t.val % 4) + 16, 128 * (t.val / 4)], off9_eq i t ⟨1, by decide⟩⟩
instance (i : grid1.Coords) (t : Fin k1_t1_loop.trips) : ClosedOff (k1_off9 i t (BitVec.ofNat 32 32)) := ⟨![(i 0).val % 2, 2, 512 * (i 1).val + 128 * (t.val % 4) + 32, 128 * (t.val / 4)], off9_eq i t ⟨2, by decide⟩⟩
instance (i : grid1.Coords) (t : Fin k1_t1_loop.trips) : ClosedOff (k1_off9 i t (BitVec.ofNat 32 48)) := ⟨![(i 0).val % 2, 2, 512 * (i 1).val + 128 * (t.val % 4) + 48, 128 * (t.val / 4)], off9_eq i t ⟨3, by decide⟩⟩
instance (i : grid1.Coords) (t : Fin k1_t1_loop.trips) : ClosedOff (k1_off9 i t (BitVec.ofNat 32 64)) := ⟨![(i 0).val % 2, 2, 512 * (i 1).val + 128 * (t.val % 4) + 64, 128 * (t.val / 4)], off9_eq i t ⟨4, by decide⟩⟩
instance (i : grid1.Coords) (t : Fin k1_t1_loop.trips) : ClosedOff (k1_off9 i t (BitVec.ofNat 32 80)) := ⟨![(i 0).val % 2, 2, 512 * (i 1).val + 128 * (t.val % 4) + 80, 128 * (t.val / 4)], off9_eq i t ⟨5, by decide⟩⟩
instance (i : grid1.Coords) (t : Fin k1_t1_loop.trips) : ClosedOff (k1_off9 i t (BitVec.ofNat 32 96)) := ⟨![(i 0).val % 2, 2, 512 * (i 1).val + 128 * (t.val % 4) + 96, 128 * (t.val / 4)], off9_eq i t ⟨6, by decide⟩⟩
instance (i : grid1.Coords) (t : Fin k1_t1_loop.trips) : ClosedOff (k1_off9 i t (BitVec.ofNat 32 112)) := ⟨![(i 0).val % 2, 2, 512 * (i 1).val + 128 * (t.val % 4) + 112, 128 * (t.val / 4)], off9_eq i t ⟨7, by decide⟩⟩
instance (i : grid1.Coords) (t : Fin k1_t2_loop.trips) : ClosedOff (k1_off16 i t (BitVec.ofNat 32 0)) := ⟨![(i 0).val % 2, 0, 512 * (i 1).val + 128 * (t.val % 4) + 0, 128 * (t.val / 4)], off16_eq i t ⟨0, by decide⟩⟩
instance (i : grid1.Coords) (t : Fin k1_t2_loop.trips) : ClosedOff (k1_off16 i t (BitVec.ofNat 32 16)) := ⟨![(i 0).val % 2, 0, 512 * (i 1).val + 128 * (t.val % 4) + 16, 128 * (t.val / 4)], off16_eq i t ⟨1, by decide⟩⟩
instance (i : grid1.Coords) (t : Fin k1_t2_loop.trips) : ClosedOff (k1_off16 i t (BitVec.ofNat 32 32)) := ⟨![(i 0).val % 2, 0, 512 * (i 1).val + 128 * (t.val % 4) + 32, 128 * (t.val / 4)], off16_eq i t ⟨2, by decide⟩⟩
instance (i : grid1.Coords) (t : Fin k1_t2_loop.trips) : ClosedOff (k1_off16 i t (BitVec.ofNat 32 48)) := ⟨![(i 0).val % 2, 0, 512 * (i 1).val + 128 * (t.val % 4) + 48, 128 * (t.val / 4)], off16_eq i t ⟨3, by decide⟩⟩
instance (i : grid1.Coords) (t : Fin k1_t2_loop.trips) : ClosedOff (k1_off16 i t (BitVec.ofNat 32 64)) := ⟨![(i 0).val % 2, 0, 512 * (i 1).val + 128 * (t.val % 4) + 64, 128 * (t.val / 4)], off16_eq i t ⟨4, by decide⟩⟩
instance (i : grid1.Coords) (t : Fin k1_t2_loop.trips) : ClosedOff (k1_off16 i t (BitVec.ofNat 32 80)) := ⟨![(i 0).val % 2, 0, 512 * (i 1).val + 128 * (t.val % 4) + 80, 128 * (t.val / 4)], off16_eq i t ⟨5, by decide⟩⟩
instance (i : grid1.Coords) (t : Fin k1_t2_loop.trips) : ClosedOff (k1_off16 i t (BitVec.ofNat 32 96)) := ⟨![(i 0).val % 2, 0, 512 * (i 1).val + 128 * (t.val % 4) + 96, 128 * (t.val / 4)], off16_eq i t ⟨6, by decide⟩⟩
instance (i : grid1.Coords) (t : Fin k1_t2_loop.trips) : ClosedOff (k1_off16 i t (BitVec.ofNat 32 112)) := ⟨![(i 0).val % 2, 0, 512 * (i 1).val + 128 * (t.val % 4) + 112, 128 * (t.val / 4)], off16_eq i t ⟨7, by decide⟩⟩
instance (i : grid1.Coords) (t : Fin k1_t2_loop.trips) : ClosedOff (k1_off17 i t (BitVec.ofNat 32 0)) := ⟨![(i 0).val % 2, 1, 512 * (i 1).val + 128 * (t.val % 4) + 0, 128 * (t.val / 4)], off17_eq i t ⟨0, by decide⟩⟩
instance (i : grid1.Coords) (t : Fin k1_t2_loop.trips) : ClosedOff (k1_off17 i t (BitVec.ofNat 32 16)) := ⟨![(i 0).val % 2, 1, 512 * (i 1).val + 128 * (t.val % 4) + 16, 128 * (t.val / 4)], off17_eq i t ⟨1, by decide⟩⟩
instance (i : grid1.Coords) (t : Fin k1_t2_loop.trips) : ClosedOff (k1_off17 i t (BitVec.ofNat 32 32)) := ⟨![(i 0).val % 2, 1, 512 * (i 1).val + 128 * (t.val % 4) + 32, 128 * (t.val / 4)], off17_eq i t ⟨2, by decide⟩⟩
instance (i : grid1.Coords) (t : Fin k1_t2_loop.trips) : ClosedOff (k1_off17 i t (BitVec.ofNat 32 48)) := ⟨![(i 0).val % 2, 1, 512 * (i 1).val + 128 * (t.val % 4) + 48, 128 * (t.val / 4)], off17_eq i t ⟨3, by decide⟩⟩
instance (i : grid1.Coords) (t : Fin k1_t2_loop.trips) : ClosedOff (k1_off17 i t (BitVec.ofNat 32 64)) := ⟨![(i 0).val % 2, 1, 512 * (i 1).val + 128 * (t.val % 4) + 64, 128 * (t.val / 4)], off17_eq i t ⟨4, by decide⟩⟩
instance (i : grid1.Coords) (t : Fin k1_t2_loop.trips) : ClosedOff (k1_off17 i t (BitVec.ofNat 32 80)) := ⟨![(i 0).val % 2, 1, 512 * (i 1).val + 128 * (t.val % 4) + 80, 128 * (t.val / 4)], off17_eq i t ⟨5, by decide⟩⟩
instance (i : grid1.Coords) (t : Fin k1_t2_loop.trips) : ClosedOff (k1_off17 i t (BitVec.ofNat 32 96)) := ⟨![(i 0).val % 2, 1, 512 * (i 1).val + 128 * (t.val % 4) + 96, 128 * (t.val / 4)], off17_eq i t ⟨6, by decide⟩⟩
instance (i : grid1.Coords) (t : Fin k1_t2_loop.trips) : ClosedOff (k1_off17 i t (BitVec.ofNat 32 112)) := ⟨![(i 0).val % 2, 1, 512 * (i 1).val + 128 * (t.val % 4) + 112, 128 * (t.val / 4)], off17_eq i t ⟨7, by decide⟩⟩
instance (i : grid1.Coords) (t : Fin k1_t2_loop.trips) : ClosedOff (k1_off18 i t (BitVec.ofNat 32 0)) := ⟨![(i 0).val % 2, 2, 512 * (i 1).val + 128 * (t.val % 4) + 0, 128 * (t.val / 4)], off18_eq i t ⟨0, by decide⟩⟩
instance (i : grid1.Coords) (t : Fin k1_t2_loop.trips) : ClosedOff (k1_off18 i t (BitVec.ofNat 32 16)) := ⟨![(i 0).val % 2, 2, 512 * (i 1).val + 128 * (t.val % 4) + 16, 128 * (t.val / 4)], off18_eq i t ⟨1, by decide⟩⟩
instance (i : grid1.Coords) (t : Fin k1_t2_loop.trips) : ClosedOff (k1_off18 i t (BitVec.ofNat 32 32)) := ⟨![(i 0).val % 2, 2, 512 * (i 1).val + 128 * (t.val % 4) + 32, 128 * (t.val / 4)], off18_eq i t ⟨2, by decide⟩⟩
instance (i : grid1.Coords) (t : Fin k1_t2_loop.trips) : ClosedOff (k1_off18 i t (BitVec.ofNat 32 48)) := ⟨![(i 0).val % 2, 2, 512 * (i 1).val + 128 * (t.val % 4) + 48, 128 * (t.val / 4)], off18_eq i t ⟨3, by decide⟩⟩
instance (i : grid1.Coords) (t : Fin k1_t2_loop.trips) : ClosedOff (k1_off18 i t (BitVec.ofNat 32 64)) := ⟨![(i 0).val % 2, 2, 512 * (i 1).val + 128 * (t.val % 4) + 64, 128 * (t.val / 4)], off18_eq i t ⟨4, by decide⟩⟩
instance (i : grid1.Coords) (t : Fin k1_t2_loop.trips) : ClosedOff (k1_off18 i t (BitVec.ofNat 32 80)) := ⟨![(i 0).val % 2, 2, 512 * (i 1).val + 128 * (t.val % 4) + 80, 128 * (t.val / 4)], off18_eq i t ⟨5, by decide⟩⟩
instance (i : grid1.Coords) (t : Fin k1_t2_loop.trips) : ClosedOff (k1_off18 i t (BitVec.ofNat 32 96)) := ⟨![(i 0).val % 2, 2, 512 * (i 1).val + 128 * (t.val % 4) + 96, 128 * (t.val / 4)], off18_eq i t ⟨6, by decide⟩⟩
instance (i : grid1.Coords) (t : Fin k1_t2_loop.trips) : ClosedOff (k1_off18 i t (BitVec.ofNat 32 112)) := ⟨![(i 0).val % 2, 2, 512 * (i 1).val + 128 * (t.val % 4) + 112, 128 * (t.val / 4)], off18_eq i t ⟨7, by decide⟩⟩

end Cert.Proof.Kernel
-- ==== Proof.Decode.lean ====
/-
  What one trip of the decode loop computes, in closed form: from the staged blocks (codes' positions and shifts `x10`, table `x3`,
  scales `x4`, weights `x5`), the 16 x 128 residual rows of trip `t` and row group `p`, their three parts, and the cell of the residual
  scratch that each part's element lands in.
-/
module

public import proofs.«01_k».proof.Proof.Offsets
public import Idealize.ShloMosaic.Lib.Tactic
public import Idealize.ShloMosaic.Lib.Pointwise.Index

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI Idealize.SL.BI.BIBase Idealize.SL.Sem
open scoped Idealize.SL.BI

variable {F : FTy → Type} [BitOps F]

abbrev UU : Type := UR sig nD τ
abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig Unit (Elt F) ℕ UU ℕ) :=
  M.view.loc (c : Thread nD τ) ↦{fullShare} f

/-- The high 16 bits of each f32, low bits cleared (the first bf16 part, widened). -/
def top1 {s : Shape} (x : FVec F s .f32) : FVec F s .f32 := bitcastToFloat .f32 (andi (bitcastToInt x) (broadcast s 4294901760#32))

/-- `x` rounded to 16 significand bits by the two multiplications and three subtractions the kernel spells. -/
def round16 {s : Shape} (x : FVec F s .f32) : FVec F s .f32 :=
  subf (mulf x (broadcast s (Scalar.ofBits .f32 0x43808000#32))) (subf (mulf x (broadcast s (Scalar.ofBits .f32 0x43808000#32))) x)

/-- `x` truncated to 16 significand bits. -/
def top12 {s : Shape} (x : FVec F s .f32) : FVec F s .f32 :=
  select (cmpf .ogt (absf (round16 x)) (absf x)) (round16 (subf (round16 x) (mulf x (broadcast s (Scalar.ofBits .f32 0x37A00000#32))))) (round16 x)

/-- The three parts of an f32 array, each as bf16. -/
def split {s : Shape} (j : Fin 3) (x : FVec F s .f32) : FVec F s .bf16 :=
  match j with
  | 0 => truncf .bf16 (top1 x) bitsLt_bf16_f32
  | 1 => truncf .bf16 (subf (top12 x) (top1 x)) bitsLt_bf16_f32
  | 2 => truncf .bf16 (subf x (top12 x)) bitsLt_bf16_f32

/-- One row of positions (or shifts) of the scratch `x10`, lanes of trip `t`. -/
def idxV (x10 : S4x64x512.Idx → BitVec 32) (k : Fin 4) (t r : Fin 16) : IVec S1x1x128 32 :=
  fun j => x10 (ix3 k ⟨16 * (t.val % 4) + r.val, by omega⟩ ⟨128 * (t.val / 4) + (j 2).val, by have : (j 2).val < 128 := (j 2).isLt; omega⟩)

/-- One row of scales, lanes of trip `t`. -/
def scaleV (x4 : S8x512.Idx → F .f32) (t : Fin 16) (s : Fin 2) : FVec F S1x128 .f32 :=
  fun j => x4 (ix2 ⟨2 * (t.val % 4) + s.val, by omega⟩ ⟨128 * (t.val / 4) + (j 1).val, by have : (j 1).val < 128 := (j 1).isLt; omega⟩)

/-- One codebook's packed table. -/
def tabV (x3 : S2x8x128.Idx → BitVec 32) (k : Fin 2) : IVec S1x8x128 32 := fun j => x3 (ix3 k (j 1) (j 2))

/-- The 128 x 128 block of weights of trip `t`. -/
def wV (x5 : S512x512.Idx → F .bf16) (t : Fin 16) : FVec F S128x128 .bf16 :=
  fun j => x5 (ix2 ⟨128 * (t.val / 4) + (j 0).val, by have : (j 0).val < 128 := (j 0).isLt; omega⟩ ⟨128 * (t.val % 4) + (j 1).val, by have : (j 1).val < 128 := (j 1).isLt; omega⟩)

/-- A row of positions copied into 8 rows. -/
def rep (v : IVec S1x1x128 32) : IVec S8x128 32 :=
  broadcastTo S8x128 (shapeCast S1x128 (shapeCast S1x128 v shapeCasts_S1x1x128_S1x128) shapeCasts_S1x128_S1x128) broadcasts_S1x128_S8x128

/-- One codebook's values: the gathered words, shifted, masked and read as f32. -/
def bookV (tb : IVec S1x8x128 32) (iv sv : IVec S1x1x128 32) : FVec F S8x128 .f32 :=
  bitcastToFloat .f32 (andi (shli (dynamicGather 1 (shapeCast S8x128 tb shapeCasts_S1x8x128_S8x128)
    (shapeCast S8x128 (shapeCast S8x128x1 (select (cmpi .slt (rep iv) (broadcast S8x128 0#32)) (addi (rep iv) (broadcast S8x128 128#32)) (rep iv)) shapeCasts_S8x128_S8x128x1) shapeCasts_S8x128x1_S8x128))
    (rep sv)) (broadcast S8x128 4294901760#32))

/-- The reconstructed weights of 8 rows. -/
def hatV (t0 t1 : IVec S1x8x128 32) (i0 s0 i1 s1 : IVec S1x1x128 32) (sc : FVec F S1x128 .f32) : FVec F S8x128 .f32 :=
  mulf (addf (bookV t0 i0 s0) (bookV t1 i1 s1)) (broadcastTo S8x128 (shapeCast S1x128 (shapeCast S1x128 sc shapeCasts_S1x128_S1x128) shapeCasts_S1x128_S1x128) broadcasts_S1x128_S8x128)

/-- Eight rows of a block are a slice of it. -/
theorem slices_rows (r : Fin 16) : S128x128.Slices ![8 * r.val, 0] S8x128 := by
  revert r; decide

/-- The weights transposed, widened to f32. -/
def wtV (w : FVec F S128x128 .bf16) : FVec F S128x128 .f32 :=
  transpose S128x128 [1, 0] (extf .f32 w bitsLt_bf16_f32) transposes_S128x128_p1_0_S128x128

/-- 8 residual rows of a trip from the vectors loaded for them. -/
def halfV (w : FVec F S128x128 .bf16) (r : Fin 16) (hat : FVec F S8x128 .f32) : FVec F S8x128 .f32 :=
  subf (extractStridedSlice S8x128 ![8 * r.val, 0] (wtV w) (slices_rows r)) hat

/-- 16 residual rows. -/
def catV (a b : FVec F S8x128 .f32) : FVec F S16x128 .f32 :=
  concatenate S16x128 0 [⟨S8x128, a⟩, ⟨S8x128, b⟩] concatenates_S8x128_S8x128_S16x128_d0

/-- As the store writes them. -/
def put (x : FVec F S16x128 .bf16) : FVec F S1x1x16x128 .bf16 := shapeCast S1x1x16x128 x shapeCasts_S16x128_S1x1x16x128

/-- The scale row of row group `p`. -/
def sOf (p : Fin 8) : Fin 2 := ⟨p.val / 4, by omega⟩
/-- The two halves of row group `p`. -/
def lo (p : Fin 8) : Fin 16 := ⟨2 * p.val, by omega⟩
def hi (p : Fin 8) : Fin 16 := ⟨2 * p.val + 1, by omega⟩

/-- The residual rows of trip `t`, row group `p`, from the loads as functions of what they load. -/
def rowsOf (w : FVec F S128x128 .bf16) (t0 t1 : IVec S1x8x128 32) (i0 s0 i1 s1 : Fin 16 → IVec S1x1x128 32) (sc : Fin 2 → FVec F S1x128 .f32)
    (p : Fin 8) : FVec F S16x128 .f32 :=
  catV (halfV w (lo p) (hatV t0 t1 (i0 (lo p)) (s0 (lo p)) (i1 (lo p)) (s1 (lo p)) (sc (sOf p))))
    (halfV w (hi p) (hatV t0 t1 (i0 (hi p)) (s0 (hi p)) (i1 (hi p)) (s1 (hi p)) (sc (sOf p))))

/-- The residual rows of trip `t`, row group `p`, from the staged blocks. -/
def rowsV (x3 : S2x8x128.Idx → BitVec 32) (x4 : S8x512.Idx → F .f32) (x5 : S512x512.Idx → F .bf16) (x10 : S4x64x512.Idx → BitVec 32) (t : Fin 16) (p : Fin 8) : FVec F S16x128 .f32 :=
  rowsOf (wV x5 t) (tabV x3 0) (tabV x3 1) (idxV x10 0 t) (idxV x10 1 t) (idxV x10 2 t) (idxV x10 3 t) (scaleV x4 t) p

/-- The trip that decodes the element in row `a`, column `b` of a 512 x 512 block. -/
def tripAt (a b : Fin 512) : Fin 16 := ⟨4 * (b.val / 128) + a.val / 128, by omega⟩

/-- Part `j` of the residual block at row `a`, column `b`. -/
def rcell (x3 : S2x8x128.Idx → BitVec 32) (x4 : S8x512.Idx → F .f32) (x5 : S512x512.Idx → F .bf16) (x10 : S4x64x512.Idx → BitVec 32) (j : Fin 3) (a b : Fin 512) : F .bf16 :=
  split j (rowsV x3 x4 x5 x10 (tripAt a b) ⟨a.val % 128 / 16, by omega⟩) (ix2 ⟨a.val % 16, by omega⟩ ⟨b.val % 128, by omega⟩)

/-- The residual scratch after the first `k` trips at grid point `i`, over what it held before. -/
def decoded (i : grid1.Coords) (x3 : S2x8x128.Idx → BitVec 32) (x4 : S8x512.Idx → F .f32) (x5 : S512x512.Idx → F .bf16) (x10 : S4x64x512.Idx → BitVec 32)
    (k : ℕ) (g : S2x3x3584x512.Idx → F .bf16) : S2x3x3584x512.Idx → F .bf16 := fun y =>
  if h : (y 0).val = (i 0).val % 2 ∧ (y 2).val / 512 = (i 1).val ∧ (tripAt ⟨(y 2).val % 512, by omega⟩ (y 3)).val < k
  then rcell x3 x4 x5 x10 (y 1) ⟨(y 2).val % 512, by omega⟩ (y 3) else g y

end Cert.Proof.Kernel
-- ==== Proof.Trip1.lean ====
module

public import proofs.«01_k».proof.Proof.Decode
public import Idealize.ShloMosaic.Lib.Tactic
public import Idealize.ShloMosaic.Lib.Pipeline.Value

@[expose] public section

set_option maxRecDepth 16384

noncomputable section

namespace Cert.Proof.Kernel.T1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ UU ℕ

/-! ### What the trip's loads read -/

section Loads

variable (i : grid1.Coords) (k1_h1 : k1_cond1 i = 1#1) (t : Fin k1_t1_loop.trips) {κ : Kind}

abbrev i16 (t : Fin k1_t1_loop.trips) : Fin 16 := t

abbrev ldI0 (M : View sig .tc .vmem S4x64x512 .i32) (f : M.ty.Contents (Elt F)) (r : Fin 16) : IVec S1x1x128 32 :=
  M.readAt (Elt F) (Rect.unit (s := S4x64x512) (k1_off2 t (BitVec.ofNat 32 r.val)) S1x1x128.size (k1_off2_inb i t k1_h1 r)).toLoadRect f
abbrev ldS0 (M : View sig .tc .vmem S4x64x512 .i32) (f : M.ty.Contents (Elt F)) (r : Fin 16) : IVec S1x1x128 32 :=
  M.readAt (Elt F) (Rect.unit (s := S4x64x512) (k1_off3 t (BitVec.ofNat 32 r.val)) S1x1x128.size (k1_off3_inb i t k1_h1 r)).toLoadRect f
abbrev ldI1 (M : View sig .tc .vmem S4x64x512 .i32) (f : M.ty.Contents (Elt F)) (r : Fin 16) : IVec S1x1x128 32 :=
  M.readAt (Elt F) (Rect.unit (s := S4x64x512) (k1_off4 t (BitVec.ofNat 32 r.val)) S1x1x128.size (k1_off4_inb i t k1_h1 r)).toLoadRect f
abbrev ldS1 (M : View sig .tc .vmem S4x64x512 .i32) (f : M.ty.Contents (Elt F)) (r : Fin 16) : IVec S1x1x128 32 :=
  M.readAt (Elt F) (Rect.unit (s := S4x64x512) (k1_off5 t (BitVec.ofNat 32 r.val)) S1x1x128.size (k1_off5_inb i t k1_h1 r)).toLoadRect f
abbrev ldSc (M : View sig .tc .vmem S8x512 .f32) (f : M.ty.Contents (Elt F)) (r : Fin 2) : FVec F S1x128 .f32 :=
  M.readAt (Elt F) (Rect.unit (s := S8x512) (k1_off6 t (BitVec.ofNat 32 r.val)) S1x128.size (k1_off6_inb i t k1_h1 r)).toLoadRect f
abbrev ldW (M : View sig .tc .vmem S512x512 .bf16) (f : M.ty.Contents (Elt F)) : FVec F S128x128 .bf16 :=
  M.readAt (Elt F) (Rect.unit (s := S512x512) (k1_off1 t) S128x128.size (k1_off1_inb i t k1_h1)).toLoadRect f
abbrev ldT0 (M : View sig .tc .vmem S2x8x128 .i32) (f : M.ty.Contents (Elt F)) : IVec S1x8x128 32 :=
  M.readAt (Elt F) (Rect.unit (s := S2x8x128) ![0, 0, 0] S1x8x128.size inb_S2x8x128_S1x8x128_0_0_0).toLoadRect f
abbrev ldT1 (M : View sig .tc .vmem S2x8x128 .i32) (f : M.ty.Contents (Elt F)) : IVec S1x8x128 32 :=
  M.readAt (Elt F) (Rect.unit (s := S2x8x128) ![1, 0, 0] S1x8x128.size inb_S2x8x128_S1x8x128_1_0_0).toLoadRect f

/-- A load through a unit rectangle reads the element at the rectangle's corner plus the index. -/
theorem load_unit {S : Shape} {e : EltTy} {Val : EltTy → Type} (M : View sig .tc .vmem S e) (f : M.ty.Contents Val) {off off' size : Fin S.rank → ℕ}
    (inb : ∀ a, off a + size a ≤ S.size a) (h : off = off') (j : (Rect.unit (s := S) off size inb).toLoadRect.shape.Idx) (y : S.Idx) (hy : ∀ a, (y a).val = off' a + (j a).val) :
    M.readAt Val (Rect.unit (s := S) off size inb).toLoadRect f j = M.read Val f y := by
  subst h
  refine congrArg (M.read Val f) (funext fun a => Fin.ext ?_)
  show off a + 1 * (j a).val = (y a).val
  rw [hy a, Nat.one_mul]

/-- The load of the first codebook's positions. -/
theorem ldI0_eq (M : View sig .tc .vmem S4x64x512 .i32) (f : M.ty.Contents (Elt F)) : ldI0 i k1_h1 t M f = idxV (M.read (Elt F) f) 0 (i16 t) := by
  funext r j
  refine load_unit M f _ (k1_off2_eq t r) j _ fun a => ?_
  have h0 : (j 0).val < 1 := (j 0).isLt
  have h1 : (j 1).val < 1 := (j 1).isLt
  fin_cases a
  · show 0 = 0 + (j 0).val; omega
  · show 16 * (t.val % 4) + r.val = 16 * (t.val % 4) + r.val + (j 1).val; omega
  · rfl

/-- The load of the first codebook's shifts. -/
theorem ldS0_eq (M : View sig .tc .vmem S4x64x512 .i32) (f : M.ty.Contents (Elt F)) : ldS0 i k1_h1 t M f = idxV (M.read (Elt F) f) 1 (i16 t) := by
  funext r j
  refine load_unit M f _ (k1_off3_eq t r) j _ fun a => ?_
  have h0 : (j 0).val < 1 := (j 0).isLt
  have h1 : (j 1).val < 1 := (j 1).isLt
  fin_cases a
  · show 1 = 1 + (j 0).val; omega
  · show 16 * (t.val % 4) + r.val = 16 * (t.val % 4) + r.val + (j 1).val; omega
  · rfl

/-- The load of the second codebook's positions. -/
theorem ldI1_eq (M : View sig .tc .vmem S4x64x512 .i32) (f : M.ty.Contents (Elt F)) : ldI1 i k1_h1 t M f = idxV (M.read (Elt F) f) 2 (i16 t) := by
  funext r j
  refine load_unit M f _ (k1_off4_eq t r) j _ fun a => ?_
  have h0 : (j 0).val < 1 := (j 0).isLt
  have h1 : (j 1).val < 1 := (j 1).isLt
  fin_cases a
  · show 2 = 2 + (j 0).val; omega
  · show 16 * (t.val % 4) + r.val = 16 * (t.val % 4) + r.val + (j 1).val; omega
  · rfl

/-- The load of the second codebook's shifts. -/
theorem ldS1_eq (M : View sig .tc .vmem S4x64x512 .i32) (f : M.ty.Contents (Elt F)) : ldS1 i k1_h1 t M f = idxV (M.read (Elt F) f) 3 (i16 t) := by
  funext r j
  refine load_unit M f _ (k1_off5_eq t r) j _ fun a => ?_
  have h0 : (j 0).val < 1 := (j 0).isLt
  have h1 : (j 1).val < 1 := (j 1).isLt
  fin_cases a
  · show 3 = 3 + (j 0).val; omega
  · show 16 * (t.val % 4) + r.val = 16 * (t.val % 4) + r.val + (j 1).val; omega
  · rfl

/-- The load of the scales. -/
theorem ldSc_eq (M : View sig .tc .vmem S8x512 .f32) (f : M.ty.Contents (Elt F)) : ldSc i k1_h1 t M f = scaleV (M.read (Elt F) f) (i16 t) := by
  funext r j
  refine load_unit M f _ (k1_off6_eq t r) j _ fun a => ?_
  have h0 : (j 0).val < 1 := (j 0).isLt
  fin_cases a
  · show 2 * (t.val % 4) + r.val = 2 * (t.val % 4) + r.val + (j 0).val; omega
  · rfl

/-- The load of the weights. -/
theorem ldW_eq (M : View sig .tc .vmem S512x512 .bf16) (f : M.ty.Contents (Elt F)) : ldW i k1_h1 t M f = wV (M.read (Elt F) f) (i16 t) := by
  funext j
  refine load_unit M f _ (k1_off1_eq t) j _ fun a => ?_
  fin_cases a <;> rfl

/-- The load of the first table. -/
theorem ldT0_eq (M : View sig .tc .vmem S2x8x128 .i32) (f : M.ty.Contents (Elt F)) : ldT0 M f = tabV (M.read (Elt F) f) 0 := by
  funext j
  refine load_unit M f _ rfl j _ fun a => ?_
  have h0 : (j 0).val < 1 := (j 0).isLt
  fin_cases a
  · show 0 = 0 + (j 0).val; omega
  · show (j 1).val = 0 + (j 1).val; omega
  · show (j 2).val = 0 + (j 2).val; omega

/-- The load of the second table. -/
theorem ldT1_eq (M : View sig .tc .vmem S2x8x128 .i32) (f : M.ty.Contents (Elt F)) : ldT1 M f = tabV (M.read (Elt F) f) 1 := by
  funext j
  refine load_unit M f _ rfl j _ fun a => ?_
  have h0 : (j 0).val < 1 := (j 0).isLt
  fin_cases a
  · show 1 = 1 + (j 0).val; omega
  · show (j 1).val = 0 + (j 1).val; omega
  · show (j 2).val = 0 + (j 2).val; omega

/-- The residual rows of one row group as the trip computes them from its loads. -/
abbrev ldRows (M3 : View sig .tc .vmem S2x8x128 .i32) (M4 : View sig .tc .vmem S8x512 .f32) (M5 : View sig .tc .vmem S512x512 .bf16) (M10 : View sig .tc .vmem S4x64x512 .i32)
    (f3 : M3.ty.Contents (Elt F)) (f4 : M4.ty.Contents (Elt F)) (f5 : M5.ty.Contents (Elt F)) (f10 : M10.ty.Contents (Elt F)) (p : Fin 8) : FVec F S16x128 .f32 :=
  rowsOf (ldW i k1_h1 t M5 f5) (ldT0 M3 f3) (ldT1 M3 f3) (ldI0 i k1_h1 t M10 f10) (ldS0 i k1_h1 t M10 f10) (ldI1 i k1_h1 t M10 f10) (ldS1 i k1_h1 t M10 f10) (ldSc i k1_h1 t M4 f4) p

/-- The three stores of one row group, the last first. -/
abbrev pieces3 (rows : Fin 8 → FVec F S16x128 .f32) (p : Fin 8) : List (View.Piece (Elt F) S2x3x3584x512 .bf16) :=
  [⟨Rect.unit (s := S2x3x3584x512) (k1_off9 i t (BitVec.ofNat 32 (16 * p.val))) S1x1x16x128.size (k1_off9_inb i t k1_h1 p), put (split 2 (rows p))⟩,
   ⟨Rect.unit (s := S2x3x3584x512) (k1_off8 i t (BitVec.ofNat 32 (16 * p.val))) S1x1x16x128.size (k1_off8_inb i t k1_h1 p), put (split 1 (rows p))⟩,
   ⟨Rect.unit (s := S2x3x3584x512) (k1_off7 i t (BitVec.ofNat 32 (16 * p.val))) S1x1x16x128.size (k1_off7_inb i t k1_h1 p), put (split 0 (rows p))⟩]

/-- A trip's stores, the last first. -/
abbrev pieces (rows : Fin 8 → FVec F S16x128 .f32) : List (View.Piece (Elt F) S2x3x3584x512 .bf16) :=
  pieces3 i k1_h1 t rows 7 ++ (pieces3 i k1_h1 t rows 6 ++ (pieces3 i k1_h1 t rows 5 ++ (pieces3 i k1_h1 t rows 4 ++ (pieces3 i k1_h1 t rows 3 ++ (pieces3 i k1_h1 t rows 2 ++ (pieces3 i k1_h1 t rows 1 ++ pieces3 i k1_h1 t rows 0))))))

end Loads

/-- One trip of the decode loop: its 24 stores into the residual scratch, everything else as it was. -/
theorem trip1 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v11 : BitVec 32) (k1_h1 : k1_cond1 i = 1#1) (t : Fin k1_t1_loop.trips)
    (f3 : Bf (F := F) c arg3) (f4 : Bf (F := F) c arg4) (f5 : Bf (F := F) c arg5) (f10 : Bf (F := F) c arg10) (f11 : Bf (F := F) c arg11) (E : Set ℕ) (Q : PUnit → sProp 𝕄) :
        iprop(pt c arg3 f3 ∗ pt c arg4 f4 ∗ pt c arg5 f5 ∗ pt c arg10 f10 ∗ pt c arg11 f11 ∗ (iprop(pt c arg3 f3 ∗ pt c arg4 f4 ∗ pt c arg5 f5 ∗ pt c arg10 f10 ∗ pt c arg11 (arg11.view.writes (Elt F) f11 (pieces i k1_h1 t (ldRows i k1_h1 t arg3.view arg4.view arg5.view arg10.view f3 f4 f5 f10)))) -∗ Q ⟨⟩))
          ⊢ wp frame (wpE (defs₀ (F := F)) 𝒱₀ c none) E (k1_t1_body i arg2 harg2 arg3 harg3 arg4 harg4 arg5 harg5 arg6 harg6 arg7 harg7 arg8 harg8 arg9 harg9 arg10 harg10 arg11 harg11 v9 v11 k1_h1 t ⟨⟩) Q := by
  unfold k1_t1_body
  iintro ⟨H3, H4, H5, H10, H11, Hk⟩
  sl_exec
  sl_step
  iapply Hk
  isplitl [H3]; · iexact H3
  isplitl [H4]; · iexact H4
  isplitl [H5]; · iexact H5
  isplitl [H10]; · iexact H10
  iexact H11

/-! ### What the scratch holds after a trip -/

/-- Stored rows read at an index. -/
theorem put_apply (v : FVec F S16x128 .bf16) (x : S1x1x16x128.Idx) : put v x = v (ix2 (x 2) (x 3)) := by
  refine Idealize.ShloMosaic.shapeCast_apply _ _ _ _ ?_
  have h0 : (x 0).val < 1 := (x 0).isLt
  have h1 : (x 1).val < 1 := (x 1).isLt
  rw [Shape.rowMajor_val_two, Shape.rowMajor_val_four]
  show (x 2).val * 128 + (x 3).val = (((x 0).val * 1 + (x 1).val) * 16 + (x 2).val) * 128 + (x 3).val
  omega

section Value

variable (i : grid1.Coords) (k1_h1 : k1_cond1 i = 1#1) (t : Fin k1_t1_loop.trips)
  (x3 : S2x8x128.Idx → BitVec 32) (x4 : S8x512.Idx → F .f32) (x5 : S512x512.Idx → F .bf16) (x10 : S4x64x512.Idx → BitVec 32)

/-- The elements trip `t` writes at grid point `i`. -/
def InTrip (y : S2x3x3584x512.Idx) : Prop :=
  (y 0).val = (i 0).val % 2 ∧ (y 2).val / 512 = (i 1).val ∧ (y 2).val % 512 / 128 = t.val % 4 ∧ (y 3).val / 128 = t.val / 4

/-- A cell of a piece belongs to its trip, part and piece. -/
theorem inTrip_of_mem {off : Fin 4 → ℕ} {j p : ℕ} {inb} (hj : j < 3) (hp : p < 8)
    (h : off = ![(i 0).val % 2, j, 512 * (i 1).val + 128 * (t.val % 4) + 16 * p, 128 * (t.val / 4)])
    {y : S2x3x3584x512.Idx} (hy : y ∈ (Rect.unit (s := S2x3x3584x512) off S1x1x16x128.size inb).set) :
    InTrip i t y ∧ (y 1).val = j ∧ (y 2).val % 512 % 128 / 16 = p := by
  subst h
  rw [Rect.mem_set_unit] at hy
  have h0 : (i 0).val % 2 ≤ (y 0).val ∧ (y 0).val < (i 0).val % 2 + 1 := hy 0
  have h1 : j ≤ (y 1).val ∧ (y 1).val < j + 1 := hy 1
  have h2 : 512 * (i 1).val + 128 * (t.val % 4) + 16 * p ≤ (y 2).val ∧ (y 2).val < 512 * (i 1).val + 128 * (t.val % 4) + 16 * p + 16 := hy 2
  have h3 : 128 * (t.val / 4) ≤ (y 3).val ∧ (y 3).val < 128 * (t.val / 4) + 128 := hy 3
  refine ⟨⟨?_, ?_, ?_, ?_⟩, ?_, ?_⟩ <;> omega

/-- A trip's cell of a part and piece lies in that piece. -/
theorem mem_of_inTrip {off : Fin 4 → ℕ} {j p : ℕ} {inb}
    (h : off = ![(i 0).val % 2, j, 512 * (i 1).val + 128 * (t.val % 4) + 16 * p, 128 * (t.val / 4)])
    {y : S2x3x3584x512.Idx} (hy : InTrip i t y) (h1 : (y 1).val = j) (h2 : (y 2).val % 512 % 128 / 16 = p) :
    y ∈ (Rect.unit (s := S2x3x3584x512) off S1x1x16x128.size inb).set := by
  subst h
  obtain ⟨a, b, e, d⟩ := hy
  rw [Rect.mem_set_unit]
  intro ax
  fin_cases ax
  · show (i 0).val % 2 ≤ (y 0).val ∧ (y 0).val < (i 0).val % 2 + 1; omega
  · show j ≤ (y 1).val ∧ (y 1).val < j + 1; omega
  · show 512 * (i 1).val + 128 * (t.val % 4) + 16 * p ≤ (y 2).val ∧ (y 2).val < 512 * (i 1).val + 128 * (t.val % 4) + 16 * p + 16; omega
  · show 128 * (t.val / 4) ≤ (y 3).val ∧ (y 3).val < 128 * (t.val / 4) + 128; omega

/-- What the scratch holds at an element some trip has written. -/
abbrev cellAt (y : S2x3x3584x512.Idx) : F .bf16 := rcell x3 x4 x5 x10 (y 1) ⟨(y 2).val % 512, by omega⟩ (y 3)

/-- What a trip stores in a piece, cell by cell. -/
theorem piece_apply {off : Fin 4 → ℕ} (j : Fin 3) (p : Fin 8) {inb}
    (h : off = ![(i 0).val % 2, j.val, 512 * (i 1).val + 128 * (t.val % 4) + 16 * p.val, 128 * (t.val / 4)])
    (x : (Rect.unit (s := S2x3x3584x512) off S1x1x16x128.size inb).shape.Idx) :
    put (split j (rowsV x3 x4 x5 x10 (i16 t) p)) x = cellAt x3 x4 x5 x10 ((Rect.unit (s := S2x3x3584x512) off S1x1x16x128.size inb).emb x) := by
  subst h
  rw [put_apply]
  have x0 : (x 0).val < 1 := (x 0).isLt
  have x1 : (x 1).val < 1 := (x 1).isLt
  have x2 : (x 2).val < 16 := (x 2).isLt
  have x3' : (x 3).val < 128 := (x 3).isLt
  have i1 : (i 1).val < 7 := (i 1).isLt
  have ht : t.val < 16 := t.isLt
  have key : ∀ (j' : Fin 3) (a b : Fin 512), j' = j → a.val = 128 * (t.val % 4) + 16 * p.val + (x 2).val → b.val = 128 * (t.val / 4) + (x 3).val →
      split j (rowsV x3 x4 x5 x10 (i16 t) p) (ix2 (x 2) (x 3)) = rcell x3 x4 x5 x10 j' a b := by
    rintro _ a b rfl ha hb
    have hp := p.isLt
    unfold rcell
    have e1 : tripAt a b = i16 t := Fin.ext (by show 4 * (b.val / 128) + a.val / 128 = t.val; omega)
    have e2 : (⟨a.val % 128 / 16, by omega⟩ : Fin 8) = p := Fin.ext (by show a.val % 128 / 16 = p.val; omega)
    have e3 : (⟨a.val % 16, by omega⟩ : Fin 16) = x 2 := Fin.ext (by show a.val % 16 = (x 2).val; omega)
    have e4 : (⟨b.val % 128, by omega⟩ : Fin 128) = x 3 := Fin.ext (by show b.val % 128 = (x 3).val; omega)
    rw [e1, e2, e3, e4]
  refine key _ _ _ (Fin.ext ?_) ?_ ?_
  · show j.val + 1 * (x 1).val = j.val; omega
  · show (512 * (i 1).val + 128 * (t.val % 4) + 16 * p.val + 1 * (x 2).val) % 512 = _
    have := p.isLt
    omega
  · show 128 * (t.val / 4) + 1 * (x 3).val = _; omega

/-- A group's three pieces are among the trip's. -/
theorem pieces3_sub (rows : Fin 8 → FVec F S16x128 .f32) (p : Fin 8) {q} (hq : q ∈ pieces3 i k1_h1 t rows p) : q ∈ pieces i k1_h1 t rows := by
  unfold pieces
  simp only [List.mem_append]
  fin_cases p
  · exact .inr (.inr (.inr (.inr (.inr (.inr (.inr hq))))))
  · exact .inr (.inr (.inr (.inr (.inr (.inr (.inl hq))))))
  · exact .inr (.inr (.inr (.inr (.inr (.inl hq)))))
  · exact .inr (.inr (.inr (.inr (.inl hq))))
  · exact .inr (.inr (.inr (.inl hq)))
  · exact .inr (.inr (.inl hq))
  · exact .inr (.inl hq)
  · exact .inl hq

/-- Every piece of a trip is one of a group's three. -/
theorem mem_pieces (rows : Fin 8 → FVec F S16x128 .f32) {q} (hq : q ∈ pieces i k1_h1 t rows) : ∃ p, q ∈ pieces3 i k1_h1 t rows p := by
  unfold pieces at hq
  simp only [List.mem_append] at hq
  rcases hq with h | h | h | h | h | h | h | h
  · exact ⟨7, h⟩
  · exact ⟨6, h⟩
  · exact ⟨5, h⟩
  · exact ⟨4, h⟩
  · exact ⟨3, h⟩
  · exact ⟨2, h⟩
  · exact ⟨1, h⟩
  · exact ⟨0, h⟩

/-- A trip's stores over the scratch as the trips before it left it. -/
theorem read_pieces {κ} (M : View sig κ .vmem S2x3x3584x512 .bf16) (f : M.ty.Contents (Elt F)) (g : S2x3x3584x512.Idx → F .bf16)
    (hf : M.read (Elt F) f = decoded i x3 x4 x5 x10 t.val g) :
    M.read (Elt F) (M.writes (Elt F) f (pieces i k1_h1 t (rowsV x3 x4 x5 x10 (i16 t)))) = decoded i x3 x4 x5 x10 (t.val + 1) g := by
  funext y
  have ht : t.val < 16 := t.isLt
  have y2 : (y 2).val < 3584 := (y 2).isLt
  have y3 : (y 3).val < 512 := (y 3).isLt
  by_cases hy : InTrip i t y
  · have e : decoded i x3 x4 x5 x10 (t.val + 1) g y = cellAt x3 x4 x5 x10 y := by
      unfold decoded
      obtain ⟨a, b, e, d⟩ := hy
      exact dif_pos ⟨a, b, by show 4 * ((y 3).val / 128) + (y 2).val % 512 / 128 < t.val + 1; omega⟩
    rw [e]
    refine View.read_writes_apply_of_pieces M f (cellAt x3 x4 x5 x10) _ ?_ y ?_
    · intro q hq x
      obtain ⟨p, hp⟩ := mem_pieces i k1_h1 t _ hq
      simp only [pieces3, List.mem_cons, List.not_mem_nil, _root_.or_false] at hp
      rcases hp with rfl | rfl | rfl
      · exact piece_apply i t x3 x4 x5 x10 2 p (inb := k1_off9_inb i t k1_h1 p) (off9_eq i t p) x
      · exact piece_apply i t x3 x4 x5 x10 1 p (inb := k1_off8_inb i t k1_h1 p) (off8_eq i t p) x
      · exact piece_apply i t x3 x4 x5 x10 0 p (inb := k1_off7_inb i t k1_h1 p) (off7_eq i t p) x
    · have hy1 : (y 1).val < 3 := (y 1).isLt
      have hp : (y 2).val % 512 % 128 / 16 < 8 := by omega
      rcases (by omega : (y 1).val = 0 ∨ (y 1).val = 1 ∨ (y 1).val = 2) with h | h | h
      · exact ⟨_, pieces3_sub i k1_h1 t _ ⟨_, hp⟩ (List.mem_cons_of_mem _ (List.mem_cons_of_mem _ List.mem_cons_self)), mem_of_inTrip i t (inb := k1_off7_inb i t k1_h1 ⟨_, hp⟩) (off7_eq i t ⟨_, hp⟩) hy h rfl⟩
      · exact ⟨_, pieces3_sub i k1_h1 t _ ⟨_, hp⟩ (List.mem_cons_of_mem _ List.mem_cons_self), mem_of_inTrip i t (inb := k1_off8_inb i t k1_h1 ⟨_, hp⟩) (off8_eq i t ⟨_, hp⟩) hy h rfl⟩
      · exact ⟨_, pieces3_sub i k1_h1 t _ ⟨_, hp⟩ List.mem_cons_self, mem_of_inTrip i t (inb := k1_off9_inb i t k1_h1 ⟨_, hp⟩) (off9_eq i t ⟨_, hp⟩) hy h rfl⟩
  · rw [View.read_writes_apply_of_forall_not_mem]
    · rw [hf]
      have hiff : ((y 0).val = (i 0).val % 2 ∧ (y 2).val / 512 = (i 1).val ∧ (tripAt ⟨(y 2).val % 512, by omega⟩ (y 3)).val < t.val) ↔
          ((y 0).val = (i 0).val % 2 ∧ (y 2).val / 512 = (i 1).val ∧ (tripAt ⟨(y 2).val % 512, by omega⟩ (y 3)).val < t.val + 1) := by
        show (_ ∧ _ ∧ 4 * ((y 3).val / 128) + (y 2).val % 512 / 128 < t.val) ↔ (_ ∧ _ ∧ 4 * ((y 3).val / 128) + (y 2).val % 512 / 128 < t.val + 1)
        unfold InTrip at hy
        constructor
        · rintro ⟨a, b, d⟩; exact ⟨a, b, by omega⟩
        · rintro ⟨a, b, d⟩; exact ⟨a, b, by by_contra hh; exact hy ⟨a, b, by omega, by omega⟩⟩
      unfold decoded
      exact dite_congr (propext hiff) (fun _ => rfl) (fun _ => rfl)
    · intro q hq hmem
      obtain ⟨p, hp⟩ := mem_pieces i k1_h1 t _ hq
      simp only [pieces3, List.mem_cons, List.not_mem_nil, _root_.or_false] at hp
      rcases hp with rfl | rfl | rfl
      · exact hy (inTrip_of_mem i t (by omega) p.isLt (inb := k1_off9_inb i t k1_h1 p) (off9_eq i t p) hmem).1
      · exact hy (inTrip_of_mem i t (by omega) p.isLt (inb := k1_off8_inb i t k1_h1 p) (off8_eq i t p) hmem).1
      · exact hy (inTrip_of_mem i t (by omega) p.isLt (inb := k1_off7_inb i t k1_h1 p) (off7_eq i t p) hmem).1

end Value

/-! ### The loop -/

section Loop

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v11 : BitVec 32) (k1_h1 : k1_cond1 i = 1#1)
  (f3 : Bf (F := F) c arg3) (f4 : Bf (F := F) c arg4) (f5 : Bf (F := F) c arg5) (f10 : Bf (F := F) c arg10) (f11 : Bf (F := F) c arg11)

/-- The residual scratch's contents before trip `k`. -/
noncomputable def acc1 : ℕ → Bf (F := F) c arg11
  | 0 => f11
  | k + 1 => if h : k < k1_t1_loop.trips then
      arg11.view.writes (Elt F) (acc1 k) (pieces i k1_h1 ⟨k, h⟩ (ldRows i k1_h1 ⟨k, h⟩ arg3.view arg4.view arg5.view arg10.view f3 f4 f5 f10))
    else acc1 k

/-- Before trip `k` the scratch reads as `decoded` says. -/
theorem read_acc1 : ∀ k, k ≤ 16 → arg11.view.read (Elt F) (acc1 c i arg3 arg4 arg5 arg10 arg11 k1_h1 f3 f4 f5 f10 f11 k)
    = decoded i (arg3.view.read (Elt F) f3) (arg4.view.read (Elt F) f4) (arg5.view.read (Elt F) f5) (arg10.view.read (Elt F) f10) k (arg11.view.read (Elt F) f11)
  | 0, _ => by
    funext y
    unfold decoded
    rw [dif_neg fun h => Nat.not_lt_zero _ h.2.2]
    rfl
  | k + 1, hk => by
    have h : k < k1_t1_loop.trips := hk
    rw [acc1, dif_pos h]
    have e : ldRows i k1_h1 ⟨k, h⟩ arg3.view arg4.view arg5.view arg10.view f3 f4 f5 f10
        = rowsV (arg3.view.read (Elt F) f3) (arg4.view.read (Elt F) f4) (arg5.view.read (Elt F) f5) (arg10.view.read (Elt F) f10) (i16 ⟨k, h⟩) := by
      funext p
      unfold ldRows rowsV
      rw [ldW_eq, ldT0_eq, ldT1_eq, ldI0_eq, ldS0_eq, ldI1_eq, ldS1_eq, ldSc_eq]
    rw [e]
    exact read_pieces i k1_h1 ⟨k, h⟩ _ _ _ _ arg11.view _ _ (read_acc1 k (by omega))

set_option warn.classDefReducibility false in
/-- The decode loop's invariant: the scratch at `acc1`, the rest as it was. -/
@[sl_loop] noncomputable def loopInv1 : Gen.LoopInvTy_k1_t1 (F := F) Unit ℕ UU ℕ 𝒱₀ c none Set.univ i arg2 harg2 arg3 harg3 arg4 harg4 arg5 harg5 arg6 harg6 arg7 harg7 arg8 harg8 arg9 harg9 arg10 harg10 arg11 harg11 v9 v11 k1_h1 where
  inv k _ := iprop(pt c arg3 f3 ∗ pt c arg4 f4 ∗ pt c arg5 f5 ∗ pt c arg10 f10 ∗ pt c arg11 (acc1 c i arg3 arg4 arg5 arg10 arg11 k1_h1 f3 f4 f5 f10 f11 k))
  step k _ := by
    have h : k.val < k1_t1_loop.trips := k.isLt
    have e : acc1 c i arg3 arg4 arg5 arg10 arg11 k1_h1 f3 f4 f5 f10 f11 (k.val + 1) = arg11.view.writes (Elt F) (acc1 c i arg3 arg4 arg5 arg10 arg11 k1_h1 f3 f4 f5 f10 f11 k.val)
        (pieces i k1_h1 k (ldRows i k1_h1 k arg3.view arg4.view arg5.view arg10.view f3 f4 f5 f10)) := by
      rw [acc1, dif_pos h]
    rw [e]
    iintro ⟨H3, H4, H5, H10, H11⟩
    iapply (trip1 c i arg2 harg2 arg3 harg3 arg4 harg4 arg5 harg5 arg6 harg6 arg7 harg7 arg8 harg8 arg9 harg9 arg10 harg10 arg11 harg11 v9 v11 k1_h1 k f3 f4 f5 f10 _ Set.univ)
    isplitl [H3]; · iexact H3
    isplitl [H4]; · iexact H4
    isplitl [H5]; · iexact H5
    isplitl [H10]; · iexact H10
    isplitl [H11]; · iexact H11
    iintro H
    iexact H

end Loop

end Cert.Proof.Kernel.T1
-- ==== Proof.Trip2.lean ====
module

public import proofs.«01_k».proof.Proof.Decode
public import Idealize.ShloMosaic.Lib.Tactic
public import Idealize.ShloMosaic.Lib.Pipeline.Value

@[expose] public section

set_option maxRecDepth 16384

noncomputable section

namespace Cert.Proof.Kernel.T2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ UU ℕ

/-! ### What the trip's loads read -/

section Loads

variable (i : grid1.Coords) (k1_h2 : k1_cond2 i = 1#1) (t : Fin k1_t2_loop.trips) {κ : Kind}

abbrev i16 (t : Fin k1_t2_loop.trips) : Fin 16 := t

abbrev ldI0 (M : View sig .tc .vmem S4x64x512 .i32) (f : M.ty.Contents (Elt F)) (r : Fin 16) : IVec S1x1x128 32 :=
  M.readAt (Elt F) (Rect.unit (s := S4x64x512) (k1_off11 t (BitVec.ofNat 32 r.val)) S1x1x128.size (k1_off11_inb i t k1_h2 r)).toLoadRect f
abbrev ldS0 (M : View sig .tc .vmem S4x64x512 .i32) (f : M.ty.Contents (Elt F)) (r : Fin 16) : IVec S1x1x128 32 :=
  M.readAt (Elt F) (Rect.unit (s := S4x64x512) (k1_off12 t (BitVec.ofNat 32 r.val)) S1x1x128.size (k1_off12_inb i t k1_h2 r)).toLoadRect f
abbrev ldI1 (M : View sig .tc .vmem S4x64x512 .i32) (f : M.ty.Contents (Elt F)) (r : Fin 16) : IVec S1x1x128 32 :=
  M.readAt (Elt F) (Rect.unit (s := S4x64x512) (k1_off13 t (BitVec.ofNat 32 r.val)) S1x1x128.size (k1_off13_inb i t k1_h2 r)).toLoadRect f
abbrev ldS1 (M : View sig .tc .vmem S4x64x512 .i32) (f : M.ty.Contents (Elt F)) (r : Fin 16) : IVec S1x1x128 32 :=
  M.readAt (Elt F) (Rect.unit (s := S4x64x512) (k1_off14 t (BitVec.ofNat 32 r.val)) S1x1x128.size (k1_off14_inb i t k1_h2 r)).toLoadRect f
abbrev ldSc (M : View sig .tc .vmem S8x512 .f32) (f : M.ty.Contents (Elt F)) (r : Fin 2) : FVec F S1x128 .f32 :=
  M.readAt (Elt F) (Rect.unit (s := S8x512) (k1_off15 t (BitVec.ofNat 32 r.val)) S1x128.size (k1_off15_inb i t k1_h2 r)).toLoadRect f
abbrev ldW (M : View sig .tc .vmem S512x512 .bf16) (f : M.ty.Contents (Elt F)) : FVec F S128x128 .bf16 :=
  M.readAt (Elt F) (Rect.unit (s := S512x512) (k1_off10 t) S128x128.size (k1_off10_inb i t k1_h2)).toLoadRect f
abbrev ldT0 (M : View sig .tc .vmem S2x8x128 .i32) (f : M.ty.Contents (Elt F)) : IVec S1x8x128 32 :=
  M.readAt (Elt F) (Rect.unit (s := S2x8x128) ![0, 0, 0] S1x8x128.size inb_S2x8x128_S1x8x128_0_0_0).toLoadRect f
abbrev ldT2 (M : View sig .tc .vmem S2x8x128 .i32) (f : M.ty.Contents (Elt F)) : IVec S1x8x128 32 :=
  M.readAt (Elt F) (Rect.unit (s := S2x8x128) ![1, 0, 0] S1x8x128.size inb_S2x8x128_S1x8x128_1_0_0).toLoadRect f

/-- A load through a unit rectangle reads the element at the rectangle's corner plus the index. -/
theorem load_unit {S : Shape} {e : EltTy} {Val : EltTy → Type} (M : View sig .tc .vmem S e) (f : M.ty.Contents Val) {off off' size : Fin S.rank → ℕ}
    (inb : ∀ a, off a + size a ≤ S.size a) (h : off = off') (j : (Rect.unit (s := S) off size inb).toLoadRect.shape.Idx) (y : S.Idx) (hy : ∀ a, (y a).val = off' a + (j a).val) :
    M.readAt Val (Rect.unit (s := S) off size inb).toLoadRect f j = M.read Val f y := by
  subst h
  refine congrArg (M.read Val f) (funext fun a => Fin.ext ?_)
  show off a + 1 * (j a).val = (y a).val
  rw [hy a, Nat.one_mul]

/-- The load of the first codebook's positions. -/
theorem ldI0_eq (M : View sig .tc .vmem S4x64x512 .i32) (f : M.ty.Contents (Elt F)) : ldI0 i k1_h2 t M f = idxV (M.read (Elt F) f) 0 (i16 t) := by
  funext r j
  refine load_unit M f _ (k1_off11_eq t r) j _ fun a => ?_
  have h0 : (j 0).val < 1 := (j 0).isLt
  have h1 : (j 1).val < 1 := (j 1).isLt
  fin_cases a
  · show 0 = 0 + (j 0).val; omega
  · show 16 * (t.val % 4) + r.val = 16 * (t.val % 4) + r.val + (j 1).val; omega
  · rfl

/-- The load of the first codebook's shifts. -/
theorem ldS0_eq (M : View sig .tc .vmem S4x64x512 .i32) (f : M.ty.Contents (Elt F)) : ldS0 i k1_h2 t M f = idxV (M.read (Elt F) f) 1 (i16 t) := by
  funext r j
  refine load_unit M f _ (k1_off12_eq t r) j _ fun a => ?_
  have h0 : (j 0).val < 1 := (j 0).isLt
  have h1 : (j 1).val < 1 := (j 1).isLt
  fin_cases a
  · show 1 = 1 + (j 0).val; omega
  · show 16 * (t.val % 4) + r.val = 16 * (t.val % 4) + r.val + (j 1).val; omega
  · rfl

/-- The load of the second codebook's positions. -/
theorem ldI1_eq (M : View sig .tc .vmem S4x64x512 .i32) (f : M.ty.Contents (Elt F)) : ldI1 i k1_h2 t M f = idxV (M.read (Elt F) f) 2 (i16 t) := by
  funext r j
  refine load_unit M f _ (k1_off13_eq t r) j _ fun a => ?_
  have h0 : (j 0).val < 1 := (j 0).isLt
  have h1 : (j 1).val < 1 := (j 1).isLt
  fin_cases a
  · show 2 = 2 + (j 0).val; omega
  · show 16 * (t.val % 4) + r.val = 16 * (t.val % 4) + r.val + (j 1).val; omega
  · rfl

/-- The load of the second codebook's shifts. -/
theorem ldS1_eq (M : View sig .tc .vmem S4x64x512 .i32) (f : M.ty.Contents (Elt F)) : ldS1 i k1_h2 t M f = idxV (M.read (Elt F) f) 3 (i16 t) := by
  funext r j
  refine load_unit M f _ (k1_off14_eq t r) j _ fun a => ?_
  have h0 : (j 0).val < 1 := (j 0).isLt
  have h1 : (j 1).val < 1 := (j 1).isLt
  fin_cases a
  · show 3 = 3 + (j 0).val; omega
  · show 16 * (t.val % 4) + r.val = 16 * (t.val % 4) + r.val + (j 1).val; omega
  · rfl

/-- The load of the scales. -/
theorem ldSc_eq (M : View sig .tc .vmem S8x512 .f32) (f : M.ty.Contents (Elt F)) : ldSc i k1_h2 t M f = scaleV (M.read (Elt F) f) (i16 t) := by
  funext r j
  refine load_unit M f _ (k1_off15_eq t r) j _ fun a => ?_
  have h0 : (j 0).val < 1 := (j 0).isLt
  fin_cases a
  · show 2 * (t.val % 4) + r.val = 2 * (t.val % 4) + r.val + (j 0).val; omega
  · rfl

/-- The load of the weights. -/
theorem ldW_eq (M : View sig .tc .vmem S512x512 .bf16) (f : M.ty.Contents (Elt F)) : ldW i k1_h2 t M f = wV (M.read (Elt F) f) (i16 t) := by
  funext j
  refine load_unit M f _ (k1_off10_eq t) j _ fun a => ?_
  fin_cases a <;> rfl

/-- The load of the first table. -/
theorem ldT0_eq (M : View sig .tc .vmem S2x8x128 .i32) (f : M.ty.Contents (Elt F)) : ldT0 M f = tabV (M.read (Elt F) f) 0 := by
  funext j
  refine load_unit M f _ rfl j _ fun a => ?_
  have h0 : (j 0).val < 1 := (j 0).isLt
  fin_cases a
  · show 0 = 0 + (j 0).val; omega
  · show (j 1).val = 0 + (j 1).val; omega
  · show (j 2).val = 0 + (j 2).val; omega

/-- The load of the second table. -/
theorem ldT2_eq (M : View sig .tc .vmem S2x8x128 .i32) (f : M.ty.Contents (Elt F)) : ldT2 M f = tabV (M.read (Elt F) f) 1 := by
  funext j
  refine load_unit M f _ rfl j _ fun a => ?_
  have h0 : (j 0).val < 1 := (j 0).isLt
  fin_cases a
  · show 1 = 1 + (j 0).val; omega
  · show (j 1).val = 0 + (j 1).val; omega
  · show (j 2).val = 0 + (j 2).val; omega

/-- The residual rows of one row group as the trip computes them from its loads. -/
abbrev ldRows (M3 : View sig .tc .vmem S2x8x128 .i32) (M4 : View sig .tc .vmem S8x512 .f32) (M5 : View sig .tc .vmem S512x512 .bf16) (M10 : View sig .tc .vmem S4x64x512 .i32)
    (f3 : M3.ty.Contents (Elt F)) (f4 : M4.ty.Contents (Elt F)) (f5 : M5.ty.Contents (Elt F)) (f10 : M10.ty.Contents (Elt F)) (p : Fin 8) : FVec F S16x128 .f32 :=
  rowsOf (ldW i k1_h2 t M5 f5) (ldT0 M3 f3) (ldT2 M3 f3) (ldI0 i k1_h2 t M10 f10) (ldS0 i k1_h2 t M10 f10) (ldI1 i k1_h2 t M10 f10) (ldS1 i k1_h2 t M10 f10) (ldSc i k1_h2 t M4 f4) p

/-- The three stores of one row group, the last first. -/
abbrev pieces3 (rows : Fin 8 → FVec F S16x128 .f32) (p : Fin 8) : List (View.Piece (Elt F) S2x3x3584x512 .bf16) :=
  [⟨Rect.unit (s := S2x3x3584x512) (k1_off18 i t (BitVec.ofNat 32 (16 * p.val))) S1x1x16x128.size (k1_off18_inb i t k1_h2 p), put (split 2 (rows p))⟩,
   ⟨Rect.unit (s := S2x3x3584x512) (k1_off17 i t (BitVec.ofNat 32 (16 * p.val))) S1x1x16x128.size (k1_off17_inb i t k1_h2 p), put (split 1 (rows p))⟩,
   ⟨Rect.unit (s := S2x3x3584x512) (k1_off16 i t (BitVec.ofNat 32 (16 * p.val))) S1x1x16x128.size (k1_off16_inb i t k1_h2 p), put (split 0 (rows p))⟩]

/-- A trip's stores, the last first. -/
abbrev pieces (rows : Fin 8 → FVec F S16x128 .f32) : List (View.Piece (Elt F) S2x3x3584x512 .bf16) :=
  pieces3 i k1_h2 t rows 7 ++ (pieces3 i k1_h2 t rows 6 ++ (pieces3 i k1_h2 t rows 5 ++ (pieces3 i k1_h2 t rows 4 ++ (pieces3 i k1_h2 t rows 3 ++ (pieces3 i k1_h2 t rows 2 ++ (pieces3 i k1_h2 t rows 1 ++ pieces3 i k1_h2 t rows 0))))))

end Loads

/-- One trip of the decode loop: its 24 stores into the residual scratch, everything else as it was. -/
theorem trip2 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v10 v11 : BitVec 32) (v46 : IVec S64x512 32) (k1_h2 : k1_cond2 i = 1#1) (t : Fin k1_t2_loop.trips)
    (f3 : Bf (F := F) c arg3) (f4 : Bf (F := F) c arg4) (f5 : Bf (F := F) c arg5) (f10 : Bf (F := F) c arg10) (f11 : Bf (F := F) c arg11) (E : Set ℕ) (Q : PUnit → sProp 𝕄) :
        iprop(pt c arg3 f3 ∗ pt c arg4 f4 ∗ pt c arg5 f5 ∗ pt c arg10 f10 ∗ pt c arg11 f11 ∗ (iprop(pt c arg3 f3 ∗ pt c arg4 f4 ∗ pt c arg5 f5 ∗ pt c arg10 f10 ∗ pt c arg11 (arg11.view.writes (Elt F) f11 (pieces i k1_h2 t (ldRows i k1_h2 t arg3.view arg4.view arg5.view arg10.view f3 f4 f5 f10)))) -∗ Q ⟨⟩))
          ⊢ wp frame (wpE (defs₀ (F := F)) 𝒱₀ c none) E (k1_t2_body i arg2 harg2 arg3 harg3 arg4 harg4 arg5 harg5 arg6 harg6 arg7 harg7 arg8 harg8 arg9 harg9 arg10 harg10 arg11 harg11 v9 v10 v11 k1_h2 v46 t ⟨⟩) Q := by
  unfold k1_t2_body
  iintro ⟨H3, H4, H5, H10, H11, Hk⟩
  sl_exec
  sl_step
  iapply Hk
  isplitl [H3]; · iexact H3
  isplitl [H4]; · iexact H4
  isplitl [H5]; · iexact H5
  isplitl [H10]; · iexact H10
  iexact H11

/-! ### What the scratch holds after a trip -/

/-- Stored rows read at an index. -/
theorem put_apply (v : FVec F S16x128 .bf16) (x : S1x1x16x128.Idx) : put v x = v (ix2 (x 2) (x 3)) := by
  refine Idealize.ShloMosaic.shapeCast_apply _ _ _ _ ?_
  have h0 : (x 0).val < 1 := (x 0).isLt
  have h1 : (x 1).val < 1 := (x 1).isLt
  rw [Shape.rowMajor_val_two, Shape.rowMajor_val_four]
  show (x 2).val * 128 + (x 3).val = (((x 0).val * 1 + (x 1).val) * 16 + (x 2).val) * 128 + (x 3).val
  omega

section Value

variable (i : grid1.Coords) (k1_h2 : k1_cond2 i = 1#1) (t : Fin k1_t2_loop.trips)
  (x3 : S2x8x128.Idx → BitVec 32) (x4 : S8x512.Idx → F .f32) (x5 : S512x512.Idx → F .bf16) (x10 : S4x64x512.Idx → BitVec 32)

/-- The elements trip `t` writes at grid point `i`. -/
def InTrip (y : S2x3x3584x512.Idx) : Prop :=
  (y 0).val = (i 0).val % 2 ∧ (y 2).val / 512 = (i 1).val ∧ (y 2).val % 512 / 128 = t.val % 4 ∧ (y 3).val / 128 = t.val / 4

/-- A cell of a piece belongs to its trip, part and piece. -/
theorem inTrip_of_mem {off : Fin 4 → ℕ} {j p : ℕ} {inb} (hj : j < 3) (hp : p < 8)
    (h : off = ![(i 0).val % 2, j, 512 * (i 1).val + 128 * (t.val % 4) + 16 * p, 128 * (t.val / 4)])
    {y : S2x3x3584x512.Idx} (hy : y ∈ (Rect.unit (s := S2x3x3584x512) off S1x1x16x128.size inb).set) :
    InTrip i t y ∧ (y 1).val = j ∧ (y 2).val % 512 % 128 / 16 = p := by
  subst h
  rw [Rect.mem_set_unit] at hy
  have h0 : (i 0).val % 2 ≤ (y 0).val ∧ (y 0).val < (i 0).val % 2 + 1 := hy 0
  have h1 : j ≤ (y 1).val ∧ (y 1).val < j + 1 := hy 1
  have h2 : 512 * (i 1).val + 128 * (t.val % 4) + 16 * p ≤ (y 2).val ∧ (y 2).val < 512 * (i 1).val + 128 * (t.val % 4) + 16 * p + 16 := hy 2
  have h3 : 128 * (t.val / 4) ≤ (y 3).val ∧ (y 3).val < 128 * (t.val / 4) + 128 := hy 3
  refine ⟨⟨?_, ?_, ?_, ?_⟩, ?_, ?_⟩ <;> omega

/-- A trip's cell of a part and piece lies in that piece. -/
theorem mem_of_inTrip {off : Fin 4 → ℕ} {j p : ℕ} {inb}
    (h : off = ![(i 0).val % 2, j, 512 * (i 1).val + 128 * (t.val % 4) + 16 * p, 128 * (t.val / 4)])
    {y : S2x3x3584x512.Idx} (hy : InTrip i t y) (h1 : (y 1).val = j) (h2 : (y 2).val % 512 % 128 / 16 = p) :
    y ∈ (Rect.unit (s := S2x3x3584x512) off S1x1x16x128.size inb).set := by
  subst h
  obtain ⟨a, b, e, d⟩ := hy
  rw [Rect.mem_set_unit]
  intro ax
  fin_cases ax
  · show (i 0).val % 2 ≤ (y 0).val ∧ (y 0).val < (i 0).val % 2 + 1; omega
  · show j ≤ (y 1).val ∧ (y 1).val < j + 1; omega
  · show 512 * (i 1).val + 128 * (t.val % 4) + 16 * p ≤ (y 2).val ∧ (y 2).val < 512 * (i 1).val + 128 * (t.val % 4) + 16 * p + 16; omega
  · show 128 * (t.val / 4) ≤ (y 3).val ∧ (y 3).val < 128 * (t.val / 4) + 128; omega

/-- What the scratch holds at an element some trip has written. -/
abbrev cellAt (y : S2x3x3584x512.Idx) : F .bf16 := rcell x3 x4 x5 x10 (y 1) ⟨(y 2).val % 512, by omega⟩ (y 3)

/-- What a trip stores in a piece, cell by cell. -/
theorem piece_apply {off : Fin 4 → ℕ} (j : Fin 3) (p : Fin 8) {inb}
    (h : off = ![(i 0).val % 2, j.val, 512 * (i 1).val + 128 * (t.val % 4) + 16 * p.val, 128 * (t.val / 4)])
    (x : (Rect.unit (s := S2x3x3584x512) off S1x1x16x128.size inb).shape.Idx) :
    put (split j (rowsV x3 x4 x5 x10 (i16 t) p)) x = cellAt x3 x4 x5 x10 ((Rect.unit (s := S2x3x3584x512) off S1x1x16x128.size inb).emb x) := by
  subst h
  rw [put_apply]
  have x0 : (x 0).val < 1 := (x 0).isLt
  have x1 : (x 1).val < 1 := (x 1).isLt
  have x2 : (x 2).val < 16 := (x 2).isLt
  have x3' : (x 3).val < 128 := (x 3).isLt
  have i1 : (i 1).val < 7 := (i 1).isLt
  have ht : t.val < 16 := t.isLt
  have key : ∀ (j' : Fin 3) (a b : Fin 512), j' = j → a.val = 128 * (t.val % 4) + 16 * p.val + (x 2).val → b.val = 128 * (t.val / 4) + (x 3).val →
      split j (rowsV x3 x4 x5 x10 (i16 t) p) (ix2 (x 2) (x 3)) = rcell x3 x4 x5 x10 j' a b := by
    rintro _ a b rfl ha hb
    have hp := p.isLt
    unfold rcell
    have e1 : tripAt a b = i16 t := Fin.ext (by show 4 * (b.val / 128) + a.val / 128 = t.val; omega)
    have e2 : (⟨a.val % 128 / 16, by omega⟩ : Fin 8) = p := Fin.ext (by show a.val % 128 / 16 = p.val; omega)
    have e3 : (⟨a.val % 16, by omega⟩ : Fin 16) = x 2 := Fin.ext (by show a.val % 16 = (x 2).val; omega)
    have e4 : (⟨b.val % 128, by omega⟩ : Fin 128) = x 3 := Fin.ext (by show b.val % 128 = (x 3).val; omega)
    rw [e1, e2, e3, e4]
  refine key _ _ _ (Fin.ext ?_) ?_ ?_
  · show j.val + 1 * (x 1).val = j.val; omega
  · show (512 * (i 1).val + 128 * (t.val % 4) + 16 * p.val + 1 * (x 2).val) % 512 = _
    have := p.isLt
    omega
  · show 128 * (t.val / 4) + 1 * (x 3).val = _; omega

/-- A group's three pieces are among the trip's. -/
theorem pieces3_sub (rows : Fin 8 → FVec F S16x128 .f32) (p : Fin 8) {q} (hq : q ∈ pieces3 i k1_h2 t rows p) : q ∈ pieces i k1_h2 t rows := by
  unfold pieces
  simp only [List.mem_append]
  fin_cases p
  · exact .inr (.inr (.inr (.inr (.inr (.inr (.inr hq))))))
  · exact .inr (.inr (.inr (.inr (.inr (.inr (.inl hq))))))
  · exact .inr (.inr (.inr (.inr (.inr (.inl hq)))))
  · exact .inr (.inr (.inr (.inr (.inl hq))))
  · exact .inr (.inr (.inr (.inl hq)))
  · exact .inr (.inr (.inl hq))
  · exact .inr (.inl hq)
  · exact .inl hq

/-- Every piece of a trip is one of a group's three. -/
theorem mem_pieces (rows : Fin 8 → FVec F S16x128 .f32) {q} (hq : q ∈ pieces i k1_h2 t rows) : ∃ p, q ∈ pieces3 i k1_h2 t rows p := by
  unfold pieces at hq
  simp only [List.mem_append] at hq
  rcases hq with h | h | h | h | h | h | h | h
  · exact ⟨7, h⟩
  · exact ⟨6, h⟩
  · exact ⟨5, h⟩
  · exact ⟨4, h⟩
  · exact ⟨3, h⟩
  · exact ⟨2, h⟩
  · exact ⟨1, h⟩
  · exact ⟨0, h⟩

/-- A trip's stores over the scratch as the trips before it left it. -/
theorem read_pieces {κ} (M : View sig κ .vmem S2x3x3584x512 .bf16) (f : M.ty.Contents (Elt F)) (g : S2x3x3584x512.Idx → F .bf16)
    (hf : M.read (Elt F) f = decoded i x3 x4 x5 x10 t.val g) :
    M.read (Elt F) (M.writes (Elt F) f (pieces i k1_h2 t (rowsV x3 x4 x5 x10 (i16 t)))) = decoded i x3 x4 x5 x10 (t.val + 1) g := by
  funext y
  have ht : t.val < 16 := t.isLt
  have y2 : (y 2).val < 3584 := (y 2).isLt
  have y3 : (y 3).val < 512 := (y 3).isLt
  by_cases hy : InTrip i t y
  · have e : decoded i x3 x4 x5 x10 (t.val + 1) g y = cellAt x3 x4 x5 x10 y := by
      unfold decoded
      obtain ⟨a, b, e, d⟩ := hy
      exact dif_pos ⟨a, b, by show 4 * ((y 3).val / 128) + (y 2).val % 512 / 128 < t.val + 1; omega⟩
    rw [e]
    refine View.read_writes_apply_of_pieces M f (cellAt x3 x4 x5 x10) _ ?_ y ?_
    · intro q hq x
      obtain ⟨p, hp⟩ := mem_pieces i k1_h2 t _ hq
      simp only [pieces3, List.mem_cons, List.not_mem_nil, _root_.or_false] at hp
      rcases hp with rfl | rfl | rfl
      · exact piece_apply i t x3 x4 x5 x10 2 p (inb := k1_off18_inb i t k1_h2 p) (off18_eq i t p) x
      · exact piece_apply i t x3 x4 x5 x10 1 p (inb := k1_off17_inb i t k1_h2 p) (off17_eq i t p) x
      · exact piece_apply i t x3 x4 x5 x10 0 p (inb := k1_off16_inb i t k1_h2 p) (off16_eq i t p) x
    · have hy1 : (y 1).val < 3 := (y 1).isLt
      have hp : (y 2).val % 512 % 128 / 16 < 8 := by omega
      rcases (by omega : (y 1).val = 0 ∨ (y 1).val = 1 ∨ (y 1).val = 2) with h | h | h
      · exact ⟨_, pieces3_sub i k1_h2 t _ ⟨_, hp⟩ (List.mem_cons_of_mem _ (List.mem_cons_of_mem _ List.mem_cons_self)), mem_of_inTrip i t (inb := k1_off16_inb i t k1_h2 ⟨_, hp⟩) (off16_eq i t ⟨_, hp⟩) hy h rfl⟩
      · exact ⟨_, pieces3_sub i k1_h2 t _ ⟨_, hp⟩ (List.mem_cons_of_mem _ List.mem_cons_self), mem_of_inTrip i t (inb := k1_off17_inb i t k1_h2 ⟨_, hp⟩) (off17_eq i t ⟨_, hp⟩) hy h rfl⟩
      · exact ⟨_, pieces3_sub i k1_h2 t _ ⟨_, hp⟩ List.mem_cons_self, mem_of_inTrip i t (inb := k1_off18_inb i t k1_h2 ⟨_, hp⟩) (off18_eq i t ⟨_, hp⟩) hy h rfl⟩
  · rw [View.read_writes_apply_of_forall_not_mem]
    · rw [hf]
      have hiff : ((y 0).val = (i 0).val % 2 ∧ (y 2).val / 512 = (i 1).val ∧ (tripAt ⟨(y 2).val % 512, by omega⟩ (y 3)).val < t.val) ↔
          ((y 0).val = (i 0).val % 2 ∧ (y 2).val / 512 = (i 1).val ∧ (tripAt ⟨(y 2).val % 512, by omega⟩ (y 3)).val < t.val + 1) := by
        show (_ ∧ _ ∧ 4 * ((y 3).val / 128) + (y 2).val % 512 / 128 < t.val) ↔ (_ ∧ _ ∧ 4 * ((y 3).val / 128) + (y 2).val % 512 / 128 < t.val + 1)
        unfold InTrip at hy
        constructor
        · rintro ⟨a, b, d⟩; exact ⟨a, b, by omega⟩
        · rintro ⟨a, b, d⟩; exact ⟨a, b, by by_contra hh; exact hy ⟨a, b, by omega, by omega⟩⟩
      unfold decoded
      exact dite_congr (propext hiff) (fun _ => rfl) (fun _ => rfl)
    · intro q hq hmem
      obtain ⟨p, hp⟩ := mem_pieces i k1_h2 t _ hq
      simp only [pieces3, List.mem_cons, List.not_mem_nil, _root_.or_false] at hp
      rcases hp with rfl | rfl | rfl
      · exact hy (inTrip_of_mem i t (by omega) p.isLt (inb := k1_off18_inb i t k1_h2 p) (off18_eq i t p) hmem).1
      · exact hy (inTrip_of_mem i t (by omega) p.isLt (inb := k1_off17_inb i t k1_h2 p) (off17_eq i t p) hmem).1
      · exact hy (inTrip_of_mem i t (by omega) p.isLt (inb := k1_off16_inb i t k1_h2 p) (off16_eq i t p) hmem).1

end Value

/-! ### The loop -/

section Loop

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v10 v11 : BitVec 32) (v46 : IVec S64x512 32) (k1_h2 : k1_cond2 i = 1#1)
  (f3 : Bf (F := F) c arg3) (f4 : Bf (F := F) c arg4) (f5 : Bf (F := F) c arg5) (f10 : Bf (F := F) c arg10) (f11 : Bf (F := F) c arg11)

/-- The residual scratch's contents before trip `k`. -/
noncomputable def acc2 : ℕ → Bf (F := F) c arg11
  | 0 => f11
  | k + 1 => if h : k < k1_t2_loop.trips then
      arg11.view.writes (Elt F) (acc2 k) (pieces i k1_h2 ⟨k, h⟩ (ldRows i k1_h2 ⟨k, h⟩ arg3.view arg4.view arg5.view arg10.view f3 f4 f5 f10))
    else acc2 k

/-- Before trip `k` the scratch reads as `decoded` says. -/
theorem read_acc2 : ∀ k, k ≤ 16 → arg11.view.read (Elt F) (acc2 c i arg3 arg4 arg5 arg10 arg11 k1_h2 f3 f4 f5 f10 f11 k)
    = decoded i (arg3.view.read (Elt F) f3) (arg4.view.read (Elt F) f4) (arg5.view.read (Elt F) f5) (arg10.view.read (Elt F) f10) k (arg11.view.read (Elt F) f11)
  | 0, _ => by
    funext y
    unfold decoded
    rw [dif_neg fun h => Nat.not_lt_zero _ h.2.2]
    rfl
  | k + 1, hk => by
    have h : k < k1_t2_loop.trips := hk
    rw [acc2, dif_pos h]
    have e : ldRows i k1_h2 ⟨k, h⟩ arg3.view arg4.view arg5.view arg10.view f3 f4 f5 f10
        = rowsV (arg3.view.read (Elt F) f3) (arg4.view.read (Elt F) f4) (arg5.view.read (Elt F) f5) (arg10.view.read (Elt F) f10) (i16 ⟨k, h⟩) := by
      funext p
      unfold ldRows rowsV
      rw [ldW_eq, ldT0_eq, ldT2_eq, ldI0_eq, ldS0_eq, ldI1_eq, ldS1_eq, ldSc_eq]
    rw [e]
    exact read_pieces i k1_h2 ⟨k, h⟩ _ _ _ _ arg11.view _ _ (read_acc2 k (by omega))

set_option warn.classDefReducibility false in
/-- The decode loop's invariant: the scratch at `acc2`, the rest as it was. -/
@[sl_loop] noncomputable def loopInv2 : Gen.LoopInvTy_k1_t2 (F := F) Unit ℕ UU ℕ 𝒱₀ c none Set.univ i arg2 harg2 arg3 harg3 arg4 harg4 arg5 harg5 arg6 harg6 arg7 harg7 arg8 harg8 arg9 harg9 arg10 harg10 arg11 harg11 v9 v10 v11 k1_h2 v46 where
  inv k _ := iprop(pt c arg3 f3 ∗ pt c arg4 f4 ∗ pt c arg5 f5 ∗ pt c arg10 f10 ∗ pt c arg11 (acc2 c i arg3 arg4 arg5 arg10 arg11 k1_h2 f3 f4 f5 f10 f11 k))
  step k _ := by
    have h : k.val < k1_t2_loop.trips := k.isLt
    have e : acc2 c i arg3 arg4 arg5 arg10 arg11 k1_h2 f3 f4 f5 f10 f11 (k.val + 1) = arg11.view.writes (Elt F) (acc2 c i arg3 arg4 arg5 arg10 arg11 k1_h2 f3 f4 f5 f10 f11 k.val)
        (pieces i k1_h2 k (ldRows i k1_h2 k arg3.view arg4.view arg5.view arg10.view f3 f4 f5 f10)) := by
      rw [acc2, dif_pos h]
    rw [e]
    iintro ⟨H3, H4, H5, H10, H11⟩
    iapply (trip2 c i arg2 harg2 arg3 harg3 arg4 harg4 arg5 harg5 arg6 harg6 arg7 harg7 arg8 harg8 arg9 harg9 arg10 harg10 arg11 harg11 v9 v10 v11 v46 k1_h2 k f3 f4 f5 f10 _ Set.univ)
    isplitl [H3]; · iexact H3
    isplitl [H4]; · iexact H4
    isplitl [H5]; · iexact H5
    isplitl [H10]; · iexact H10
    isplitl [H11]; · iexact H11
    iintro H
    iexact H

end Loop

end Cert.Proof.Kernel.T2
-- ==== Proof.Body.lean ====
module

public import proofs.«01_k».proof.Proof.Trip1
public import proofs.«01_k».proof.Proof.Trip2

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ UU ℕ

def body0 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (k1_h1 : k1_cond1 i = 1#1) (k1_h2 : ¬ k1_cond2 i = 1#1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg10 ×' Bf (F := F) c arg11 // ∀ (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 W.1 ∗ pt c arg11 W.2) -∗ Q ⟨⟩)) ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q } := by
  refine ⟨⟨?_, ?_⟩, fun Q => ?run⟩
  case run =>
    unfold cc1_objective_skel
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

def body1 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (k1_h1 : ¬ k1_cond1 i = 1#1) (k1_h2 : k1_cond2 i = 1#1) (k1_h3 : ¬ k1_cond3 i = 1#1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg7 ×' Bf (F := F) c arg8 ×' Bf (F := F) c arg10 ×' Bf (F := F) c arg11 // ∀ (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (iprop(pt c arg2 f2 ∗ pt c arg3 f3 ∗ pt c arg4 f4 ∗ pt c arg5 f5 ∗ pt c arg6 f6 ∗ pt c arg7 W.1 ∗ pt c arg8 W.2.1 ∗ pt c arg9 f9 ∗ pt c arg10 W.2.2.1 ∗ pt c arg11 W.2.2.2) -∗ Q ⟨⟩)) ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q } := by
  refine ⟨⟨?_, ?_, ?_, ?_⟩, fun Q => ?run⟩
  case run =>
    unfold cc1_objective_skel
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

def body2 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (k1_h1 : ¬ k1_cond1 i = 1#1) (k1_h2 : k1_cond2 i = 1#1) (k1_h3 : k1_cond3 i = 1#1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg7 ×' Bf (F := F) c arg8 ×' Bf (F := F) c arg9 ×' Bf (F := F) c arg10 ×' Bf (F := F) c arg11 // ∀ (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (iprop(pt c arg2 f2 ∗ pt c arg3 f3 ∗ pt c arg4 f4 ∗ pt c arg5 f5 ∗ pt c arg6 f6 ∗ pt c arg7 W.1 ∗ pt c arg8 W.2.1 ∗ pt c arg9 W.2.2.1 ∗ pt c arg10 W.2.2.2.1 ∗ pt c arg11 W.2.2.2.2) -∗ Q ⟨⟩)) ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q } := by
  refine ⟨⟨?_, ?_, ?_, ?_, ?_⟩, fun Q => ?run⟩
  case run =>
    unfold cc1_objective_skel
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.Kernel
-- ==== Proof.Step.lean ====
/-
  One grid point of the main kernel as a triple over what its buffers READ: the blocks staged, the residual scratch, the three
  result blocks. At every point the point's block is decoded into the scratch; from the second tile phase on, the block of the
  objective is computed from the other half of the scratch.
-/
module

public import proofs.«01_k».proof.Proof.Body

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ UU ℕ

/-! ### Where the compute phase loads -/

/-- Where the first part of the current tile is read. -/
theorem off19_eq : ∀ i : grid1.Coords, k1_off19 i = ![1 - (i 0).val % 2, 0, 0, 0] := by decide +kernel
/-- Where the second part of the current tile is read. -/
theorem off20_eq : ∀ i : grid1.Coords, k1_off20 i = ![1 - (i 0).val % 2, 1, 0, 0] := by decide +kernel
/-- Where the third part of the current tile is read. -/
theorem off21_eq : ∀ i : grid1.Coords, k1_off21 i = ![1 - (i 0).val % 2, 2, 0, 0] := by decide +kernel
/-- Where a block of the first part is read. -/
theorem off22_eq : ∀ i : grid1.Coords, k1_off22 i = ![1 - (i 0).val % 2, 0, 512 * (i 1).val, 0] := by decide +kernel
/-- Where a block of the second part is read. -/
theorem off23_eq : ∀ i : grid1.Coords, k1_off23 i = ![1 - (i 0).val % 2, 1, 512 * (i 1).val, 0] := by decide +kernel
/-- Where a block of the third part is read. -/
theorem off24_eq : ∀ i : grid1.Coords, k1_off24 i = ![1 - (i 0).val % 2, 2, 512 * (i 1).val, 0] := by decide +kernel

/-- The first branch runs on the first phase. -/
theorem cond1_iff : ∀ i : grid1.Coords, k1_cond1 i = 1#1 ↔ (i 0).val = 0 := by decide +kernel
/-- The second branch runs on every later phase. -/
theorem cond2_iff : ∀ i : grid1.Coords, k1_cond2 i = 1#1 ↔ (i 0).val ≠ 0 := by decide +kernel
/-- The third branch runs on the last block of a phase. -/
theorem cond3_iff : ∀ i : grid1.Coords, k1_cond3 i = 1#1 ↔ (i 1).val = 6 := by decide +kernel

/-! ### The kernel's arithmetic as functions of the blocks it reads -/

/-- Positions and shifts from the codes: for codebook `m`, plane `2 m` the position in the packed table, plane `2 m + 1` the shift. -/
def idxs (x2 : S2x64x512.Idx → BitVec 8) : S4x64x512.Idx → BitVec 32 := fun y =>
  if (y 0).val % 2 = 0 then Scalar.andi (BitVec.setWidth 32 (x2 (ix3 ⟨(y 0).val / 2, by have : (y 0).val < 4 := (y 0).isLt; omega⟩ (y 1) (y 2)))) 127#32
  else Scalar.select (Scalar.cmpi .slt (BitVec.setWidth 32 (x2 (ix3 ⟨(y 0).val / 2, by have : (y 0).val < 4 := (y 0).isLt; omega⟩ (y 1) (y 2)))) 128#32) 16#32 0#32

/-- The half of the residual scratch the compute phase reads at `i`. -/
def cur (i : grid1.Coords) : Fin 2 := ⟨1 - (i 0).val % 2, by omega⟩

/-- One part of a tile's residual. -/
abbrev Tile (F : FTy → Type) : Type := Fin 3 → Fin 3584 → Fin 512 → F .bf16

/-- The tile the scratch holds in its other half. -/
def tileOf (i : grid1.Coords) (g : S2x3x3584x512.Idx → F .bf16) : Tile F := fun j a b => g (ix4 (cur i) j a b)

def ldH (x6 : S3x512x3584.Idx → F .bf16) (j : Fin 3) : FVec F S1x512x3584 .bf16 := fun y => x6 (ix3 j (y 1) (y 2))
def ldR (T : Tile F) (j : Fin 3) : FVec F S1x1x3584x512 .bf16 := fun y => T j (y 2) (y 3)
def ldB (n : Fin 7) (T : Tile F) (j : Fin 3) : FVec F S1x1x512x512 .bf16 := fun y =>
  T j ⟨512 * n.val + (y 2).val, by have : (y 2).val < 512 := (y 2).isLt; omega⟩ (y 3)

/-- The product of a 512 x 3584 and a 3584 x 512 matrix, summed in f32. -/
def mm (a : FVec F S512x3584 .bf16) (b : FVec F S3584x512 .bf16) : FVec F S512x512 .f32 :=
  matmul dot_S512x3584_S3584x512_S512x512_1_0_0_1_n_n none a b (constant S512x512 .f32 0x00000000#32)

/-- A block of `H` times the tile, from the parts of both as matrices. -/
def yL (h0 h1 h2 : FVec F S512x3584 .bf16) (r0 r1 r2 : FVec F S3584x512 .bf16) : FVec F S512x512 .f32 :=
  addf (mulf (addf (mm h0 r0) (mm h1 r1)) (broadcast S512x512 (Scalar.ofBits .f32 0x3F808000#32)))
    (addf (addf (mm (mulf (subf h0 h1) (broadcast S512x3584 (Scalar.ofBits .bf16 0xBB80#16)))
        (subf r0 (mulf r1 (broadcast S3584x512 (Scalar.ofBits .bf16 0x4380#16)))))
      (mm h2 r0)) (mm h0 r2))

/-- The objective of each group of 8 rows of a block, from what the compute phase loads. -/
def egL (h0 h1 h2 : FVec F S1x512x3584 .bf16) (r0 r1 r2 : FVec F S1x1x3584x512 .bf16) (b0 b1 b2 : FVec F S1x1x512x512 .bf16) : FVec F S64x512 .f32 :=
  multiReduction .add [1] S64x512 (shapeCast S64x8x512 (mulf (addf (addf
      (extf .f32 (shapeCast S512x512 b0 shapeCasts_S1x1x512x512_S512x512) bitsLt_bf16_f32)
      (extf .f32 (shapeCast S512x512 b1 shapeCasts_S1x1x512x512_S512x512) bitsLt_bf16_f32))
      (extf .f32 (shapeCast S512x512 b2 shapeCasts_S1x1x512x512_S512x512) bitsLt_bf16_f32))
    (yL (shapeCast S512x3584 h0 shapeCasts_S1x512x3584_S512x3584) (shapeCast S512x3584 h1 shapeCasts_S1x512x3584_S512x3584)
      (shapeCast S512x3584 h2 shapeCasts_S1x512x3584_S512x3584) (shapeCast S3584x512 r0 shapeCasts_S1x1x3584x512_S3584x512)
      (shapeCast S3584x512 r1 shapeCasts_S1x1x3584x512_S3584x512) (shapeCast S3584x512 r2 shapeCasts_S1x1x3584x512_S3584x512)))
    shapeCasts_S512x512_S64x8x512) 0x00000000#32 reduces_S64x8x512_S64x512 (.inl rfl) rfl

/-- The objective of each group of 8 rows of block `n`. -/
def egC (n : Fin 7) (x6 : S3x512x3584.Idx → F .bf16) (T : Tile F) : FVec F S64x512 .f32 :=
  egL (ldH x6 0) (ldH x6 1) (ldH x6 2) (ldR T 0) (ldR T 1) (ldR T 2) (ldB n T 0) (ldB n T 1) (ldB n T 2)

/-- The objective of each column so far: block `n`'s groups `eg` added to what the blocks before left. -/
def eC (n : ℕ) (eg : FVec F S64x512 .f32) (x8 : S1x512.Idx → F .f32) : FVec F S1x512 .f32 :=
  Scalar.select (Scalar.cmpi .eq (BitVec.ofNat 32 n) 0#32)
    (shapeCast S1x512 (multiReduction .add [0] S512 eg 0x00000000#32 reduces_S64x512_S512 (.inl rfl) rfl) shapeCasts_S512_S1x512)
    (addf (shapeCast S1x512 (x8 : FVec F S1x512 .f32) shapeCasts_S1x512_S1x512)
      (shapeCast S1x512 (multiReduction .add [0] S512 eg 0x00000000#32 reduces_S64x512_S512 (.inl rfl) rfl) shapeCasts_S512_S1x512))

/-- The total so far: the tile's columns added to what the tiles before left. -/
def totC (m : ℕ) (e : FVec F S1x512 .f32) (x9 : S8x128.Idx → F .f32) : FVec F S8x128 .f32 :=
  addf (Scalar.select (Scalar.cmpi .eq (BitVec.ofNat 32 m) 1#32) (broadcast S8x128 (Scalar.ofBits .f32 0x00000000#32)) (shapeCast S8x128 (x9 : FVec F S8x128 .f32) shapeCasts_S8x128_S8x128))
    (broadcast S8x128 (extractAt ![0, 0, 0] (shapeCast S1x1x1 (multiReduction .add [1, 2] S1 (shapeCast S1x1x512 e shapeCasts_S1x512_S1x1x512) 0x00000000#32 reduces_S1x1x512_S1 (.inl rfl) rfl) shapeCasts_S1_S1x1x1) inpos_S1x1x1_p0_0_0))

/-! ### What the run left, read -/

/-- Owning a whole buffer's memref at `X` is holding the buffer at some contents that read `X`. -/
theorem owns_eq (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt
  rw [h.set_eq_univ]

/-- A buffer stored whole reads what was stored. -/
theorem read_whole_store {κ} {S : Shape} {e : EltTy} (M : View sig κ .vmem S e) (f : M.ty.Contents (Elt F)) (off : Fin S.rank → ℕ) (h0 : ∀ a, off a = 0)
    (inb : ∀ a, off a + S.size a ≤ S.size a) (v : (Rect.unit (s := S) off S.size inb).shape.Idx → Elt F e) :
    M.read (Elt F) (M.writes (Elt F) f [⟨Rect.unit (s := S) off S.size inb, v⟩]) = v := by
  obtain rfl : off = fun _ => 0 := funext h0
  funext y
  refine View.read_writes_apply_of_pieces M f v _ ?_ y ?_
  · intro q hq x
    rw [List.mem_singleton] at hq
    subst hq
    refine congrArg v (funext fun a => Fin.ext ?_)
    show (x a).val = 0 + 1 * (x a).val
    omega
  · refine ⟨_, List.mem_singleton_self _, ?_⟩
    rw [Rect.mem_set_unit]
    exact fun a => ⟨Nat.zero_le _, by show (y a).val < 0 + S.size a; rw [Nat.zero_add]; exact (y a).isLt⟩

end Cert.Proof.Kernel
-- ==== Proof.Read.lean ====
/-
  What the executor's run of one grid point leaves in each buffer, read.
-/
module

public import proofs.«01_k».proof.Proof.Step

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ UU ℕ

/-- A plane of codes read without its unit axis. -/
theorem cast_code_apply (v : IVec S1x64x512 8) (a : Fin 64) (b : Fin 512) : shapeCast S64x512 v shapeCasts_S1x64x512_S64x512 (ix2 a b) = v (ix3 0 a b) := by
  refine shapeCast_apply _ _ _ _ ?_
  simp only [Shape.rowMajor_val_two, Shape.rowMajor_val_three]
  simp

/-- The computed position of a code at an index. -/
theorem pos_apply (v : IVec S1x64x512 8) (a : Fin 64) (b : Fin 512) :
    andi (extui 32 (shapeCast S64x512 v shapeCasts_S1x64x512_S64x512) (by decide)) (broadcast S64x512 127#32) (ix2 a b) = Scalar.andi (BitVec.setWidth 32 (v (ix3 0 a b))) 127#32 :=
  congrArg (fun z => Scalar.andi (BitVec.setWidth 32 z) 127#32) (cast_code_apply v a b)

/-- The computed shift of a code at an index. -/
theorem shift_apply (v : IVec S1x64x512 8) (a : Fin 64) (b : Fin 512) :
    select (cmpi .slt (extui 32 (shapeCast S64x512 v shapeCasts_S1x64x512_S64x512) (by decide)) (broadcast S64x512 128#32)) (broadcast S64x512 16#32) (broadcast S64x512 0#32) (ix2 a b)
      = Scalar.select (Scalar.cmpi .slt (BitVec.setWidth 32 (v (ix3 0 a b))) 128#32) 16#32 0#32 :=
  congrArg (fun z => Scalar.select (Scalar.cmpi .slt (BitVec.setWidth 32 z) 128#32) 16#32 0#32) (cast_code_apply v a b)

/-- The even planes hold positions. -/
theorem idxs_pos (x2 : S2x64x512.Idx → BitVec 8) (k : Fin 4) (m : Fin 2) (h : k.val = 2 * m.val) (a : Fin 64) (b : Fin 512) :
    Scalar.andi (BitVec.setWidth 32 (x2 (ix3 m a b))) 127#32 = idxs x2 (ix3 k a b) := by
  refine Eq.trans ?_ (if_pos (show ((ix3 k a b : S4x64x512.Idx) 0).val % 2 = 0 from (by omega : k.val % 2 = 0))).symm
  have e : (⟨k.val / 2, by omega⟩ : Fin 2) = m := Fin.ext (by show k.val / 2 = m.val; omega)
  exact congrArg (fun z => Scalar.andi (BitVec.setWidth 32 (x2 (ix3 z a b))) 127#32) e.symm

/-- The odd planes hold shifts. -/
theorem idxs_shift (x2 : S2x64x512.Idx → BitVec 8) (k : Fin 4) (m : Fin 2) (h : k.val = 2 * m.val + 1) (a : Fin 64) (b : Fin 512) :
    Scalar.select (Scalar.cmpi .slt (BitVec.setWidth 32 (x2 (ix3 m a b))) 128#32) 16#32 0#32 = idxs x2 (ix3 k a b) := by
  refine Eq.trans ?_ (if_neg (show ¬ ((ix3 k a b : S4x64x512.Idx) 0).val % 2 = 0 from (by omega : ¬ k.val % 2 = 0))).symm
  have e : (⟨k.val / 2, by omega⟩ : Fin 2) = m := Fin.ext (by show k.val / 2 = m.val; omega)
  exact congrArg (fun z => Scalar.select (Scalar.cmpi .slt (BitVec.setWidth 32 (x2 (ix3 z a b))) 128#32) 16#32 0#32) e.symm

/-- A stored plane read at an index. -/
theorem plane_apply (x2 : S2x64x512.Idx → BitVec 8) (k : Fin 4) {off : Fin 3 → ℕ} (hoff : off = ![k.val, 0, 0]) (inb : ∀ a, off a + S1x64x512.size a ≤ S4x64x512.size a) (v : IVec S64x512 32) (x : S1x64x512.Idx)
    (h : ∀ a b, v (ix2 a b) = idxs x2 (ix3 k a b)) :
    shapeCast S1x64x512 v shapeCasts_S64x512_S1x64x512 x = idxs x2 ((Rect.unit (s := S4x64x512) off S1x64x512.size inb).emb x) := by
  subst hoff
  have h0 : (x 0).val < 1 := (x 0).isLt
  have hsc : shapeCast S1x64x512 v shapeCasts_S64x512_S1x64x512 x = v (ix2 (x 1) (x 2)) := by
    refine shapeCast_apply _ _ _ _ ?_
    simp only [Shape.rowMajor_val_two, Shape.rowMajor_val_three]
    simp
    omega
  refine (hsc.trans (h (x 1) (x 2))).trans ?_
  refine congrArg (idxs x2) (funext fun a => Fin.ext ?_)
  fin_cases a
  · show k.val = k.val + 1 * (x 0).val; omega
  · show (x 1).val = 0 + 1 * (x 1).val; omega
  · show (x 2).val = 0 + 1 * (x 2).val; omega

/-- A stored plane of positions is the planes' own. -/
theorem pos_plane (x2 : S2x64x512.Idx → BitVec 8) (k : Fin 4) (m : Fin 2) (hk : k.val = 2 * m.val) {off : Fin 3 → ℕ} (hoff : off = ![k.val, 0, 0]) (inb : ∀ a, off a + S1x64x512.size a ≤ S4x64x512.size a)
    (v : IVec S1x64x512 8) (hv : ∀ a b, v (ix3 0 a b) = x2 (ix3 m a b)) (x : S1x64x512.Idx) :
    shapeCast S1x64x512 (andi (extui 32 (shapeCast S64x512 v shapeCasts_S1x64x512_S64x512) (by decide)) (broadcast S64x512 127#32)) shapeCasts_S64x512_S1x64x512 x
      = idxs x2 ((Rect.unit (s := S4x64x512) off S1x64x512.size inb).emb x) :=
  plane_apply x2 k hoff inb _ x fun a b => (pos_apply v a b).trans ((congrArg (fun z => Scalar.andi (BitVec.setWidth 32 z) 127#32) (hv a b)).trans (idxs_pos x2 k m hk a b))

/-- A stored plane of shifts is the planes' own. -/
theorem shift_plane (x2 : S2x64x512.Idx → BitVec 8) (k : Fin 4) (m : Fin 2) (hk : k.val = 2 * m.val + 1) {off : Fin 3 → ℕ} (hoff : off = ![k.val, 0, 0]) (inb : ∀ a, off a + S1x64x512.size a ≤ S4x64x512.size a)
    (v : IVec S1x64x512 8) (hv : ∀ a b, v (ix3 0 a b) = x2 (ix3 m a b)) (x : S1x64x512.Idx) :
    shapeCast S1x64x512 (select (cmpi .slt (extui 32 (shapeCast S64x512 v shapeCasts_S1x64x512_S64x512) (by decide)) (broadcast S64x512 128#32)) (broadcast S64x512 16#32) (broadcast S64x512 0#32)) shapeCasts_S64x512_S1x64x512 x
      = idxs x2 ((Rect.unit (s := S4x64x512) off S1x64x512.size inb).emb x) :=
  plane_apply x2 k hoff inb _ x fun a b => (shift_apply v a b).trans ((congrArg (fun z => Scalar.select (Scalar.cmpi .slt (BitVec.setWidth 32 z) 128#32) 16#32 0#32) (hv a b)).trans (idxs_shift x2 k m hk a b))

/-- Four planes stored over anything read as the positions and shifts. -/
theorem read_planes {κ} (x2 : S2x64x512.Idx → BitVec 8) (M : View sig κ .vmem S4x64x512 .i32) (f : M.ty.Contents (Elt F)) (v3 v2 v1 v0 : IVec S1x64x512 32)
    (b3 : ∀ a, (![3, 0, 0] : Fin 3 → ℕ) a + S1x64x512.size a ≤ S4x64x512.size a) (b2 : ∀ a, (![2, 0, 0] : Fin 3 → ℕ) a + S1x64x512.size a ≤ S4x64x512.size a)
    (b1 : ∀ a, (![1, 0, 0] : Fin 3 → ℕ) a + S1x64x512.size a ≤ S4x64x512.size a) (b0 : ∀ a, (![0, 0, 0] : Fin 3 → ℕ) a + S1x64x512.size a ≤ S4x64x512.size a)
    (h3 : ∀ x : S1x64x512.Idx, v3 x = idxs x2 ((Rect.unit (s := S4x64x512) ![3, 0, 0] S1x64x512.size b3).emb x))
    (h2 : ∀ x : S1x64x512.Idx, v2 x = idxs x2 ((Rect.unit (s := S4x64x512) ![2, 0, 0] S1x64x512.size b2).emb x))
    (h1 : ∀ x : S1x64x512.Idx, v1 x = idxs x2 ((Rect.unit (s := S4x64x512) ![1, 0, 0] S1x64x512.size b1).emb x))
    (h0 : ∀ x : S1x64x512.Idx, v0 x = idxs x2 ((Rect.unit (s := S4x64x512) ![0, 0, 0] S1x64x512.size b0).emb x)) :
    M.read (Elt F) (M.writes (Elt F) f [⟨Rect.unit (s := S4x64x512) ![3, 0, 0] S1x64x512.size b3, v3⟩, ⟨Rect.unit (s := S4x64x512) ![2, 0, 0] S1x64x512.size b2, v2⟩,
      ⟨Rect.unit (s := S4x64x512) ![1, 0, 0] S1x64x512.size b1, v1⟩, ⟨Rect.unit (s := S4x64x512) ![0, 0, 0] S1x64x512.size b0, v0⟩]) = idxs x2 := by
  funext y
  refine View.read_writes_apply_of_pieces M f (idxs x2) _ ?_ y ?_
  · exact List.forall_mem_cons.2 ⟨h3, List.forall_mem_cons.2 ⟨h2, List.forall_mem_cons.2 ⟨h1, List.forall_mem_cons.2 ⟨h0, fun q hq => absurd hq List.not_mem_nil⟩⟩⟩⟩
  · have y0 : (y 0).val < 4 := (y 0).isLt
    have y1 : (y 1).val < 64 := (y 1).isLt
    have y2 : (y 2).val < 512 := (y 2).isLt
    have hm : ∀ (k : ℕ) (inb : ∀ a, (![k, 0, 0] : Fin 3 → ℕ) a + S1x64x512.size a ≤ S4x64x512.size a), (y 0).val = k → y ∈ (Rect.unit (s := S4x64x512) ![k, 0, 0] S1x64x512.size inb).set := fun k inb h => by
      rw [Rect.mem_set_unit]
      intro a
      fin_cases a
      · exact ⟨by show k ≤ (y 0).val; omega, by show (y 0).val < k + 1; omega⟩
      · exact ⟨Nat.zero_le _, by show (y 1).val < 0 + 64; omega⟩
      · exact ⟨Nat.zero_le _, by show (y 2).val < 0 + 512; omega⟩
    rcases (by omega : (y 0).val = 3 ∨ (y 0).val = 2 ∨ (y 0).val = 1 ∨ (y 0).val = 0) with h | h | h | h
    · exact ⟨_, List.mem_cons_self, hm 3 b3 h⟩
    · exact ⟨_, List.mem_cons_of_mem _ List.mem_cons_self, hm 2 b2 h⟩
    · exact ⟨_, List.mem_cons_of_mem _ (List.mem_cons_of_mem _ List.mem_cons_self), hm 1 b1 h⟩
    · exact ⟨_, List.mem_cons_of_mem _ (List.mem_cons_of_mem _ (List.mem_cons_of_mem _ List.mem_cons_self)), hm 0 b0 h⟩

/-- The stores of the codes' positions and shifts, over anything. -/
theorem read_idx {κ} (M2 : View sig .tc .vmem S2x64x512 .i8) (f2 : M2.ty.Contents (Elt F)) (M : View sig κ .vmem S4x64x512 .i32) (f : M.ty.Contents (Elt F)) {b3 b2 b1 b0 c1 c0} :
    M.read (Elt F) (M.writes (Elt F) f [
      ⟨Rect.unit (s := S4x64x512) ![3, 0, 0] S1x64x512.size b3, shapeCast S1x64x512 (select (cmpi .slt (extui 32 (shapeCast S64x512 (M2.readAt (Elt F) (Rect.unit (s := S2x64x512) ![1, 0, 0] S1x64x512.size c1).toLoadRect f2) shapeCasts_S1x64x512_S64x512)) (broadcast S64x512 128#32)) (broadcast S64x512 16#32) (broadcast S64x512 0#32)) shapeCasts_S64x512_S1x64x512⟩,
      ⟨Rect.unit (s := S4x64x512) ![2, 0, 0] S1x64x512.size b2, shapeCast S1x64x512 (andi (extui 32 (shapeCast S64x512 (M2.readAt (Elt F) (Rect.unit (s := S2x64x512) ![1, 0, 0] S1x64x512.size c1).toLoadRect f2) shapeCasts_S1x64x512_S64x512)) (broadcast S64x512 127#32)) shapeCasts_S64x512_S1x64x512⟩,
      ⟨Rect.unit (s := S4x64x512) ![1, 0, 0] S1x64x512.size b1, shapeCast S1x64x512 (select (cmpi .slt (extui 32 (shapeCast S64x512 (M2.readAt (Elt F) (Rect.unit (s := S2x64x512) ![0, 0, 0] S1x64x512.size c0).toLoadRect f2) shapeCasts_S1x64x512_S64x512)) (broadcast S64x512 128#32)) (broadcast S64x512 16#32) (broadcast S64x512 0#32)) shapeCasts_S64x512_S1x64x512⟩,
      ⟨Rect.unit (s := S4x64x512) ![0, 0, 0] S1x64x512.size b0, shapeCast S1x64x512 (andi (extui 32 (shapeCast S64x512 (M2.readAt (Elt F) (Rect.unit (s := S2x64x512) ![0, 0, 0] S1x64x512.size c0).toLoadRect f2) shapeCasts_S1x64x512_S64x512)) (broadcast S64x512 127#32)) shapeCasts_S64x512_S1x64x512⟩]) = idxs (M2.read (Elt F) f2) := by
  have hld1 : ∀ a b, M2.readAt (Elt F) (Rect.unit (s := S2x64x512) ![1, 0, 0] S1x64x512.size c1).toLoadRect f2 (ix3 0 a b) = M2.read (Elt F) f2 (ix3 1 a b) := fun a b => by
    refine T1.load_unit M2 f2 _ rfl _ _ fun a => ?_
    fin_cases a <;> simp
  have hld0 : ∀ a b, M2.readAt (Elt F) (Rect.unit (s := S2x64x512) ![0, 0, 0] S1x64x512.size c0).toLoadRect f2 (ix3 0 a b) = M2.read (Elt F) f2 (ix3 0 a b) := fun a b => by
    refine T1.load_unit M2 f2 _ rfl _ _ fun a => ?_
    fin_cases a <;> simp
  exact read_planes (M2.read (Elt F) f2) M f _ _ _ _ b3 b2 b1 b0
    (shift_plane (M2.read (Elt F) f2) 3 1 rfl rfl b3 _ hld1) (pos_plane (M2.read (Elt F) f2) 2 1 rfl rfl b2 _ hld1)
    (shift_plane (M2.read (Elt F) f2) 1 0 rfl rfl b1 _ hld0) (pos_plane (M2.read (Elt F) f2) 0 0 rfl rfl b0 _ hld0)

/-! ### The compute phase's loads -/

/-- A load of a part of `H` is that part. -/
theorem ldH_eq (M : View sig .tc .vmem S3x512x3584 .bf16) (f : M.ty.Contents (Elt F)) (j : Fin 3) {off : Fin 3 → ℕ} (h : off = ![j.val, 0, 0]) (inb : ∀ a, off a + S1x512x3584.size a ≤ S3x512x3584.size a) :
    M.readAt (Elt F) (Rect.unit (s := S3x512x3584) off S1x512x3584.size inb).toLoadRect f = ldH (M.read (Elt F) f) j := by
  funext y
  refine T1.load_unit M f inb h _ _ fun a => ?_
  have h0 : (y 0).val < 1 := (y 0).isLt
  fin_cases a
  · show j.val = j.val + (y 0).val; omega
  · show (y 1).val = 0 + (y 1).val; omega
  · show (y 2).val = 0 + (y 2).val; omega

/-- A load of a part of the current tile is that part. -/
theorem ldR_eq (i : grid1.Coords) (M : View sig .tc .vmem S2x3x3584x512 .bf16) (f : M.ty.Contents (Elt F)) (j : Fin 3) {off : Fin 4 → ℕ} (h : off = ![1 - (i 0).val % 2, j.val, 0, 0]) (inb : ∀ a, off a + S1x1x3584x512.size a ≤ S2x3x3584x512.size a) :
    M.readAt (Elt F) (Rect.unit (s := S2x3x3584x512) off S1x1x3584x512.size inb).toLoadRect f = ldR (tileOf i (M.read (Elt F) f)) j := by
  funext y
  refine T1.load_unit M f inb h _ _ fun a => ?_
  have h0 : (y 0).val < 1 := (y 0).isLt
  have h1 : (y 1).val < 1 := (y 1).isLt
  fin_cases a
  · show 1 - (i 0).val % 2 = 1 - (i 0).val % 2 + (y 0).val; omega
  · show j.val = j.val + (y 1).val; omega
  · show (y 2).val = 0 + (y 2).val; omega
  · show (y 3).val = 0 + (y 3).val; omega

/-- A load of a block of a part of the current tile is that block. -/
theorem ldB_eq (i : grid1.Coords) (M : View sig .tc .vmem S2x3x3584x512 .bf16) (f : M.ty.Contents (Elt F)) (j : Fin 3) {off : Fin 4 → ℕ} (h : off = ![1 - (i 0).val % 2, j.val, 512 * (i 1).val, 0]) (inb : ∀ a, off a + S1x1x512x512.size a ≤ S2x3x3584x512.size a) :
    M.readAt (Elt F) (Rect.unit (s := S2x3x3584x512) off S1x1x512x512.size inb).toLoadRect f = ldB (i 1) (tileOf i (M.read (Elt F) f)) j := by
  funext y
  refine T1.load_unit M f inb h _ _ fun a => ?_
  have h0 : (y 0).val < 1 := (y 0).isLt
  have h1 : (y 1).val < 1 := (y 1).isLt
  fin_cases a
  · show 1 - (i 0).val % 2 = 1 - (i 0).val % 2 + (y 0).val; omega
  · show j.val = j.val + (y 1).val; omega
  · show 512 * (i 1).val + (y 2).val = 512 * (i 1).val + (y 2).val; rfl
  · show (y 3).val = 0 + (y 3).val; omega

/-- The groups' objective from the buffers' contents. -/
abbrev egAt (i : grid1.Coords) (k1_h2 : k1_cond2 i = 1#1) (M6 : View sig .tc .vmem S3x512x3584 .bf16) (f6 : M6.ty.Contents (Elt F)) (M : View sig .tc .vmem S2x3x3584x512 .bf16) (f : M.ty.Contents (Elt F)) : FVec F S64x512 .f32 :=
  egL (M6.readAt (Elt F) (Rect.unit (s := S3x512x3584) ![0, 0, 0] S1x512x3584.size inb_S3x512x3584_S1x512x3584_0_0_0).toLoadRect f6)
    (M6.readAt (Elt F) (Rect.unit (s := S3x512x3584) ![1, 0, 0] S1x512x3584.size inb_S3x512x3584_S1x512x3584_1_0_0).toLoadRect f6)
    (M6.readAt (Elt F) (Rect.unit (s := S3x512x3584) ![2, 0, 0] S1x512x3584.size inb_S3x512x3584_S1x512x3584_2_0_0).toLoadRect f6)
    (M.readAt (Elt F) (Rect.unit (s := S2x3x3584x512) (k1_off19 i) S1x1x3584x512.size (k1_off19_inb i k1_h2)).toLoadRect f)
    (M.readAt (Elt F) (Rect.unit (s := S2x3x3584x512) (k1_off20 i) S1x1x3584x512.size (k1_off20_inb i k1_h2)).toLoadRect f)
    (M.readAt (Elt F) (Rect.unit (s := S2x3x3584x512) (k1_off21 i) S1x1x3584x512.size (k1_off21_inb i k1_h2)).toLoadRect f)
    (M.readAt (Elt F) (Rect.unit (s := S2x3x3584x512) (k1_off22 i) S1x1x512x512.size (k1_off22_inb i k1_h2)).toLoadRect f)
    (M.readAt (Elt F) (Rect.unit (s := S2x3x3584x512) (k1_off23 i) S1x1x512x512.size (k1_off23_inb i k1_h2)).toLoadRect f)
    (M.readAt (Elt F) (Rect.unit (s := S2x3x3584x512) (k1_off24 i) S1x1x512x512.size (k1_off24_inb i k1_h2)).toLoadRect f)

set_option backward.isDefEq.respectTransparency.types false in
/-- The group objectives computed at a point, by the blocks it reads. -/
theorem egAt_eq (i : grid1.Coords) (k1_h2 : k1_cond2 i = 1#1) (M6 : View sig .tc .vmem S3x512x3584 .bf16) (f6 : M6.ty.Contents (Elt F)) (M : View sig .tc .vmem S2x3x3584x512 .bf16) (f : M.ty.Contents (Elt F)) :
    egAt i k1_h2 M6 f6 M f = egC (i 1) (M6.read (Elt F) f6) (tileOf i (M.read (Elt F) f)) := by
  unfold egAt egC
  rw [ldH_eq M6 f6 0 (off := ![0, 0, 0]) rfl, ldH_eq M6 f6 1 (off := ![1, 0, 0]) rfl, ldH_eq M6 f6 2 (off := ![2, 0, 0]) rfl, ldR_eq i M f 0 (off19_eq i), ldR_eq i M f 1 (off20_eq i), ldR_eq i M f 2 (off21_eq i),
    ldB_eq i M f 0 (off22_eq i), ldB_eq i M f 1 (off23_eq i), ldB_eq i M f 2 (off24_eq i)]

/-- A load of a whole buffer is what it reads. -/
theorem ld_whole {S : Shape} {e : EltTy} (M : View sig .tc .vmem S e) (f : M.ty.Contents (Elt F)) (off : Fin S.rank → ℕ) (h0 : off = fun _ => 0) (inb : ∀ a, off a + S.size a ≤ S.size a) :
    M.readAt (Elt F) (Rect.unit (s := S) off S.size inb).toLoadRect f = M.read (Elt F) f := by
  funext y
  exact T1.load_unit M f inb h0 y y fun a => (Nat.zero_add _).symm

/-! ### The three cases -/

section

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11)

/-- After a point of the first phase: the planes of positions and shifts. -/
theorem read10_0 (k1_h1 : k1_cond1 i = 1#1) (k1_h2 : ¬ k1_cond2 i = 1#1) : arg10.view.read (Elt F) (body0 c i arg2 harg2 arg3 harg3 arg4 harg4 arg5 harg5 arg6 harg6 arg7 harg7 arg8 harg8 arg9 harg9 arg10 harg10 arg11 harg11 k1_h1 k1_h2 f2 f3 f4 f5 f6 f7 f8 f9 f10 f11).1.1 = idxs (arg2.view.read (Elt F) f2) := by
  unfold body0
  dsimp only
  exact read_idx arg2.view f2 arg10.view _

/-- After a point of the first phase: the slots. -/
theorem read11_0 (k1_h1 : k1_cond1 i = 1#1) (k1_h2 : ¬ k1_cond2 i = 1#1) : arg11.view.read (Elt F) (body0 c i arg2 harg2 arg3 harg3 arg4 harg4 arg5 harg5 arg6 harg6 arg7 harg7 arg8 harg8 arg9 harg9 arg10 harg10 arg11 harg11 k1_h1 k1_h2 f2 f3 f4 f5 f6 f7 f8 f9 f10 f11).1.2 = decoded i (arg3.view.read (Elt F) f3) (arg4.view.read (Elt F) f4) (arg5.view.read (Elt F) f5) (idxs (arg2.view.read (Elt F) f2)) 16 (arg11.view.read (Elt F) f11) := by
  rw [← read10_0 c i arg2 harg2 arg3 harg3 arg4 harg4 arg5 harg5 arg6 harg6 arg7 harg7 arg8 harg8 arg9 harg9 arg10 harg10 arg11 harg11 f2 f3 f4 f5 f6 f7 f8 f9 f10 f11 k1_h1 k1_h2]
  unfold body0
  dsimp only
  exact T1.read_acc1 (arg3 := arg3) (arg4 := arg4) (arg5 := arg5) (arg10 := arg10) (arg11 := arg11) c i k1_h1 f3 f4 f5 _ f11 16 (le_refl 16)

/-- After a point inside a later phase: the planes of positions and shifts. -/
theorem read10_1 (k1_h1 : ¬ k1_cond1 i = 1#1) (k1_h2 : k1_cond2 i = 1#1) (k1_h3 : ¬ k1_cond3 i = 1#1) : arg10.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.1 = idxs (arg2.view.read (Elt F) f2) := by
  unfold body1
  dsimp only
  exact read_idx arg2.view f2 arg10.view _

/-- After a point inside a later phase: the slots. -/
theorem read11_1 (k1_h1 : ¬ k1_cond1 i = 1#1) (k1_h2 : k1_cond2 i = 1#1) (k1_h3 : ¬ k1_cond3 i = 1#1) : arg11.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2 = decoded i (arg3.view.read (Elt F) f3) (arg4.view.read (Elt F) f4) (arg5.view.read (Elt F) f5) (idxs (arg2.view.read (Elt F) f2)) 16 (arg11.view.read (Elt F) f11) := by
  rw [← read10_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3]
  unfold body1
  dsimp only
  exact T2.read_acc2 (arg3 := arg3) (arg4 := arg4) (arg5 := arg5) (arg10 := arg10) (arg11 := arg11) c i k1_h2 f3 f4 f5 _ f11 16 (le_refl 16)

/-- After a point inside a later phase: the group objectives. -/
theorem read7_1 (k1_h1 : ¬ k1_cond1 i = 1#1) (k1_h2 : k1_cond2 i = 1#1) (k1_h3 : ¬ k1_cond3 i = 1#1) : arg7.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.1 = egC (i 1) (arg6.view.read (Elt F) f6) (tileOf i (arg11.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2)) := by
  rw [← egAt_eq i k1_h2]
  unfold body1
  dsimp only
  exact read_whole_store arg7.view f7 _ (by decide) _ _

/-- After a point inside a later phase: the row objectives. -/
theorem read8_1 (k1_h1 : ¬ k1_cond1 i = 1#1) (k1_h2 : k1_cond2 i = 1#1) (k1_h3 : ¬ k1_cond3 i = 1#1) : arg8.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.1 = eC (i 1).val (egC (i 1) (arg6.view.read (Elt F) f6) (tileOf i (arg11.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2))) (arg8.view.read (Elt F) f8) := by
  rw [← egAt_eq i k1_h2, ← ld_whole arg8.view f8 ![0, 0] (by decide) inb_S1x512_S1x512_0_0]
  unfold body1
  dsimp only
  exact read_whole_store arg8.view f8 _ (by decide) _ _

/-- After the last point of a phase: the planes of positions and shifts. -/
theorem read10_2 (k1_h1 : ¬ k1_cond1 i = 1#1) (k1_h2 : k1_cond2 i = 1#1) (k1_h3 : k1_cond3 i = 1#1) : arg10.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.1 = idxs (arg2.view.read (Elt F) f2) := by
  unfold body2
  dsimp only
  exact read_idx arg2.view f2 arg10.view _

/-- After the last point of a phase: the slots. -/
theorem read11_2 (k1_h1 : ¬ k1_cond1 i = 1#1) (k1_h2 : k1_cond2 i = 1#1) (k1_h3 : k1_cond3 i = 1#1) : arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2 = decoded i (arg3.view.read (Elt F) f3) (arg4.view.read (Elt F) f4) (arg5.view.read (Elt F) f5) (idxs (arg2.view.read (Elt F) f2)) 16 (arg11.view.read (Elt F) f11) := by
  rw [← read10_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3]
  unfold body2
  dsimp only
  exact T2.read_acc2 (arg3 := arg3) (arg4 := arg4) (arg5 := arg5) (arg10 := arg10) (arg11 := arg11) c i k1_h2 f3 f4 f5 _ f11 16 (le_refl 16)

/-- After the last point of a phase: the group objectives. -/
theorem read7_2 (k1_h1 : ¬ k1_cond1 i = 1#1) (k1_h2 : k1_cond2 i = 1#1) (k1_h3 : k1_cond3 i = 1#1) : arg7.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.1 = egC (i 1) (arg6.view.read (Elt F) f6) (tileOf i (arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2)) := by
  rw [← egAt_eq i k1_h2]
  unfold body2
  dsimp only
  exact read_whole_store arg7.view f7 _ (by decide) _ _

/-- After the last point of a phase: the row objectives. -/
theorem read8_2 (k1_h1 : ¬ k1_cond1 i = 1#1) (k1_h2 : k1_cond2 i = 1#1) (k1_h3 : k1_cond3 i = 1#1) : arg8.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.1 = eC (i 1).val (egC (i 1) (arg6.view.read (Elt F) f6) (tileOf i (arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2))) (arg8.view.read (Elt F) f8) := by
  rw [← egAt_eq i k1_h2, ← ld_whole arg8.view f8 ![0, 0] (by decide) inb_S1x512_S1x512_0_0]
  unfold body2
  dsimp only
  exact read_whole_store arg8.view f8 _ (by decide) _ _

/-- After the last point of a phase: the total. -/
theorem read9_2 (k1_h1 : ¬ k1_cond1 i = 1#1) (k1_h2 : k1_cond2 i = 1#1) (k1_h3 : k1_cond3 i = 1#1) : arg9.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.1 = totC (i 0).val (eC (i 1).val (egC (i 1) (arg6.view.read (Elt F) f6) (tileOf i (arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2))) (arg8.view.read (Elt F) f8)) (arg9.view.read (Elt F) f9) := by
  rw [← egAt_eq i k1_h2, ← ld_whole arg8.view f8 ![0, 0] (by decide) inb_S1x512_S1x512_0_0, ← ld_whole arg9.view f9 ![0, 0] (by decide) inb_S8x128_S8x128_0_0]
  unfold body2
  dsimp only
  exact read_whole_store arg9.view f9 _ (by decide) _ _

end

end Cert.Proof.Kernel
-- ==== Proof.Split.lean ====
/-
  The first call (`split_h`): a block of `H` is transposed and split into three bf16 parts. What one grid point stores, and the call's
  proof data: after it, the parts' array holds each block's parts.
-/
module

public import proofs.«01_k».proof.Proof.Read
public import proofs.«01_k».proof.Proof.Gen.Kernel.Points
public import proofs.«01_k».proof.Proof.Gen.Kernel.Regions

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation)

variable {F : FTy → Type} [BitOps F]

local notation "𝕄" => MT nD τ sig Unit (Elt F) ℕ UU ℕ

/-- The three parts of a block of `H`, transposed; the middle one scaled by 256. -/
def hpart (x : FVec F S512x512 .f32) (j : Fin 3) : FVec F S512x512 .bf16 :=
  match j with
  | 0 => truncf .bf16 (top1 (transpose S512x512 [1, 0] x transposes_S512x512_p1_0_S512x512)) bitsLt_bf16_f32
  | 1 => truncf .bf16 (mulf (subf (top12 (transpose S512x512 [1, 0] x transposes_S512x512_p1_0_S512x512)) (top1 (transpose S512x512 [1, 0] x transposes_S512x512_p1_0_S512x512))) (broadcast S512x512 (Scalar.ofBits .f32 0x43800000#32))) bitsLt_bf16_f32
  | 2 => truncf .bf16 (subf (transpose S512x512 [1, 0] x transposes_S512x512_p1_0_S512x512) (top12 (transpose S512x512 [1, 0] x transposes_S512x512_p1_0_S512x512))) bitsLt_bf16_f32

/-- The block of parts stored for a block of `H`. -/
def hblk (x : FVec F S512x512 .f32) : S3x512x512.Idx → F .bf16 := fun y => hpart x (y 0) (ix2 (y 1) (y 2))

/-- A stored part of `H`'s block read at an index. -/
theorem hplane (x : FVec F S512x512 .f32) (j : Fin 3) {off : Fin 3 → ℕ} (hoff : off = ![j.val, 0, 0]) (inb : ∀ a, off a + S1x512x512.size a ≤ S3x512x512.size a) (z : S1x512x512.Idx) :
    shapeCast S1x512x512 (hpart x j) shapeCasts_S512x512_S1x512x512 z = hblk x ((Rect.unit (s := S3x512x512) off S1x512x512.size inb).emb z) := by
  subst hoff
  have h0 : (z 0).val < 1 := (z 0).isLt
  have hsc : shapeCast S1x512x512 (hpart x j) shapeCasts_S512x512_S1x512x512 z = hpart x j (ix2 (z 1) (z 2)) := by
    refine shapeCast_apply _ _ _ _ ?_
    simp only [Shape.rowMajor_val_two, Shape.rowMajor_val_three]
    simp
    omega
  refine hsc.trans ?_
  have e0 : ((Rect.unit (s := S3x512x512) ![j.val, 0, 0] S1x512x512.size inb).emb z 0 : Fin 3) = j := Fin.ext (by show j.val + 1 * (z 0).val = j.val; omega)
  have e1 : ((Rect.unit (s := S3x512x512) ![j.val, 0, 0] S1x512x512.size inb).emb z 1 : Fin 512) = z 1 := Fin.ext (by show 0 + 1 * (z 1).val = (z 1).val; omega)
  have e2 : ((Rect.unit (s := S3x512x512) ![j.val, 0, 0] S1x512x512.size inb).emb z 2 : Fin 512) = z 2 := Fin.ext (by show 0 + 1 * (z 2).val = (z 2).val; omega)
  unfold hblk
  exact (congr (congrArg (hpart x) e0) (congr (congrArg ix2 e1) e2)).symm

/-- Three planes stored over anything read as the block of parts. -/
theorem read_hblk {κ} (x : FVec F S512x512 .f32) (M : View sig κ .vmem S3x512x512 .bf16) (f : M.ty.Contents (Elt F))
    (b2 : ∀ a, (![2, 0, 0] : Fin 3 → ℕ) a + S1x512x512.size a ≤ S3x512x512.size a)
    (b1 : ∀ a, (![1, 0, 0] : Fin 3 → ℕ) a + S1x512x512.size a ≤ S3x512x512.size a) (b0 : ∀ a, (![0, 0, 0] : Fin 3 → ℕ) a + S1x512x512.size a ≤ S3x512x512.size a) :
    M.read (Elt F) (M.writes (Elt F) f [⟨Rect.unit (s := S3x512x512) ![2, 0, 0] S1x512x512.size b2, shapeCast S1x512x512 (hpart x 2) shapeCasts_S512x512_S1x512x512⟩,
      ⟨Rect.unit (s := S3x512x512) ![1, 0, 0] S1x512x512.size b1, shapeCast S1x512x512 (hpart x 1) shapeCasts_S512x512_S1x512x512⟩,
      ⟨Rect.unit (s := S3x512x512) ![0, 0, 0] S1x512x512.size b0, shapeCast S1x512x512 (hpart x 0) shapeCasts_S512x512_S1x512x512⟩]) = hblk x := by
  funext y
  refine View.read_writes_apply_of_pieces M f (hblk x) _ ?_ y ?_
  · exact List.forall_mem_cons.2 ⟨hplane x 2 rfl b2, List.forall_mem_cons.2 ⟨hplane x 1 rfl b1, List.forall_mem_cons.2 ⟨hplane x 0 rfl b0, fun q hq => absurd hq List.not_mem_nil⟩⟩⟩
  · have y0 : (y 0).val < 3 := (y 0).isLt
    have y1 : (y 1).val < 512 := (y 1).isLt
    have y2 : (y 2).val < 512 := (y 2).isLt
    have hm : ∀ (k : ℕ) (inb : ∀ a, (![k, 0, 0] : Fin 3 → ℕ) a + S1x512x512.size a ≤ S3x512x512.size a), (y 0).val = k → y ∈ (Rect.unit (s := S3x512x512) ![k, 0, 0] S1x512x512.size inb).set := fun k inb h => by
      rw [Rect.mem_set_unit]
      intro a
      fin_cases a
      · exact ⟨by show k ≤ (y 0).val; omega, by show (y 0).val < k + 1; omega⟩
      · exact ⟨Nat.zero_le _, by show (y 1).val < 0 + 512; omega⟩
      · exact ⟨Nat.zero_le _, by show (y 2).val < 0 + 512; omega⟩
    rcases (by omega : (y 0).val = 2 ∨ (y 0).val = 1 ∨ (y 0).val = 0) with h | h | h
    · exact ⟨_, List.mem_cons_self, hm 2 b2 h⟩
    · exact ⟨_, List.mem_cons_of_mem _ List.mem_cons_self, hm 1 b1 h⟩
    · exact ⟨_, List.mem_cons_of_mem _ (List.mem_cons_of_mem _ List.mem_cons_self), hm 0 b0 h⟩

/-- The run of one point, from both buffers held whole. -/
def bodyH (c : Dev nD) (i : grid0.Coords) (arg2 : Memref sig .tc .vmem S512x512 .f32) (harg2 : arg2.IsWhole) (arg3 : Memref sig .tc .vmem S3x512x512 .bf16) (harg3 : arg3.IsWhole)
    (f2 : Bf (F := F) c arg2) (f3 : Bf (F := F) c arg3) :
    { W : Bf (F := F) c arg3 // ∀ (Q : PUnit → sProp 𝕄), iprop(pt c arg2 f2 ∗ pt c arg3 f3 ∗ (iprop(pt c arg2 f2 ∗ pt c arg3 W) -∗ Q ⟨⟩))
      ⊢ wp frame (wpE (defs₀ (F := F)) 𝒱₀ c none) Set.univ (cc0_split_h_skel i arg2 harg2 arg3 harg3) Q } := by
  refine ⟨?_, fun Q => ?run⟩
  case run =>
    unfold cc0_split_h_skel
    iintro ⟨H2, H3, Hk⟩
    sl_exec
    sl_step
    iapply Hk
    isplitl [H2]; · iexact H2
    iexact H3

/-- After a point of the split: the three parts of the transposed block. -/
theorem readH (c : Dev nD) (i : grid0.Coords) (arg2 : Memref sig .tc .vmem S512x512 .f32) (harg2 : arg2.IsWhole) (arg3 : Memref sig .tc .vmem S3x512x512 .bf16) (harg3 : arg3.IsWhole)
    (f2 : Bf (F := F) c arg2) (f3 : Bf (F := F) c arg3) : arg3.view.read (Elt F) (bodyH c i arg2 harg2 arg3 harg3 f2 f3).1 = hblk (arg2.view.read (Elt F) f2) := by
  rw [← ld_whole arg2.view f2 ![0, 0] (by decide) inb_S512x512_S512x512_0_0]
  unfold bodyH
  dsimp only
  exact read_hblk (arg2.view.readAt (Elt F) (Rect.unit (s := S512x512) ![0, 0] S512x512.size inb_S512x512_S512x512_0_0).toLoadRect f2) arg3.view _ _ _ _

/-- One point over what its buffers read. -/
theorem stepH (c : Dev nD) (i : grid0.Coords) (arg2 : Memref sig .tc .vmem S512x512 .f32) (harg2 : arg2.IsWhole) (arg3 : Memref sig .tc .vmem S3x512x512 .bf16) (harg3 : arg3.IsWhole)
    (x2 : S512x512.Idx → Elt F .f32) (x3 : S3x512x512.Idx → Elt F .bf16) (Q : PUnit → sProp 𝕄) :
    iprop(owns (c : Thread nD τ) arg2 fullShare x2 ∗ owns (c : Thread nD τ) arg3 fullShare x3
        ∗ (iprop(owns (c : Thread nD τ) arg2 fullShare x2 ∗ owns (c : Thread nD τ) arg3 fullShare (hblk x2)) -∗ Q ⟨⟩))
      ⊢ wp frame (wpE (defs₀ (F := F)) 𝒱₀ c none) Set.univ (cc0_split_h_skel i arg2 harg2 arg3 harg3) Q := by
  simp only [owns_eq c arg2 harg2, owns_eq c arg3 harg3]
  iintro ⟨⟨%f2, %h2, H2⟩, ⟨%f3, %h3, H3⟩, Hk⟩
  subst h2
  iapply ((bodyH c i arg2 harg2 arg3 harg3 f2 f3).2 Q)
  isplitl [H2]; · iexact H2
  isplitl [H3]; · iexact H3
  iintro ⟨H2, H3⟩
  iapply Hk
  isplitl [H2]; · iexists _; isplitr; swap; (· iexact H2); ipureintro; exact rfl
  iexists _; isplitr; swap; (· iexact H3); ipureintro; exact readH c i arg2 harg2 arg3 harg3 f2 f3

/-- A proof data for a pipeline an entry does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

variable (V : (c : Dev nD) → (b : Ref sig .tc) → Buf (Elt F) ((c : Thread nD τ).loc b))

/-- The first call's proof data from valuation `V`: its arrays at `V`; after each point the block fetched and its parts. -/
def dat0 (c : Dev nD) : Dat τ (Elt F) Unit ℕ UU ℕ cfg0 c where
  A w := V c (Pipeline.arrRef spec0 w)
  after w t := match w with
    | ⟨0, _⟩ => ((cfg0.win 0).blk t).view.read (Elt F) (V c main_arg4)
    | ⟨1, _⟩ => hblk (((cfg0.win 0).blk t).view.read (Elt F) (V c main_arg4))
  Φ _ := Pipeline.scopedRest (Ix := Unit) (Name := ℕ) (U := UU) (Lvl := ℕ) (Val := Elt F) spec0 c
  q _ := fullShare
  owed _ := 0

/-- A point of the split finds its block of `H`. -/
theorem before0_0 (c : Dev nD) (t : Fin cfg0.N) (d) : (dat0 V c).before 0 t d = ((cfg0.win 0).blk t).view.read (Elt F) (V c main_arg4) := by
  unfold Dat.before; rw [if_pos (fetch0_0 t)]; rfl

/-- The first call's body obligation. -/
theorem body_obligation0 (c : Dev nD) : BodyObligation (dat0 V c) (defs₀ (F := F)) 𝒱₀ () Set.univ := fun t => by
  rw [bigSep_W0, bigSep_W0]
  rw [show (dat0 V c).Φ t.castSucc = (dat0 V c).Φ t.succ from rfl,
    show (dat0 V c).owesAt () t.succ = (dat0 V c).owesAt () t.castSucc from rfl]
  iintro ⟨HΦ, Howes, ⟨%d0, H0⟩, ⟨%d1, H1⟩⟩
  rw [before0_0]
  iapply (stepH c (grid0.coords t) (win0_0.stage (cfg0.slots t 0)) (hstage0_0 ((cfg0.slots t 0).cast nbuf0_0)) (win0_1.stage (cfg0.slots t 1)) (hstage0_1 ((cfg0.slots t 1).cast nbuf0_1)) _ _ _)
  isplitl [H0]; · iexact H0
  isplitl [H1]; · iexact H1
  iintro ⟨H0, H1⟩
  isplitl [HΦ]; · iexact HΦ
  isplitl [Howes]; · iexact Howes
  isplitl [H0]; · iexact H0
  iexact H1

end Cert.Proof.Kernel
-- ==== Proof.Triple.lean ====
/-
  One grid point of the main kernel over what its buffers read, in its three cases: the first tile phase decodes only; a later phase
  also computes a block of the objective; its last block also adds the tile's columns to the total.
-/
module

public import proofs.«01_k».proof.Proof.Read

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ UU ℕ

/-- Decoding writes the other half: the tile the compute phase reads stays. -/
theorem tileOf_decoded (i : grid1.Coords) (x3 : S2x8x128.Idx → BitVec 32) (x4 : S8x512.Idx → F .f32) (x5 : S512x512.Idx → F .bf16) (x10 : S4x64x512.Idx → BitVec 32) (k : ℕ) (g : S2x3x3584x512.Idx → F .bf16) :
    tileOf i (decoded i x3 x4 x5 x10 k g) = tileOf i g := by
  funext j a b
  unfold tileOf decoded
  refine dif_neg fun h => ?_
  have h0 : 1 - (i 0).val % 2 = (i 0).val % 2 := h.1
  omega

/-- The scratch after the point's decoding. -/
abbrev dec (i : grid1.Coords) (x2 : S2x64x512.Idx → BitVec 8) (x3 : S2x8x128.Idx → BitVec 32) (x4 : S8x512.Idx → F .f32) (x5 : S512x512.Idx → F .bf16) (g : S2x3x3584x512.Idx → F .bf16) : S2x3x3584x512.Idx → F .bf16 :=
  decoded i x3 x4 x5 (idxs x2) 16 g

section

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole)
  (x2 : S2x64x512.Idx → Elt F .i8) (x3 : S2x8x128.Idx → Elt F .i32) (x4 : S8x512.Idx → Elt F .f32) (x5 : S512x512.Idx → Elt F .bf16) (x6 : S3x512x3584.Idx → Elt F .bf16) (x7 : S64x512.Idx → Elt F .f32) (x8 : S1x512.Idx → Elt F .f32) (x9 : S8x128.Idx → Elt F .f32) (g : S2x3x3584x512.Idx → F .bf16)

/-- Decoding only. -/
theorem step0 (k1_h1 : k1_cond1 i = 1#1) (k1_h2 : ¬ k1_cond2 i = 1#1) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare g
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare (dec i x2 x3 x4 x5 g)) -∗ Q ⟨⟩))
      ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q := by
  simp only [owns_eq c arg2 harg2, owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%f11, %h11, H11⟩, Hk⟩
  subst h2; subst h3; subst h4; subst h5; subst h6; subst h7; subst h8; subst h9; subst h11
  iapply ((body0 c i arg2 harg2 arg3 harg3 arg4 harg4 arg5 harg5 arg6 harg6 arg7 harg7 arg8 harg8 arg9 harg9 arg10 harg10 arg11 harg11 k1_h1 k1_h2 f2 f3 f4 f5 f6 f7 f8 f9 f10 f11).2 Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  iapply Hk
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact rfl
  isplitl [H8]; · iexists _; isplitr; swap; (· iexact H8); ipureintro; exact rfl
  isplitl [H9]; · iexists _; isplitr; swap; (· iexact H9); ipureintro; exact rfl
  isplitl [H10]; · iexists _; iexists _; isplitr; swap; (· iexact H10); ipureintro; exact rfl
  iexists _; isplitr; swap; (· iexact H11); ipureintro; exact read11_0 c i arg2 harg2 arg3 harg3 arg4 harg4 arg5 harg5 arg6 harg6 arg7 harg7 arg8 harg8 arg9 harg9 arg10 harg10 arg11 harg11 f2 f3 f4 f5 f6 f7 f8 f9 f10 f11 k1_h1 k1_h2

/-- Decoding and one block. -/
theorem step1 (k1_h1 : ¬ k1_cond1 i = 1#1) (k1_h2 : k1_cond2 i = 1#1) (k1_h3 : ¬ k1_cond3 i = 1#1) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare g
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (egC (i 1) x6 (tileOf i g)) ∗ owns (c : Thread nD τ) arg8 fullShare (eC (i 1).val (egC (i 1) x6 (tileOf i g)) x8) ∗ owns (c : Thread nD τ) arg9 fullShare x9 ∗ (∃ x10, owns (c : Thread nD τ) arg10 fullShare x10) ∗ owns (c : Thread nD τ) arg11 fullShare (dec i x2 x3 x4 x5 g)) -∗ Q ⟨⟩))
      ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q := by
  simp only [owns_eq c arg2 harg2, owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%f11, %h11, H11⟩, Hk⟩
  subst h2; subst h3; subst h4; subst h5; subst h6; subst h7; subst h8; subst h9; subst h11
  iapply ((body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).2 Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  iapply Hk
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact (read7_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H8]; · iexists _; isplitr; swap; (· iexact H8); ipureintro; exact (read8_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H9]; · iexists _; isplitr; swap; (· iexact H9); ipureintro; exact rfl
  isplitl [H10]; · iexists _; iexists _; isplitr; swap; (· iexact H10); ipureintro; exact rfl
  iexists _; isplitr; swap; (· iexact H11); ipureintro; exact read11_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3

/-- Decoding, the last block of a tile and its total. -/
theorem step2 (k1_h1 : ¬ k1_cond1 i = 1#1) (k1_h2 : k1_cond2 i = 1#1) (k1_h3 : k1_cond3 i = 1#1) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare g
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (egC (i 1) x6 (tileOf i g)) ∗ owns (c : Thread nD τ) arg8 fullShare (eC (i 1).val (egC (i 1) x6 (tileOf i g)) x8) ∗ owns (c : Thread nD τ) arg9 fullShare (totC (i 0).val (eC (i 1).val (egC (i 1) x6 (tileOf i g)) x8) x9) ∗ (∃ x10, owns (c : Thread nD τ) arg10 fullShare x10) ∗ owns (c : Thread nD τ) arg11 fullShare (dec i x2 x3 x4 x5 g)) -∗ Q ⟨⟩))
      ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q := by
  simp only [owns_eq c arg2 harg2, owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%f11, %h11, H11⟩, Hk⟩
  subst h2; subst h3; subst h4; subst h5; subst h6; subst h7; subst h8; subst h9; subst h11
  iapply ((body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).2 Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  iapply Hk
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact (read7_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H8]; · iexists _; isplitr; swap; (· iexact H8); ipureintro; exact (read8_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H9]; · iexists _; isplitr; swap; (· iexact H9); ipureintro; exact (read9_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H10]; · iexists _; iexists _; isplitr; swap; (· iexact H10); ipureintro; exact rfl
  iexists _; isplitr; swap; (· iexact H11); ipureintro; exact read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3

end

end Cert.Proof.Kernel
-- ==== Proof.Main.lean ====
/-
  The main call: what its residual scratch holds before each grid point, what each result block holds after it, and the body obligation
  of the pipeline library at every point.
-/
module

public import proofs.«01_k».proof.Proof.Split
public import proofs.«01_k».proof.Proof.Triple
public import Idealize.ShloMosaic.Lib.Pipeline.TableIdle

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation)

variable {F : FTy → Type} [BitOps F]

local notation "𝕄" => MT nD τ sig Unit (Elt F) ℕ UU ℕ

variable (V : (c : Dev nD) → (b : Ref sig .tc) → Buf (Elt F) ((c : Thread nD τ).loc b))

/-! ### The schedule in closed form -/

/-- A grid point's phase and block. -/
theorem coords1 : ∀ t : Fin grid1.N, ((grid1.coords t) 0).val = t.val / 7 ∧ ((grid1.coords t) 1).val = t.val % 7 := by decide +kernel

/-- The group objectives are written back at every point after the first phase. -/
theorem flush5 : ∀ t : Fin grid1.N, win1_5.flush t = decide (7 ≤ t.val) := by decide +kernel
/-- The row objectives are written back at the end of each phase after the first. -/
theorem flush6 : ∀ t : Fin grid1.N, win1_6.flush t = decide (7 ≤ t.val ∧ t.val % 7 = 6) := by decide +kernel
/-- The group objectives are not written in the first phase. -/
theorem idle5 : ∀ t : Fin grid1.N, idle1 5 (grid1.coords t) = decide (t.val < 7) := by decide +kernel
/-- The row objectives are not written in the first phase. -/
theorem idle6 : ∀ t : Fin grid1.N, idle1 6 (grid1.coords t) = decide (t.val < 7) := by decide +kernel
/-- The total is written only at the end of each phase after the first. -/
theorem idle7 : ∀ t : Fin grid1.N, idle1 7 (grid1.coords t) = decide (¬ (7 ≤ t.val ∧ t.val % 7 = 6)) := by decide +kernel

/-- The grid has 266 points. -/
theorem lt_N1 (t : Fin cfg1.N) : t.val < 266 := lt_of_lt_of_eq t.isLt N_1

/-! ### The blocks and what is computed from them -/

abbrev B0 (c : Dev nD) (t : Fin cfg1.N) : S2x64x512.Idx → BitVec 8 := ((cfg1.win 0).blk t).view.read (Elt F) (V c main_v1)
abbrev B1 (c : Dev nD) (t : Fin cfg1.N) : S2x8x128.Idx → BitVec 32 := ((cfg1.win 1).blk t).view.read (Elt F) (V c main_v10)
abbrev B2 (c : Dev nD) (t : Fin cfg1.N) : S8x512.Idx → F .f32 := ((cfg1.win 2).blk t).view.read (Elt F) (V c main_v2)
abbrev B3 (c : Dev nD) (t : Fin cfg1.N) : S512x512.Idx → F .bf16 := ((cfg1.win 3).blk t).view.read (Elt F) (V c main_arg0)
abbrev B4 (c : Dev nD) (t : Fin cfg1.N) : S3x512x3584.Idx → F .bf16 := ((cfg1.win 4).blk t).view.read (Elt F) (V c main_v0)

/-- Part `j` of the residual at row `a`, column `b` of the block decoded at point `p`. -/
def cellAt (c : Dev nD) (p : Fin cfg1.N) (j : Fin 3) (a b : Fin 512) : F .bf16 :=
  rcell (B1 V c p) (B2 V c p) (B3 V c p) (idxs (B0 V c p)) j a b

/-- The point that decodes row `a` of tile phase `m`. -/
def pointOf (m : Fin 38) (a : Fin 3584) : Fin cfg1.N := ⟨7 * m.val + a.val / 512, lt_of_lt_of_eq (by omega) N_1.symm⟩

/-- The residual tile decoded in phase `m`. -/
def tileV (c : Dev nD) (m : Fin 38) : Tile F := fun j a b => cellAt V c (pointOf m a) j ⟨a.val % 512, by omega⟩ b

/-- The phase before point `t`'s. -/
def prevPhase (t : Fin cfg1.N) : Fin 38 := ⟨t.val / 7 - 1, by have := lt_N1 t; omega⟩

/-- The groups' objective computed at point `t`. -/
def egV (c : Dev nD) (t : Fin cfg1.N) : FVec F S64x512 .f32 := egC ((grid1.coords t) 1) (B4 V c t) (tileV V c (prevPhase t))

/-- The columns' objective after point `k`. -/
def eV (c : Dev nD) : (k : ℕ) → k < cfg1.N → FVec F S1x512 .f32
  | 0, _ => fun _ => Scalar.ofBits .f32 0x00000000#32
  | k + 1, h => eC ((grid1.coords ⟨k + 1, h⟩) 1).val (egV V c ⟨k + 1, h⟩) (eV c k (Nat.lt_of_succ_lt h))

/-- The total after point `k`. -/
def totV (c : Dev nD) : (k : ℕ) → k < cfg1.N → FVec F S8x128 .f32
  | 0, _ => fun _ => Scalar.ofBits .f32 0x00000000#32
  | k + 1, h => if 7 ≤ k + 1 ∧ (k + 1) % 7 = 6 then totC ((grid1.coords ⟨k + 1, h⟩) 0).val (eV V c (k + 1) h) (totV c k (Nat.lt_of_succ_lt h))
    else totV c k (Nat.lt_of_succ_lt h)

/-! ### The residual scratch -/

/-- Before point `t` the scratch holds what the last 14 points decoded. -/
def RInv (c : Dev nD) (t : ℕ) (g : S2x3x3584x512.Idx → F .bf16) : Prop :=
  ∀ (p : Fin cfg1.N) (j : Fin 3) (a b : Fin 512), p.val < t → t ≤ p.val + 14 →
    g (ix4 ⟨p.val / 7 % 2, by omega⟩ j ⟨512 * (p.val % 7) + a.val, by omega⟩ b) = cellAt V c p j a b

/-- Before the first point nothing is said of the slots. -/
theorem RInv_zero (c : Dev nD) (g) : RInv V c 0 g := fun _ _ _ _ h => absurd h (Nat.not_lt_zero _)

/-- A point's decoding carries the invariant of the slots on. -/
theorem RInv_step (c : Dev nD) (t : Fin cfg1.N) (g) (h : RInv V c t.val g) :
    RInv V c (t.val + 1) (dec (grid1.coords t) (B0 V c t) (B1 V c t) (B2 V c t) (B3 V c t) g) := by
  intro p j a b hp hp'
  obtain ⟨h0, h1⟩ := coords1 t
  unfold dec decoded
  by_cases e : p.val = t.val
  · obtain rfl : p = t := Fin.ext e
    have e2 : (⟨(512 * (p.val % 7) + a.val) % 512, by omega⟩ : Fin 512) = a := Fin.ext (by show (512 * (p.val % 7) + a.val) % 512 = a.val; omega)
    refine (dif_pos ?_).trans ?_
    · refine ⟨?_, ?_, ?_⟩
      · show p.val / 7 % 2 = _; rw [h0]
      · show (512 * (p.val % 7) + a.val) / 512 = _; rw [h1]; omega
      · exact (tripAt _ b).isLt
    · show rcell _ _ _ _ j (⟨(512 * (p.val % 7) + a.val) % 512, by omega⟩ : Fin 512) b = _
      rw [e2]
      rfl
  · refine (dif_neg ?_).trans (h p j a b (by omega) (by omega))
    rintro ⟨q0, q1, -⟩
    have q0' : p.val / 7 % 2 = ((grid1.coords t) 0).val % 2 := q0
    have q1' : (512 * (p.val % 7) + a.val) / 512 = ((grid1.coords t) 1).val := q1
    rw [h0] at q0'
    rw [h1] at q1'
    omega

/-- The slot a point reads holds the tile decoded in the phase before. -/
theorem RInv_tile (c : Dev nD) (t : Fin cfg1.N) (g) (h : RInv V c t.val g) (ht : 7 ≤ t.val) : tileOf (grid1.coords t) g = tileV V c (prevPhase t) := by
  obtain ⟨h0, h1⟩ := coords1 t
  funext j a b
  have ht' := lt_N1 t
  have e : (pointOf (prevPhase t) a).val = 7 * (t.val / 7 - 1) + a.val / 512 := rfl
  have key := h (pointOf (prevPhase t) a) j ⟨a.val % 512, by omega⟩ b (by rw [e]; omega) (by rw [e]; omega)
  refine Eq.trans ?_ key
  unfold tileOf
  have e0 : cur (grid1.coords t) = ⟨(pointOf (prevPhase t) a).val / 7 % 2, by omega⟩ := Fin.ext (by
    show 1 - ((grid1.coords t) 0).val % 2 = (pointOf (prevPhase t) a).val / 7 % 2
    rw [h0, e]; omega)
  have e2 : a = ⟨512 * ((pointOf (prevPhase t) a).val % 7) + a.val % 512, by rw [e]; omega⟩ := Fin.ext (by
    show a.val = 512 * ((pointOf (prevPhase t) a).val % 7) + a.val % 512
    rw [e]; omega)
  exact congrArg g (congr (congr (congr (congrArg ix4 e0) rfl) e2) rfl)

/-! ### The proof data -/

/-- The two scratch buffers. -/
abbrev scr0 : Memref sig .tc .vmem S4x64x512 .i32 := Memref.whole cc1_scratch0
abbrev scr1 : Memref sig .tc .vmem S2x3x3584x512 .bf16 := Memref.whole cc1_scratch1

/-- The first call's staging buffers, at anything. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- What the core holds between points beside the windows. -/
def inv1 (c : Dev nD) (t : ℕ) : sProp 𝕄 :=
  iprop(idleBufs (F := F) c ∗ (∃ x, owns (c : Thread nD τ) scr0 fullShare x) ∗ ∃ g, ⌜RInv V c t g⌝ ∗ owns (c : Thread nD τ) scr1 fullShare g)

/-- The main call's proof data from valuation `V`. -/
def dat1 (c : Dev nD) : Dat τ (Elt F) Unit ℕ UU ℕ cfg1 c where
  A w := V c (Pipeline.arrRef spec1 w)
  after w t := match w with
    | ⟨0, _⟩ => B0 V c t
    | ⟨1, _⟩ => B1 V c t
    | ⟨2, _⟩ => B2 V c t
    | ⟨3, _⟩ => B3 V c t
    | ⟨4, _⟩ => B4 V c t
    | ⟨5, _⟩ => egV V c t
    | ⟨6, _⟩ => eV V c t.val t.isLt
    | ⟨7, _⟩ => totV V c t.val t.isLt
  Φ t := inv1 V c t.val
  q _ := fullShare
  owed _ := 0

/-- A point finds its block of codes. -/
theorem before1_0 (c : Dev nD) (t : Fin cfg1.N) (d) : (dat1 V c).before 0 t d = B0 V c t :=
  Dat.before_in_eq_fetched _ 0 rfl (fun _ => rfl) (fun _ _ _ => rfl) (fun _ => rfl) t d
/-- A point finds the table. -/
theorem before1_1 (c : Dev nD) (t : Fin cfg1.N) (d) : (dat1 V c).before 1 t d = B1 V c t :=
  Dat.before_in_eq_fetched _ 1 rfl (fun _ => rfl) (fun _ _ _ => rfl) (fun _ => rfl) t d
/-- A point finds its block of scales. -/
theorem before1_2 (c : Dev nD) (t : Fin cfg1.N) (d) : (dat1 V c).before 2 t d = B2 V c t :=
  Dat.before_in_eq_fetched _ 2 rfl (fun _ => rfl) (fun _ _ _ => rfl) (fun _ => rfl) t d
/-- A point finds its block of weights. -/
theorem before1_3 (c : Dev nD) (t : Fin cfg1.N) (d) : (dat1 V c).before 3 t d = B3 V c t :=
  Dat.before_in_eq_fetched _ 3 rfl (fun _ => rfl) (fun _ _ _ => rfl) (fun _ => rfl) t d
/-- A point finds its block of the parts of `H`. -/
theorem before1_4 (c : Dev nD) (t : Fin cfg1.N) (d) : (dat1 V c).before 4 t d = B4 V c t :=
  Dat.before_in_eq_fetched _ 4 rfl (fun _ => rfl) (fun _ _ _ => rfl) (fun _ => rfl) t d

/-- When the row objectives' window is fresh. -/
theorem fresh6 : ∀ n, n ≤ cfg1.N → Cfg.fresh cfg1 (6 : Fin 8) n = decide (n < 8 ∨ n % 7 = 0) :=
  Cfg.fresh_tab cfg1 (6 : Fin 8) (fun n => decide (n < 8 ∨ n % 7 = 0)) rfl
    (by decide +kernel : ∀ t : Fin grid1.N, decide (t.val + 1 < 8 ∨ (t.val + 1) % 7 = 0) = (win1_6.flush t || (idle1 6 (grid1.coords t) && decide (t.val < 8 ∨ t.val % 7 = 0))))

/-- When the total's window is fresh. -/
theorem fresh7 : ∀ n, n ≤ cfg1.N → n < 266 → Cfg.fresh cfg1 (7 : Fin 8) n = decide (n < 14) := by
  intro n hn hn'
  rw [Cfg.fresh_tab cfg1 (7 : Fin 8) (fun n => decide (n < 14 ∨ n = 266)) rfl
    (by decide +kernel : ∀ t : Fin grid1.N, decide (t.val + 1 < 14 ∨ t.val + 1 = 266) = (win1_7.flush t || (idle1 7 (grid1.coords t) && decide (t.val < 14 ∨ t.val = 266)))) n hn]
  exact decide_eq_decide.2 ⟨fun h => by omega, fun h => by omega⟩

/-- The columns' block the body finds, where it reads it. -/
theorem before1_6 (c : Dev nD) (t : Fin cfg1.N) (d) (h : 7 ≤ t.val) (hn : t.val % 7 ≠ 0) : (dat1 V c).before 6 t d = eV V c (t.val - 1) (Nat.lt_of_le_of_lt (Nat.sub_le _ _) t.isLt) := by
  refine (Dat.before_out_traj (dat1 V c) 6 rfl (fun _ _ => rfl) ?_ t.val t rfl d).trans ?_
  · intro t' h0 hi hf
    have hi' := (idle6 t').symm.trans hi
    have hf' := (fresh6 t'.val (le_of_lt t'.isLt)).symm.trans hf
    simp only [decide_eq_true_eq, decide_eq_false_iff_not] at hi' hf'
    exact absurd (Or.inl (by omega)) hf'
  · have hf := fresh6 t.val (le_of_lt t.isLt)
    rw [if_neg]
    · rfl
    · rw [hf]; simp only [decide_eq_true_eq]; omega

/-- The total the body finds, where it reads it. -/
theorem before1_7 (c : Dev nD) (t : Fin cfg1.N) (d) (h : 14 ≤ t.val) : (dat1 V c).before 7 t d = totV V c (t.val - 1) (Nat.lt_of_le_of_lt (Nat.sub_le _ _) t.isLt) := by
  refine (Dat.before_out_traj (dat1 V c) 7 rfl (fun _ _ => rfl) ?_ t.val t rfl d).trans ?_
  · intro t' h0 hi hf
    have hi' := (idle7 t').symm.trans hi
    simp only [decide_eq_true_eq] at hi'
    obtain ⟨tv, htv⟩ := t'
    obtain _ | k := tv
    · exact absurd rfl h0
    · show totV V c (k + 1) htv = totV V c k _
      rw [totV, if_neg hi']
  · have hf := fresh7 t.val (le_of_lt t.isLt) (lt_N1 t)
    rw [if_neg]
    · rfl
    · rw [hf]; simp only [decide_eq_true_eq]; omega

/-! ### The body obligation -/

/-- A buffer at the block the obligation names, at a point that uses the window. -/
theorem leave_live (c : Dev nD) (w : Fin 8) (t : Fin cfg1.N) (h : cfg1.idle w (cfg1.grid.coords t) = false) :
    owns (c : Thread nD τ) ((cfg1.win w).stage (cfg1.slots t w)) fullShare ((dat1 V c).after w t) ⊢ (dat1 V c).leavesExact w t := by
  unfold Dat.leavesExact
  rw [h]

/-- A buffer untouched, at a point that skips the window. -/
theorem leave_idle (c : Dev nD) (w : Fin 8) (t : Fin cfg1.N) (h : cfg1.idle w (cfg1.grid.coords t) = true) (hf : (cfg1.win w).flush t = false) :
    iprop(∃ d, owns (c : Thread nD τ) ((cfg1.win w).stage (cfg1.slots t w)) fullShare ((dat1 V c).before w t d)) ⊢ (dat1 V c).leavesExact w t := by
  unfold Dat.leavesExact
  rw [h, hf]

/-- The first block's sum does not read what was there. -/
theorem eC_zero (eg : FVec F S64x512 .f32) (x y : FVec F S1x512 .f32) : eC 0 eg x = eC 0 eg y := rfl
/-- The first tile's total does not read what was there. -/
theorem totC_one (e : FVec F S1x512 .f32) (x y : FVec F S8x128 .f32) : totC 1 e x = totC 1 e y := rfl

/-- The row objectives' window follows its recursion. -/
theorem eV_step (c : Dev nD) (t : Fin cfg1.N) (d) (h : 7 ≤ t.val) :
    eC ((grid1.coords t) 1).val (egV V c t) ((dat1 V c).before 6 t d) = eV V c t.val t.isLt := by
  have key : eV V c t.val t.isLt = eC ((grid1.coords t) 1).val (egV V c t) (eV V c (t.val - 1) (Nat.lt_of_le_of_lt (Nat.sub_le _ _) t.isLt)) := by
    obtain ⟨tv, htv⟩ := t
    obtain _ | k := tv
    · exact absurd h (by simp)
    · rfl
  rw [key]
  by_cases hn : t.val % 7 = 0
  · rw [(coords1 t).2, hn]; exact eC_zero _ _ _
  · rw [before1_6 V c t d h hn]

/-- The total's window follows its recursion. -/
theorem totV_step (c : Dev nD) (t : Fin cfg1.N) (d) (h : 7 ≤ t.val ∧ t.val % 7 = 6) :
    totC ((grid1.coords t) 0).val (eV V c t.val t.isLt) ((dat1 V c).before 7 t d) = totV V c t.val t.isLt := by
  have key : totV V c t.val t.isLt = totC ((grid1.coords t) 0).val (eV V c t.val t.isLt) (totV V c (t.val - 1) (Nat.lt_of_le_of_lt (Nat.sub_le _ _) t.isLt)) := by
    obtain ⟨tv, htv⟩ := t
    obtain _ | k := tv
    · exact absurd h.1 (by simp)
    · show totV V c (k + 1) htv = _
      rw [totV, if_pos h]; rfl
  rw [key]
  by_cases hn : 14 ≤ t.val
  · rw [before1_7 V c t d hn]
  · rw [(coords1 t).1, show t.val / 7 = 1 by omega]; exact totC_one _ _ _

/-- The total is written back at the last point. -/
theorem flush7 (t : Fin grid1.N) : win1_7.flush t = decide (t.val = 265) := by
  revert t; decide +kernel

/-- The obligation at one point. -/
def Obl (c : Dev nD) (t : Fin cfg1.N) : Prop :=
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) 𝒱₀ c none) Set.univ (defs₀ (F := F) .tc cfg1.body (cfg1.bodyArgs t (cfg1.slots t))) fun _ =>
          iprop((dat1 V c).Φ t.succ ∗ (dat1 V c).owesAt () t.succ ∗ bigSep Finset.univ fun w : Fin cfg1.W => (dat1 V c).leavesExact w t)

/-- The obligation in the first phase. -/
theorem obligation0 (c : Dev nD) (t : Fin cfg1.N) (h : t.val < 7) : Obl V c t := by
  obtain ⟨k0, k1⟩ := coords1 t
  have ht := lt_N1 t
  unfold Obl
  rw [bigSep_W1, bigSep_W1]
  rw [show (dat1 V c).owesAt () t.succ = (dat1 V c).owesAt () t.castSucc from rfl]
  show iprop(inv1 V c t.val ∗ _) ⊢ wp _ _ _ _ (fun _ => iprop(inv1 V c (t.val + 1) ∗ _))
  unfold inv1
  iintro ⟨⟨Hb, Hx, %g, %hg, Hg⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4]
  iapply (step0 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) scr0 (Memref.isWhole_whole _) scr1 (Memref.isWhole_whole _) _ _ _ _ _ _ _ _ _ ((cond1_iff _).2 (by rw [k0]; omega)) (fun q => absurd ((cond2_iff _).1 q) (by rw [k0]; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hg]; · iexact Hg
  iintro ⟨H0, H1, H2, H3, H4, H5, H6, H7, Hx, Hg⟩
  isplitl [Hb Hx Hg]
  · isplitl [Hb]; · iexact Hb
    isplitl [Hx]; · iexact Hx
    iexists _
    isplitr; swap; (· iexact Hg)
    ipureintro; exact RInv_step V c t g hg
  isplitl [Howes]; · iexact Howes
  isplitl [H0]; · iexact H0
  isplitl [H1]; · iexact H1
  isplitl [H2]; · iexact H2
  isplitl [H3]; · iexact H3
  isplitl [H4]; · iexact H4
  isplitl [H5]; · iapply (leave_idle V c 5 t (by show idle1 5 _ = true; rw [idle5]; exact decide_eq_true (by omega)) (by show win1_5.flush t = false; rw [flush5]; exact decide_eq_false (by omega))); iexists _; iexact H5
  isplitl [H6]; · iapply (leave_idle V c 6 t (by show idle1 6 _ = true; rw [idle6]; exact decide_eq_true (by omega)) (by show win1_6.flush t = false; rw [flush6]; exact decide_eq_false (by omega))); iexists _; iexact H6
  iapply (leave_idle V c 7 t (by show idle1 7 _ = true; rw [idle7]; exact decide_eq_true (by omega)) (by show win1_7.flush t = false; rw [flush7]; exact decide_eq_false (by omega))); iexists _; iexact H7

/-- The obligation inside a tile. -/
theorem obligation1 (c : Dev nD) (t : Fin cfg1.N) (h : 7 ≤ t.val) (h' : t.val % 7 ≠ 6) : Obl V c t := by
  obtain ⟨k0, k1⟩ := coords1 t
  have ht := lt_N1 t
  unfold Obl
  rw [bigSep_W1, bigSep_W1]
  rw [show (dat1 V c).owesAt () t.succ = (dat1 V c).owesAt () t.castSucc from rfl]
  show iprop(inv1 V c t.val ∗ _) ⊢ wp _ _ _ _ (fun _ => iprop(inv1 V c (t.val + 1) ∗ _))
  unfold inv1
  iintro ⟨⟨Hb, Hx, %g, %hg, Hg⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4]
  iapply (step1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) scr0 (Memref.isWhole_whole _) scr1 (Memref.isWhole_whole _) _ _ _ _ _ _ _ _ _ (fun q => absurd ((cond1_iff _).1 q) (by rw [k0]; omega)) ((cond2_iff _).2 (by rw [k0]; omega)) (fun q => absurd ((cond3_iff _).1 q) (by rw [k1]; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hg]; · iexact Hg
  iintro ⟨H0, H1, H2, H3, H4, H5, H6, H7, Hx, Hg⟩
  rw [RInv_tile V c t g hg h]
  rw [show egC ((grid1.coords t) 1) (B4 V c t) (tileV V c (prevPhase t)) = egV V c t from rfl, eV_step V c t d6 h]
  isplitl [Hb Hx Hg]
  · isplitl [Hb]; · iexact Hb
    isplitl [Hx]; · iexact Hx
    iexists _
    isplitr; swap; (· iexact Hg)
    ipureintro; exact RInv_step V c t g hg
  isplitl [Howes]; · iexact Howes
  isplitl [H0]; · iexact H0
  isplitl [H1]; · iexact H1
  isplitl [H2]; · iexact H2
  isplitl [H3]; · iexact H3
  isplitl [H4]; · iexact H4
  isplitl [H5]; · iapply (leave_live V c 5 t (by show idle1 5 _ = false; rw [idle5]; exact decide_eq_false (by omega))); iexact H5
  isplitl [H6]; · iapply (leave_live V c 6 t (by show idle1 6 _ = false; rw [idle6]; exact decide_eq_false (by omega))); iexact H6
  iapply (leave_idle V c 7 t (by show idle1 7 _ = true; rw [idle7]; exact decide_eq_true (by omega)) (by show win1_7.flush t = false; rw [flush7]; exact decide_eq_false (by omega))); iexists _; iexact H7

/-- The obligation at the end of a tile. -/
theorem obligation2 (c : Dev nD) (t : Fin cfg1.N) (h : 7 ≤ t.val) (h' : t.val % 7 = 6) : Obl V c t := by
  obtain ⟨k0, k1⟩ := coords1 t
  have ht := lt_N1 t
  unfold Obl
  rw [bigSep_W1, bigSep_W1]
  rw [show (dat1 V c).owesAt () t.succ = (dat1 V c).owesAt () t.castSucc from rfl]
  show iprop(inv1 V c t.val ∗ _) ⊢ wp _ _ _ _ (fun _ => iprop(inv1 V c (t.val + 1) ∗ _))
  unfold inv1
  iintro ⟨⟨Hb, Hx, %g, %hg, Hg⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4]
  iapply (step2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) scr0 (Memref.isWhole_whole _) scr1 (Memref.isWhole_whole _) _ _ _ _ _ _ _ _ _ (fun q => absurd ((cond1_iff _).1 q) (by rw [k0]; omega)) ((cond2_iff _).2 (by rw [k0]; omega)) ((cond3_iff _).2 (by rw [k1]; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hg]; · iexact Hg
  iintro ⟨H0, H1, H2, H3, H4, H5, H6, H7, Hx, Hg⟩
  rw [RInv_tile V c t g hg h]
  rw [show egC ((grid1.coords t) 1) (B4 V c t) (tileV V c (prevPhase t)) = egV V c t from rfl, eV_step V c t d6 h]
  rw [totV_step V c t d7 ⟨h, h'⟩]
  isplitl [Hb Hx Hg]
  · isplitl [Hb]; · iexact Hb
    isplitl [Hx]; · iexact Hx
    iexists _
    isplitr; swap; (· iexact Hg)
    ipureintro; exact RInv_step V c t g hg
  isplitl [Howes]; · iexact Howes
  isplitl [H0]; · iexact H0
  isplitl [H1]; · iexact H1
  isplitl [H2]; · iexact H2
  isplitl [H3]; · iexact H3
  isplitl [H4]; · iexact H4
  isplitl [H5]; · iapply (leave_live V c 5 t (by show idle1 5 _ = false; rw [idle5]; exact decide_eq_false (by omega))); iexact H5
  isplitl [H6]; · iapply (leave_live V c 6 t (by show idle1 6 _ = false; rw [idle6]; exact decide_eq_false (by omega))); iexact H6
  iapply (leave_live V c 7 t (by show idle1 7 _ = false; rw [idle7]; exact decide_eq_false (by omega))); iexact H7

/-- The main call's body obligation. -/
theorem body_obligation1 (c : Dev nD) : BodyObligation (dat1 V c) (defs₀ (F := F)) 𝒱₀ () Set.univ := fun t => by
  by_cases h : t.val < 7
  · exact obligation0 V c t h
  by_cases h' : t.val % 7 = 6
  · exact obligation2 V c t (by omega) h'
  · exact obligation1 V c t (by omega) h'

/-- From the scratch at anything to the invariant before the first point. -/
theorem inv1_first (c : Dev nD) : (Pipeline.scopedRest (Ix := Unit) (Name := ℕ) (U := UU) (Lvl := ℕ) (Val := Elt F) spec1 c : sProp 𝕄) ⊢ inv1 V c 0 := by
  rw [scopedRest1_eq]
  unfold inv1 idleBufs
  iintro ⟨H0, H1, H2, H3, ⟨%f4, H4⟩, ⟨%f5, H5⟩⟩
  isplitl [H0 H1 H2 H3]
  · isplitl [H0]; · iexact H0
    isplitl [H1]; · iexact H1
    isplitl [H2]; · iexact H2
    iexact H3
  isplitl [H4]
  · iexists _
    rw [owns_eq c scr0 (Memref.isWhole_whole _)]
    iexists f4; isplitr; swap; (· iexact H4); ipureintro; exact rfl
  iexists _
  isplitr; swap
  · rw [owns_eq c scr1 (Memref.isWhole_whole _)]
    iexists f5; isplitr; swap; (· iexact H5); ipureintro; exact rfl
  ipureintro; exact RInv_zero V c _

/-- From the invariant to the scratch at anything. -/
theorem inv1_last (c : Dev nD) (t : ℕ) : inv1 V c t ⊢ (Pipeline.scopedRest (Ix := Unit) (Name := ℕ) (U := UU) (Lvl := ℕ) (Val := Elt F) spec1 c : sProp 𝕄) := by
  rw [scopedRest1_eq]
  unfold inv1 idleBufs
  simp only [owns_eq c scr0 (Memref.isWhole_whole _), owns_eq c scr1 (Memref.isWhole_whole _)]
  iintro ⟨⟨H0, H1, H2, H3⟩, ⟨%x, %f4, -, H4⟩, ⟨%g, -, %f5, -, H5⟩⟩
  isplitl [H0]; · iexact H0
  isplitl [H1]; · iexact H1
  isplitl [H2]; · iexact H2
  isplitl [H3]; · iexact H3
  isplitl [H4]; · iexists f4; iexact H4
  iexists f5; iexact H5

end Cert.Proof.Kernel
-- ==== Proof.Runs.lean ====
/-
  The whole program's run: the two calls as regions of the launch, what they leave in the buffers, and the run theorem that reads the
  arguments and the three results off the last state.
-/
module

public import proofs.«01_k».proof.Proof.Main
public import Idealize.ShloMosaic.Lib.Pipeline.Frame
public import Idealize.ShloMosaic.Lib.Pipeline.Regions
public import Idealize.ShloMosaic.Lib.Pipeline.RegionsLoop
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation Seg HostSeg RegionSeg)

variable {F : FTy → Type} [BitOps F]

local notation "𝕄" => MT nD τ sig Unit (Elt F) ℕ UU ℕ

variable (m : (ℓ : Loc nD τ sig) → Buf (Elt F) ℓ)

/-- What the first call leaves, buffer by buffer. -/
def out1 (r : Ref sig .tc) (c : Dev nD) : Buf (Elt F) ((c : Thread nD τ).loc r) :=
  Function.update (β := fun b : Ref sig .tc => Buf (Elt F) ((c : Thread nD τ).loc b)) (fun b => V0 m c b) main_v0 ((dat0 (fun c b => V0 m c b) c).arrAt 1 cfg0.N) r

/-- The buffers when the main call is entered. -/
abbrev VM (c : Dev nD) (b : Ref sig .tc) : Buf (Elt F) ((c : Thread nD τ).loc b) := V2 m (fun _ => out1 m) c b

/-- What the main call leaves, buffer by buffer. -/
def out3 (r : Ref sig .tc) (c : Dev nD) : Buf (Elt F) ((c : Thread nD τ).loc r) :=
  Function.update (β := fun b : Ref sig .tc => Buf (Elt F) ((c : Thread nD τ).loc b))
    (Function.update (β := fun b : Ref sig .tc => Buf (Elt F) ((c : Thread nD τ).loc b))
      (Function.update (β := fun b : Ref sig .tc => Buf (Elt F) ((c : Thread nD τ).loc b)) (fun b => V0 m c b) main_v11_0 ((dat1 (VM m) c).arrAt 5 cfg1.N))
      main_v11_1 ((dat1 (VM m) c).arrAt 6 cfg1.N)) main_v11_2 ((dat1 (VM m) c).arrAt 7 cfg1.N) r

/-- What the calls leave. -/
def outs : Outs (F := F) := fun J => match J with
  | 1 => out1 m
  | _ => out3 m

/-- What the second call finds depends on the first call's results only. -/
theorem V2_outs (c : Dev nD) : V2 m (outs m) c = V2 m (fun _ => out1 m) c := rfl

/-- After the first call its array is the one it wrote. -/
theorem V1_main_v0 (c : Dev nD) : V1 m (outs m) c main_v0 = (dat0 (fun c b => V0 m c b) c).arrAt 1 cfg0.N := by
  show Function.update (V0 m c) (Proc.devRef .tc main_v0) (out1 m main_v0 c) (Proc.devRef .tc main_v0) = _
  rw [Function.update_self]
  unfold out1
  rw [Function.update_self]

/-- After the second call its third array is the one it wrote. -/
theorem V3_main_v11_2 (c : Dev nD) : V3 m (outs m) c main_v11_2 = (dat1 (VM m) c).arrAt 7 cfg1.N := by
  show V3 m (outs m) c (Proc.devRef .tc main_v11_2) = _
  unfold V3
  rw [Function.update_self]
  show out3 m main_v11_2 c = _
  unfold out3
  rw [Function.update_self]

/-- After the second call its second array is the one it wrote. -/
theorem V3_main_v11_1 (c : Dev nD) : V3 m (outs m) c main_v11_1 = (dat1 (VM m) c).arrAt 6 cfg1.N := by
  show V3 m (outs m) c (Proc.devRef .tc main_v11_1) = _
  unfold V3
  rw [Function.update_of_ne (StableHlo.devRef_ne_of_ne (by decide)), Function.update_self]
  show out3 m main_v11_1 c = _
  unfold out3
  rw [Function.update_of_ne (by decide), Function.update_self]

/-- After the second call its first array is the one it wrote. -/
theorem V3_main_v11_0 (c : Dev nD) : V3 m (outs m) c main_v11_0 = (dat1 (VM m) c).arrAt 5 cfg1.N := by
  show V3 m (outs m) c (Proc.devRef .tc main_v11_0) = _
  unfold V3
  rw [Function.update_of_ne (StableHlo.devRef_ne_of_ne (by decide)), Function.update_of_ne (StableHlo.devRef_ne_of_ne (by decide)), Function.update_self]
  show out3 m main_v11_0 c = _
  unfold out3
  rw [Function.update_of_ne (by decide), Function.update_of_ne (by decide), Function.update_self]

/-- The proof data of the two calls. -/
def pdats : (p : Fin 2) → (c : Dev nD) → Dat τ (Elt F) Unit ℕ UU ℕ (cfgs p) c
  | ⟨0, _⟩ => fun c => dat0 (fun c b => V0 m c b) c
  | ⟨1, _⟩ => fun c => dat1 (fun c b => V2 m (outs m) c b) c

/-- No levels; nothing owed. -/
abbrev L : GSem nD τ sig → Finset Unit := fun _ => ∅
abbrev lv : GSem nD τ sig → Unit → ℕ := fun _ _ => 0

/-- The pipeline library's algebra is the whole user algebra. -/
abbrev EP : Emb (UR sig nD τ) (MT nD τ sig Unit (Elt F) ℕ UU ℕ) := emb₁

/-- What rides beside the buffers. -/
def R (c : Dev nD) : sProp 𝕄 := iprop(∃ W, owes (c : Thread nD τ) (0 : CellTallies nD τ sig Unit) W)

set_option backward.isDefEq.respectTransparency.types false in
/-- A buffer that is no array of call 0 is as it was. -/
theorem rest0 (c : Dev nD) (b : Ref sig .tc) (hb : b ∉ Finset.univ.image (Pipeline.arrRef spec0)) : V1 m (outs m) c b = V0 m c b :=
  V1_of m (outs m) c b (fun h => by
    simp only [List.mem_cons, List.not_mem_nil, _root_.or_false] at h
    rcases h with rfl
    · exact hb (Finset.mem_image.mpr ⟨1, Finset.mem_univ _, rfl⟩)
    )

set_option backward.isDefEq.respectTransparency.types false in
/-- Call 0 as a segment: its arrays taken out of the unscoped buffers, put back with what its write-backs left. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V0 m c b) c).loose
  hwaits := Pipeline.hwaits_of_owed_zero _ _ _ _ L lv 0 fun _ _ => rfl
  pre c := iprop(unscopedBufs c (fun b => V0 m c b) ∗ R c)
  post c := iprop(unscopedBufs c (fun b => V1 m (outs m) c b) ∗ R c)
  X _ := BI.emp
  Y _ := BI.emp
  Z c := Pipeline.unscopedRest (Ix := Unit) (Name := ℕ) (U := UU) (Lvl := ℕ) spec0 c (fun b => V0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c b) fun _ => rfl
    unfold R
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (fun b => V0 m c b) (fun b => V1 m (outs m) c b) ((pdats m 0 c).arrAt · cfg0.N)
      (fun w => by
        fin_cases w
        · exact ((pdats m 0 c).arrAt_in 0 rfl _).trans (V1_of m (outs m) c main_arg4 (by decide)).symm
        · exact (V1_main_v0 m c).symm
      )
      (fun b hb => rest0 m c b hb)
    unfold R
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- A buffer that is no array of call 1 is as it was. -/
theorem rest1 (c : Dev nD) (b : Ref sig .tc) (hb : b ∉ Finset.univ.image (Pipeline.arrRef spec1)) : V3 m (outs m) c b = V2 m (outs m) c b :=
  V3_of m (outs m) c b (fun h => by
    simp only [List.mem_cons, List.not_mem_nil, _root_.or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)
    )

set_option backward.isDefEq.respectTransparency.types false in
/-- Call 1 as a segment: its arrays taken out of the unscoped buffers, put back with what its write-backs left. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ L lv 1 fun _ _ => rfl
  pre c := iprop(unscopedBufs c (fun b => V2 m (outs m) c b) ∗ R c)
  post c := iprop(unscopedBufs c (fun b => V3 m (outs m) c b) ∗ R c)
  X _ := BI.emp
  Y _ := BI.emp
  Z c := Pipeline.unscopedRest (Ix := Unit) (Name := ℕ) (U := UU) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    unfold R
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = inv1 (fun c b => V2 m (outs m) c b) c 0 from rfl]
    iintro ⟨-, -, Hr⟩
    iapply (inv1_first (fun c b => V2 m (outs m) c b) c); iexact Hr
  hout c := by
    rw [Pipeline.ownSems0_none, show (pdats m 1 c).Φ (Fin.last _) = inv1 (fun c b => V2 m (outs m) c b) c cfg1.N from rfl]
    iintro Hr
    isplitr; · iempintro
    isplitr; · iempintro
    iapply (inv1_last (fun c b => V2 m (outs m) c b) c cfg1.N); iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (fun b => V2 m (outs m) c b) (fun b => V3 m (outs m) c b) ((pdats m 1 c).arrAt · cfg1.N)
      (fun w => by
        fin_cases w
        · exact ((pdats m 1 c).arrAt_in 0 rfl _).trans (V3_of m (outs m) c main_v1 (by decide)).symm
        · exact ((pdats m 1 c).arrAt_in 1 rfl _).trans (V3_of m (outs m) c main_v10 (by decide)).symm
        · exact ((pdats m 1 c).arrAt_in 2 rfl _).trans (V3_of m (outs m) c main_v2 (by decide)).symm
        · exact ((pdats m 1 c).arrAt_in 3 rfl _).trans (V3_of m (outs m) c main_arg0 (by decide)).symm
        · exact ((pdats m 1 c).arrAt_in 4 rfl _).trans (V3_of m (outs m) c main_v0 (by decide)).symm
        · exact (V3_main_v11_0 m c).symm
        · exact (V3_main_v11_1 m c).symm
        · exact (V3_main_v11_2 m c).symm
      )
      (fun b hb => rest1 m c b hb)
    unfold R
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The run: every execution ends with the arguments as they were, the three results at the last valuation and every semaphore at zero. -/
theorem run_all (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v12) = V4 m (outs m) c main_v12
      ∧ r.2.mem ((c.tc : Thread nD τ).loc main_v13) = V4 m (outs m) c main_v13
      ∧ r.2.mem ((c.tc : Thread nD τ).loc main_v15) = V4 m (outs m) c main_v15)
      ∧ r.2.sem = fun _ => 0) := by
  let ι : Unit := ()
  let O₀ : Dev nD → CellTallies nD τ sig Unit := 0
  let G : Dev nD → sProp 𝕄 := fun _ => iprop(emp)
  let E : Fin 3 → Dev nD → sProp 𝕄 := fun _ => R
  have hL : ∀ g : GSem nD τ sig, g.1.2 ≠ .tc → L g = ∅ := fun _ _ => rfl
  have hu₀ : (ownU (initOf (Pipeline.cells cfgs cellOf_inj) (Pipeline.launchToks cfgs cellOf_inj)) : sProp 𝕄) ⊢ |={Set.univ}=> iprop(BI.own (EP (initOf (Pipeline.cells cfgs cellOf_inj) (Pipeline.launchToks cfgs cellOf_inj))) ∗ bigSep Finset.univ G) := by
    iintro Hu; imodintro
    isplitl [Hu]; · iapply (show (ownU (initOf (Pipeline.cells cfgs cellOf_inj) (Pipeline.launchToks cfgs cellOf_inj)) : sProp 𝕄) ⊢ BI.own (EP (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  have hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp 𝕄) := by
    have hmono : (bigSep Finset.univ fun c : Dev nD => iprop(unscopedSems0 c ∗ owes (c : Thread nD τ) (O₀ c) ∅ ∗ Pipeline.launchCred O₀ c ∗ prngReg c (ρ c) ∗ G c) : sProp 𝕄) ⊢ bigSep Finset.univ (E 0) :=
      bigSep_mono fun c _ => by
        show _ ⊢ R c
        unfold R
        iintro ⟨-, HO, -, -, -⟩
        iexists ∅; iexact HO
    iintro ⟨H, -⟩
    imodintro
    iapply hmono; iexact H
  have hE2 : ∀ c : Dev nD, E 2 c ⊢ (iprop(∃ W, owes (c : Thread nD τ) (0 : CellTallies nD τ sig Unit) W) : sProp 𝕄) := fun c => .rfl
  have hpre0 : ∀ c : Dev nD, iprop(StableHlo.held (c : Thread nD τ) (Pipeline.ucRefs τ sig) (V0 m c) ∗ E 0 c) ⊢ (reg0 m).pre c := fun c => by
    rw [← Pipeline.unscopedBufs_held (Ix := Unit) (Name := ℕ) (U := UU) (Lvl := ℕ) c (V0 m c)]; exact .rfl
  have hpost0 : ∀ c : Dev nD, (reg0 m).post c ⊢ iprop(StableHlo.held (c : Thread nD τ) (Pipeline.ucRefs τ sig) (V1 m (outs m) c) ∗ E 1 c) := fun c => by
    rw [← Pipeline.unscopedBufs_held (Ix := Unit) (Name := ℕ) (U := UU) (Lvl := ℕ) c (V1 m (outs m) c)]; exact .rfl
  have hpre1 : ∀ c : Dev nD, iprop(StableHlo.held (c : Thread nD τ) (Pipeline.ucRefs τ sig) (V2 m (outs m) c) ∗ E 1 c) ⊢ (reg1 m).pre c := fun c => by
    rw [← Pipeline.unscopedBufs_held (Ix := Unit) (Name := ℕ) (U := UU) (Lvl := ℕ) c (V2 m (outs m) c)]; exact .rfl
  have hpost1 : ∀ c : Dev nD, (reg1 m).post c ⊢ iprop(StableHlo.held (c : Thread nD τ) (Pipeline.ucRefs τ sig) (V3 m (outs m) c) ∗ E 2 c) := fun c => by
    rw [← Pipeline.unscopedBufs_held (Ix := Unit) (Name := ℕ) (U := UU) (Lvl := ℕ) c (V3 m (outs m) c)]; exact .rfl
  refine Pipeline.θ_run_regions_kit_dev_sems (pcfgs (F := F)) adm (pdats m) ι cellOf_inj EP defs₀ 𝒱₀ L lv m ρ main
    (segs m (outs m) 𝒱₀ L lv E ι (pdats m) (reg0 m) (reg1 m))
    (fun c Q => by
      rewrite [main_chain c, Seg.run_eq_chain,
        show (segs m (outs m) 𝒱₀ L lv E ι (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨hpre0 c, hpost0 c, hpre1 c, hpost1 c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v12) = V4 m (outs m) c main_v12 ∧ s.mem ((c.tc : Thread nD τ).loc main_v13) = V4 m (outs m) c main_v13 ∧ s.mem ((c.tc : Thread nD τ).loc main_v15) = V4 m (outs m) c main_v15)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        h (Proc.devRef .tc main_v12) (Finset.mem_filter.mpr ⟨StableHlo.devRef_mem_tcRefs main_v12, by decide⟩),
        h (Proc.devRef .tc main_v13) (Finset.mem_filter.mpr ⟨StableHlo.devRef_mem_tcRefs main_v13, by decide⟩),
        h (Proc.devRef .tc main_v15) (Finset.mem_filter.mpr ⟨StableHlo.devRef_mem_tcRefs main_v15, by decide⟩)⟩
    · iexact HSI

end Cert.Proof.Kernel
-- ==== Proof.OffsetsIdeal.lean ====
/-
  Where one trip of the decode loop stores: the offsets of its 24 stores into the residual scratch in closed form. At grid point
  `(m, n)`, trip `t`, the row group `p` (16 rows) and the part `j`, the store is at `[m % 2, j, 512 n + 128 (t % 4) + 16 p, 128 (t / 4)]`.
-/
module

public import proofs.«01_k».proof.Proof.Gen.KernelIdeal.Loops

@[expose] public section

set_option maxRecDepth 16384

namespace Cert.Proof.KernelIdeal

open Cert.KernelIdeal Cert.KernelIdeal.Gen
open Idealize.ShloMosaic Idealize.ShloMosaic.Tactic

/-- The first part's store in closed form. -/
theorem off7_eq : ∀ (i : grid1.Coords) (k1_t1 : Fin k1_t1_loop.trips) (r : Fin 8), k1_off7 i k1_t1 (BitVec.ofNat 32 (16 * r.val))
    = ![(i 0).val % 2, 0, 512 * (i 1).val + 128 * (k1_t1.val % 4) + 16 * r.val, 128 * (k1_t1.val / 4)] := by
  intro i k1_t1 r
  have r_r : r.val < 8 := r.isLt
  have h_c0_i32_35 : Affine.IsInt (BitVec.ofNat 32 (16 * r.val)) (16 * (r.val : Int)) := Affine.ofNat _ (by omega)
  have r_i0 : (i 0).val < 38 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32 : Affine.IsInt 0#32 (0) := Affine.ofNat _ (by omega)
  have h_v0 : Affine.Fails _ := Affine.eq_fails h_c2_i32 h_c0_i32 (by omega)
  have h_c1_i32 : Affine.IsInt 1#32 (1) := Affine.ofNat _ (by omega)
  have h_v1 : Affine.IsInt _ (2) := Affine.select_fails h_v0 h_c1_i32 h_c2_i32 (by omega)
  have h_v2 : Affine.IsInt _ ((((i 0).val : Int) % 2)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 2) + 2) := Affine.addi h_v2 h_v1 (by omega)
  have h_v9 : Affine.IsInt _ ((((i 0).val : Int) % 2)) := Affine.select_fails h_v7 h_v8 h_v2 (by omega)
  have h_v221 : Affine.IsInt _ ((((i 0).val : Int) % 2)) := Affine.indexCast h_v9
  have h_c0_78 : Affine.IsInt 0#32 (0) := Affine.ofNat _ (by omega)
  have r_i1 : (i 1).val < 7 := (i 1).isLt
  have h_arg1 : Affine.IsInt (BitVec.ofNat 32 (i 1).val) (((i 1).val : Int)) := Affine.ofNat _ (by omega)
  have h_c512_i32 : Affine.IsInt 512#32 (512) := Affine.ofNat _ (by omega)
  have h_v11 : Affine.IsInt _ (512 * ((i 1).val : Int)) := Affine.muli h_arg1 h_c512_i32 (by omega)
  have h_c0_i32_27 : Affine.IsInt 0#32 (0) := Affine.ofNat _ (by omega)
  have h_c1_i32_29 : Affine.IsInt 1#32 (1) := Affine.ofNat _ (by omega)
  have r_k1_t1 : k1_t1.val < 16 := Nat.lt_of_lt_of_le k1_t1.isLt k1_t1_abs.2.1
  have h_arg12 : Affine.IsInt _ ((k1_t1.val : Int)) := Affine.iv h_c0_i32_27 h_c1_i32_29 k1_t1.val (by omega)
  have c_arg12 : (k1_t1.val : Int) ≤ 16 - 1 := Affine.iv_lt k1_t1_abs.1 k1_t1.isLt k1_t1_abs.2.2 h_arg12
  have h_c4_i32_31 : Affine.IsInt 4#32 (4) := Affine.ofNat _ (by omega)
  have h_v52 : Affine.IsInt _ (((k1_t1.val : Int) % 4)) := Affine.remsi h_arg12 h_c4_i32_31 (by omega)
  have h_c128_i32_34 : Affine.IsInt 128#32 (128) := Affine.ofNat _ (by omega)
  have h_v62 : Affine.IsInt _ (128 * ((k1_t1.val : Int) % 4)) := Affine.muli h_v52 h_c128_i32_34 (by omega)
  have h_v63 : Affine.IsInt _ (128 * ((k1_t1.val : Int) % 4) + 16 * (r.val : Int)) := Affine.addi h_v62 h_c0_i32_35 (by omega)
  have h_v219 : Affine.IsInt _ (512 * ((i 1).val : Int) + 128 * ((k1_t1.val : Int) % 4) + 16 * (r.val : Int)) := Affine.addi h_v11 h_v63 (by omega)
  have h_v222 : Affine.IsInt _ (512 * ((i 1).val : Int) + 128 * ((k1_t1.val : Int) % 4) + 16 * (r.val : Int)) := Affine.indexCast h_v219
  have h_c4_i32 : Affine.IsInt 4#32 (4) := Affine.ofNat _ (by omega)
  have h_v51 : Affine.IsInt _ (((k1_t1.val : Int) / 4)) := Affine.divsi h_arg12 h_c4_i32 (by omega)
  have h_c128_i32_32 : Affine.IsInt 128#32 (128) := Affine.ofNat _ (by omega)
  have h_v53 : Affine.IsInt _ (128 * ((k1_t1.val : Int) / 4)) := Affine.muli h_v51 h_c128_i32_32 (by omega)
  have h_v223 : Affine.IsInt _ (128 * ((k1_t1.val : Int) / 4)) := Affine.indexCast h_v53
  exact Affine.vec_cons h_v221 (by omega) <| Affine.vec_cons (Affine.ofNat 0 (by omega) : Affine.IsInt 0#32 0) (by omega) <| Affine.vec_cons h_v222 (by omega) <| Affine.vec_cons h_v223 (by omega) <| Affine.vec_nil

/-- The second part's: the first's with the part's coordinate 1. -/
theorem off8_eq (i : grid1.Coords) (t : Fin k1_t1_loop.trips) (r : Fin 8) : k1_off8 i t (BitVec.ofNat 32 (16 * r.val))
    = ![(i 0).val % 2, 1, 512 * (i 1).val + 128 * (t.val % 4) + 16 * r.val, 128 * (t.val / 4)] := by
  have h := off7_eq i t r
  have h0 := congrFun h 0; have h2 := congrFun h 2; have h3 := congrFun h 3
  funext a; fin_cases a
  · exact h0
  · rfl
  · exact h2
  · exact h3

/-- The third part's: the first's with the part's coordinate 2. -/
theorem off9_eq (i : grid1.Coords) (t : Fin k1_t1_loop.trips) (r : Fin 8) : k1_off9 i t (BitVec.ofNat 32 (16 * r.val))
    = ![(i 0).val % 2, 2, 512 * (i 1).val + 128 * (t.val % 4) + 16 * r.val, 128 * (t.val / 4)] := by
  have h := off7_eq i t r
  have h0 := congrFun h 0; have h2 := congrFun h 2; have h3 := congrFun h 3
  funext a; fin_cases a
  · exact h0
  · rfl
  · exact h2
  · exact h3

/-- The second printing of the loop stores where the first does. -/
theorem off16_eq (i : grid1.Coords) (t : Fin k1_t2_loop.trips) (r : Fin 8) : k1_off16 i t (BitVec.ofNat 32 (16 * r.val))
    = ![(i 0).val % 2, 0, 512 * (i 1).val + 128 * (t.val % 4) + 16 * r.val, 128 * (t.val / 4)] := off7_eq i t r
/-- Where a later phase's trip stores the second part, by piece. -/
theorem off17_eq (i : grid1.Coords) (t : Fin k1_t2_loop.trips) (r : Fin 8) : k1_off17 i t (BitVec.ofNat 32 (16 * r.val))
    = ![(i 0).val % 2, 1, 512 * (i 1).val + 128 * (t.val % 4) + 16 * r.val, 128 * (t.val / 4)] := off8_eq i t r
/-- Where a later phase's trip stores the third part, by piece. -/
theorem off18_eq (i : grid1.Coords) (t : Fin k1_t2_loop.trips) (r : Fin 8) : k1_off18 i t (BitVec.ofNat 32 (16 * r.val))
    = ![(i 0).val % 2, 2, 512 * (i 1).val + 128 * (t.val % 4) + 16 * r.val, 128 * (t.val / 4)] := off9_eq i t r

instance (i : grid1.Coords) (t : Fin k1_t1_loop.trips) : ClosedOff (k1_off7 i t (BitVec.ofNat 32 0)) := ⟨![(i 0).val % 2, 0, 512 * (i 1).val + 128 * (t.val % 4) + 0, 128 * (t.val / 4)], off7_eq i t ⟨0, by decide⟩⟩
instance (i : grid1.Coords) (t : Fin k1_t1_loop.trips) : ClosedOff (k1_off7 i t (BitVec.ofNat 32 16)) := ⟨![(i 0).val % 2, 0, 512 * (i 1).val + 128 * (t.val % 4) + 16, 128 * (t.val / 4)], off7_eq i t ⟨1, by decide⟩⟩
instance (i : grid1.Coords) (t : Fin k1_t1_loop.trips) : ClosedOff (k1_off7 i t (BitVec.ofNat 32 32)) := ⟨![(i 0).val % 2, 0, 512 * (i 1).val + 128 * (t.val % 4) + 32, 128 * (t.val / 4)], off7_eq i t ⟨2, by decide⟩⟩
instance (i : grid1.Coords) (t : Fin k1_t1_loop.trips) : ClosedOff (k1_off7 i t (BitVec.ofNat 32 48)) := ⟨![(i 0).val % 2, 0, 512 * (i 1).val + 128 * (t.val % 4) + 48, 128 * (t.val / 4)], off7_eq i t ⟨3, by decide⟩⟩
instance (i : grid1.Coords) (t : Fin k1_t1_loop.trips) : ClosedOff (k1_off7 i t (BitVec.ofNat 32 64)) := ⟨![(i 0).val % 2, 0, 512 * (i 1).val + 128 * (t.val % 4) + 64, 128 * (t.val / 4)], off7_eq i t ⟨4, by decide⟩⟩
instance (i : grid1.Coords) (t : Fin k1_t1_loop.trips) : ClosedOff (k1_off7 i t (BitVec.ofNat 32 80)) := ⟨![(i 0).val % 2, 0, 512 * (i 1).val + 128 * (t.val % 4) + 80, 128 * (t.val / 4)], off7_eq i t ⟨5, by decide⟩⟩
instance (i : grid1.Coords) (t : Fin k1_t1_loop.trips) : ClosedOff (k1_off7 i t (BitVec.ofNat 32 96)) := ⟨![(i 0).val % 2, 0, 512 * (i 1).val + 128 * (t.val % 4) + 96, 128 * (t.val / 4)], off7_eq i t ⟨6, by decide⟩⟩
instance (i : grid1.Coords) (t : Fin k1_t1_loop.trips) : ClosedOff (k1_off7 i t (BitVec.ofNat 32 112)) := ⟨![(i 0).val % 2, 0, 512 * (i 1).val + 128 * (t.val % 4) + 112, 128 * (t.val / 4)], off7_eq i t ⟨7, by decide⟩⟩
instance (i : grid1.Coords) (t : Fin k1_t1_loop.trips) : ClosedOff (k1_off8 i t (BitVec.ofNat 32 0)) := ⟨![(i 0).val % 2, 1, 512 * (i 1).val + 128 * (t.val % 4) + 0, 128 * (t.val / 4)], off8_eq i t ⟨0, by decide⟩⟩
instance (i : grid1.Coords) (t : Fin k1_t1_loop.trips) : ClosedOff (k1_off8 i t (BitVec.ofNat 32 16)) := ⟨![(i 0).val % 2, 1, 512 * (i 1).val + 128 * (t.val % 4) + 16, 128 * (t.val / 4)], off8_eq i t ⟨1, by decide⟩⟩
instance (i : grid1.Coords) (t : Fin k1_t1_loop.trips) : ClosedOff (k1_off8 i t (BitVec.ofNat 32 32)) := ⟨![(i 0).val % 2, 1, 512 * (i 1).val + 128 * (t.val % 4) + 32, 128 * (t.val / 4)], off8_eq i t ⟨2, by decide⟩⟩
instance (i : grid1.Coords) (t : Fin k1_t1_loop.trips) : ClosedOff (k1_off8 i t (BitVec.ofNat 32 48)) := ⟨![(i 0).val % 2, 1, 512 * (i 1).val + 128 * (t.val % 4) + 48, 128 * (t.val / 4)], off8_eq i t ⟨3, by decide⟩⟩
instance (i : grid1.Coords) (t : Fin k1_t1_loop.trips) : ClosedOff (k1_off8 i t (BitVec.ofNat 32 64)) := ⟨![(i 0).val % 2, 1, 512 * (i 1).val + 128 * (t.val % 4) + 64, 128 * (t.val / 4)], off8_eq i t ⟨4, by decide⟩⟩
instance (i : grid1.Coords) (t : Fin k1_t1_loop.trips) : ClosedOff (k1_off8 i t (BitVec.ofNat 32 80)) := ⟨![(i 0).val % 2, 1, 512 * (i 1).val + 128 * (t.val % 4) + 80, 128 * (t.val / 4)], off8_eq i t ⟨5, by decide⟩⟩
instance (i : grid1.Coords) (t : Fin k1_t1_loop.trips) : ClosedOff (k1_off8 i t (BitVec.ofNat 32 96)) := ⟨![(i 0).val % 2, 1, 512 * (i 1).val + 128 * (t.val % 4) + 96, 128 * (t.val / 4)], off8_eq i t ⟨6, by decide⟩⟩
instance (i : grid1.Coords) (t : Fin k1_t1_loop.trips) : ClosedOff (k1_off8 i t (BitVec.ofNat 32 112)) := ⟨![(i 0).val % 2, 1, 512 * (i 1).val + 128 * (t.val % 4) + 112, 128 * (t.val / 4)], off8_eq i t ⟨7, by decide⟩⟩
instance (i : grid1.Coords) (t : Fin k1_t1_loop.trips) : ClosedOff (k1_off9 i t (BitVec.ofNat 32 0)) := ⟨![(i 0).val % 2, 2, 512 * (i 1).val + 128 * (t.val % 4) + 0, 128 * (t.val / 4)], off9_eq i t ⟨0, by decide⟩⟩
instance (i : grid1.Coords) (t : Fin k1_t1_loop.trips) : ClosedOff (k1_off9 i t (BitVec.ofNat 32 16)) := ⟨![(i 0).val % 2, 2, 512 * (i 1).val + 128 * (t.val % 4) + 16, 128 * (t.val / 4)], off9_eq i t ⟨1, by decide⟩⟩
instance (i : grid1.Coords) (t : Fin k1_t1_loop.trips) : ClosedOff (k1_off9 i t (BitVec.ofNat 32 32)) := ⟨![(i 0).val % 2, 2, 512 * (i 1).val + 128 * (t.val % 4) + 32, 128 * (t.val / 4)], off9_eq i t ⟨2, by decide⟩⟩
instance (i : grid1.Coords) (t : Fin k1_t1_loop.trips) : ClosedOff (k1_off9 i t (BitVec.ofNat 32 48)) := ⟨![(i 0).val % 2, 2, 512 * (i 1).val + 128 * (t.val % 4) + 48, 128 * (t.val / 4)], off9_eq i t ⟨3, by decide⟩⟩
instance (i : grid1.Coords) (t : Fin k1_t1_loop.trips) : ClosedOff (k1_off9 i t (BitVec.ofNat 32 64)) := ⟨![(i 0).val % 2, 2, 512 * (i 1).val + 128 * (t.val % 4) + 64, 128 * (t.val / 4)], off9_eq i t ⟨4, by decide⟩⟩
instance (i : grid1.Coords) (t : Fin k1_t1_loop.trips) : ClosedOff (k1_off9 i t (BitVec.ofNat 32 80)) := ⟨![(i 0).val % 2, 2, 512 * (i 1).val + 128 * (t.val % 4) + 80, 128 * (t.val / 4)], off9_eq i t ⟨5, by decide⟩⟩
instance (i : grid1.Coords) (t : Fin k1_t1_loop.trips) : ClosedOff (k1_off9 i t (BitVec.ofNat 32 96)) := ⟨![(i 0).val % 2, 2, 512 * (i 1).val + 128 * (t.val % 4) + 96, 128 * (t.val / 4)], off9_eq i t ⟨6, by decide⟩⟩
instance (i : grid1.Coords) (t : Fin k1_t1_loop.trips) : ClosedOff (k1_off9 i t (BitVec.ofNat 32 112)) := ⟨![(i 0).val % 2, 2, 512 * (i 1).val + 128 * (t.val % 4) + 112, 128 * (t.val / 4)], off9_eq i t ⟨7, by decide⟩⟩
instance (i : grid1.Coords) (t : Fin k1_t2_loop.trips) : ClosedOff (k1_off16 i t (BitVec.ofNat 32 0)) := ⟨![(i 0).val % 2, 0, 512 * (i 1).val + 128 * (t.val % 4) + 0, 128 * (t.val / 4)], off16_eq i t ⟨0, by decide⟩⟩
instance (i : grid1.Coords) (t : Fin k1_t2_loop.trips) : ClosedOff (k1_off16 i t (BitVec.ofNat 32 16)) := ⟨![(i 0).val % 2, 0, 512 * (i 1).val + 128 * (t.val % 4) + 16, 128 * (t.val / 4)], off16_eq i t ⟨1, by decide⟩⟩
instance (i : grid1.Coords) (t : Fin k1_t2_loop.trips) : ClosedOff (k1_off16 i t (BitVec.ofNat 32 32)) := ⟨![(i 0).val % 2, 0, 512 * (i 1).val + 128 * (t.val % 4) + 32, 128 * (t.val / 4)], off16_eq i t ⟨2, by decide⟩⟩
instance (i : grid1.Coords) (t : Fin k1_t2_loop.trips) : ClosedOff (k1_off16 i t (BitVec.ofNat 32 48)) := ⟨![(i 0).val % 2, 0, 512 * (i 1).val + 128 * (t.val % 4) + 48, 128 * (t.val / 4)], off16_eq i t ⟨3, by decide⟩⟩
instance (i : grid1.Coords) (t : Fin k1_t2_loop.trips) : ClosedOff (k1_off16 i t (BitVec.ofNat 32 64)) := ⟨![(i 0).val % 2, 0, 512 * (i 1).val + 128 * (t.val % 4) + 64, 128 * (t.val / 4)], off16_eq i t ⟨4, by decide⟩⟩
instance (i : grid1.Coords) (t : Fin k1_t2_loop.trips) : ClosedOff (k1_off16 i t (BitVec.ofNat 32 80)) := ⟨![(i 0).val % 2, 0, 512 * (i 1).val + 128 * (t.val % 4) + 80, 128 * (t.val / 4)], off16_eq i t ⟨5, by decide⟩⟩
instance (i : grid1.Coords) (t : Fin k1_t2_loop.trips) : ClosedOff (k1_off16 i t (BitVec.ofNat 32 96)) := ⟨![(i 0).val % 2, 0, 512 * (i 1).val + 128 * (t.val % 4) + 96, 128 * (t.val / 4)], off16_eq i t ⟨6, by decide⟩⟩
instance (i : grid1.Coords) (t : Fin k1_t2_loop.trips) : ClosedOff (k1_off16 i t (BitVec.ofNat 32 112)) := ⟨![(i 0).val % 2, 0, 512 * (i 1).val + 128 * (t.val % 4) + 112, 128 * (t.val / 4)], off16_eq i t ⟨7, by decide⟩⟩
instance (i : grid1.Coords) (t : Fin k1_t2_loop.trips) : ClosedOff (k1_off17 i t (BitVec.ofNat 32 0)) := ⟨![(i 0).val % 2, 1, 512 * (i 1).val + 128 * (t.val % 4) + 0, 128 * (t.val / 4)], off17_eq i t ⟨0, by decide⟩⟩
instance (i : grid1.Coords) (t : Fin k1_t2_loop.trips) : ClosedOff (k1_off17 i t (BitVec.ofNat 32 16)) := ⟨![(i 0).val % 2, 1, 512 * (i 1).val + 128 * (t.val % 4) + 16, 128 * (t.val / 4)], off17_eq i t ⟨1, by decide⟩⟩
instance (i : grid1.Coords) (t : Fin k1_t2_loop.trips) : ClosedOff (k1_off17 i t (BitVec.ofNat 32 32)) := ⟨![(i 0).val % 2, 1, 512 * (i 1).val + 128 * (t.val % 4) + 32, 128 * (t.val / 4)], off17_eq i t ⟨2, by decide⟩⟩
instance (i : grid1.Coords) (t : Fin k1_t2_loop.trips) : ClosedOff (k1_off17 i t (BitVec.ofNat 32 48)) := ⟨![(i 0).val % 2, 1, 512 * (i 1).val + 128 * (t.val % 4) + 48, 128 * (t.val / 4)], off17_eq i t ⟨3, by decide⟩⟩
instance (i : grid1.Coords) (t : Fin k1_t2_loop.trips) : ClosedOff (k1_off17 i t (BitVec.ofNat 32 64)) := ⟨![(i 0).val % 2, 1, 512 * (i 1).val + 128 * (t.val % 4) + 64, 128 * (t.val / 4)], off17_eq i t ⟨4, by decide⟩⟩
instance (i : grid1.Coords) (t : Fin k1_t2_loop.trips) : ClosedOff (k1_off17 i t (BitVec.ofNat 32 80)) := ⟨![(i 0).val % 2, 1, 512 * (i 1).val + 128 * (t.val % 4) + 80, 128 * (t.val / 4)], off17_eq i t ⟨5, by decide⟩⟩
instance (i : grid1.Coords) (t : Fin k1_t2_loop.trips) : ClosedOff (k1_off17 i t (BitVec.ofNat 32 96)) := ⟨![(i 0).val % 2, 1, 512 * (i 1).val + 128 * (t.val % 4) + 96, 128 * (t.val / 4)], off17_eq i t ⟨6, by decide⟩⟩
instance (i : grid1.Coords) (t : Fin k1_t2_loop.trips) : ClosedOff (k1_off17 i t (BitVec.ofNat 32 112)) := ⟨![(i 0).val % 2, 1, 512 * (i 1).val + 128 * (t.val % 4) + 112, 128 * (t.val / 4)], off17_eq i t ⟨7, by decide⟩⟩
instance (i : grid1.Coords) (t : Fin k1_t2_loop.trips) : ClosedOff (k1_off18 i t (BitVec.ofNat 32 0)) := ⟨![(i 0).val % 2, 2, 512 * (i 1).val + 128 * (t.val % 4) + 0, 128 * (t.val / 4)], off18_eq i t ⟨0, by decide⟩⟩
instance (i : grid1.Coords) (t : Fin k1_t2_loop.trips) : ClosedOff (k1_off18 i t (BitVec.ofNat 32 16)) := ⟨![(i 0).val % 2, 2, 512 * (i 1).val + 128 * (t.val % 4) + 16, 128 * (t.val / 4)], off18_eq i t ⟨1, by decide⟩⟩
instance (i : grid1.Coords) (t : Fin k1_t2_loop.trips) : ClosedOff (k1_off18 i t (BitVec.ofNat 32 32)) := ⟨![(i 0).val % 2, 2, 512 * (i 1).val + 128 * (t.val % 4) + 32, 128 * (t.val / 4)], off18_eq i t ⟨2, by decide⟩⟩
instance (i : grid1.Coords) (t : Fin k1_t2_loop.trips) : ClosedOff (k1_off18 i t (BitVec.ofNat 32 48)) := ⟨![(i 0).val % 2, 2, 512 * (i 1).val + 128 * (t.val % 4) + 48, 128 * (t.val / 4)], off18_eq i t ⟨3, by decide⟩⟩
instance (i : grid1.Coords) (t : Fin k1_t2_loop.trips) : ClosedOff (k1_off18 i t (BitVec.ofNat 32 64)) := ⟨![(i 0).val % 2, 2, 512 * (i 1).val + 128 * (t.val % 4) + 64, 128 * (t.val / 4)], off18_eq i t ⟨4, by decide⟩⟩
instance (i : grid1.Coords) (t : Fin k1_t2_loop.trips) : ClosedOff (k1_off18 i t (BitVec.ofNat 32 80)) := ⟨![(i 0).val % 2, 2, 512 * (i 1).val + 128 * (t.val % 4) + 80, 128 * (t.val / 4)], off18_eq i t ⟨5, by decide⟩⟩
instance (i : grid1.Coords) (t : Fin k1_t2_loop.trips) : ClosedOff (k1_off18 i t (BitVec.ofNat 32 96)) := ⟨![(i 0).val % 2, 2, 512 * (i 1).val + 128 * (t.val % 4) + 96, 128 * (t.val / 4)], off18_eq i t ⟨6, by decide⟩⟩
instance (i : grid1.Coords) (t : Fin k1_t2_loop.trips) : ClosedOff (k1_off18 i t (BitVec.ofNat 32 112)) := ⟨![(i 0).val % 2, 2, 512 * (i 1).val + 128 * (t.val % 4) + 112, 128 * (t.val / 4)], off18_eq i t ⟨7, by decide⟩⟩

end Cert.Proof.KernelIdeal
-- ==== Proof.DecodeIdeal.lean ====
/-
  What one trip of the decode loop computes, in closed form: from the staged blocks (codes' positions and shifts `x10`, table `x3`,
  scales `x4`, weights `x5`), the 16 x 128 residual rows of trip `t` and row group `p`, their three parts, and the cell of the residual
  scratch that each part's element lands in.
-/
module

public import proofs.«01_k».proof.Proof.OffsetsIdeal
public import Idealize.ShloMosaic.Lib.Tactic
public import Idealize.ShloMosaic.Lib.Pointwise.Index

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.Sem
open scoped Idealize.SL.BI

variable {F : FTy → Type} [FloatOps F]

abbrev UU : Type := UR sig nD τ
abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MT nD τ sig Unit (Elt F) ℕ UU ℕ) :=
  M.view.loc (c : Thread nD τ) ↦{fullShare} f

/-- The high 16 bits of each f32, low bits cleared (the first bf16 part, widened). -/
def top1 {s : Shape} (x : FVec F s .f32) : FVec F s .f32 := extf .f32 (truncf .bf16 x bitsLt_bf16_f32) bitsLt_bf16_f32

/-- `x` rounded to 16 significand bits by the two multiplications and three subtractions the kernel spells. -/
def round16 {s : Shape} (x : FVec F s .f32) : FVec F s .f32 :=
  subf (mulf x (broadcast s (Scalar.ofBits .f32 0x43808000#32))) (subf (mulf x (broadcast s (Scalar.ofBits .f32 0x43808000#32))) x)

/-- `x` truncated to 16 significand bits. -/
def top12 {s : Shape} (x : FVec F s .f32) : FVec F s .f32 :=
  select (cmpf .ogt (absf (round16 x)) (absf x)) (round16 (subf (round16 x) (mulf x (broadcast s (Scalar.ofBits .f32 0x37A00000#32))))) (round16 x)

/-- The three parts of an f32 array, each as bf16. -/
def split {s : Shape} (j : Fin 3) (x : FVec F s .f32) : FVec F s .bf16 :=
  match j with
  | 0 => truncf .bf16 (top1 x) bitsLt_bf16_f32
  | 1 => truncf .bf16 (subf (top12 x) (top1 x)) bitsLt_bf16_f32
  | 2 => truncf .bf16 (subf x (top12 x)) bitsLt_bf16_f32

/-- One row of positions (or shifts) of the scratch `x10`, lanes of trip `t`. -/
def idxV (x10 : S4x64x512.Idx → BitVec 32) (k : Fin 4) (t r : Fin 16) : IVec S1x1x128 32 :=
  fun j => x10 (ix3 k ⟨16 * (t.val % 4) + r.val, by omega⟩ ⟨128 * (t.val / 4) + (j 2).val, by have : (j 2).val < 128 := (j 2).isLt; omega⟩)

/-- One row of scales, lanes of trip `t`. -/
def scaleV (x4 : S8x512.Idx → F .f32) (t : Fin 16) (s : Fin 2) : FVec F S1x128 .f32 :=
  fun j => x4 (ix2 ⟨2 * (t.val % 4) + s.val, by omega⟩ ⟨128 * (t.val / 4) + (j 1).val, by have : (j 1).val < 128 := (j 1).isLt; omega⟩)

/-- One codebook's packed table. -/
def tabV (x3 : S2x8x128.Idx → BitVec 32) (k : Fin 2) : IVec S1x8x128 32 := fun j => x3 (ix3 k (j 1) (j 2))

/-- The 128 x 128 block of weights of trip `t`. -/
def wV (x5 : S512x512.Idx → F .bf16) (t : Fin 16) : FVec F S128x128 .bf16 :=
  fun j => x5 (ix2 ⟨128 * (t.val / 4) + (j 0).val, by have : (j 0).val < 128 := (j 0).isLt; omega⟩ ⟨128 * (t.val % 4) + (j 1).val, by have : (j 1).val < 128 := (j 1).isLt; omega⟩)

/-- A row of positions copied into 8 rows. -/
def rep (v : IVec S1x1x128 32) : IVec S8x128 32 :=
  broadcastTo S8x128 (shapeCast S1x128 (shapeCast S1x128 v shapeCasts_S1x1x128_S1x128) shapeCasts_S1x128_S1x128) broadcasts_S1x128_S8x128

/-- One codebook's values: the gathered words, shifted, masked and read as f32. -/
def bookV (tb : IVec S1x8x128 32) (iv sv : IVec S1x1x128 32) : FVec F S8x128 .f32 :=
  bitcastToFloat .f32 (andi (shli (dynamicGather 1 (shapeCast S8x128 tb shapeCasts_S1x8x128_S8x128)
    (shapeCast S8x128 (shapeCast S8x128x1 (select (cmpi .slt (rep iv) (broadcast S8x128 0#32)) (addi (rep iv) (broadcast S8x128 128#32)) (rep iv)) shapeCasts_S8x128_S8x128x1) shapeCasts_S8x128x1_S8x128))
    (rep sv)) (broadcast S8x128 4294901760#32))

/-- The reconstructed weights of 8 rows. -/
def hatV (t0 t1 : IVec S1x8x128 32) (i0 s0 i1 s1 : IVec S1x1x128 32) (sc : FVec F S1x128 .f32) : FVec F S8x128 .f32 :=
  mulf (addf (bookV t0 i0 s0) (bookV t1 i1 s1)) (broadcastTo S8x128 (shapeCast S1x128 (shapeCast S1x128 sc shapeCasts_S1x128_S1x128) shapeCasts_S1x128_S1x128) broadcasts_S1x128_S8x128)

/-- Eight rows of a block are a slice of it. -/
theorem slices_rows (r : Fin 16) : S128x128.Slices ![8 * r.val, 0] S8x128 := by
  revert r; decide

/-- The weights transposed, widened to f32. -/
def wtV (w : FVec F S128x128 .bf16) : FVec F S128x128 .f32 :=
  transpose S128x128 [1, 0] (extf .f32 w bitsLt_bf16_f32) transposes_S128x128_p1_0_S128x128

/-- 8 residual rows of a trip from the vectors loaded for them. -/
def halfV (w : FVec F S128x128 .bf16) (r : Fin 16) (hat : FVec F S8x128 .f32) : FVec F S8x128 .f32 :=
  subf (extractStridedSlice S8x128 ![8 * r.val, 0] (wtV w) (slices_rows r)) hat

/-- 16 residual rows. -/
def catV (a b : FVec F S8x128 .f32) : FVec F S16x128 .f32 :=
  concatenate S16x128 0 [⟨S8x128, a⟩, ⟨S8x128, b⟩] concatenates_S8x128_S8x128_S16x128_d0

/-- As the store writes them. -/
def put (x : FVec F S16x128 .bf16) : FVec F S1x1x16x128 .bf16 := shapeCast S1x1x16x128 x shapeCasts_S16x128_S1x1x16x128

/-- The scale row of row group `p`. -/
def sOf (p : Fin 8) : Fin 2 := ⟨p.val / 4, by omega⟩
/-- The two halves of row group `p`. -/
def lo (p : Fin 8) : Fin 16 := ⟨2 * p.val, by omega⟩
def hi (p : Fin 8) : Fin 16 := ⟨2 * p.val + 1, by omega⟩

/-- The residual rows of trip `t`, row group `p`, from the loads as functions of what they load. -/
def rowsOf (w : FVec F S128x128 .bf16) (t0 t1 : IVec S1x8x128 32) (i0 s0 i1 s1 : Fin 16 → IVec S1x1x128 32) (sc : Fin 2 → FVec F S1x128 .f32)
    (p : Fin 8) : FVec F S16x128 .f32 :=
  catV (halfV w (lo p) (hatV t0 t1 (i0 (lo p)) (s0 (lo p)) (i1 (lo p)) (s1 (lo p)) (sc (sOf p))))
    (halfV w (hi p) (hatV t0 t1 (i0 (hi p)) (s0 (hi p)) (i1 (hi p)) (s1 (hi p)) (sc (sOf p))))

/-- The residual rows of trip `t`, row group `p`, from the staged blocks. -/
def rowsV (x3 : S2x8x128.Idx → BitVec 32) (x4 : S8x512.Idx → F .f32) (x5 : S512x512.Idx → F .bf16) (x10 : S4x64x512.Idx → BitVec 32) (t : Fin 16) (p : Fin 8) : FVec F S16x128 .f32 :=
  rowsOf (wV x5 t) (tabV x3 0) (tabV x3 1) (idxV x10 0 t) (idxV x10 1 t) (idxV x10 2 t) (idxV x10 3 t) (scaleV x4 t) p

/-- The trip that decodes the element in row `a`, column `b` of a 512 x 512 block. -/
def tripAt (a b : Fin 512) : Fin 16 := ⟨4 * (b.val / 128) + a.val / 128, by omega⟩

/-- Part `j` of the residual block at row `a`, column `b`. -/
def rcell (x3 : S2x8x128.Idx → BitVec 32) (x4 : S8x512.Idx → F .f32) (x5 : S512x512.Idx → F .bf16) (x10 : S4x64x512.Idx → BitVec 32) (j : Fin 3) (a b : Fin 512) : F .bf16 :=
  split j (rowsV x3 x4 x5 x10 (tripAt a b) ⟨a.val % 128 / 16, by omega⟩) (ix2 ⟨a.val % 16, by omega⟩ ⟨b.val % 128, by omega⟩)

/-- The residual scratch after the first `k` trips at grid point `i`, over what it held before. -/
def decoded (i : grid1.Coords) (x3 : S2x8x128.Idx → BitVec 32) (x4 : S8x512.Idx → F .f32) (x5 : S512x512.Idx → F .bf16) (x10 : S4x64x512.Idx → BitVec 32)
    (k : ℕ) (g : S2x3x3584x512.Idx → F .bf16) : S2x3x3584x512.Idx → F .bf16 := fun y =>
  if h : (y 0).val = (i 0).val % 2 ∧ (y 2).val / 512 = (i 1).val ∧ (tripAt ⟨(y 2).val % 512, by omega⟩ (y 3)).val < k
  then rcell x3 x4 x5 x10 (y 1) ⟨(y 2).val % 512, by omega⟩ (y 3) else g y

end Cert.Proof.KernelIdeal
-- ==== Proof.Trip1Ideal.lean ====
module

public import proofs.«01_k».proof.Proof.DecodeIdeal
public import Idealize.ShloMosaic.Lib.Tactic
public import Idealize.ShloMosaic.Lib.Pipeline.Value

@[expose] public section

set_option maxRecDepth 16384

noncomputable section

namespace Cert.Proof.KernelIdeal.T1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ### What the trip's loads read -/

section Loads

variable (i : grid1.Coords) (k1_h1 : k1_cond1 i = 1#1) (t : Fin k1_t1_loop.trips) {κ : Kind}

abbrev i16 (t : Fin k1_t1_loop.trips) : Fin 16 := t

abbrev ldI0 (M : View sig .tc .vmem S4x64x512 .i32) (f : M.ty.Contents (Elt F)) (r : Fin 16) : IVec S1x1x128 32 :=
  M.readAt (Elt F) (Rect.unit (s := S4x64x512) (k1_off2 t (BitVec.ofNat 32 r.val)) S1x1x128.size (k1_off2_inb i t k1_h1 r)).toLoadRect f
abbrev ldS0 (M : View sig .tc .vmem S4x64x512 .i32) (f : M.ty.Contents (Elt F)) (r : Fin 16) : IVec S1x1x128 32 :=
  M.readAt (Elt F) (Rect.unit (s := S4x64x512) (k1_off3 t (BitVec.ofNat 32 r.val)) S1x1x128.size (k1_off3_inb i t k1_h1 r)).toLoadRect f
abbrev ldI1 (M : View sig .tc .vmem S4x64x512 .i32) (f : M.ty.Contents (Elt F)) (r : Fin 16) : IVec S1x1x128 32 :=
  M.readAt (Elt F) (Rect.unit (s := S4x64x512) (k1_off4 t (BitVec.ofNat 32 r.val)) S1x1x128.size (k1_off4_inb i t k1_h1 r)).toLoadRect f
abbrev ldS1 (M : View sig .tc .vmem S4x64x512 .i32) (f : M.ty.Contents (Elt F)) (r : Fin 16) : IVec S1x1x128 32 :=
  M.readAt (Elt F) (Rect.unit (s := S4x64x512) (k1_off5 t (BitVec.ofNat 32 r.val)) S1x1x128.size (k1_off5_inb i t k1_h1 r)).toLoadRect f
abbrev ldSc (M : View sig .tc .vmem S8x512 .f32) (f : M.ty.Contents (Elt F)) (r : Fin 2) : FVec F S1x128 .f32 :=
  M.readAt (Elt F) (Rect.unit (s := S8x512) (k1_off6 t (BitVec.ofNat 32 r.val)) S1x128.size (k1_off6_inb i t k1_h1 r)).toLoadRect f
abbrev ldW (M : View sig .tc .vmem S512x512 .bf16) (f : M.ty.Contents (Elt F)) : FVec F S128x128 .bf16 :=
  M.readAt (Elt F) (Rect.unit (s := S512x512) (k1_off1 t) S128x128.size (k1_off1_inb i t k1_h1)).toLoadRect f
abbrev ldT0 (M : View sig .tc .vmem S2x8x128 .i32) (f : M.ty.Contents (Elt F)) : IVec S1x8x128 32 :=
  M.readAt (Elt F) (Rect.unit (s := S2x8x128) ![0, 0, 0] S1x8x128.size inb_S2x8x128_S1x8x128_0_0_0).toLoadRect f
abbrev ldT1 (M : View sig .tc .vmem S2x8x128 .i32) (f : M.ty.Contents (Elt F)) : IVec S1x8x128 32 :=
  M.readAt (Elt F) (Rect.unit (s := S2x8x128) ![1, 0, 0] S1x8x128.size inb_S2x8x128_S1x8x128_1_0_0).toLoadRect f

/-- A load through a unit rectangle reads the element at the rectangle's corner plus the index. -/
theorem load_unit {S : Shape} {e : EltTy} {Val : EltTy → Type} (M : View sig .tc .vmem S e) (f : M.ty.Contents Val) {off off' size : Fin S.rank → ℕ}
    (inb : ∀ a, off a + size a ≤ S.size a) (h : off = off') (j : (Rect.unit (s := S) off size inb).toLoadRect.shape.Idx) (y : S.Idx) (hy : ∀ a, (y a).val = off' a + (j a).val) :
    M.readAt Val (Rect.unit (s := S) off size inb).toLoadRect f j = M.read Val f y := by
  subst h
  refine congrArg (M.read Val f) (funext fun a => Fin.ext ?_)
  show off a + 1 * (j a).val = (y a).val
  rw [hy a, Nat.one_mul]

/-- The load of the first codebook's positions. -/
theorem ldI0_eq (M : View sig .tc .vmem S4x64x512 .i32) (f : M.ty.Contents (Elt F)) : ldI0 i k1_h1 t M f = idxV (M.read (Elt F) f) 0 (i16 t) := by
  funext r j
  refine load_unit M f _ (k1_off2_eq t r) j _ fun a => ?_
  have h0 : (j 0).val < 1 := (j 0).isLt
  have h1 : (j 1).val < 1 := (j 1).isLt
  fin_cases a
  · show 0 = 0 + (j 0).val; omega
  · show 16 * (t.val % 4) + r.val = 16 * (t.val % 4) + r.val + (j 1).val; omega
  · rfl

/-- The load of the first codebook's shifts. -/
theorem ldS0_eq (M : View sig .tc .vmem S4x64x512 .i32) (f : M.ty.Contents (Elt F)) : ldS0 i k1_h1 t M f = idxV (M.read (Elt F) f) 1 (i16 t) := by
  funext r j
  refine load_unit M f _ (k1_off3_eq t r) j _ fun a => ?_
  have h0 : (j 0).val < 1 := (j 0).isLt
  have h1 : (j 1).val < 1 := (j 1).isLt
  fin_cases a
  · show 1 = 1 + (j 0).val; omega
  · show 16 * (t.val % 4) + r.val = 16 * (t.val % 4) + r.val + (j 1).val; omega
  · rfl

/-- The load of the second codebook's positions. -/
theorem ldI1_eq (M : View sig .tc .vmem S4x64x512 .i32) (f : M.ty.Contents (Elt F)) : ldI1 i k1_h1 t M f = idxV (M.read (Elt F) f) 2 (i16 t) := by
  funext r j
  refine load_unit M f _ (k1_off4_eq t r) j _ fun a => ?_
  have h0 : (j 0).val < 1 := (j 0).isLt
  have h1 : (j 1).val < 1 := (j 1).isLt
  fin_cases a
  · show 2 = 2 + (j 0).val; omega
  · show 16 * (t.val % 4) + r.val = 16 * (t.val % 4) + r.val + (j 1).val; omega
  · rfl

/-- The load of the second codebook's shifts. -/
theorem ldS1_eq (M : View sig .tc .vmem S4x64x512 .i32) (f : M.ty.Contents (Elt F)) : ldS1 i k1_h1 t M f = idxV (M.read (Elt F) f) 3 (i16 t) := by
  funext r j
  refine load_unit M f _ (k1_off5_eq t r) j _ fun a => ?_
  have h0 : (j 0).val < 1 := (j 0).isLt
  have h1 : (j 1).val < 1 := (j 1).isLt
  fin_cases a
  · show 3 = 3 + (j 0).val; omega
  · show 16 * (t.val % 4) + r.val = 16 * (t.val % 4) + r.val + (j 1).val; omega
  · rfl

/-- The load of the scales. -/
theorem ldSc_eq (M : View sig .tc .vmem S8x512 .f32) (f : M.ty.Contents (Elt F)) : ldSc i k1_h1 t M f = scaleV (M.read (Elt F) f) (i16 t) := by
  funext r j
  refine load_unit M f _ (k1_off6_eq t r) j _ fun a => ?_
  have h0 : (j 0).val < 1 := (j 0).isLt
  fin_cases a
  · show 2 * (t.val % 4) + r.val = 2 * (t.val % 4) + r.val + (j 0).val; omega
  · rfl

/-- The load of the weights. -/
theorem ldW_eq (M : View sig .tc .vmem S512x512 .bf16) (f : M.ty.Contents (Elt F)) : ldW i k1_h1 t M f = wV (M.read (Elt F) f) (i16 t) := by
  funext j
  refine load_unit M f _ (k1_off1_eq t) j _ fun a => ?_
  fin_cases a <;> rfl

/-- The load of the first table. -/
theorem ldT0_eq (M : View sig .tc .vmem S2x8x128 .i32) (f : M.ty.Contents (Elt F)) : ldT0 M f = tabV (M.read (Elt F) f) 0 := by
  funext j
  refine load_unit M f _ rfl j _ fun a => ?_
  have h0 : (j 0).val < 1 := (j 0).isLt
  fin_cases a
  · show 0 = 0 + (j 0).val; omega
  · show (j 1).val = 0 + (j 1).val; omega
  · show (j 2).val = 0 + (j 2).val; omega

/-- The load of the second table. -/
theorem ldT1_eq (M : View sig .tc .vmem S2x8x128 .i32) (f : M.ty.Contents (Elt F)) : ldT1 M f = tabV (M.read (Elt F) f) 1 := by
  funext j
  refine load_unit M f _ rfl j _ fun a => ?_
  have h0 : (j 0).val < 1 := (j 0).isLt
  fin_cases a
  · show 1 = 1 + (j 0).val; omega
  · show (j 1).val = 0 + (j 1).val; omega
  · show (j 2).val = 0 + (j 2).val; omega

/-- The residual rows of one row group as the trip computes them from its loads. -/
abbrev ldRows (M3 : View sig .tc .vmem S2x8x128 .i32) (M4 : View sig .tc .vmem S8x512 .f32) (M5 : View sig .tc .vmem S512x512 .bf16) (M10 : View sig .tc .vmem S4x64x512 .i32)
    (f3 : M3.ty.Contents (Elt F)) (f4 : M4.ty.Contents (Elt F)) (f5 : M5.ty.Contents (Elt F)) (f10 : M10.ty.Contents (Elt F)) (p : Fin 8) : FVec F S16x128 .f32 :=
  rowsOf (ldW i k1_h1 t M5 f5) (ldT0 M3 f3) (ldT1 M3 f3) (ldI0 i k1_h1 t M10 f10) (ldS0 i k1_h1 t M10 f10) (ldI1 i k1_h1 t M10 f10) (ldS1 i k1_h1 t M10 f10) (ldSc i k1_h1 t M4 f4) p

/-- The three stores of one row group, the last first. -/
abbrev pieces3 (rows : Fin 8 → FVec F S16x128 .f32) (p : Fin 8) : List (View.Piece (Elt F) S2x3x3584x512 .bf16) :=
  [⟨Rect.unit (s := S2x3x3584x512) (k1_off9 i t (BitVec.ofNat 32 (16 * p.val))) S1x1x16x128.size (k1_off9_inb i t k1_h1 p), put (split 2 (rows p))⟩,
   ⟨Rect.unit (s := S2x3x3584x512) (k1_off8 i t (BitVec.ofNat 32 (16 * p.val))) S1x1x16x128.size (k1_off8_inb i t k1_h1 p), put (split 1 (rows p))⟩,
   ⟨Rect.unit (s := S2x3x3584x512) (k1_off7 i t (BitVec.ofNat 32 (16 * p.val))) S1x1x16x128.size (k1_off7_inb i t k1_h1 p), put (split 0 (rows p))⟩]

/-- A trip's stores, the last first. -/
abbrev pieces (rows : Fin 8 → FVec F S16x128 .f32) : List (View.Piece (Elt F) S2x3x3584x512 .bf16) :=
  pieces3 i k1_h1 t rows 7 ++ (pieces3 i k1_h1 t rows 6 ++ (pieces3 i k1_h1 t rows 5 ++ (pieces3 i k1_h1 t rows 4 ++ (pieces3 i k1_h1 t rows 3 ++ (pieces3 i k1_h1 t rows 2 ++ (pieces3 i k1_h1 t rows 1 ++ pieces3 i k1_h1 t rows 0))))))

end Loads

/-- One trip of the decode loop: its 24 stores into the residual scratch, everything else as it was. -/
theorem trip1 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v11 : BitVec 32) (k1_h1 : k1_cond1 i = 1#1) (t : Fin k1_t1_loop.trips)
    (f3 : Bf (F := F) c arg3) (f4 : Bf (F := F) c arg4) (f5 : Bf (F := F) c arg5) (f10 : Bf (F := F) c arg10) (f11 : Bf (F := F) c arg11) (E : Set ℕ) (Q : PUnit → sProp 𝕄) :
        iprop(pt c arg3 f3 ∗ pt c arg4 f4 ∗ pt c arg5 f5 ∗ pt c arg10 f10 ∗ pt c arg11 f11 ∗ (iprop(pt c arg3 f3 ∗ pt c arg4 f4 ∗ pt c arg5 f5 ∗ pt c arg10 f10 ∗ pt c arg11 (arg11.view.writes (Elt F) f11 (pieces i k1_h1 t (ldRows i k1_h1 t arg3.view arg4.view arg5.view arg10.view f3 f4 f5 f10)))) -∗ Q ⟨⟩))
          ⊢ wp frame (wpE (defs₀ (F := F)) 𝒱₀ c none) E (k1_t1_body i arg2 harg2 arg3 harg3 arg4 harg4 arg5 harg5 arg6 harg6 arg7 harg7 arg8 harg8 arg9 harg9 arg10 harg10 arg11 harg11 v9 v11 k1_h1 t ⟨⟩) Q := by
  unfold k1_t1_body
  iintro ⟨H3, H4, H5, H10, H11, Hk⟩
  sl_exec
  sl_step
  iapply Hk
  isplitl [H3]; · iexact H3
  isplitl [H4]; · iexact H4
  isplitl [H5]; · iexact H5
  isplitl [H10]; · iexact H10
  iexact H11

/-! ### What the scratch holds after a trip -/

/-- Stored rows read at an index. -/
theorem put_apply (v : FVec F S16x128 .bf16) (x : S1x1x16x128.Idx) : put v x = v (ix2 (x 2) (x 3)) := by
  refine Idealize.ShloMosaic.shapeCast_apply _ _ _ _ ?_
  have h0 : (x 0).val < 1 := (x 0).isLt
  have h1 : (x 1).val < 1 := (x 1).isLt
  rw [Shape.rowMajor_val_two, Shape.rowMajor_val_four]
  show (x 2).val * 128 + (x 3).val = (((x 0).val * 1 + (x 1).val) * 16 + (x 2).val) * 128 + (x 3).val
  omega

section Value

variable (i : grid1.Coords) (k1_h1 : k1_cond1 i = 1#1) (t : Fin k1_t1_loop.trips)
  (x3 : S2x8x128.Idx → BitVec 32) (x4 : S8x512.Idx → F .f32) (x5 : S512x512.Idx → F .bf16) (x10 : S4x64x512.Idx → BitVec 32)

/-- The elements trip `t` writes at grid point `i`. -/
def InTrip (y : S2x3x3584x512.Idx) : Prop :=
  (y 0).val = (i 0).val % 2 ∧ (y 2).val / 512 = (i 1).val ∧ (y 2).val % 512 / 128 = t.val % 4 ∧ (y 3).val / 128 = t.val / 4

/-- A cell of a piece belongs to its trip, part and piece. -/
theorem inTrip_of_mem {off : Fin 4 → ℕ} {j p : ℕ} {inb} (hj : j < 3) (hp : p < 8)
    (h : off = ![(i 0).val % 2, j, 512 * (i 1).val + 128 * (t.val % 4) + 16 * p, 128 * (t.val / 4)])
    {y : S2x3x3584x512.Idx} (hy : y ∈ (Rect.unit (s := S2x3x3584x512) off S1x1x16x128.size inb).set) :
    InTrip i t y ∧ (y 1).val = j ∧ (y 2).val % 512 % 128 / 16 = p := by
  subst h
  rw [Rect.mem_set_unit] at hy
  have h0 : (i 0).val % 2 ≤ (y 0).val ∧ (y 0).val < (i 0).val % 2 + 1 := hy 0
  have h1 : j ≤ (y 1).val ∧ (y 1).val < j + 1 := hy 1
  have h2 : 512 * (i 1).val + 128 * (t.val % 4) + 16 * p ≤ (y 2).val ∧ (y 2).val < 512 * (i 1).val + 128 * (t.val % 4) + 16 * p + 16 := hy 2
  have h3 : 128 * (t.val / 4) ≤ (y 3).val ∧ (y 3).val < 128 * (t.val / 4) + 128 := hy 3
  refine ⟨⟨?_, ?_, ?_, ?_⟩, ?_, ?_⟩ <;> omega

/-- A trip's cell of a part and piece lies in that piece. -/
theorem mem_of_inTrip {off : Fin 4 → ℕ} {j p : ℕ} {inb}
    (h : off = ![(i 0).val % 2, j, 512 * (i 1).val + 128 * (t.val % 4) + 16 * p, 128 * (t.val / 4)])
    {y : S2x3x3584x512.Idx} (hy : InTrip i t y) (h1 : (y 1).val = j) (h2 : (y 2).val % 512 % 128 / 16 = p) :
    y ∈ (Rect.unit (s := S2x3x3584x512) off S1x1x16x128.size inb).set := by
  subst h
  obtain ⟨a, b, e, d⟩ := hy
  rw [Rect.mem_set_unit]
  intro ax
  fin_cases ax
  · show (i 0).val % 2 ≤ (y 0).val ∧ (y 0).val < (i 0).val % 2 + 1; omega
  · show j ≤ (y 1).val ∧ (y 1).val < j + 1; omega
  · show 512 * (i 1).val + 128 * (t.val % 4) + 16 * p ≤ (y 2).val ∧ (y 2).val < 512 * (i 1).val + 128 * (t.val % 4) + 16 * p + 16; omega
  · show 128 * (t.val / 4) ≤ (y 3).val ∧ (y 3).val < 128 * (t.val / 4) + 128; omega

/-- What the scratch holds at an element some trip has written. -/
abbrev cellAt (y : S2x3x3584x512.Idx) : F .bf16 := rcell x3 x4 x5 x10 (y 1) ⟨(y 2).val % 512, by omega⟩ (y 3)

/-- What a trip stores in a piece, cell by cell. -/
theorem piece_apply {off : Fin 4 → ℕ} (j : Fin 3) (p : Fin 8) {inb}
    (h : off = ![(i 0).val % 2, j.val, 512 * (i 1).val + 128 * (t.val % 4) + 16 * p.val, 128 * (t.val / 4)])
    (x : (Rect.unit (s := S2x3x3584x512) off S1x1x16x128.size inb).shape.Idx) :
    put (split j (rowsV x3 x4 x5 x10 (i16 t) p)) x = cellAt x3 x4 x5 x10 ((Rect.unit (s := S2x3x3584x512) off S1x1x16x128.size inb).emb x) := by
  subst h
  rw [put_apply]
  have x0 : (x 0).val < 1 := (x 0).isLt
  have x1 : (x 1).val < 1 := (x 1).isLt
  have x2 : (x 2).val < 16 := (x 2).isLt
  have x3' : (x 3).val < 128 := (x 3).isLt
  have i1 : (i 1).val < 7 := (i 1).isLt
  have ht : t.val < 16 := t.isLt
  have key : ∀ (j' : Fin 3) (a b : Fin 512), j' = j → a.val = 128 * (t.val % 4) + 16 * p.val + (x 2).val → b.val = 128 * (t.val / 4) + (x 3).val →
      split j (rowsV x3 x4 x5 x10 (i16 t) p) (ix2 (x 2) (x 3)) = rcell x3 x4 x5 x10 j' a b := by
    rintro _ a b rfl ha hb
    have hp := p.isLt
    unfold rcell
    have e1 : tripAt a b = i16 t := Fin.ext (by show 4 * (b.val / 128) + a.val / 128 = t.val; omega)
    have e2 : (⟨a.val % 128 / 16, by omega⟩ : Fin 8) = p := Fin.ext (by show a.val % 128 / 16 = p.val; omega)
    have e3 : (⟨a.val % 16, by omega⟩ : Fin 16) = x 2 := Fin.ext (by show a.val % 16 = (x 2).val; omega)
    have e4 : (⟨b.val % 128, by omega⟩ : Fin 128) = x 3 := Fin.ext (by show b.val % 128 = (x 3).val; omega)
    rw [e1, e2, e3, e4]
  refine key _ _ _ (Fin.ext ?_) ?_ ?_
  · show j.val + 1 * (x 1).val = j.val; omega
  · show (512 * (i 1).val + 128 * (t.val % 4) + 16 * p.val + 1 * (x 2).val) % 512 = _
    have := p.isLt
    omega
  · show 128 * (t.val / 4) + 1 * (x 3).val = _; omega

/-- A group's three pieces are among the trip's. -/
theorem pieces3_sub (rows : Fin 8 → FVec F S16x128 .f32) (p : Fin 8) {q} (hq : q ∈ pieces3 i k1_h1 t rows p) : q ∈ pieces i k1_h1 t rows := by
  unfold pieces
  simp only [List.mem_append]
  fin_cases p
  · exact .inr (.inr (.inr (.inr (.inr (.inr (.inr hq))))))
  · exact .inr (.inr (.inr (.inr (.inr (.inr (.inl hq))))))
  · exact .inr (.inr (.inr (.inr (.inr (.inl hq)))))
  · exact .inr (.inr (.inr (.inr (.inl hq))))
  · exact .inr (.inr (.inr (.inl hq)))
  · exact .inr (.inr (.inl hq))
  · exact .inr (.inl hq)
  · exact .inl hq

/-- Every piece of a trip is one of a group's three. -/
theorem mem_pieces (rows : Fin 8 → FVec F S16x128 .f32) {q} (hq : q ∈ pieces i k1_h1 t rows) : ∃ p, q ∈ pieces3 i k1_h1 t rows p := by
  unfold pieces at hq
  simp only [List.mem_append] at hq
  rcases hq with h | h | h | h | h | h | h | h
  · exact ⟨7, h⟩
  · exact ⟨6, h⟩
  · exact ⟨5, h⟩
  · exact ⟨4, h⟩
  · exact ⟨3, h⟩
  · exact ⟨2, h⟩
  · exact ⟨1, h⟩
  · exact ⟨0, h⟩

/-- A trip's stores over the scratch as the trips before it left it. -/
theorem read_pieces {κ} (M : View sig κ .vmem S2x3x3584x512 .bf16) (f : M.ty.Contents (Elt F)) (g : S2x3x3584x512.Idx → F .bf16)
    (hf : M.read (Elt F) f = decoded i x3 x4 x5 x10 t.val g) :
    M.read (Elt F) (M.writes (Elt F) f (pieces i k1_h1 t (rowsV x3 x4 x5 x10 (i16 t)))) = decoded i x3 x4 x5 x10 (t.val + 1) g := by
  funext y
  have ht : t.val < 16 := t.isLt
  have y2 : (y 2).val < 3584 := (y 2).isLt
  have y3 : (y 3).val < 512 := (y 3).isLt
  by_cases hy : InTrip i t y
  · have e : decoded i x3 x4 x5 x10 (t.val + 1) g y = cellAt x3 x4 x5 x10 y := by
      unfold decoded
      obtain ⟨a, b, e, d⟩ := hy
      exact dif_pos ⟨a, b, by show 4 * ((y 3).val / 128) + (y 2).val % 512 / 128 < t.val + 1; omega⟩
    rw [e]
    refine View.read_writes_apply_of_pieces M f (cellAt x3 x4 x5 x10) _ ?_ y ?_
    · intro q hq x
      obtain ⟨p, hp⟩ := mem_pieces i k1_h1 t _ hq
      simp only [pieces3, List.mem_cons, List.not_mem_nil, _root_.or_false] at hp
      rcases hp with rfl | rfl | rfl
      · exact piece_apply i t x3 x4 x5 x10 2 p (inb := k1_off9_inb i t k1_h1 p) (off9_eq i t p) x
      · exact piece_apply i t x3 x4 x5 x10 1 p (inb := k1_off8_inb i t k1_h1 p) (off8_eq i t p) x
      · exact piece_apply i t x3 x4 x5 x10 0 p (inb := k1_off7_inb i t k1_h1 p) (off7_eq i t p) x
    · have hy1 : (y 1).val < 3 := (y 1).isLt
      have hp : (y 2).val % 512 % 128 / 16 < 8 := by omega
      rcases (by omega : (y 1).val = 0 ∨ (y 1).val = 1 ∨ (y 1).val = 2) with h | h | h
      · exact ⟨_, pieces3_sub i k1_h1 t _ ⟨_, hp⟩ (List.mem_cons_of_mem _ (List.mem_cons_of_mem _ List.mem_cons_self)), mem_of_inTrip i t (inb := k1_off7_inb i t k1_h1 ⟨_, hp⟩) (off7_eq i t ⟨_, hp⟩) hy h rfl⟩
      · exact ⟨_, pieces3_sub i k1_h1 t _ ⟨_, hp⟩ (List.mem_cons_of_mem _ List.mem_cons_self), mem_of_inTrip i t (inb := k1_off8_inb i t k1_h1 ⟨_, hp⟩) (off8_eq i t ⟨_, hp⟩) hy h rfl⟩
      · exact ⟨_, pieces3_sub i k1_h1 t _ ⟨_, hp⟩ List.mem_cons_self, mem_of_inTrip i t (inb := k1_off9_inb i t k1_h1 ⟨_, hp⟩) (off9_eq i t ⟨_, hp⟩) hy h rfl⟩
  · rw [View.read_writes_apply_of_forall_not_mem]
    · rw [hf]
      have hiff : ((y 0).val = (i 0).val % 2 ∧ (y 2).val / 512 = (i 1).val ∧ (tripAt ⟨(y 2).val % 512, by omega⟩ (y 3)).val < t.val) ↔
          ((y 0).val = (i 0).val % 2 ∧ (y 2).val / 512 = (i 1).val ∧ (tripAt ⟨(y 2).val % 512, by omega⟩ (y 3)).val < t.val + 1) := by
        show (_ ∧ _ ∧ 4 * ((y 3).val / 128) + (y 2).val % 512 / 128 < t.val) ↔ (_ ∧ _ ∧ 4 * ((y 3).val / 128) + (y 2).val % 512 / 128 < t.val + 1)
        unfold InTrip at hy
        constructor
        · rintro ⟨a, b, d⟩; exact ⟨a, b, by omega⟩
        · rintro ⟨a, b, d⟩; exact ⟨a, b, by by_contra hh; exact hy ⟨a, b, by omega, by omega⟩⟩
      unfold decoded
      exact dite_congr (propext hiff) (fun _ => rfl) (fun _ => rfl)
    · intro q hq hmem
      obtain ⟨p, hp⟩ := mem_pieces i k1_h1 t _ hq
      simp only [pieces3, List.mem_cons, List.not_mem_nil, _root_.or_false] at hp
      rcases hp with rfl | rfl | rfl
      · exact hy (inTrip_of_mem i t (by omega) p.isLt (inb := k1_off9_inb i t k1_h1 p) (off9_eq i t p) hmem).1
      · exact hy (inTrip_of_mem i t (by omega) p.isLt (inb := k1_off8_inb i t k1_h1 p) (off8_eq i t p) hmem).1
      · exact hy (inTrip_of_mem i t (by omega) p.isLt (inb := k1_off7_inb i t k1_h1 p) (off7_eq i t p) hmem).1

end Value

/-! ### The loop -/

section Loop

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v11 : BitVec 32) (k1_h1 : k1_cond1 i = 1#1)
  (f3 : Bf (F := F) c arg3) (f4 : Bf (F := F) c arg4) (f5 : Bf (F := F) c arg5) (f10 : Bf (F := F) c arg10) (f11 : Bf (F := F) c arg11)

/-- The residual scratch's contents before trip `k`. -/
noncomputable def acc1 : ℕ → Bf (F := F) c arg11
  | 0 => f11
  | k + 1 => if h : k < k1_t1_loop.trips then
      arg11.view.writes (Elt F) (acc1 k) (pieces i k1_h1 ⟨k, h⟩ (ldRows i k1_h1 ⟨k, h⟩ arg3.view arg4.view arg5.view arg10.view f3 f4 f5 f10))
    else acc1 k

/-- Before trip `k` the scratch reads as `decoded` says. -/
theorem read_acc1 : ∀ k, k ≤ 16 → arg11.view.read (Elt F) (acc1 c i arg3 arg4 arg5 arg10 arg11 k1_h1 f3 f4 f5 f10 f11 k)
    = decoded i (arg3.view.read (Elt F) f3) (arg4.view.read (Elt F) f4) (arg5.view.read (Elt F) f5) (arg10.view.read (Elt F) f10) k (arg11.view.read (Elt F) f11)
  | 0, _ => by
    funext y
    unfold decoded
    rw [dif_neg fun h => Nat.not_lt_zero _ h.2.2]
    rfl
  | k + 1, hk => by
    have h : k < k1_t1_loop.trips := hk
    rw [acc1, dif_pos h]
    have e : ldRows i k1_h1 ⟨k, h⟩ arg3.view arg4.view arg5.view arg10.view f3 f4 f5 f10
        = rowsV (arg3.view.read (Elt F) f3) (arg4.view.read (Elt F) f4) (arg5.view.read (Elt F) f5) (arg10.view.read (Elt F) f10) (i16 ⟨k, h⟩) := by
      funext p
      unfold ldRows rowsV
      rw [ldW_eq, ldT0_eq, ldT1_eq, ldI0_eq, ldS0_eq, ldI1_eq, ldS1_eq, ldSc_eq]
    rw [e]
    exact read_pieces i k1_h1 ⟨k, h⟩ _ _ _ _ arg11.view _ _ (read_acc1 k (by omega))

set_option warn.classDefReducibility false in
/-- The decode loop's invariant: the scratch at `acc1`, the rest as it was. -/
@[sl_loop] noncomputable def loopInv1 : Gen.LoopInvTy_k1_t1 (F := F) Unit ℕ UU ℕ 𝒱₀ c none Set.univ i arg2 harg2 arg3 harg3 arg4 harg4 arg5 harg5 arg6 harg6 arg7 harg7 arg8 harg8 arg9 harg9 arg10 harg10 arg11 harg11 v9 v11 k1_h1 where
  inv k _ := iprop(pt c arg3 f3 ∗ pt c arg4 f4 ∗ pt c arg5 f5 ∗ pt c arg10 f10 ∗ pt c arg11 (acc1 c i arg3 arg4 arg5 arg10 arg11 k1_h1 f3 f4 f5 f10 f11 k))
  step k _ := by
    have h : k.val < k1_t1_loop.trips := k.isLt
    have e : acc1 c i arg3 arg4 arg5 arg10 arg11 k1_h1 f3 f4 f5 f10 f11 (k.val + 1) = arg11.view.writes (Elt F) (acc1 c i arg3 arg4 arg5 arg10 arg11 k1_h1 f3 f4 f5 f10 f11 k.val)
        (pieces i k1_h1 k (ldRows i k1_h1 k arg3.view arg4.view arg5.view arg10.view f3 f4 f5 f10)) := by
      rw [acc1, dif_pos h]
    rw [e]
    iintro ⟨H3, H4, H5, H10, H11⟩
    iapply (trip1 c i arg2 harg2 arg3 harg3 arg4 harg4 arg5 harg5 arg6 harg6 arg7 harg7 arg8 harg8 arg9 harg9 arg10 harg10 arg11 harg11 v9 v11 k1_h1 k f3 f4 f5 f10 _ Set.univ)
    isplitl [H3]; · iexact H3
    isplitl [H4]; · iexact H4
    isplitl [H5]; · iexact H5
    isplitl [H10]; · iexact H10
    isplitl [H11]; · iexact H11
    iintro H
    iexact H

end Loop

end Cert.Proof.KernelIdeal.T1
-- ==== Proof.Trip2Ideal.lean ====
module

public import proofs.«01_k».proof.Proof.DecodeIdeal
public import Idealize.ShloMosaic.Lib.Tactic
public import Idealize.ShloMosaic.Lib.Pipeline.Value

@[expose] public section

set_option maxRecDepth 16384

noncomputable section

namespace Cert.Proof.KernelIdeal.T2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ### What the trip's loads read -/

section Loads

variable (i : grid1.Coords) (k1_h2 : k1_cond2 i = 1#1) (t : Fin k1_t2_loop.trips) {κ : Kind}

abbrev i16 (t : Fin k1_t2_loop.trips) : Fin 16 := t

abbrev ldI0 (M : View sig .tc .vmem S4x64x512 .i32) (f : M.ty.Contents (Elt F)) (r : Fin 16) : IVec S1x1x128 32 :=
  M.readAt (Elt F) (Rect.unit (s := S4x64x512) (k1_off11 t (BitVec.ofNat 32 r.val)) S1x1x128.size (k1_off11_inb i t k1_h2 r)).toLoadRect f
abbrev ldS0 (M : View sig .tc .vmem S4x64x512 .i32) (f : M.ty.Contents (Elt F)) (r : Fin 16) : IVec S1x1x128 32 :=
  M.readAt (Elt F) (Rect.unit (s := S4x64x512) (k1_off12 t (BitVec.ofNat 32 r.val)) S1x1x128.size (k1_off12_inb i t k1_h2 r)).toLoadRect f
abbrev ldI1 (M : View sig .tc .vmem S4x64x512 .i32) (f : M.ty.Contents (Elt F)) (r : Fin 16) : IVec S1x1x128 32 :=
  M.readAt (Elt F) (Rect.unit (s := S4x64x512) (k1_off13 t (BitVec.ofNat 32 r.val)) S1x1x128.size (k1_off13_inb i t k1_h2 r)).toLoadRect f
abbrev ldS1 (M : View sig .tc .vmem S4x64x512 .i32) (f : M.ty.Contents (Elt F)) (r : Fin 16) : IVec S1x1x128 32 :=
  M.readAt (Elt F) (Rect.unit (s := S4x64x512) (k1_off14 t (BitVec.ofNat 32 r.val)) S1x1x128.size (k1_off14_inb i t k1_h2 r)).toLoadRect f
abbrev ldSc (M : View sig .tc .vmem S8x512 .f32) (f : M.ty.Contents (Elt F)) (r : Fin 2) : FVec F S1x128 .f32 :=
  M.readAt (Elt F) (Rect.unit (s := S8x512) (k1_off15 t (BitVec.ofNat 32 r.val)) S1x128.size (k1_off15_inb i t k1_h2 r)).toLoadRect f
abbrev ldW (M : View sig .tc .vmem S512x512 .bf16) (f : M.ty.Contents (Elt F)) : FVec F S128x128 .bf16 :=
  M.readAt (Elt F) (Rect.unit (s := S512x512) (k1_off10 t) S128x128.size (k1_off10_inb i t k1_h2)).toLoadRect f
abbrev ldT0 (M : View sig .tc .vmem S2x8x128 .i32) (f : M.ty.Contents (Elt F)) : IVec S1x8x128 32 :=
  M.readAt (Elt F) (Rect.unit (s := S2x8x128) ![0, 0, 0] S1x8x128.size inb_S2x8x128_S1x8x128_0_0_0).toLoadRect f
abbrev ldT2 (M : View sig .tc .vmem S2x8x128 .i32) (f : M.ty.Contents (Elt F)) : IVec S1x8x128 32 :=
  M.readAt (Elt F) (Rect.unit (s := S2x8x128) ![1, 0, 0] S1x8x128.size inb_S2x8x128_S1x8x128_1_0_0).toLoadRect f

/-- A load through a unit rectangle reads the element at the rectangle's corner plus the index. -/
theorem load_unit {S : Shape} {e : EltTy} {Val : EltTy → Type} (M : View sig .tc .vmem S e) (f : M.ty.Contents Val) {off off' size : Fin S.rank → ℕ}
    (inb : ∀ a, off a + size a ≤ S.size a) (h : off = off') (j : (Rect.unit (s := S) off size inb).toLoadRect.shape.Idx) (y : S.Idx) (hy : ∀ a, (y a).val = off' a + (j a).val) :
    M.readAt Val (Rect.unit (s := S) off size inb).toLoadRect f j = M.read Val f y := by
  subst h
  refine congrArg (M.read Val f) (funext fun a => Fin.ext ?_)
  show off a + 1 * (j a).val = (y a).val
  rw [hy a, Nat.one_mul]

/-- The load of the first codebook's positions. -/
theorem ldI0_eq (M : View sig .tc .vmem S4x64x512 .i32) (f : M.ty.Contents (Elt F)) : ldI0 i k1_h2 t M f = idxV (M.read (Elt F) f) 0 (i16 t) := by
  funext r j
  refine load_unit M f _ (k1_off11_eq t r) j _ fun a => ?_
  have h0 : (j 0).val < 1 := (j 0).isLt
  have h1 : (j 1).val < 1 := (j 1).isLt
  fin_cases a
  · show 0 = 0 + (j 0).val; omega
  · show 16 * (t.val % 4) + r.val = 16 * (t.val % 4) + r.val + (j 1).val; omega
  · rfl

/-- The load of the first codebook's shifts. -/
theorem ldS0_eq (M : View sig .tc .vmem S4x64x512 .i32) (f : M.ty.Contents (Elt F)) : ldS0 i k1_h2 t M f = idxV (M.read (Elt F) f) 1 (i16 t) := by
  funext r j
  refine load_unit M f _ (k1_off12_eq t r) j _ fun a => ?_
  have h0 : (j 0).val < 1 := (j 0).isLt
  have h1 : (j 1).val < 1 := (j 1).isLt
  fin_cases a
  · show 1 = 1 + (j 0).val; omega
  · show 16 * (t.val % 4) + r.val = 16 * (t.val % 4) + r.val + (j 1).val; omega
  · rfl

/-- The load of the second codebook's positions. -/
theorem ldI1_eq (M : View sig .tc .vmem S4x64x512 .i32) (f : M.ty.Contents (Elt F)) : ldI1 i k1_h2 t M f = idxV (M.read (Elt F) f) 2 (i16 t) := by
  funext r j
  refine load_unit M f _ (k1_off13_eq t r) j _ fun a => ?_
  have h0 : (j 0).val < 1 := (j 0).isLt
  have h1 : (j 1).val < 1 := (j 1).isLt
  fin_cases a
  · show 2 = 2 + (j 0).val; omega
  · show 16 * (t.val % 4) + r.val = 16 * (t.val % 4) + r.val + (j 1).val; omega
  · rfl

/-- The load of the second codebook's shifts. -/
theorem ldS1_eq (M : View sig .tc .vmem S4x64x512 .i32) (f : M.ty.Contents (Elt F)) : ldS1 i k1_h2 t M f = idxV (M.read (Elt F) f) 3 (i16 t) := by
  funext r j
  refine load_unit M f _ (k1_off14_eq t r) j _ fun a => ?_
  have h0 : (j 0).val < 1 := (j 0).isLt
  have h1 : (j 1).val < 1 := (j 1).isLt
  fin_cases a
  · show 3 = 3 + (j 0).val; omega
  · show 16 * (t.val % 4) + r.val = 16 * (t.val % 4) + r.val + (j 1).val; omega
  · rfl

/-- The load of the scales. -/
theorem ldSc_eq (M : View sig .tc .vmem S8x512 .f32) (f : M.ty.Contents (Elt F)) : ldSc i k1_h2 t M f = scaleV (M.read (Elt F) f) (i16 t) := by
  funext r j
  refine load_unit M f _ (k1_off15_eq t r) j _ fun a => ?_
  have h0 : (j 0).val < 1 := (j 0).isLt
  fin_cases a
  · show 2 * (t.val % 4) + r.val = 2 * (t.val % 4) + r.val + (j 0).val; omega
  · rfl

/-- The load of the weights. -/
theorem ldW_eq (M : View sig .tc .vmem S512x512 .bf16) (f : M.ty.Contents (Elt F)) : ldW i k1_h2 t M f = wV (M.read (Elt F) f) (i16 t) := by
  funext j
  refine load_unit M f _ (k1_off10_eq t) j _ fun a => ?_
  fin_cases a <;> rfl

/-- The load of the first table. -/
theorem ldT0_eq (M : View sig .tc .vmem S2x8x128 .i32) (f : M.ty.Contents (Elt F)) : ldT0 M f = tabV (M.read (Elt F) f) 0 := by
  funext j
  refine load_unit M f _ rfl j _ fun a => ?_
  have h0 : (j 0).val < 1 := (j 0).isLt
  fin_cases a
  · show 0 = 0 + (j 0).val; omega
  · show (j 1).val = 0 + (j 1).val; omega
  · show (j 2).val = 0 + (j 2).val; omega

/-- The load of the second table. -/
theorem ldT2_eq (M : View sig .tc .vmem S2x8x128 .i32) (f : M.ty.Contents (Elt F)) : ldT2 M f = tabV (M.read (Elt F) f) 1 := by
  funext j
  refine load_unit M f _ rfl j _ fun a => ?_
  have h0 : (j 0).val < 1 := (j 0).isLt
  fin_cases a
  · show 1 = 1 + (j 0).val; omega
  · show (j 1).val = 0 + (j 1).val; omega
  · show (j 2).val = 0 + (j 2).val; omega

/-- The residual rows of one row group as the trip computes them from its loads. -/
abbrev ldRows (M3 : View sig .tc .vmem S2x8x128 .i32) (M4 : View sig .tc .vmem S8x512 .f32) (M5 : View sig .tc .vmem S512x512 .bf16) (M10 : View sig .tc .vmem S4x64x512 .i32)
    (f3 : M3.ty.Contents (Elt F)) (f4 : M4.ty.Contents (Elt F)) (f5 : M5.ty.Contents (Elt F)) (f10 : M10.ty.Contents (Elt F)) (p : Fin 8) : FVec F S16x128 .f32 :=
  rowsOf (ldW i k1_h2 t M5 f5) (ldT0 M3 f3) (ldT2 M3 f3) (ldI0 i k1_h2 t M10 f10) (ldS0 i k1_h2 t M10 f10) (ldI1 i k1_h2 t M10 f10) (ldS1 i k1_h2 t M10 f10) (ldSc i k1_h2 t M4 f4) p

/-- The three stores of one row group, the last first. -/
abbrev pieces3 (rows : Fin 8 → FVec F S16x128 .f32) (p : Fin 8) : List (View.Piece (Elt F) S2x3x3584x512 .bf16) :=
  [⟨Rect.unit (s := S2x3x3584x512) (k1_off18 i t (BitVec.ofNat 32 (16 * p.val))) S1x1x16x128.size (k1_off18_inb i t k1_h2 p), put (split 2 (rows p))⟩,
   ⟨Rect.unit (s := S2x3x3584x512) (k1_off17 i t (BitVec.ofNat 32 (16 * p.val))) S1x1x16x128.size (k1_off17_inb i t k1_h2 p), put (split 1 (rows p))⟩,
   ⟨Rect.unit (s := S2x3x3584x512) (k1_off16 i t (BitVec.ofNat 32 (16 * p.val))) S1x1x16x128.size (k1_off16_inb i t k1_h2 p), put (split 0 (rows p))⟩]

/-- A trip's stores, the last first. -/
abbrev pieces (rows : Fin 8 → FVec F S16x128 .f32) : List (View.Piece (Elt F) S2x3x3584x512 .bf16) :=
  pieces3 i k1_h2 t rows 7 ++ (pieces3 i k1_h2 t rows 6 ++ (pieces3 i k1_h2 t rows 5 ++ (pieces3 i k1_h2 t rows 4 ++ (pieces3 i k1_h2 t rows 3 ++ (pieces3 i k1_h2 t rows 2 ++ (pieces3 i k1_h2 t rows 1 ++ pieces3 i k1_h2 t rows 0))))))

end Loads

/-- One trip of the decode loop: its 24 stores into the residual scratch, everything else as it was. -/
theorem trip2 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v10 v11 : BitVec 32) (v46 : IVec S64x512 32) (k1_h2 : k1_cond2 i = 1#1) (t : Fin k1_t2_loop.trips)
    (f3 : Bf (F := F) c arg3) (f4 : Bf (F := F) c arg4) (f5 : Bf (F := F) c arg5) (f10 : Bf (F := F) c arg10) (f11 : Bf (F := F) c arg11) (E : Set ℕ) (Q : PUnit → sProp 𝕄) :
        iprop(pt c arg3 f3 ∗ pt c arg4 f4 ∗ pt c arg5 f5 ∗ pt c arg10 f10 ∗ pt c arg11 f11 ∗ (iprop(pt c arg3 f3 ∗ pt c arg4 f4 ∗ pt c arg5 f5 ∗ pt c arg10 f10 ∗ pt c arg11 (arg11.view.writes (Elt F) f11 (pieces i k1_h2 t (ldRows i k1_h2 t arg3.view arg4.view arg5.view arg10.view f3 f4 f5 f10)))) -∗ Q ⟨⟩))
          ⊢ wp frame (wpE (defs₀ (F := F)) 𝒱₀ c none) E (k1_t2_body i arg2 harg2 arg3 harg3 arg4 harg4 arg5 harg5 arg6 harg6 arg7 harg7 arg8 harg8 arg9 harg9 arg10 harg10 arg11 harg11 v9 v10 v11 k1_h2 v46 t ⟨⟩) Q := by
  unfold k1_t2_body
  iintro ⟨H3, H4, H5, H10, H11, Hk⟩
  sl_exec
  sl_step
  iapply Hk
  isplitl [H3]; · iexact H3
  isplitl [H4]; · iexact H4
  isplitl [H5]; · iexact H5
  isplitl [H10]; · iexact H10
  iexact H11

/-! ### What the scratch holds after a trip -/

/-- Stored rows read at an index. -/
theorem put_apply (v : FVec F S16x128 .bf16) (x : S1x1x16x128.Idx) : put v x = v (ix2 (x 2) (x 3)) := by
  refine Idealize.ShloMosaic.shapeCast_apply _ _ _ _ ?_
  have h0 : (x 0).val < 1 := (x 0).isLt
  have h1 : (x 1).val < 1 := (x 1).isLt
  rw [Shape.rowMajor_val_two, Shape.rowMajor_val_four]
  show (x 2).val * 128 + (x 3).val = (((x 0).val * 1 + (x 1).val) * 16 + (x 2).val) * 128 + (x 3).val
  omega

section Value

variable (i : grid1.Coords) (k1_h2 : k1_cond2 i = 1#1) (t : Fin k1_t2_loop.trips)
  (x3 : S2x8x128.Idx → BitVec 32) (x4 : S8x512.Idx → F .f32) (x5 : S512x512.Idx → F .bf16) (x10 : S4x64x512.Idx → BitVec 32)

/-- The elements trip `t` writes at grid point `i`. -/
def InTrip (y : S2x3x3584x512.Idx) : Prop :=
  (y 0).val = (i 0).val % 2 ∧ (y 2).val / 512 = (i 1).val ∧ (y 2).val % 512 / 128 = t.val % 4 ∧ (y 3).val / 128 = t.val / 4

/-- A cell of a piece belongs to its trip, part and piece. -/
theorem inTrip_of_mem {off : Fin 4 → ℕ} {j p : ℕ} {inb} (hj : j < 3) (hp : p < 8)
    (h : off = ![(i 0).val % 2, j, 512 * (i 1).val + 128 * (t.val % 4) + 16 * p, 128 * (t.val / 4)])
    {y : S2x3x3584x512.Idx} (hy : y ∈ (Rect.unit (s := S2x3x3584x512) off S1x1x16x128.size inb).set) :
    InTrip i t y ∧ (y 1).val = j ∧ (y 2).val % 512 % 128 / 16 = p := by
  subst h
  rw [Rect.mem_set_unit] at hy
  have h0 : (i 0).val % 2 ≤ (y 0).val ∧ (y 0).val < (i 0).val % 2 + 1 := hy 0
  have h1 : j ≤ (y 1).val ∧ (y 1).val < j + 1 := hy 1
  have h2 : 512 * (i 1).val + 128 * (t.val % 4) + 16 * p ≤ (y 2).val ∧ (y 2).val < 512 * (i 1).val + 128 * (t.val % 4) + 16 * p + 16 := hy 2
  have h3 : 128 * (t.val / 4) ≤ (y 3).val ∧ (y 3).val < 128 * (t.val / 4) + 128 := hy 3
  refine ⟨⟨?_, ?_, ?_, ?_⟩, ?_, ?_⟩ <;> omega

/-- A trip's cell of a part and piece lies in that piece. -/
theorem mem_of_inTrip {off : Fin 4 → ℕ} {j p : ℕ} {inb}
    (h : off = ![(i 0).val % 2, j, 512 * (i 1).val + 128 * (t.val % 4) + 16 * p, 128 * (t.val / 4)])
    {y : S2x3x3584x512.Idx} (hy : InTrip i t y) (h1 : (y 1).val = j) (h2 : (y 2).val % 512 % 128 / 16 = p) :
    y ∈ (Rect.unit (s := S2x3x3584x512) off S1x1x16x128.size inb).set := by
  subst h
  obtain ⟨a, b, e, d⟩ := hy
  rw [Rect.mem_set_unit]
  intro ax
  fin_cases ax
  · show (i 0).val % 2 ≤ (y 0).val ∧ (y 0).val < (i 0).val % 2 + 1; omega
  · show j ≤ (y 1).val ∧ (y 1).val < j + 1; omega
  · show 512 * (i 1).val + 128 * (t.val % 4) + 16 * p ≤ (y 2).val ∧ (y 2).val < 512 * (i 1).val + 128 * (t.val % 4) + 16 * p + 16; omega
  · show 128 * (t.val / 4) ≤ (y 3).val ∧ (y 3).val < 128 * (t.val / 4) + 128; omega

/-- What the scratch holds at an element some trip has written. -/
abbrev cellAt (y : S2x3x3584x512.Idx) : F .bf16 := rcell x3 x4 x5 x10 (y 1) ⟨(y 2).val % 512, by omega⟩ (y 3)

/-- What a trip stores in a piece, cell by cell. -/
theorem piece_apply {off : Fin 4 → ℕ} (j : Fin 3) (p : Fin 8) {inb}
    (h : off = ![(i 0).val % 2, j.val, 512 * (i 1).val + 128 * (t.val % 4) + 16 * p.val, 128 * (t.val / 4)])
    (x : (Rect.unit (s := S2x3x3584x512) off S1x1x16x128.size inb).shape.Idx) :
    put (split j (rowsV x3 x4 x5 x10 (i16 t) p)) x = cellAt x3 x4 x5 x10 ((Rect.unit (s := S2x3x3584x512) off S1x1x16x128.size inb).emb x) := by
  subst h
  rw [put_apply]
  have x0 : (x 0).val < 1 := (x 0).isLt
  have x1 : (x 1).val < 1 := (x 1).isLt
  have x2 : (x 2).val < 16 := (x 2).isLt
  have x3' : (x 3).val < 128 := (x 3).isLt
  have i1 : (i 1).val < 7 := (i 1).isLt
  have ht : t.val < 16 := t.isLt
  have key : ∀ (j' : Fin 3) (a b : Fin 512), j' = j → a.val = 128 * (t.val % 4) + 16 * p.val + (x 2).val → b.val = 128 * (t.val / 4) + (x 3).val →
      split j (rowsV x3 x4 x5 x10 (i16 t) p) (ix2 (x 2) (x 3)) = rcell x3 x4 x5 x10 j' a b := by
    rintro _ a b rfl ha hb
    have hp := p.isLt
    unfold rcell
    have e1 : tripAt a b = i16 t := Fin.ext (by show 4 * (b.val / 128) + a.val / 128 = t.val; omega)
    have e2 : (⟨a.val % 128 / 16, by omega⟩ : Fin 8) = p := Fin.ext (by show a.val % 128 / 16 = p.val; omega)
    have e3 : (⟨a.val % 16, by omega⟩ : Fin 16) = x 2 := Fin.ext (by show a.val % 16 = (x 2).val; omega)
    have e4 : (⟨b.val % 128, by omega⟩ : Fin 128) = x 3 := Fin.ext (by show b.val % 128 = (x 3).val; omega)
    rw [e1, e2, e3, e4]
  refine key _ _ _ (Fin.ext ?_) ?_ ?_
  · show j.val + 1 * (x 1).val = j.val; omega
  · show (512 * (i 1).val + 128 * (t.val % 4) + 16 * p.val + 1 * (x 2).val) % 512 = _
    have := p.isLt
    omega
  · show 128 * (t.val / 4) + 1 * (x 3).val = _; omega

/-- A group's three pieces are among the trip's. -/
theorem pieces3_sub (rows : Fin 8 → FVec F S16x128 .f32) (p : Fin 8) {q} (hq : q ∈ pieces3 i k1_h2 t rows p) : q ∈ pieces i k1_h2 t rows := by
  unfold pieces
  simp only [List.mem_append]
  fin_cases p
  · exact .inr (.inr (.inr (.inr (.inr (.inr (.inr hq))))))
  · exact .inr (.inr (.inr (.inr (.inr (.inr (.inl hq))))))
  · exact .inr (.inr (.inr (.inr (.inr (.inl hq)))))
  · exact .inr (.inr (.inr (.inr (.inl hq))))
  · exact .inr (.inr (.inr (.inl hq)))
  · exact .inr (.inr (.inl hq))
  · exact .inr (.inl hq)
  · exact .inl hq

/-- Every piece of a trip is one of a group's three. -/
theorem mem_pieces (rows : Fin 8 → FVec F S16x128 .f32) {q} (hq : q ∈ pieces i k1_h2 t rows) : ∃ p, q ∈ pieces3 i k1_h2 t rows p := by
  unfold pieces at hq
  simp only [List.mem_append] at hq
  rcases hq with h | h | h | h | h | h | h | h
  · exact ⟨7, h⟩
  · exact ⟨6, h⟩
  · exact ⟨5, h⟩
  · exact ⟨4, h⟩
  · exact ⟨3, h⟩
  · exact ⟨2, h⟩
  · exact ⟨1, h⟩
  · exact ⟨0, h⟩

/-- A trip's stores over the scratch as the trips before it left it. -/
theorem read_pieces {κ} (M : View sig κ .vmem S2x3x3584x512 .bf16) (f : M.ty.Contents (Elt F)) (g : S2x3x3584x512.Idx → F .bf16)
    (hf : M.read (Elt F) f = decoded i x3 x4 x5 x10 t.val g) :
    M.read (Elt F) (M.writes (Elt F) f (pieces i k1_h2 t (rowsV x3 x4 x5 x10 (i16 t)))) = decoded i x3 x4 x5 x10 (t.val + 1) g := by
  funext y
  have ht : t.val < 16 := t.isLt
  have y2 : (y 2).val < 3584 := (y 2).isLt
  have y3 : (y 3).val < 512 := (y 3).isLt
  by_cases hy : InTrip i t y
  · have e : decoded i x3 x4 x5 x10 (t.val + 1) g y = cellAt x3 x4 x5 x10 y := by
      unfold decoded
      obtain ⟨a, b, e, d⟩ := hy
      exact dif_pos ⟨a, b, by show 4 * ((y 3).val / 128) + (y 2).val % 512 / 128 < t.val + 1; omega⟩
    rw [e]
    refine View.read_writes_apply_of_pieces M f (cellAt x3 x4 x5 x10) _ ?_ y ?_
    · intro q hq x
      obtain ⟨p, hp⟩ := mem_pieces i k1_h2 t _ hq
      simp only [pieces3, List.mem_cons, List.not_mem_nil, _root_.or_false] at hp
      rcases hp with rfl | rfl | rfl
      · exact piece_apply i t x3 x4 x5 x10 2 p (inb := k1_off18_inb i t k1_h2 p) (off18_eq i t p) x
      · exact piece_apply i t x3 x4 x5 x10 1 p (inb := k1_off17_inb i t k1_h2 p) (off17_eq i t p) x
      · exact piece_apply i t x3 x4 x5 x10 0 p (inb := k1_off16_inb i t k1_h2 p) (off16_eq i t p) x
    · have hy1 : (y 1).val < 3 := (y 1).isLt
      have hp : (y 2).val % 512 % 128 / 16 < 8 := by omega
      rcases (by omega : (y 1).val = 0 ∨ (y 1).val = 1 ∨ (y 1).val = 2) with h | h | h
      · exact ⟨_, pieces3_sub i k1_h2 t _ ⟨_, hp⟩ (List.mem_cons_of_mem _ (List.mem_cons_of_mem _ List.mem_cons_self)), mem_of_inTrip i t (inb := k1_off16_inb i t k1_h2 ⟨_, hp⟩) (off16_eq i t ⟨_, hp⟩) hy h rfl⟩
      · exact ⟨_, pieces3_sub i k1_h2 t _ ⟨_, hp⟩ (List.mem_cons_of_mem _ List.mem_cons_self), mem_of_inTrip i t (inb := k1_off17_inb i t k1_h2 ⟨_, hp⟩) (off17_eq i t ⟨_, hp⟩) hy h rfl⟩
      · exact ⟨_, pieces3_sub i k1_h2 t _ ⟨_, hp⟩ List.mem_cons_self, mem_of_inTrip i t (inb := k1_off18_inb i t k1_h2 ⟨_, hp⟩) (off18_eq i t ⟨_, hp⟩) hy h rfl⟩
  · rw [View.read_writes_apply_of_forall_not_mem]
    · rw [hf]
      have hiff : ((y 0).val = (i 0).val % 2 ∧ (y 2).val / 512 = (i 1).val ∧ (tripAt ⟨(y 2).val % 512, by omega⟩ (y 3)).val < t.val) ↔
          ((y 0).val = (i 0).val % 2 ∧ (y 2).val / 512 = (i 1).val ∧ (tripAt ⟨(y 2).val % 512, by omega⟩ (y 3)).val < t.val + 1) := by
        show (_ ∧ _ ∧ 4 * ((y 3).val / 128) + (y 2).val % 512 / 128 < t.val) ↔ (_ ∧ _ ∧ 4 * ((y 3).val / 128) + (y 2).val % 512 / 128 < t.val + 1)
        unfold InTrip at hy
        constructor
        · rintro ⟨a, b, d⟩; exact ⟨a, b, by omega⟩
        · rintro ⟨a, b, d⟩; exact ⟨a, b, by by_contra hh; exact hy ⟨a, b, by omega, by omega⟩⟩
      unfold decoded
      exact dite_congr (propext hiff) (fun _ => rfl) (fun _ => rfl)
    · intro q hq hmem
      obtain ⟨p, hp⟩ := mem_pieces i k1_h2 t _ hq
      simp only [pieces3, List.mem_cons, List.not_mem_nil, _root_.or_false] at hp
      rcases hp with rfl | rfl | rfl
      · exact hy (inTrip_of_mem i t (by omega) p.isLt (inb := k1_off18_inb i t k1_h2 p) (off18_eq i t p) hmem).1
      · exact hy (inTrip_of_mem i t (by omega) p.isLt (inb := k1_off17_inb i t k1_h2 p) (off17_eq i t p) hmem).1
      · exact hy (inTrip_of_mem i t (by omega) p.isLt (inb := k1_off16_inb i t k1_h2 p) (off16_eq i t p) hmem).1

end Value

/-! ### The loop -/

section Loop

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (v9 v10 v11 : BitVec 32) (v46 : IVec S64x512 32) (k1_h2 : k1_cond2 i = 1#1)
  (f3 : Bf (F := F) c arg3) (f4 : Bf (F := F) c arg4) (f5 : Bf (F := F) c arg5) (f10 : Bf (F := F) c arg10) (f11 : Bf (F := F) c arg11)

/-- The residual scratch's contents before trip `k`. -/
noncomputable def acc2 : ℕ → Bf (F := F) c arg11
  | 0 => f11
  | k + 1 => if h : k < k1_t2_loop.trips then
      arg11.view.writes (Elt F) (acc2 k) (pieces i k1_h2 ⟨k, h⟩ (ldRows i k1_h2 ⟨k, h⟩ arg3.view arg4.view arg5.view arg10.view f3 f4 f5 f10))
    else acc2 k

/-- Before trip `k` the scratch reads as `decoded` says. -/
theorem read_acc2 : ∀ k, k ≤ 16 → arg11.view.read (Elt F) (acc2 c i arg3 arg4 arg5 arg10 arg11 k1_h2 f3 f4 f5 f10 f11 k)
    = decoded i (arg3.view.read (Elt F) f3) (arg4.view.read (Elt F) f4) (arg5.view.read (Elt F) f5) (arg10.view.read (Elt F) f10) k (arg11.view.read (Elt F) f11)
  | 0, _ => by
    funext y
    unfold decoded
    rw [dif_neg fun h => Nat.not_lt_zero _ h.2.2]
    rfl
  | k + 1, hk => by
    have h : k < k1_t2_loop.trips := hk
    rw [acc2, dif_pos h]
    have e : ldRows i k1_h2 ⟨k, h⟩ arg3.view arg4.view arg5.view arg10.view f3 f4 f5 f10
        = rowsV (arg3.view.read (Elt F) f3) (arg4.view.read (Elt F) f4) (arg5.view.read (Elt F) f5) (arg10.view.read (Elt F) f10) (i16 ⟨k, h⟩) := by
      funext p
      unfold ldRows rowsV
      rw [ldW_eq, ldT0_eq, ldT2_eq, ldI0_eq, ldS0_eq, ldI1_eq, ldS1_eq, ldSc_eq]
    rw [e]
    exact read_pieces i k1_h2 ⟨k, h⟩ _ _ _ _ arg11.view _ _ (read_acc2 k (by omega))

set_option warn.classDefReducibility false in
/-- The decode loop's invariant: the scratch at `acc2`, the rest as it was. -/
@[sl_loop] noncomputable def loopInv2 : Gen.LoopInvTy_k1_t2 (F := F) Unit ℕ UU ℕ 𝒱₀ c none Set.univ i arg2 harg2 arg3 harg3 arg4 harg4 arg5 harg5 arg6 harg6 arg7 harg7 arg8 harg8 arg9 harg9 arg10 harg10 arg11 harg11 v9 v10 v11 k1_h2 v46 where
  inv k _ := iprop(pt c arg3 f3 ∗ pt c arg4 f4 ∗ pt c arg5 f5 ∗ pt c arg10 f10 ∗ pt c arg11 (acc2 c i arg3 arg4 arg5 arg10 arg11 k1_h2 f3 f4 f5 f10 f11 k))
  step k _ := by
    have h : k.val < k1_t2_loop.trips := k.isLt
    have e : acc2 c i arg3 arg4 arg5 arg10 arg11 k1_h2 f3 f4 f5 f10 f11 (k.val + 1) = arg11.view.writes (Elt F) (acc2 c i arg3 arg4 arg5 arg10 arg11 k1_h2 f3 f4 f5 f10 f11 k.val)
        (pieces i k1_h2 k (ldRows i k1_h2 k arg3.view arg4.view arg5.view arg10.view f3 f4 f5 f10)) := by
      rw [acc2, dif_pos h]
    rw [e]
    iintro ⟨H3, H4, H5, H10, H11⟩
    iapply (trip2 c i arg2 harg2 arg3 harg3 arg4 harg4 arg5 harg5 arg6 harg6 arg7 harg7 arg8 harg8 arg9 harg9 arg10 harg10 arg11 harg11 v9 v10 v11 v46 k1_h2 k f3 f4 f5 f10 _ Set.univ)
    isplitl [H3]; · iexact H3
    isplitl [H4]; · iexact H4
    isplitl [H5]; · iexact H5
    isplitl [H10]; · iexact H10
    isplitl [H11]; · iexact H11
    iintro H
    iexact H

end Loop

end Cert.Proof.KernelIdeal.T2
-- ==== Proof.BodyIdeal.lean ====
module

public import proofs.«01_k».proof.Proof.Trip1Ideal
public import proofs.«01_k».proof.Proof.Trip2Ideal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def body0 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (k1_h1 : k1_cond1 i = 1#1) (k1_h2 : ¬ k1_cond2 i = 1#1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg10 ×' Bf (F := F) c arg11 // ∀ (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 W.1 ∗ pt c arg11 W.2) -∗ Q ⟨⟩)) ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q } := by
  refine ⟨⟨?_, ?_⟩, fun Q => ?run⟩
  case run =>
    unfold cc1_objective_skel
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

def body1 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (k1_h1 : ¬ k1_cond1 i = 1#1) (k1_h2 : k1_cond2 i = 1#1) (k1_h3 : ¬ k1_cond3 i = 1#1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg7 ×' Bf (F := F) c arg8 ×' Bf (F := F) c arg10 ×' Bf (F := F) c arg11 // ∀ (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (iprop(pt c arg2 f2 ∗ pt c arg3 f3 ∗ pt c arg4 f4 ∗ pt c arg5 f5 ∗ pt c arg6 f6 ∗ pt c arg7 W.1 ∗ pt c arg8 W.2.1 ∗ pt c arg9 f9 ∗ pt c arg10 W.2.2.1 ∗ pt c arg11 W.2.2.2) -∗ Q ⟨⟩)) ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q } := by
  refine ⟨⟨?_, ?_, ?_, ?_⟩, fun Q => ?run⟩
  case run =>
    unfold cc1_objective_skel
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

def body2 (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (k1_h1 : ¬ k1_cond1 i = 1#1) (k1_h2 : k1_cond2 i = 1#1) (k1_h3 : k1_cond3 i = 1#1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) :
    { W : Bf (F := F) c arg7 ×' Bf (F := F) c arg8 ×' Bf (F := F) c arg9 ×' Bf (F := F) c arg10 ×' Bf (F := F) c arg11 // ∀ (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (iprop(pt c arg2 f2 ∗ pt c arg3 f3 ∗ pt c arg4 f4 ∗ pt c arg5 f5 ∗ pt c arg6 f6 ∗ pt c arg7 W.1 ∗ pt c arg8 W.2.1 ∗ pt c arg9 W.2.2.1 ∗ pt c arg10 W.2.2.2.1 ∗ pt c arg11 W.2.2.2.2) -∗ Q ⟨⟩)) ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q } := by
  refine ⟨⟨?_, ?_, ?_, ?_, ?_⟩, fun Q => ?run⟩
  case run =>
    unfold cc1_objective_skel
    iintro ⟨H2, H3, H4, H5, H6, H7, H8, H9, H10, H11, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.KernelIdeal
-- ==== Proof.StepIdeal.lean ====
/-
  One grid point of the main kernel as a triple over what its buffers READ: the blocks staged, the residual scratch, the three
  result blocks. At every point the point's block is decoded into the scratch; from the second tile phase on, the block of the
  objective is computed from the other half of the scratch.
-/
module

public import proofs.«01_k».proof.Proof.BodyIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ### Where the compute phase loads -/

/-- Where the first part of the current tile is read. -/
theorem off19_eq : ∀ i : grid1.Coords, k1_off19 i = ![1 - (i 0).val % 2, 0, 0, 0] := by decide +kernel
/-- Where the second part of the current tile is read. -/
theorem off20_eq : ∀ i : grid1.Coords, k1_off20 i = ![1 - (i 0).val % 2, 1, 0, 0] := by decide +kernel
/-- Where the third part of the current tile is read. -/
theorem off21_eq : ∀ i : grid1.Coords, k1_off21 i = ![1 - (i 0).val % 2, 2, 0, 0] := by decide +kernel
/-- Where a block of the first part is read. -/
theorem off22_eq : ∀ i : grid1.Coords, k1_off22 i = ![1 - (i 0).val % 2, 0, 512 * (i 1).val, 0] := by decide +kernel
/-- Where a block of the second part is read. -/
theorem off23_eq : ∀ i : grid1.Coords, k1_off23 i = ![1 - (i 0).val % 2, 1, 512 * (i 1).val, 0] := by decide +kernel
/-- Where a block of the third part is read. -/
theorem off24_eq : ∀ i : grid1.Coords, k1_off24 i = ![1 - (i 0).val % 2, 2, 512 * (i 1).val, 0] := by decide +kernel

/-- The first branch runs on the first phase. -/
theorem cond1_iff : ∀ i : grid1.Coords, k1_cond1 i = 1#1 ↔ (i 0).val = 0 := by decide +kernel
/-- The second branch runs on every later phase. -/
theorem cond2_iff : ∀ i : grid1.Coords, k1_cond2 i = 1#1 ↔ (i 0).val ≠ 0 := by decide +kernel
/-- The third branch runs on the last block of a phase. -/
theorem cond3_iff : ∀ i : grid1.Coords, k1_cond3 i = 1#1 ↔ (i 1).val = 6 := by decide +kernel

/-! ### The kernel's arithmetic as functions of the blocks it reads -/

/-- Positions and shifts from the codes: for codebook `m`, plane `2 m` the position in the packed table, plane `2 m + 1` the shift. -/
def idxs (x2 : S2x64x512.Idx → BitVec 8) : S4x64x512.Idx → BitVec 32 := fun y =>
  if (y 0).val % 2 = 0 then Scalar.andi (BitVec.setWidth 32 (x2 (ix3 ⟨(y 0).val / 2, by have : (y 0).val < 4 := (y 0).isLt; omega⟩ (y 1) (y 2)))) 127#32
  else Scalar.select (Scalar.cmpi .slt (BitVec.setWidth 32 (x2 (ix3 ⟨(y 0).val / 2, by have : (y 0).val < 4 := (y 0).isLt; omega⟩ (y 1) (y 2)))) 128#32) 16#32 0#32

/-- The half of the residual scratch the compute phase reads at `i`. -/
def cur (i : grid1.Coords) : Fin 2 := ⟨1 - (i 0).val % 2, by omega⟩

/-- One part of a tile's residual. -/
abbrev Tile (F : FTy → Type) : Type := Fin 3 → Fin 3584 → Fin 512 → F .bf16

/-- The tile the scratch holds in its other half. -/
def tileOf (i : grid1.Coords) (g : S2x3x3584x512.Idx → F .bf16) : Tile F := fun j a b => g (ix4 (cur i) j a b)

def ldH (x6 : S3x512x3584.Idx → F .bf16) (j : Fin 3) : FVec F S1x512x3584 .bf16 := fun y => x6 (ix3 j (y 1) (y 2))
def ldR (T : Tile F) (j : Fin 3) : FVec F S1x1x3584x512 .bf16 := fun y => T j (y 2) (y 3)
def ldB (n : Fin 7) (T : Tile F) (j : Fin 3) : FVec F S1x1x512x512 .bf16 := fun y =>
  T j ⟨512 * n.val + (y 2).val, by have : (y 2).val < 512 := (y 2).isLt; omega⟩ (y 3)

/-- The product of a 512 x 3584 and a 3584 x 512 matrix, summed in f32. -/
def mm (a : FVec F S512x3584 .bf16) (b : FVec F S3584x512 .bf16) : FVec F S512x512 .f32 :=
  matmul dot_S512x3584_S3584x512_S512x512_1_0_0_1_n_n none a b (constant S512x512 .f32 0x00000000#32)

/-- A block of `H` times the tile, from the parts of both as matrices. -/
def yL (h0 h1 h2 : FVec F S512x3584 .bf16) (r0 r1 r2 : FVec F S3584x512 .bf16) : FVec F S512x512 .f32 :=
  addf (mulf (addf (mm h0 r0) (mm h1 r1)) (broadcast S512x512 (Scalar.ofBits .f32 0x3F808000#32)))
    (addf (addf (mm (mulf (subf h0 h1) (broadcast S512x3584 (Scalar.ofBits .bf16 0xBB80#16)))
        (subf r0 (mulf r1 (broadcast S3584x512 (Scalar.ofBits .bf16 0x4380#16)))))
      (mm h2 r0)) (mm h0 r2))

/-- The objective of each group of 8 rows of a block, from what the compute phase loads. -/
def egL (h0 h1 h2 : FVec F S1x512x3584 .bf16) (r0 r1 r2 : FVec F S1x1x3584x512 .bf16) (b0 b1 b2 : FVec F S1x1x512x512 .bf16) : FVec F S64x512 .f32 :=
  multiReduction .add [1] S64x512 (shapeCast S64x8x512 (mulf (addf (addf
      (extf .f32 (shapeCast S512x512 b0 shapeCasts_S1x1x512x512_S512x512) bitsLt_bf16_f32)
      (extf .f32 (shapeCast S512x512 b1 shapeCasts_S1x1x512x512_S512x512) bitsLt_bf16_f32))
      (extf .f32 (shapeCast S512x512 b2 shapeCasts_S1x1x512x512_S512x512) bitsLt_bf16_f32))
    (yL (shapeCast S512x3584 h0 shapeCasts_S1x512x3584_S512x3584) (shapeCast S512x3584 h1 shapeCasts_S1x512x3584_S512x3584)
      (shapeCast S512x3584 h2 shapeCasts_S1x512x3584_S512x3584) (shapeCast S3584x512 r0 shapeCasts_S1x1x3584x512_S3584x512)
      (shapeCast S3584x512 r1 shapeCasts_S1x1x3584x512_S3584x512) (shapeCast S3584x512 r2 shapeCasts_S1x1x3584x512_S3584x512)))
    shapeCasts_S512x512_S64x8x512) 0x00000000#32 reduces_S64x8x512_S64x512 (.inl rfl) rfl

/-- The objective of each group of 8 rows of block `n`. -/
def egC (n : Fin 7) (x6 : S3x512x3584.Idx → F .bf16) (T : Tile F) : FVec F S64x512 .f32 :=
  egL (ldH x6 0) (ldH x6 1) (ldH x6 2) (ldR T 0) (ldR T 1) (ldR T 2) (ldB n T 0) (ldB n T 1) (ldB n T 2)

/-- The objective of each column so far: block `n`'s groups `eg` added to what the blocks before left. -/
def eC (n : ℕ) (eg : FVec F S64x512 .f32) (x8 : S1x512.Idx → F .f32) : FVec F S1x512 .f32 :=
  Scalar.select (Scalar.cmpi .eq (BitVec.ofNat 32 n) 0#32)
    (shapeCast S1x512 (multiReduction .add [0] S512 eg 0x00000000#32 reduces_S64x512_S512 (.inl rfl) rfl) shapeCasts_S512_S1x512)
    (addf (shapeCast S1x512 (x8 : FVec F S1x512 .f32) shapeCasts_S1x512_S1x512)
      (shapeCast S1x512 (multiReduction .add [0] S512 eg 0x00000000#32 reduces_S64x512_S512 (.inl rfl) rfl) shapeCasts_S512_S1x512))

/-- The total so far: the tile's columns added to what the tiles before left. -/
def totC (m : ℕ) (e : FVec F S1x512 .f32) (x9 : S8x128.Idx → F .f32) : FVec F S8x128 .f32 :=
  addf (Scalar.select (Scalar.cmpi .eq (BitVec.ofNat 32 m) 1#32) (broadcast S8x128 (Scalar.ofBits .f32 0x00000000#32)) (shapeCast S8x128 (x9 : FVec F S8x128 .f32) shapeCasts_S8x128_S8x128))
    (broadcast S8x128 (extractAt ![0, 0, 0] (shapeCast S1x1x1 (multiReduction .add [1, 2] S1 (shapeCast S1x1x512 e shapeCasts_S1x512_S1x1x512) 0x00000000#32 reduces_S1x1x512_S1 (.inl rfl) rfl) shapeCasts_S1_S1x1x1) inpos_S1x1x1_p0_0_0))

/-! ### What the run left, read -/

/-- Owning a whole buffer's memref at `X` is holding the buffer at some contents that read `X`. -/
theorem owns_eq (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt
  rw [h.set_eq_univ]

/-- A buffer stored whole reads what was stored. -/
theorem read_whole_store {κ} {S : Shape} {e : EltTy} (M : View sig κ .vmem S e) (f : M.ty.Contents (Elt F)) (off : Fin S.rank → ℕ) (h0 : ∀ a, off a = 0)
    (inb : ∀ a, off a + S.size a ≤ S.size a) (v : (Rect.unit (s := S) off S.size inb).shape.Idx → Elt F e) :
    M.read (Elt F) (M.writes (Elt F) f [⟨Rect.unit (s := S) off S.size inb, v⟩]) = v := by
  obtain rfl : off = fun _ => 0 := funext h0
  funext y
  refine View.read_writes_apply_of_pieces M f v _ ?_ y ?_
  · intro q hq x
    rw [List.mem_singleton] at hq
    subst hq
    refine congrArg v (funext fun a => Fin.ext ?_)
    show (x a).val = 0 + 1 * (x a).val
    omega
  · refine ⟨_, List.mem_singleton_self _, ?_⟩
    rw [Rect.mem_set_unit]
    exact fun a => ⟨Nat.zero_le _, by show (y a).val < 0 + S.size a; rw [Nat.zero_add]; exact (y a).isLt⟩

end Cert.Proof.KernelIdeal
-- ==== Proof.ReadIdeal.lean ====
/-
  What the executor's run of one grid point leaves in each buffer, read.
-/
module

public import proofs.«01_k».proof.Proof.StepIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A plane of codes read without its unit axis. -/
theorem cast_code_apply (v : IVec S1x64x512 8) (a : Fin 64) (b : Fin 512) : shapeCast S64x512 v shapeCasts_S1x64x512_S64x512 (ix2 a b) = v (ix3 0 a b) := by
  refine shapeCast_apply _ _ _ _ ?_
  simp only [Shape.rowMajor_val_two, Shape.rowMajor_val_three]
  simp

/-- The computed position of a code at an index. -/
theorem pos_apply (v : IVec S1x64x512 8) (a : Fin 64) (b : Fin 512) :
    andi (extui 32 (shapeCast S64x512 v shapeCasts_S1x64x512_S64x512) (by decide)) (broadcast S64x512 127#32) (ix2 a b) = Scalar.andi (BitVec.setWidth 32 (v (ix3 0 a b))) 127#32 :=
  congrArg (fun z => Scalar.andi (BitVec.setWidth 32 z) 127#32) (cast_code_apply v a b)

/-- The computed shift of a code at an index. -/
theorem shift_apply (v : IVec S1x64x512 8) (a : Fin 64) (b : Fin 512) :
    select (cmpi .slt (extui 32 (shapeCast S64x512 v shapeCasts_S1x64x512_S64x512) (by decide)) (broadcast S64x512 128#32)) (broadcast S64x512 16#32) (broadcast S64x512 0#32) (ix2 a b)
      = Scalar.select (Scalar.cmpi .slt (BitVec.setWidth 32 (v (ix3 0 a b))) 128#32) 16#32 0#32 :=
  congrArg (fun z => Scalar.select (Scalar.cmpi .slt (BitVec.setWidth 32 z) 128#32) 16#32 0#32) (cast_code_apply v a b)

/-- The even planes hold positions. -/
theorem idxs_pos (x2 : S2x64x512.Idx → BitVec 8) (k : Fin 4) (m : Fin 2) (h : k.val = 2 * m.val) (a : Fin 64) (b : Fin 512) :
    Scalar.andi (BitVec.setWidth 32 (x2 (ix3 m a b))) 127#32 = idxs x2 (ix3 k a b) := by
  refine Eq.trans ?_ (if_pos (show ((ix3 k a b : S4x64x512.Idx) 0).val % 2 = 0 from (by omega : k.val % 2 = 0))).symm
  have e : (⟨k.val / 2, by omega⟩ : Fin 2) = m := Fin.ext (by show k.val / 2 = m.val; omega)
  exact congrArg (fun z => Scalar.andi (BitVec.setWidth 32 (x2 (ix3 z a b))) 127#32) e.symm

/-- The odd planes hold shifts. -/
theorem idxs_shift (x2 : S2x64x512.Idx → BitVec 8) (k : Fin 4) (m : Fin 2) (h : k.val = 2 * m.val + 1) (a : Fin 64) (b : Fin 512) :
    Scalar.select (Scalar.cmpi .slt (BitVec.setWidth 32 (x2 (ix3 m a b))) 128#32) 16#32 0#32 = idxs x2 (ix3 k a b) := by
  refine Eq.trans ?_ (if_neg (show ¬ ((ix3 k a b : S4x64x512.Idx) 0).val % 2 = 0 from (by omega : ¬ k.val % 2 = 0))).symm
  have e : (⟨k.val / 2, by omega⟩ : Fin 2) = m := Fin.ext (by show k.val / 2 = m.val; omega)
  exact congrArg (fun z => Scalar.select (Scalar.cmpi .slt (BitVec.setWidth 32 (x2 (ix3 z a b))) 128#32) 16#32 0#32) e.symm

/-- A stored plane read at an index. -/
theorem plane_apply (x2 : S2x64x512.Idx → BitVec 8) (k : Fin 4) {off : Fin 3 → ℕ} (hoff : off = ![k.val, 0, 0]) (inb : ∀ a, off a + S1x64x512.size a ≤ S4x64x512.size a) (v : IVec S64x512 32) (x : S1x64x512.Idx)
    (h : ∀ a b, v (ix2 a b) = idxs x2 (ix3 k a b)) :
    shapeCast S1x64x512 v shapeCasts_S64x512_S1x64x512 x = idxs x2 ((Rect.unit (s := S4x64x512) off S1x64x512.size inb).emb x) := by
  subst hoff
  have h0 : (x 0).val < 1 := (x 0).isLt
  have hsc : shapeCast S1x64x512 v shapeCasts_S64x512_S1x64x512 x = v (ix2 (x 1) (x 2)) := by
    refine shapeCast_apply _ _ _ _ ?_
    simp only [Shape.rowMajor_val_two, Shape.rowMajor_val_three]
    simp
    omega
  refine (hsc.trans (h (x 1) (x 2))).trans ?_
  refine congrArg (idxs x2) (funext fun a => Fin.ext ?_)
  fin_cases a
  · show k.val = k.val + 1 * (x 0).val; omega
  · show (x 1).val = 0 + 1 * (x 1).val; omega
  · show (x 2).val = 0 + 1 * (x 2).val; omega

/-- A stored plane of positions is the planes' own. -/
theorem pos_plane (x2 : S2x64x512.Idx → BitVec 8) (k : Fin 4) (m : Fin 2) (hk : k.val = 2 * m.val) {off : Fin 3 → ℕ} (hoff : off = ![k.val, 0, 0]) (inb : ∀ a, off a + S1x64x512.size a ≤ S4x64x512.size a)
    (v : IVec S1x64x512 8) (hv : ∀ a b, v (ix3 0 a b) = x2 (ix3 m a b)) (x : S1x64x512.Idx) :
    shapeCast S1x64x512 (andi (extui 32 (shapeCast S64x512 v shapeCasts_S1x64x512_S64x512) (by decide)) (broadcast S64x512 127#32)) shapeCasts_S64x512_S1x64x512 x
      = idxs x2 ((Rect.unit (s := S4x64x512) off S1x64x512.size inb).emb x) :=
  plane_apply x2 k hoff inb _ x fun a b => (pos_apply v a b).trans ((congrArg (fun z => Scalar.andi (BitVec.setWidth 32 z) 127#32) (hv a b)).trans (idxs_pos x2 k m hk a b))

/-- A stored plane of shifts is the planes' own. -/
theorem shift_plane (x2 : S2x64x512.Idx → BitVec 8) (k : Fin 4) (m : Fin 2) (hk : k.val = 2 * m.val + 1) {off : Fin 3 → ℕ} (hoff : off = ![k.val, 0, 0]) (inb : ∀ a, off a + S1x64x512.size a ≤ S4x64x512.size a)
    (v : IVec S1x64x512 8) (hv : ∀ a b, v (ix3 0 a b) = x2 (ix3 m a b)) (x : S1x64x512.Idx) :
    shapeCast S1x64x512 (select (cmpi .slt (extui 32 (shapeCast S64x512 v shapeCasts_S1x64x512_S64x512) (by decide)) (broadcast S64x512 128#32)) (broadcast S64x512 16#32) (broadcast S64x512 0#32)) shapeCasts_S64x512_S1x64x512 x
      = idxs x2 ((Rect.unit (s := S4x64x512) off S1x64x512.size inb).emb x) :=
  plane_apply x2 k hoff inb _ x fun a b => (shift_apply v a b).trans ((congrArg (fun z => Scalar.select (Scalar.cmpi .slt (BitVec.setWidth 32 z) 128#32) 16#32 0#32) (hv a b)).trans (idxs_shift x2 k m hk a b))

/-- Four planes stored over anything read as the positions and shifts. -/
theorem read_planes {κ} (x2 : S2x64x512.Idx → BitVec 8) (M : View sig κ .vmem S4x64x512 .i32) (f : M.ty.Contents (Elt F)) (v3 v2 v1 v0 : IVec S1x64x512 32)
    (b3 : ∀ a, (![3, 0, 0] : Fin 3 → ℕ) a + S1x64x512.size a ≤ S4x64x512.size a) (b2 : ∀ a, (![2, 0, 0] : Fin 3 → ℕ) a + S1x64x512.size a ≤ S4x64x512.size a)
    (b1 : ∀ a, (![1, 0, 0] : Fin 3 → ℕ) a + S1x64x512.size a ≤ S4x64x512.size a) (b0 : ∀ a, (![0, 0, 0] : Fin 3 → ℕ) a + S1x64x512.size a ≤ S4x64x512.size a)
    (h3 : ∀ x : S1x64x512.Idx, v3 x = idxs x2 ((Rect.unit (s := S4x64x512) ![3, 0, 0] S1x64x512.size b3).emb x))
    (h2 : ∀ x : S1x64x512.Idx, v2 x = idxs x2 ((Rect.unit (s := S4x64x512) ![2, 0, 0] S1x64x512.size b2).emb x))
    (h1 : ∀ x : S1x64x512.Idx, v1 x = idxs x2 ((Rect.unit (s := S4x64x512) ![1, 0, 0] S1x64x512.size b1).emb x))
    (h0 : ∀ x : S1x64x512.Idx, v0 x = idxs x2 ((Rect.unit (s := S4x64x512) ![0, 0, 0] S1x64x512.size b0).emb x)) :
    M.read (Elt F) (M.writes (Elt F) f [⟨Rect.unit (s := S4x64x512) ![3, 0, 0] S1x64x512.size b3, v3⟩, ⟨Rect.unit (s := S4x64x512) ![2, 0, 0] S1x64x512.size b2, v2⟩,
      ⟨Rect.unit (s := S4x64x512) ![1, 0, 0] S1x64x512.size b1, v1⟩, ⟨Rect.unit (s := S4x64x512) ![0, 0, 0] S1x64x512.size b0, v0⟩]) = idxs x2 := by
  funext y
  refine View.read_writes_apply_of_pieces M f (idxs x2) _ ?_ y ?_
  · exact List.forall_mem_cons.2 ⟨h3, List.forall_mem_cons.2 ⟨h2, List.forall_mem_cons.2 ⟨h1, List.forall_mem_cons.2 ⟨h0, fun q hq => absurd hq List.not_mem_nil⟩⟩⟩⟩
  · have y0 : (y 0).val < 4 := (y 0).isLt
    have y1 : (y 1).val < 64 := (y 1).isLt
    have y2 : (y 2).val < 512 := (y 2).isLt
    have hm : ∀ (k : ℕ) (inb : ∀ a, (![k, 0, 0] : Fin 3 → ℕ) a + S1x64x512.size a ≤ S4x64x512.size a), (y 0).val = k → y ∈ (Rect.unit (s := S4x64x512) ![k, 0, 0] S1x64x512.size inb).set := fun k inb h => by
      rw [Rect.mem_set_unit]
      intro a
      fin_cases a
      · exact ⟨by show k ≤ (y 0).val; omega, by show (y 0).val < k + 1; omega⟩
      · exact ⟨Nat.zero_le _, by show (y 1).val < 0 + 64; omega⟩
      · exact ⟨Nat.zero_le _, by show (y 2).val < 0 + 512; omega⟩
    rcases (by omega : (y 0).val = 3 ∨ (y 0).val = 2 ∨ (y 0).val = 1 ∨ (y 0).val = 0) with h | h | h | h
    · exact ⟨_, List.mem_cons_self, hm 3 b3 h⟩
    · exact ⟨_, List.mem_cons_of_mem _ List.mem_cons_self, hm 2 b2 h⟩
    · exact ⟨_, List.mem_cons_of_mem _ (List.mem_cons_of_mem _ List.mem_cons_self), hm 1 b1 h⟩
    · exact ⟨_, List.mem_cons_of_mem _ (List.mem_cons_of_mem _ (List.mem_cons_of_mem _ List.mem_cons_self)), hm 0 b0 h⟩

/-- The stores of the codes' positions and shifts, over anything. -/
theorem read_idx {κ} (M2 : View sig .tc .vmem S2x64x512 .i8) (f2 : M2.ty.Contents (Elt F)) (M : View sig κ .vmem S4x64x512 .i32) (f : M.ty.Contents (Elt F)) {b3 b2 b1 b0 c1 c0} :
    M.read (Elt F) (M.writes (Elt F) f [
      ⟨Rect.unit (s := S4x64x512) ![3, 0, 0] S1x64x512.size b3, shapeCast S1x64x512 (select (cmpi .slt (extui 32 (shapeCast S64x512 (M2.readAt (Elt F) (Rect.unit (s := S2x64x512) ![1, 0, 0] S1x64x512.size c1).toLoadRect f2) shapeCasts_S1x64x512_S64x512)) (broadcast S64x512 128#32)) (broadcast S64x512 16#32) (broadcast S64x512 0#32)) shapeCasts_S64x512_S1x64x512⟩,
      ⟨Rect.unit (s := S4x64x512) ![2, 0, 0] S1x64x512.size b2, shapeCast S1x64x512 (andi (extui 32 (shapeCast S64x512 (M2.readAt (Elt F) (Rect.unit (s := S2x64x512) ![1, 0, 0] S1x64x512.size c1).toLoadRect f2) shapeCasts_S1x64x512_S64x512)) (broadcast S64x512 127#32)) shapeCasts_S64x512_S1x64x512⟩,
      ⟨Rect.unit (s := S4x64x512) ![1, 0, 0] S1x64x512.size b1, shapeCast S1x64x512 (select (cmpi .slt (extui 32 (shapeCast S64x512 (M2.readAt (Elt F) (Rect.unit (s := S2x64x512) ![0, 0, 0] S1x64x512.size c0).toLoadRect f2) shapeCasts_S1x64x512_S64x512)) (broadcast S64x512 128#32)) (broadcast S64x512 16#32) (broadcast S64x512 0#32)) shapeCasts_S64x512_S1x64x512⟩,
      ⟨Rect.unit (s := S4x64x512) ![0, 0, 0] S1x64x512.size b0, shapeCast S1x64x512 (andi (extui 32 (shapeCast S64x512 (M2.readAt (Elt F) (Rect.unit (s := S2x64x512) ![0, 0, 0] S1x64x512.size c0).toLoadRect f2) shapeCasts_S1x64x512_S64x512)) (broadcast S64x512 127#32)) shapeCasts_S64x512_S1x64x512⟩]) = idxs (M2.read (Elt F) f2) := by
  have hld1 : ∀ a b, M2.readAt (Elt F) (Rect.unit (s := S2x64x512) ![1, 0, 0] S1x64x512.size c1).toLoadRect f2 (ix3 0 a b) = M2.read (Elt F) f2 (ix3 1 a b) := fun a b => by
    refine T1.load_unit M2 f2 _ rfl _ _ fun a => ?_
    fin_cases a <;> simp
  have hld0 : ∀ a b, M2.readAt (Elt F) (Rect.unit (s := S2x64x512) ![0, 0, 0] S1x64x512.size c0).toLoadRect f2 (ix3 0 a b) = M2.read (Elt F) f2 (ix3 0 a b) := fun a b => by
    refine T1.load_unit M2 f2 _ rfl _ _ fun a => ?_
    fin_cases a <;> simp
  exact read_planes (M2.read (Elt F) f2) M f _ _ _ _ b3 b2 b1 b0
    (shift_plane (M2.read (Elt F) f2) 3 1 rfl rfl b3 _ hld1) (pos_plane (M2.read (Elt F) f2) 2 1 rfl rfl b2 _ hld1)
    (shift_plane (M2.read (Elt F) f2) 1 0 rfl rfl b1 _ hld0) (pos_plane (M2.read (Elt F) f2) 0 0 rfl rfl b0 _ hld0)

/-! ### The compute phase's loads -/

/-- A load of a part of `H` is that part. -/
theorem ldH_eq (M : View sig .tc .vmem S3x512x3584 .bf16) (f : M.ty.Contents (Elt F)) (j : Fin 3) {off : Fin 3 → ℕ} (h : off = ![j.val, 0, 0]) (inb : ∀ a, off a + S1x512x3584.size a ≤ S3x512x3584.size a) :
    M.readAt (Elt F) (Rect.unit (s := S3x512x3584) off S1x512x3584.size inb).toLoadRect f = ldH (M.read (Elt F) f) j := by
  funext y
  refine T1.load_unit M f inb h _ _ fun a => ?_
  have h0 : (y 0).val < 1 := (y 0).isLt
  fin_cases a
  · show j.val = j.val + (y 0).val; omega
  · show (y 1).val = 0 + (y 1).val; omega
  · show (y 2).val = 0 + (y 2).val; omega

/-- A load of a part of the current tile is that part. -/
theorem ldR_eq (i : grid1.Coords) (M : View sig .tc .vmem S2x3x3584x512 .bf16) (f : M.ty.Contents (Elt F)) (j : Fin 3) {off : Fin 4 → ℕ} (h : off = ![1 - (i 0).val % 2, j.val, 0, 0]) (inb : ∀ a, off a + S1x1x3584x512.size a ≤ S2x3x3584x512.size a) :
    M.readAt (Elt F) (Rect.unit (s := S2x3x3584x512) off S1x1x3584x512.size inb).toLoadRect f = ldR (tileOf i (M.read (Elt F) f)) j := by
  funext y
  refine T1.load_unit M f inb h _ _ fun a => ?_
  have h0 : (y 0).val < 1 := (y 0).isLt
  have h1 : (y 1).val < 1 := (y 1).isLt
  fin_cases a
  · show 1 - (i 0).val % 2 = 1 - (i 0).val % 2 + (y 0).val; omega
  · show j.val = j.val + (y 1).val; omega
  · show (y 2).val = 0 + (y 2).val; omega
  · show (y 3).val = 0 + (y 3).val; omega

/-- A load of a block of a part of the current tile is that block. -/
theorem ldB_eq (i : grid1.Coords) (M : View sig .tc .vmem S2x3x3584x512 .bf16) (f : M.ty.Contents (Elt F)) (j : Fin 3) {off : Fin 4 → ℕ} (h : off = ![1 - (i 0).val % 2, j.val, 512 * (i 1).val, 0]) (inb : ∀ a, off a + S1x1x512x512.size a ≤ S2x3x3584x512.size a) :
    M.readAt (Elt F) (Rect.unit (s := S2x3x3584x512) off S1x1x512x512.size inb).toLoadRect f = ldB (i 1) (tileOf i (M.read (Elt F) f)) j := by
  funext y
  refine T1.load_unit M f inb h _ _ fun a => ?_
  have h0 : (y 0).val < 1 := (y 0).isLt
  have h1 : (y 1).val < 1 := (y 1).isLt
  fin_cases a
  · show 1 - (i 0).val % 2 = 1 - (i 0).val % 2 + (y 0).val; omega
  · show j.val = j.val + (y 1).val; omega
  · show 512 * (i 1).val + (y 2).val = 512 * (i 1).val + (y 2).val; rfl
  · show (y 3).val = 0 + (y 3).val; omega

/-- The groups' objective from the buffers' contents. -/
abbrev egAt (i : grid1.Coords) (k1_h2 : k1_cond2 i = 1#1) (M6 : View sig .tc .vmem S3x512x3584 .bf16) (f6 : M6.ty.Contents (Elt F)) (M : View sig .tc .vmem S2x3x3584x512 .bf16) (f : M.ty.Contents (Elt F)) : FVec F S64x512 .f32 :=
  egL (M6.readAt (Elt F) (Rect.unit (s := S3x512x3584) ![0, 0, 0] S1x512x3584.size inb_S3x512x3584_S1x512x3584_0_0_0).toLoadRect f6)
    (M6.readAt (Elt F) (Rect.unit (s := S3x512x3584) ![1, 0, 0] S1x512x3584.size inb_S3x512x3584_S1x512x3584_1_0_0).toLoadRect f6)
    (M6.readAt (Elt F) (Rect.unit (s := S3x512x3584) ![2, 0, 0] S1x512x3584.size inb_S3x512x3584_S1x512x3584_2_0_0).toLoadRect f6)
    (M.readAt (Elt F) (Rect.unit (s := S2x3x3584x512) (k1_off19 i) S1x1x3584x512.size (k1_off19_inb i k1_h2)).toLoadRect f)
    (M.readAt (Elt F) (Rect.unit (s := S2x3x3584x512) (k1_off20 i) S1x1x3584x512.size (k1_off20_inb i k1_h2)).toLoadRect f)
    (M.readAt (Elt F) (Rect.unit (s := S2x3x3584x512) (k1_off21 i) S1x1x3584x512.size (k1_off21_inb i k1_h2)).toLoadRect f)
    (M.readAt (Elt F) (Rect.unit (s := S2x3x3584x512) (k1_off22 i) S1x1x512x512.size (k1_off22_inb i k1_h2)).toLoadRect f)
    (M.readAt (Elt F) (Rect.unit (s := S2x3x3584x512) (k1_off23 i) S1x1x512x512.size (k1_off23_inb i k1_h2)).toLoadRect f)
    (M.readAt (Elt F) (Rect.unit (s := S2x3x3584x512) (k1_off24 i) S1x1x512x512.size (k1_off24_inb i k1_h2)).toLoadRect f)

set_option backward.isDefEq.respectTransparency.types false in
/-- The group objectives computed at a point, by the blocks it reads. -/
theorem egAt_eq (i : grid1.Coords) (k1_h2 : k1_cond2 i = 1#1) (M6 : View sig .tc .vmem S3x512x3584 .bf16) (f6 : M6.ty.Contents (Elt F)) (M : View sig .tc .vmem S2x3x3584x512 .bf16) (f : M.ty.Contents (Elt F)) :
    egAt i k1_h2 M6 f6 M f = egC (i 1) (M6.read (Elt F) f6) (tileOf i (M.read (Elt F) f)) := by
  unfold egAt egC
  rw [ldH_eq M6 f6 0 (off := ![0, 0, 0]) rfl, ldH_eq M6 f6 1 (off := ![1, 0, 0]) rfl, ldH_eq M6 f6 2 (off := ![2, 0, 0]) rfl, ldR_eq i M f 0 (off19_eq i), ldR_eq i M f 1 (off20_eq i), ldR_eq i M f 2 (off21_eq i),
    ldB_eq i M f 0 (off22_eq i), ldB_eq i M f 1 (off23_eq i), ldB_eq i M f 2 (off24_eq i)]

/-- A load of a whole buffer is what it reads. -/
theorem ld_whole {S : Shape} {e : EltTy} (M : View sig .tc .vmem S e) (f : M.ty.Contents (Elt F)) (off : Fin S.rank → ℕ) (h0 : off = fun _ => 0) (inb : ∀ a, off a + S.size a ≤ S.size a) :
    M.readAt (Elt F) (Rect.unit (s := S) off S.size inb).toLoadRect f = M.read (Elt F) f := by
  funext y
  exact T1.load_unit M f inb h0 y y fun a => (Nat.zero_add _).symm

/-! ### The three cases -/

section

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11)

/-- After a point of the first phase: the planes of positions and shifts. -/
theorem read10_0 (k1_h1 : k1_cond1 i = 1#1) (k1_h2 : ¬ k1_cond2 i = 1#1) : arg10.view.read (Elt F) (body0 c i arg2 harg2 arg3 harg3 arg4 harg4 arg5 harg5 arg6 harg6 arg7 harg7 arg8 harg8 arg9 harg9 arg10 harg10 arg11 harg11 k1_h1 k1_h2 f2 f3 f4 f5 f6 f7 f8 f9 f10 f11).1.1 = idxs (arg2.view.read (Elt F) f2) := by
  unfold body0
  dsimp only
  exact read_idx arg2.view f2 arg10.view _

/-- After a point of the first phase: the slots. -/
theorem read11_0 (k1_h1 : k1_cond1 i = 1#1) (k1_h2 : ¬ k1_cond2 i = 1#1) : arg11.view.read (Elt F) (body0 c i arg2 harg2 arg3 harg3 arg4 harg4 arg5 harg5 arg6 harg6 arg7 harg7 arg8 harg8 arg9 harg9 arg10 harg10 arg11 harg11 k1_h1 k1_h2 f2 f3 f4 f5 f6 f7 f8 f9 f10 f11).1.2 = decoded i (arg3.view.read (Elt F) f3) (arg4.view.read (Elt F) f4) (arg5.view.read (Elt F) f5) (idxs (arg2.view.read (Elt F) f2)) 16 (arg11.view.read (Elt F) f11) := by
  rw [← read10_0 c i arg2 harg2 arg3 harg3 arg4 harg4 arg5 harg5 arg6 harg6 arg7 harg7 arg8 harg8 arg9 harg9 arg10 harg10 arg11 harg11 f2 f3 f4 f5 f6 f7 f8 f9 f10 f11 k1_h1 k1_h2]
  unfold body0
  dsimp only
  exact T1.read_acc1 (arg3 := arg3) (arg4 := arg4) (arg5 := arg5) (arg10 := arg10) (arg11 := arg11) c i k1_h1 f3 f4 f5 _ f11 16 (le_refl 16)

/-- After a point inside a later phase: the planes of positions and shifts. -/
theorem read10_1 (k1_h1 : ¬ k1_cond1 i = 1#1) (k1_h2 : k1_cond2 i = 1#1) (k1_h3 : ¬ k1_cond3 i = 1#1) : arg10.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.1 = idxs (arg2.view.read (Elt F) f2) := by
  unfold body1
  dsimp only
  exact read_idx arg2.view f2 arg10.view _

/-- After a point inside a later phase: the slots. -/
theorem read11_1 (k1_h1 : ¬ k1_cond1 i = 1#1) (k1_h2 : k1_cond2 i = 1#1) (k1_h3 : ¬ k1_cond3 i = 1#1) : arg11.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2 = decoded i (arg3.view.read (Elt F) f3) (arg4.view.read (Elt F) f4) (arg5.view.read (Elt F) f5) (idxs (arg2.view.read (Elt F) f2)) 16 (arg11.view.read (Elt F) f11) := by
  rw [← read10_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3]
  unfold body1
  dsimp only
  exact T2.read_acc2 (arg3 := arg3) (arg4 := arg4) (arg5 := arg5) (arg10 := arg10) (arg11 := arg11) c i k1_h2 f3 f4 f5 _ f11 16 (le_refl 16)

/-- After a point inside a later phase: the group objectives. -/
theorem read7_1 (k1_h1 : ¬ k1_cond1 i = 1#1) (k1_h2 : k1_cond2 i = 1#1) (k1_h3 : ¬ k1_cond3 i = 1#1) : arg7.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.1 = egC (i 1) (arg6.view.read (Elt F) f6) (tileOf i (arg11.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2)) := by
  rw [← egAt_eq i k1_h2]
  unfold body1
  dsimp only
  exact read_whole_store arg7.view f7 _ (by decide) _ _

/-- After a point inside a later phase: the row objectives. -/
theorem read8_1 (k1_h1 : ¬ k1_cond1 i = 1#1) (k1_h2 : k1_cond2 i = 1#1) (k1_h3 : ¬ k1_cond3 i = 1#1) : arg8.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.1 = eC (i 1).val (egC (i 1) (arg6.view.read (Elt F) f6) (tileOf i (arg11.view.read (Elt F) (body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2))) (arg8.view.read (Elt F) f8) := by
  rw [← egAt_eq i k1_h2, ← ld_whole arg8.view f8 ![0, 0] (by decide) inb_S1x512_S1x512_0_0]
  unfold body1
  dsimp only
  exact read_whole_store arg8.view f8 _ (by decide) _ _

/-- After the last point of a phase: the planes of positions and shifts. -/
theorem read10_2 (k1_h1 : ¬ k1_cond1 i = 1#1) (k1_h2 : k1_cond2 i = 1#1) (k1_h3 : k1_cond3 i = 1#1) : arg10.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.1 = idxs (arg2.view.read (Elt F) f2) := by
  unfold body2
  dsimp only
  exact read_idx arg2.view f2 arg10.view _

/-- After the last point of a phase: the slots. -/
theorem read11_2 (k1_h1 : ¬ k1_cond1 i = 1#1) (k1_h2 : k1_cond2 i = 1#1) (k1_h3 : k1_cond3 i = 1#1) : arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2 = decoded i (arg3.view.read (Elt F) f3) (arg4.view.read (Elt F) f4) (arg5.view.read (Elt F) f5) (idxs (arg2.view.read (Elt F) f2)) 16 (arg11.view.read (Elt F) f11) := by
  rw [← read10_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3]
  unfold body2
  dsimp only
  exact T2.read_acc2 (arg3 := arg3) (arg4 := arg4) (arg5 := arg5) (arg10 := arg10) (arg11 := arg11) c i k1_h2 f3 f4 f5 _ f11 16 (le_refl 16)

/-- After the last point of a phase: the group objectives. -/
theorem read7_2 (k1_h1 : ¬ k1_cond1 i = 1#1) (k1_h2 : k1_cond2 i = 1#1) (k1_h3 : k1_cond3 i = 1#1) : arg7.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.1 = egC (i 1) (arg6.view.read (Elt F) f6) (tileOf i (arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2)) := by
  rw [← egAt_eq i k1_h2]
  unfold body2
  dsimp only
  exact read_whole_store arg7.view f7 _ (by decide) _ _

/-- After the last point of a phase: the row objectives. -/
theorem read8_2 (k1_h1 : ¬ k1_cond1 i = 1#1) (k1_h2 : k1_cond2 i = 1#1) (k1_h3 : k1_cond3 i = 1#1) : arg8.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.1 = eC (i 1).val (egC (i 1) (arg6.view.read (Elt F) f6) (tileOf i (arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2))) (arg8.view.read (Elt F) f8) := by
  rw [← egAt_eq i k1_h2, ← ld_whole arg8.view f8 ![0, 0] (by decide) inb_S1x512_S1x512_0_0]
  unfold body2
  dsimp only
  exact read_whole_store arg8.view f8 _ (by decide) _ _

/-- After the last point of a phase: the total. -/
theorem read9_2 (k1_h1 : ¬ k1_cond1 i = 1#1) (k1_h2 : k1_cond2 i = 1#1) (k1_h3 : k1_cond3 i = 1#1) : arg9.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.1 = totC (i 0).val (eC (i 1).val (egC (i 1) (arg6.view.read (Elt F) f6) (tileOf i (arg11.view.read (Elt F) (body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).1.2.2.2.2))) (arg8.view.read (Elt F) f8)) (arg9.view.read (Elt F) f9) := by
  rw [← egAt_eq i k1_h2, ← ld_whole arg8.view f8 ![0, 0] (by decide) inb_S1x512_S1x512_0_0, ← ld_whole arg9.view f9 ![0, 0] (by decide) inb_S8x128_S8x128_0_0]
  unfold body2
  dsimp only
  exact read_whole_store arg9.view f9 _ (by decide) _ _

end

end Cert.Proof.KernelIdeal
-- ==== Proof.SplitIdeal.lean ====
/-
  The first call (`split_h`): a block of `H` is transposed and split into three bf16 parts. What one grid point stores, and the call's
  proof data: after it, the parts' array holds each block's parts.
-/
module

public import proofs.«01_k».proof.Proof.ReadIdeal
public import proofs.«01_k».proof.Proof.Gen.KernelIdeal.Points
public import proofs.«01_k».proof.Proof.Gen.KernelIdeal.Regions

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation)

variable {F : FTy → Type} [FloatOps F]

local notation "𝕄" => MT nD τ sig Unit (Elt F) ℕ UU ℕ

/-- The three parts of a block of `H`, transposed; the middle one scaled by 256. -/
def hpart (x : FVec F S512x512 .f32) (j : Fin 3) : FVec F S512x512 .bf16 :=
  match j with
  | 0 => truncf .bf16 (top1 (transpose S512x512 [1, 0] x transposes_S512x512_p1_0_S512x512)) bitsLt_bf16_f32
  | 1 => truncf .bf16 (mulf (subf (top12 (transpose S512x512 [1, 0] x transposes_S512x512_p1_0_S512x512)) (top1 (transpose S512x512 [1, 0] x transposes_S512x512_p1_0_S512x512))) (broadcast S512x512 (Scalar.ofBits .f32 0x43800000#32))) bitsLt_bf16_f32
  | 2 => truncf .bf16 (subf (transpose S512x512 [1, 0] x transposes_S512x512_p1_0_S512x512) (top12 (transpose S512x512 [1, 0] x transposes_S512x512_p1_0_S512x512))) bitsLt_bf16_f32

/-- The block of parts stored for a block of `H`. -/
def hblk (x : FVec F S512x512 .f32) : S3x512x512.Idx → F .bf16 := fun y => hpart x (y 0) (ix2 (y 1) (y 2))

/-- A stored part of `H`'s block read at an index. -/
theorem hplane (x : FVec F S512x512 .f32) (j : Fin 3) {off : Fin 3 → ℕ} (hoff : off = ![j.val, 0, 0]) (inb : ∀ a, off a + S1x512x512.size a ≤ S3x512x512.size a) (z : S1x512x512.Idx) :
    shapeCast S1x512x512 (hpart x j) shapeCasts_S512x512_S1x512x512 z = hblk x ((Rect.unit (s := S3x512x512) off S1x512x512.size inb).emb z) := by
  subst hoff
  have h0 : (z 0).val < 1 := (z 0).isLt
  have hsc : shapeCast S1x512x512 (hpart x j) shapeCasts_S512x512_S1x512x512 z = hpart x j (ix2 (z 1) (z 2)) := by
    refine shapeCast_apply _ _ _ _ ?_
    simp only [Shape.rowMajor_val_two, Shape.rowMajor_val_three]
    simp
    omega
  refine hsc.trans ?_
  have e0 : ((Rect.unit (s := S3x512x512) ![j.val, 0, 0] S1x512x512.size inb).emb z 0 : Fin 3) = j := Fin.ext (by show j.val + 1 * (z 0).val = j.val; omega)
  have e1 : ((Rect.unit (s := S3x512x512) ![j.val, 0, 0] S1x512x512.size inb).emb z 1 : Fin 512) = z 1 := Fin.ext (by show 0 + 1 * (z 1).val = (z 1).val; omega)
  have e2 : ((Rect.unit (s := S3x512x512) ![j.val, 0, 0] S1x512x512.size inb).emb z 2 : Fin 512) = z 2 := Fin.ext (by show 0 + 1 * (z 2).val = (z 2).val; omega)
  unfold hblk
  exact (congr (congrArg (hpart x) e0) (congr (congrArg ix2 e1) e2)).symm

/-- Three planes stored over anything read as the block of parts. -/
theorem read_hblk {κ} (x : FVec F S512x512 .f32) (M : View sig κ .vmem S3x512x512 .bf16) (f : M.ty.Contents (Elt F))
    (b2 : ∀ a, (![2, 0, 0] : Fin 3 → ℕ) a + S1x512x512.size a ≤ S3x512x512.size a)
    (b1 : ∀ a, (![1, 0, 0] : Fin 3 → ℕ) a + S1x512x512.size a ≤ S3x512x512.size a) (b0 : ∀ a, (![0, 0, 0] : Fin 3 → ℕ) a + S1x512x512.size a ≤ S3x512x512.size a) :
    M.read (Elt F) (M.writes (Elt F) f [⟨Rect.unit (s := S3x512x512) ![2, 0, 0] S1x512x512.size b2, shapeCast S1x512x512 (hpart x 2) shapeCasts_S512x512_S1x512x512⟩,
      ⟨Rect.unit (s := S3x512x512) ![1, 0, 0] S1x512x512.size b1, shapeCast S1x512x512 (hpart x 1) shapeCasts_S512x512_S1x512x512⟩,
      ⟨Rect.unit (s := S3x512x512) ![0, 0, 0] S1x512x512.size b0, shapeCast S1x512x512 (hpart x 0) shapeCasts_S512x512_S1x512x512⟩]) = hblk x := by
  funext y
  refine View.read_writes_apply_of_pieces M f (hblk x) _ ?_ y ?_
  · exact List.forall_mem_cons.2 ⟨hplane x 2 rfl b2, List.forall_mem_cons.2 ⟨hplane x 1 rfl b1, List.forall_mem_cons.2 ⟨hplane x 0 rfl b0, fun q hq => absurd hq List.not_mem_nil⟩⟩⟩
  · have y0 : (y 0).val < 3 := (y 0).isLt
    have y1 : (y 1).val < 512 := (y 1).isLt
    have y2 : (y 2).val < 512 := (y 2).isLt
    have hm : ∀ (k : ℕ) (inb : ∀ a, (![k, 0, 0] : Fin 3 → ℕ) a + S1x512x512.size a ≤ S3x512x512.size a), (y 0).val = k → y ∈ (Rect.unit (s := S3x512x512) ![k, 0, 0] S1x512x512.size inb).set := fun k inb h => by
      rw [Rect.mem_set_unit]
      intro a
      fin_cases a
      · exact ⟨by show k ≤ (y 0).val; omega, by show (y 0).val < k + 1; omega⟩
      · exact ⟨Nat.zero_le _, by show (y 1).val < 0 + 512; omega⟩
      · exact ⟨Nat.zero_le _, by show (y 2).val < 0 + 512; omega⟩
    rcases (by omega : (y 0).val = 2 ∨ (y 0).val = 1 ∨ (y 0).val = 0) with h | h | h
    · exact ⟨_, List.mem_cons_self, hm 2 b2 h⟩
    · exact ⟨_, List.mem_cons_of_mem _ List.mem_cons_self, hm 1 b1 h⟩
    · exact ⟨_, List.mem_cons_of_mem _ (List.mem_cons_of_mem _ List.mem_cons_self), hm 0 b0 h⟩

/-- The run of one point, from both buffers held whole. -/
def bodyH (c : Dev nD) (i : grid0.Coords) (arg2 : Memref sig .tc .vmem S512x512 .f32) (harg2 : arg2.IsWhole) (arg3 : Memref sig .tc .vmem S3x512x512 .bf16) (harg3 : arg3.IsWhole)
    (f2 : Bf (F := F) c arg2) (f3 : Bf (F := F) c arg3) :
    { W : Bf (F := F) c arg3 // ∀ (Q : PUnit → sProp 𝕄), iprop(pt c arg2 f2 ∗ pt c arg3 f3 ∗ (iprop(pt c arg2 f2 ∗ pt c arg3 W) -∗ Q ⟨⟩))
      ⊢ wp frame (wpE (defs₀ (F := F)) 𝒱₀ c none) Set.univ (cc0_split_h_skel i arg2 harg2 arg3 harg3) Q } := by
  refine ⟨?_, fun Q => ?run⟩
  case run =>
    unfold cc0_split_h_skel
    iintro ⟨H2, H3, Hk⟩
    sl_exec
    sl_step
    iapply Hk
    isplitl [H2]; · iexact H2
    iexact H3

/-- After a point of the split: the three parts of the transposed block. -/
theorem readH (c : Dev nD) (i : grid0.Coords) (arg2 : Memref sig .tc .vmem S512x512 .f32) (harg2 : arg2.IsWhole) (arg3 : Memref sig .tc .vmem S3x512x512 .bf16) (harg3 : arg3.IsWhole)
    (f2 : Bf (F := F) c arg2) (f3 : Bf (F := F) c arg3) : arg3.view.read (Elt F) (bodyH c i arg2 harg2 arg3 harg3 f2 f3).1 = hblk (arg2.view.read (Elt F) f2) := by
  rw [← ld_whole arg2.view f2 ![0, 0] (by decide) inb_S512x512_S512x512_0_0]
  unfold bodyH
  dsimp only
  exact read_hblk (arg2.view.readAt (Elt F) (Rect.unit (s := S512x512) ![0, 0] S512x512.size inb_S512x512_S512x512_0_0).toLoadRect f2) arg3.view _ _ _ _

/-- One point over what its buffers read. -/
theorem stepH (c : Dev nD) (i : grid0.Coords) (arg2 : Memref sig .tc .vmem S512x512 .f32) (harg2 : arg2.IsWhole) (arg3 : Memref sig .tc .vmem S3x512x512 .bf16) (harg3 : arg3.IsWhole)
    (x2 : S512x512.Idx → Elt F .f32) (x3 : S3x512x512.Idx → Elt F .bf16) (Q : PUnit → sProp 𝕄) :
    iprop(owns (c : Thread nD τ) arg2 fullShare x2 ∗ owns (c : Thread nD τ) arg3 fullShare x3
        ∗ (iprop(owns (c : Thread nD τ) arg2 fullShare x2 ∗ owns (c : Thread nD τ) arg3 fullShare (hblk x2)) -∗ Q ⟨⟩))
      ⊢ wp frame (wpE (defs₀ (F := F)) 𝒱₀ c none) Set.univ (cc0_split_h_skel i arg2 harg2 arg3 harg3) Q := by
  simp only [owns_eq c arg2 harg2, owns_eq c arg3 harg3]
  iintro ⟨⟨%f2, %h2, H2⟩, ⟨%f3, %h3, H3⟩, Hk⟩
  subst h2
  iapply ((bodyH c i arg2 harg2 arg3 harg3 f2 f3).2 Q)
  isplitl [H2]; · iexact H2
  isplitl [H3]; · iexact H3
  iintro ⟨H2, H3⟩
  iapply Hk
  isplitl [H2]; · iexists _; isplitr; swap; (· iexact H2); ipureintro; exact rfl
  iexists _; isplitr; swap; (· iexact H3); ipureintro; exact readH c i arg2 harg2 arg3 harg3 f2 f3

/-- A proof data for a pipeline an entry does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

variable (V : (c : Dev nD) → (b : Ref sig .tc) → Buf (Elt F) ((c : Thread nD τ).loc b))

/-- The first call's proof data from valuation `V`: its arrays at `V`; after each point the block fetched and its parts. -/
def dat0 (c : Dev nD) : Dat τ (Elt F) Unit ℕ UU ℕ cfg0 c where
  A w := V c (Pipeline.arrRef spec0 w)
  after w t := match w with
    | ⟨0, _⟩ => ((cfg0.win 0).blk t).view.read (Elt F) (V c main_arg4)
    | ⟨1, _⟩ => hblk (((cfg0.win 0).blk t).view.read (Elt F) (V c main_arg4))
  Φ _ := Pipeline.scopedRest (Ix := Unit) (Name := ℕ) (U := UU) (Lvl := ℕ) (Val := Elt F) spec0 c
  q _ := fullShare
  owed _ := 0

/-- A point of the split finds its block of `H`. -/
theorem before0_0 (c : Dev nD) (t : Fin cfg0.N) (d) : (dat0 V c).before 0 t d = ((cfg0.win 0).blk t).view.read (Elt F) (V c main_arg4) := by
  unfold Dat.before; rw [if_pos (fetch0_0 t)]; rfl

/-- The first call's body obligation. -/
theorem body_obligation0 (c : Dev nD) : BodyObligation (dat0 V c) (defs₀ (F := F)) 𝒱₀ () Set.univ := fun t => by
  rw [bigSep_W0, bigSep_W0]
  rw [show (dat0 V c).Φ t.castSucc = (dat0 V c).Φ t.succ from rfl,
    show (dat0 V c).owesAt () t.succ = (dat0 V c).owesAt () t.castSucc from rfl]
  iintro ⟨HΦ, Howes, ⟨%d0, H0⟩, ⟨%d1, H1⟩⟩
  rw [before0_0]
  iapply (stepH c (grid0.coords t) (win0_0.stage (cfg0.slots t 0)) (hstage0_0 ((cfg0.slots t 0).cast nbuf0_0)) (win0_1.stage (cfg0.slots t 1)) (hstage0_1 ((cfg0.slots t 1).cast nbuf0_1)) _ _ _)
  isplitl [H0]; · iexact H0
  isplitl [H1]; · iexact H1
  iintro ⟨H0, H1⟩
  isplitl [HΦ]; · iexact HΦ
  isplitl [Howes]; · iexact Howes
  isplitl [H0]; · iexact H0
  iexact H1

end Cert.Proof.KernelIdeal
-- ==== Proof.TripleIdeal.lean ====
/-
  One grid point of the main kernel over what its buffers read, in its three cases: the first tile phase decodes only; a later phase
  also computes a block of the objective; its last block also adds the tile's columns to the total.
-/
module

public import proofs.«01_k».proof.Proof.ReadIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Decoding writes the other half: the tile the compute phase reads stays. -/
theorem tileOf_decoded (i : grid1.Coords) (x3 : S2x8x128.Idx → BitVec 32) (x4 : S8x512.Idx → F .f32) (x5 : S512x512.Idx → F .bf16) (x10 : S4x64x512.Idx → BitVec 32) (k : ℕ) (g : S2x3x3584x512.Idx → F .bf16) :
    tileOf i (decoded i x3 x4 x5 x10 k g) = tileOf i g := by
  funext j a b
  unfold tileOf decoded
  refine dif_neg fun h => ?_
  have h0 : 1 - (i 0).val % 2 = (i 0).val % 2 := h.1
  omega

/-- The scratch after the point's decoding. -/
abbrev dec (i : grid1.Coords) (x2 : S2x64x512.Idx → BitVec 8) (x3 : S2x8x128.Idx → BitVec 32) (x4 : S8x512.Idx → F .f32) (x5 : S512x512.Idx → F .bf16) (g : S2x3x3584x512.Idx → F .bf16) : S2x3x3584x512.Idx → F .bf16 :=
  decoded i x3 x4 x5 (idxs x2) 16 g

section

variable (c : Dev nD) (i : grid1.Coords) (arg2 : Memref sig .tc .vmem S2x64x512 .i8) (harg2 : arg2.IsWhole) (arg3 : Memref sig .tc .vmem S2x8x128 .i32) (harg3 : arg3.IsWhole) (arg4 : Memref sig .tc .vmem S8x512 .f32) (harg4 : arg4.IsWhole) (arg5 : Memref sig .tc .vmem S512x512 .bf16) (harg5 : arg5.IsWhole) (arg6 : Memref sig .tc .vmem S3x512x3584 .bf16) (harg6 : arg6.IsWhole) (arg7 : Memref sig .tc .vmem S64x512 .f32) (harg7 : arg7.IsWhole) (arg8 : Memref sig .tc .vmem S1x512 .f32) (harg8 : arg8.IsWhole) (arg9 : Memref sig .tc .vmem S8x128 .f32) (harg9 : arg9.IsWhole) (arg10 : Memref sig .tc .vmem S4x64x512 .i32) (harg10 : arg10.IsWhole) (arg11 : Memref sig .tc .vmem S2x3x3584x512 .bf16) (harg11 : arg11.IsWhole)
  (x2 : S2x64x512.Idx → Elt F .i8) (x3 : S2x8x128.Idx → Elt F .i32) (x4 : S8x512.Idx → Elt F .f32) (x5 : S512x512.Idx → Elt F .bf16) (x6 : S3x512x3584.Idx → Elt F .bf16) (x7 : S64x512.Idx → Elt F .f32) (x8 : S1x512.Idx → Elt F .f32) (x9 : S8x128.Idx → Elt F .f32) (g : S2x3x3584x512.Idx → F .bf16)

/-- Decoding only. -/
theorem step0 (k1_h1 : k1_cond1 i = 1#1) (k1_h2 : ¬ k1_cond2 i = 1#1) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare g
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare (dec i x2 x3 x4 x5 g)) -∗ Q ⟨⟩))
      ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q := by
  simp only [owns_eq c arg2 harg2, owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%f11, %h11, H11⟩, Hk⟩
  subst h2; subst h3; subst h4; subst h5; subst h6; subst h7; subst h8; subst h9; subst h11
  iapply ((body0 c i arg2 harg2 arg3 harg3 arg4 harg4 arg5 harg5 arg6 harg6 arg7 harg7 arg8 harg8 arg9 harg9 arg10 harg10 arg11 harg11 k1_h1 k1_h2 f2 f3 f4 f5 f6 f7 f8 f9 f10 f11).2 Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  iapply Hk
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact rfl
  isplitl [H8]; · iexists _; isplitr; swap; (· iexact H8); ipureintro; exact rfl
  isplitl [H9]; · iexists _; isplitr; swap; (· iexact H9); ipureintro; exact rfl
  isplitl [H10]; · iexists _; iexists _; isplitr; swap; (· iexact H10); ipureintro; exact rfl
  iexists _; isplitr; swap; (· iexact H11); ipureintro; exact read11_0 c i arg2 harg2 arg3 harg3 arg4 harg4 arg5 harg5 arg6 harg6 arg7 harg7 arg8 harg8 arg9 harg9 arg10 harg10 arg11 harg11 f2 f3 f4 f5 f6 f7 f8 f9 f10 f11 k1_h1 k1_h2

/-- Decoding and one block. -/
theorem step1 (k1_h1 : ¬ k1_cond1 i = 1#1) (k1_h2 : k1_cond2 i = 1#1) (k1_h3 : ¬ k1_cond3 i = 1#1) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare g
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (egC (i 1) x6 (tileOf i g)) ∗ owns (c : Thread nD τ) arg8 fullShare (eC (i 1).val (egC (i 1) x6 (tileOf i g)) x8) ∗ owns (c : Thread nD τ) arg9 fullShare x9 ∗ (∃ x10, owns (c : Thread nD τ) arg10 fullShare x10) ∗ owns (c : Thread nD τ) arg11 fullShare (dec i x2 x3 x4 x5 g)) -∗ Q ⟨⟩))
      ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q := by
  simp only [owns_eq c arg2 harg2, owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%f11, %h11, H11⟩, Hk⟩
  subst h2; subst h3; subst h4; subst h5; subst h6; subst h7; subst h8; subst h9; subst h11
  iapply ((body1 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).2 Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  iapply Hk
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact (read7_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H8]; · iexists _; isplitr; swap; (· iexact H8); ipureintro; exact (read8_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H9]; · iexists _; isplitr; swap; (· iexact H9); ipureintro; exact rfl
  isplitl [H10]; · iexists _; iexists _; isplitr; swap; (· iexact H10); ipureintro; exact rfl
  iexists _; isplitr; swap; (· iexact H11); ipureintro; exact read11_1 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3

/-- Decoding, the last block of a tile and its total. -/
theorem step2 (k1_h1 : ¬ k1_cond1 i = 1#1) (k1_h2 : k1_cond2 i = 1#1) (k1_h3 : k1_cond3 i = 1#1) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ x10, owns (c : Thread nD τ) arg10 fullShare x10) ∗ owns (c : Thread nD τ) arg11 fullShare g
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (egC (i 1) x6 (tileOf i g)) ∗ owns (c : Thread nD τ) arg8 fullShare (eC (i 1).val (egC (i 1) x6 (tileOf i g)) x8) ∗ owns (c : Thread nD τ) arg9 fullShare (totC (i 0).val (eC (i 1).val (egC (i 1) x6 (tileOf i g)) x8) x9) ∗ (∃ x10, owns (c : Thread nD τ) arg10 fullShare x10) ∗ owns (c : Thread nD τ) arg11 fullShare (dec i x2 x3 x4 x5 g)) -∗ Q ⟨⟩))
      ⊢ wp frame (wpE (defs₀ (F := F)) 𝒱₀ c none) Set.univ (cc1_objective_skel i arg2 harg2 arg3 harg3 arg4 harg4 arg5 harg5 arg6 harg6 arg7 harg7 arg8 harg8 arg9 harg9 arg10 harg10 arg11 harg11) Q := by
  simp only [owns_eq c arg2 harg2, owns_eq c arg3 harg3, owns_eq c arg4 harg4, owns_eq c arg5 harg5, owns_eq c arg6 harg6, owns_eq c arg7 harg7, owns_eq c arg8 harg8, owns_eq c arg9 harg9, owns_eq c arg10 harg10, owns_eq c arg11 harg11]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%f11, %h11, H11⟩, Hk⟩
  subst h2; subst h3; subst h4; subst h5; subst h6; subst h7; subst h8; subst h9; subst h11
  iapply ((body2 c i arg2 harg2 arg3 harg3 arg4 harg4 arg5 harg5 arg6 harg6 arg7 harg7 arg8 harg8 arg9 harg9 arg10 harg10 arg11 harg11 k1_h1 k1_h2 k1_h3 f2 f3 f4 f5 f6 f7 f8 f9 f10 f11).2 Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  iapply Hk
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]; · iexists _; isplitr; swap; (· iexact H6); ipureintro; exact rfl
  isplitl [H7]; · iexists _; isplitr; swap; (· iexact H7); ipureintro; exact (read7_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H8]; · iexists _; isplitr; swap; (· iexact H8); ipureintro; exact (read8_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H9]; · iexists _; isplitr; swap; (· iexact H9); ipureintro; exact (read9_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3).trans (by rw [read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3, tileOf_decoded])
  isplitl [H10]; · iexists _; iexists _; isplitr; swap; (· iexact H10); ipureintro; exact rfl
  iexists _; isplitr; swap; (· iexact H11); ipureintro; exact read11_2 c i arg2 harg2 arg3 harg3 arg4 harg4 arg5 harg5 arg6 harg6 arg7 harg7 arg8 harg8 arg9 harg9 arg10 harg10 arg11 harg11 f2 f3 f4 f5 f6 f7 f8 f9 f10 f11 k1_h1 k1_h2 k1_h3

end

end Cert.Proof.KernelIdeal
-- ==== Proof.MainIdeal.lean ====
/-
  The main call: what its residual scratch holds before each grid point, what each result block holds after it, and the body obligation
  of the pipeline library at every point.
-/
module

public import proofs.«01_k».proof.Proof.SplitIdeal
public import proofs.«01_k».proof.Proof.TripleIdeal
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation)

variable {F : FTy → Type} [FloatOps F]

local notation "𝕄" => MT nD τ sig Unit (Elt F) ℕ UU ℕ

variable (V : (c : Dev nD) → (b : Ref sig .tc) → Buf (Elt F) ((c : Thread nD τ).loc b))

/-! ### The schedule in closed form -/

/-- A grid point's phase and block. -/
theorem coords1 : ∀ t : Fin grid1.N, ((grid1.coords t) 0).val = t.val / 7 ∧ ((grid1.coords t) 1).val = t.val % 7 := by decide +kernel

/-- The group objectives are written back at every point after the first phase. -/
theorem flush5 : ∀ t : Fin grid1.N, win1_5.flush t = decide (7 ≤ t.val) := by decide +kernel
/-- The row objectives are written back at the end of each phase after the first. -/
theorem flush6 : ∀ t : Fin grid1.N, win1_6.flush t = decide (7 ≤ t.val ∧ t.val % 7 = 6) := by decide +kernel
/-- The group objectives are not written in the first phase. -/
theorem idle5 : ∀ t : Fin grid1.N, idle1 5 (grid1.coords t) = decide (t.val < 7) := by decide +kernel
/-- The row objectives are not written in the first phase. -/
theorem idle6 : ∀ t : Fin grid1.N, idle1 6 (grid1.coords t) = decide (t.val < 7) := by decide +kernel
/-- The total is written only at the end of each phase after the first. -/
theorem idle7 : ∀ t : Fin grid1.N, idle1 7 (grid1.coords t) = decide (¬ (7 ≤ t.val ∧ t.val % 7 = 6)) := by decide +kernel

/-- The grid has 266 points. -/
theorem lt_N1 (t : Fin cfg1.N) : t.val < 266 := lt_of_lt_of_eq t.isLt N_1

/-! ### The blocks and what is computed from them -/

abbrev B0 (c : Dev nD) (t : Fin cfg1.N) : S2x64x512.Idx → BitVec 8 := ((cfg1.win 0).blk t).view.read (Elt F) (V c main_v1)
abbrev B1 (c : Dev nD) (t : Fin cfg1.N) : S2x8x128.Idx → BitVec 32 := ((cfg1.win 1).blk t).view.read (Elt F) (V c main_v10)
abbrev B2 (c : Dev nD) (t : Fin cfg1.N) : S8x512.Idx → F .f32 := ((cfg1.win 2).blk t).view.read (Elt F) (V c main_v2)
abbrev B3 (c : Dev nD) (t : Fin cfg1.N) : S512x512.Idx → F .bf16 := ((cfg1.win 3).blk t).view.read (Elt F) (V c main_arg0)
abbrev B4 (c : Dev nD) (t : Fin cfg1.N) : S3x512x3584.Idx → F .bf16 := ((cfg1.win 4).blk t).view.read (Elt F) (V c main_v0)

/-- Part `j` of the residual at row `a`, column `b` of the block decoded at point `p`. -/
def cellAt (c : Dev nD) (p : Fin cfg1.N) (j : Fin 3) (a b : Fin 512) : F .bf16 :=
  rcell (B1 V c p) (B2 V c p) (B3 V c p) (idxs (B0 V c p)) j a b

/-- The point that decodes row `a` of tile phase `m`. -/
def pointOf (m : Fin 38) (a : Fin 3584) : Fin cfg1.N := ⟨7 * m.val + a.val / 512, lt_of_lt_of_eq (by omega) N_1.symm⟩

/-- The residual tile decoded in phase `m`. -/
def tileV (c : Dev nD) (m : Fin 38) : Tile F := fun j a b => cellAt V c (pointOf m a) j ⟨a.val % 512, by omega⟩ b

/-- The phase before point `t`'s. -/
def prevPhase (t : Fin cfg1.N) : Fin 38 := ⟨t.val / 7 - 1, by have := lt_N1 t; omega⟩

/-- The groups' objective computed at point `t`. -/
def egV (c : Dev nD) (t : Fin cfg1.N) : FVec F S64x512 .f32 := egC ((grid1.coords t) 1) (B4 V c t) (tileV V c (prevPhase t))

/-- The columns' objective after point `k`. -/
def eV (c : Dev nD) : (k : ℕ) → k < cfg1.N → FVec F S1x512 .f32
  | 0, _ => fun _ => Scalar.ofBits .f32 0x00000000#32
  | k + 1, h => eC ((grid1.coords ⟨k + 1, h⟩) 1).val (egV V c ⟨k + 1, h⟩) (eV c k (Nat.lt_of_succ_lt h))

/-- The total after point `k`. -/
def totV (c : Dev nD) : (k : ℕ) → k < cfg1.N → FVec F S8x128 .f32
  | 0, _ => fun _ => Scalar.ofBits .f32 0x00000000#32
  | k + 1, h => if 7 ≤ k + 1 ∧ (k + 1) % 7 = 6 then totC ((grid1.coords ⟨k + 1, h⟩) 0).val (eV V c (k + 1) h) (totV c k (Nat.lt_of_succ_lt h))
    else totV c k (Nat.lt_of_succ_lt h)

/-! ### The residual scratch -/

/-- Before point `t` the scratch holds what the last 14 points decoded. -/
def RInv (c : Dev nD) (t : ℕ) (g : S2x3x3584x512.Idx → F .bf16) : Prop :=
  ∀ (p : Fin cfg1.N) (j : Fin 3) (a b : Fin 512), p.val < t → t ≤ p.val + 14 →
    g (ix4 ⟨p.val / 7 % 2, by omega⟩ j ⟨512 * (p.val % 7) + a.val, by omega⟩ b) = cellAt V c p j a b

/-- Before the first point nothing is said of the slots. -/
theorem RInv_zero (c : Dev nD) (g) : RInv V c 0 g := fun _ _ _ _ h => absurd h (Nat.not_lt_zero _)

/-- A point's decoding carries the invariant of the slots on. -/
theorem RInv_step (c : Dev nD) (t : Fin cfg1.N) (g) (h : RInv V c t.val g) :
    RInv V c (t.val + 1) (dec (grid1.coords t) (B0 V c t) (B1 V c t) (B2 V c t) (B3 V c t) g) := by
  intro p j a b hp hp'
  obtain ⟨h0, h1⟩ := coords1 t
  unfold dec decoded
  by_cases e : p.val = t.val
  · obtain rfl : p = t := Fin.ext e
    have e2 : (⟨(512 * (p.val % 7) + a.val) % 512, by omega⟩ : Fin 512) = a := Fin.ext (by show (512 * (p.val % 7) + a.val) % 512 = a.val; omega)
    refine (dif_pos ?_).trans ?_
    · refine ⟨?_, ?_, ?_⟩
      · show p.val / 7 % 2 = _; rw [h0]
      · show (512 * (p.val % 7) + a.val) / 512 = _; rw [h1]; omega
      · exact (tripAt _ b).isLt
    · show rcell _ _ _ _ j (⟨(512 * (p.val % 7) + a.val) % 512, by omega⟩ : Fin 512) b = _
      rw [e2]
      rfl
  · refine (dif_neg ?_).trans (h p j a b (by omega) (by omega))
    rintro ⟨q0, q1, -⟩
    have q0' : p.val / 7 % 2 = ((grid1.coords t) 0).val % 2 := q0
    have q1' : (512 * (p.val % 7) + a.val) / 512 = ((grid1.coords t) 1).val := q1
    rw [h0] at q0'
    rw [h1] at q1'
    omega

/-- The slot a point reads holds the tile decoded in the phase before. -/
theorem RInv_tile (c : Dev nD) (t : Fin cfg1.N) (g) (h : RInv V c t.val g) (ht : 7 ≤ t.val) : tileOf (grid1.coords t) g = tileV V c (prevPhase t) := by
  obtain ⟨h0, h1⟩ := coords1 t
  funext j a b
  have ht' := lt_N1 t
  have e : (pointOf (prevPhase t) a).val = 7 * (t.val / 7 - 1) + a.val / 512 := rfl
  have key := h (pointOf (prevPhase t) a) j ⟨a.val % 512, by omega⟩ b (by rw [e]; omega) (by rw [e]; omega)
  refine Eq.trans ?_ key
  unfold tileOf
  have e0 : cur (grid1.coords t) = ⟨(pointOf (prevPhase t) a).val / 7 % 2, by omega⟩ := Fin.ext (by
    show 1 - ((grid1.coords t) 0).val % 2 = (pointOf (prevPhase t) a).val / 7 % 2
    rw [h0, e]; omega)
  have e2 : a = ⟨512 * ((pointOf (prevPhase t) a).val % 7) + a.val % 512, by rw [e]; omega⟩ := Fin.ext (by
    show a.val = 512 * ((pointOf (prevPhase t) a).val % 7) + a.val % 512
    rw [e]; omega)
  exact congrArg g (congr (congr (congr (congrArg ix4 e0) rfl) e2) rfl)

/-! ### The proof data -/

/-- The two scratch buffers. -/
abbrev scr0 : Memref sig .tc .vmem S4x64x512 .i32 := Memref.whole cc1_scratch0
abbrev scr1 : Memref sig .tc .vmem S2x3x3584x512 .bf16 := Memref.whole cc1_scratch1

/-- The first call's staging buffers, at anything. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- What the core holds between points beside the windows. -/
def inv1 (c : Dev nD) (t : ℕ) : sProp 𝕄 :=
  iprop(idleBufs (F := F) c ∗ (∃ x, owns (c : Thread nD τ) scr0 fullShare x) ∗ ∃ g, ⌜RInv V c t g⌝ ∗ owns (c : Thread nD τ) scr1 fullShare g)

/-- The main call's proof data from valuation `V`. -/
def dat1 (c : Dev nD) : Dat τ (Elt F) Unit ℕ UU ℕ cfg1 c where
  A w := V c (Pipeline.arrRef spec1 w)
  after w t := match w with
    | ⟨0, _⟩ => B0 V c t
    | ⟨1, _⟩ => B1 V c t
    | ⟨2, _⟩ => B2 V c t
    | ⟨3, _⟩ => B3 V c t
    | ⟨4, _⟩ => B4 V c t
    | ⟨5, _⟩ => egV V c t
    | ⟨6, _⟩ => eV V c t.val t.isLt
    | ⟨7, _⟩ => totV V c t.val t.isLt
  Φ t := inv1 V c t.val
  q _ := fullShare
  owed _ := 0

/-- A point finds its block of codes. -/
theorem before1_0 (c : Dev nD) (t : Fin cfg1.N) (d) : (dat1 V c).before 0 t d = B0 V c t :=
  Dat.before_in_eq_fetched _ 0 rfl (fun _ => rfl) (fun _ _ _ => rfl) (fun _ => rfl) t d
/-- A point finds the table. -/
theorem before1_1 (c : Dev nD) (t : Fin cfg1.N) (d) : (dat1 V c).before 1 t d = B1 V c t :=
  Dat.before_in_eq_fetched _ 1 rfl (fun _ => rfl) (fun _ _ _ => rfl) (fun _ => rfl) t d
/-- A point finds its block of scales. -/
theorem before1_2 (c : Dev nD) (t : Fin cfg1.N) (d) : (dat1 V c).before 2 t d = B2 V c t :=
  Dat.before_in_eq_fetched _ 2 rfl (fun _ => rfl) (fun _ _ _ => rfl) (fun _ => rfl) t d
/-- A point finds its block of weights. -/
theorem before1_3 (c : Dev nD) (t : Fin cfg1.N) (d) : (dat1 V c).before 3 t d = B3 V c t :=
  Dat.before_in_eq_fetched _ 3 rfl (fun _ => rfl) (fun _ _ _ => rfl) (fun _ => rfl) t d
/-- A point finds its block of the parts of `H`. -/
theorem before1_4 (c : Dev nD) (t : Fin cfg1.N) (d) : (dat1 V c).before 4 t d = B4 V c t :=
  Dat.before_in_eq_fetched _ 4 rfl (fun _ => rfl) (fun _ _ _ => rfl) (fun _ => rfl) t d

/-- When the row objectives' window is fresh. -/
theorem fresh6 : ∀ n, n ≤ cfg1.N → Cfg.fresh cfg1 (6 : Fin 8) n = decide (n < 8 ∨ n % 7 = 0) :=
  Cfg.fresh_tab cfg1 (6 : Fin 8) (fun n => decide (n < 8 ∨ n % 7 = 0)) rfl
    (by decide +kernel : ∀ t : Fin grid1.N, decide (t.val + 1 < 8 ∨ (t.val + 1) % 7 = 0) = (win1_6.flush t || (idle1 6 (grid1.coords t) && decide (t.val < 8 ∨ t.val % 7 = 0))))

/-- When the total's window is fresh. -/
theorem fresh7 : ∀ n, n ≤ cfg1.N → n < 266 → Cfg.fresh cfg1 (7 : Fin 8) n = decide (n < 14) := by
  intro n hn hn'
  rw [Cfg.fresh_tab cfg1 (7 : Fin 8) (fun n => decide (n < 14 ∨ n = 266)) rfl
    (by decide +kernel : ∀ t : Fin grid1.N, decide (t.val + 1 < 14 ∨ t.val + 1 = 266) = (win1_7.flush t || (idle1 7 (grid1.coords t) && decide (t.val < 14 ∨ t.val = 266)))) n hn]
  exact decide_eq_decide.2 ⟨fun h => by omega, fun h => by omega⟩

/-- The columns' block the body finds, where it reads it. -/
theorem before1_6 (c : Dev nD) (t : Fin cfg1.N) (d) (h : 7 ≤ t.val) (hn : t.val % 7 ≠ 0) : (dat1 V c).before 6 t d = eV V c (t.val - 1) (Nat.lt_of_le_of_lt (Nat.sub_le _ _) t.isLt) := by
  refine (Dat.before_out_traj (dat1 V c) 6 rfl (fun _ _ => rfl) ?_ t.val t rfl d).trans ?_
  · intro t' h0 hi hf
    have hi' := (idle6 t').symm.trans hi
    have hf' := (fresh6 t'.val (le_of_lt t'.isLt)).symm.trans hf
    simp only [decide_eq_true_eq, decide_eq_false_iff_not] at hi' hf'
    exact absurd (Or.inl (by omega)) hf'
  · have hf := fresh6 t.val (le_of_lt t.isLt)
    rw [if_neg]
    · rfl
    · rw [hf]; simp only [decide_eq_true_eq]; omega

/-- The total the body finds, where it reads it. -/
theorem before1_7 (c : Dev nD) (t : Fin cfg1.N) (d) (h : 14 ≤ t.val) : (dat1 V c).before 7 t d = totV V c (t.val - 1) (Nat.lt_of_le_of_lt (Nat.sub_le _ _) t.isLt) := by
  refine (Dat.before_out_traj (dat1 V c) 7 rfl (fun _ _ => rfl) ?_ t.val t rfl d).trans ?_
  · intro t' h0 hi hf
    have hi' := (idle7 t').symm.trans hi
    simp only [decide_eq_true_eq] at hi'
    obtain ⟨tv, htv⟩ := t'
    obtain _ | k := tv
    · exact absurd rfl h0
    · show totV V c (k + 1) htv = totV V c k _
      rw [totV, if_neg hi']
  · have hf := fresh7 t.val (le_of_lt t.isLt) (lt_N1 t)
    rw [if_neg]
    · rfl
    · rw [hf]; simp only [decide_eq_true_eq]; omega

/-! ### The body obligation -/

/-- A buffer at the block the obligation names, at a point that uses the window. -/
theorem leave_live (c : Dev nD) (w : Fin 8) (t : Fin cfg1.N) (h : cfg1.idle w (cfg1.grid.coords t) = false) :
    owns (c : Thread nD τ) ((cfg1.win w).stage (cfg1.slots t w)) fullShare ((dat1 V c).after w t) ⊢ (dat1 V c).leavesExact w t := by
  unfold Dat.leavesExact
  rw [h]

/-- A buffer untouched, at a point that skips the window. -/
theorem leave_idle (c : Dev nD) (w : Fin 8) (t : Fin cfg1.N) (h : cfg1.idle w (cfg1.grid.coords t) = true) (hf : (cfg1.win w).flush t = false) :
    iprop(∃ d, owns (c : Thread nD τ) ((cfg1.win w).stage (cfg1.slots t w)) fullShare ((dat1 V c).before w t d)) ⊢ (dat1 V c).leavesExact w t := by
  unfold Dat.leavesExact
  rw [h, hf]

/-- The first block's sum does not read what was there. -/
theorem eC_zero (eg : FVec F S64x512 .f32) (x y : FVec F S1x512 .f32) : eC 0 eg x = eC 0 eg y := rfl
/-- The first tile's total does not read what was there. -/
theorem totC_one (e : FVec F S1x512 .f32) (x y : FVec F S8x128 .f32) : totC 1 e x = totC 1 e y := rfl

/-- The row objectives' window follows its recursion. -/
theorem eV_step (c : Dev nD) (t : Fin cfg1.N) (d) (h : 7 ≤ t.val) :
    eC ((grid1.coords t) 1).val (egV V c t) ((dat1 V c).before 6 t d) = eV V c t.val t.isLt := by
  have key : eV V c t.val t.isLt = eC ((grid1.coords t) 1).val (egV V c t) (eV V c (t.val - 1) (Nat.lt_of_le_of_lt (Nat.sub_le _ _) t.isLt)) := by
    obtain ⟨tv, htv⟩ := t
    obtain _ | k := tv
    · exact absurd h (by simp)
    · rfl
  rw [key]
  by_cases hn : t.val % 7 = 0
  · rw [(coords1 t).2, hn]; exact eC_zero _ _ _
  · rw [before1_6 V c t d h hn]

/-- The total's window follows its recursion. -/
theorem totV_step (c : Dev nD) (t : Fin cfg1.N) (d) (h : 7 ≤ t.val ∧ t.val % 7 = 6) :
    totC ((grid1.coords t) 0).val (eV V c t.val t.isLt) ((dat1 V c).before 7 t d) = totV V c t.val t.isLt := by
  have key : totV V c t.val t.isLt = totC ((grid1.coords t) 0).val (eV V c t.val t.isLt) (totV V c (t.val - 1) (Nat.lt_of_le_of_lt (Nat.sub_le _ _) t.isLt)) := by
    obtain ⟨tv, htv⟩ := t
    obtain _ | k := tv
    · exact absurd h.1 (by simp)
    · show totV V c (k + 1) htv = _
      rw [totV, if_pos h]; rfl
  rw [key]
  by_cases hn : 14 ≤ t.val
  · rw [before1_7 V c t d hn]
  · rw [(coords1 t).1, show t.val / 7 = 1 by omega]; exact totC_one _ _ _

/-- The total is written back at the last point. -/
theorem flush7 (t : Fin grid1.N) : win1_7.flush t = decide (t.val = 265) := by
  revert t; decide +kernel

/-- The obligation at one point. -/
def Obl (c : Dev nD) (t : Fin cfg1.N) : Prop :=
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) 𝒱₀ c none) Set.univ (defs₀ (F := F) .tc cfg1.body (cfg1.bodyArgs t (cfg1.slots t))) fun _ =>
          iprop((dat1 V c).Φ t.succ ∗ (dat1 V c).owesAt () t.succ ∗ bigSep Finset.univ fun w : Fin cfg1.W => (dat1 V c).leavesExact w t)

/-- The obligation in the first phase. -/
theorem obligation0 (c : Dev nD) (t : Fin cfg1.N) (h : t.val < 7) : Obl V c t := by
  obtain ⟨k0, k1⟩ := coords1 t
  have ht := lt_N1 t
  unfold Obl
  rw [bigSep_W1, bigSep_W1]
  rw [show (dat1 V c).owesAt () t.succ = (dat1 V c).owesAt () t.castSucc from rfl]
  show iprop(inv1 V c t.val ∗ _) ⊢ wp _ _ _ _ (fun _ => iprop(inv1 V c (t.val + 1) ∗ _))
  unfold inv1
  iintro ⟨⟨Hb, Hx, %g, %hg, Hg⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4]
  iapply (step0 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) scr0 (Memref.isWhole_whole _) scr1 (Memref.isWhole_whole _) _ _ _ _ _ _ _ _ _ ((cond1_iff _).2 (by rw [k0]; omega)) (fun q => absurd ((cond2_iff _).1 q) (by rw [k0]; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hg]; · iexact Hg
  iintro ⟨H0, H1, H2, H3, H4, H5, H6, H7, Hx, Hg⟩
  isplitl [Hb Hx Hg]
  · isplitl [Hb]; · iexact Hb
    isplitl [Hx]; · iexact Hx
    iexists _
    isplitr; swap; (· iexact Hg)
    ipureintro; exact RInv_step V c t g hg
  isplitl [Howes]; · iexact Howes
  isplitl [H0]; · iexact H0
  isplitl [H1]; · iexact H1
  isplitl [H2]; · iexact H2
  isplitl [H3]; · iexact H3
  isplitl [H4]; · iexact H4
  isplitl [H5]; · iapply (leave_idle V c 5 t (by show idle1 5 _ = true; rw [idle5]; exact decide_eq_true (by omega)) (by show win1_5.flush t = false; rw [flush5]; exact decide_eq_false (by omega))); iexists _; iexact H5
  isplitl [H6]; · iapply (leave_idle V c 6 t (by show idle1 6 _ = true; rw [idle6]; exact decide_eq_true (by omega)) (by show win1_6.flush t = false; rw [flush6]; exact decide_eq_false (by omega))); iexists _; iexact H6
  iapply (leave_idle V c 7 t (by show idle1 7 _ = true; rw [idle7]; exact decide_eq_true (by omega)) (by show win1_7.flush t = false; rw [flush7]; exact decide_eq_false (by omega))); iexists _; iexact H7

/-- The obligation inside a tile. -/
theorem obligation1 (c : Dev nD) (t : Fin cfg1.N) (h : 7 ≤ t.val) (h' : t.val % 7 ≠ 6) : Obl V c t := by
  obtain ⟨k0, k1⟩ := coords1 t
  have ht := lt_N1 t
  unfold Obl
  rw [bigSep_W1, bigSep_W1]
  rw [show (dat1 V c).owesAt () t.succ = (dat1 V c).owesAt () t.castSucc from rfl]
  show iprop(inv1 V c t.val ∗ _) ⊢ wp _ _ _ _ (fun _ => iprop(inv1 V c (t.val + 1) ∗ _))
  unfold inv1
  iintro ⟨⟨Hb, Hx, %g, %hg, Hg⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4]
  iapply (step1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) scr0 (Memref.isWhole_whole _) scr1 (Memref.isWhole_whole _) _ _ _ _ _ _ _ _ _ (fun q => absurd ((cond1_iff _).1 q) (by rw [k0]; omega)) ((cond2_iff _).2 (by rw [k0]; omega)) (fun q => absurd ((cond3_iff _).1 q) (by rw [k1]; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hg]; · iexact Hg
  iintro ⟨H0, H1, H2, H3, H4, H5, H6, H7, Hx, Hg⟩
  rw [RInv_tile V c t g hg h]
  rw [show egC ((grid1.coords t) 1) (B4 V c t) (tileV V c (prevPhase t)) = egV V c t from rfl, eV_step V c t d6 h]
  isplitl [Hb Hx Hg]
  · isplitl [Hb]; · iexact Hb
    isplitl [Hx]; · iexact Hx
    iexists _
    isplitr; swap; (· iexact Hg)
    ipureintro; exact RInv_step V c t g hg
  isplitl [Howes]; · iexact Howes
  isplitl [H0]; · iexact H0
  isplitl [H1]; · iexact H1
  isplitl [H2]; · iexact H2
  isplitl [H3]; · iexact H3
  isplitl [H4]; · iexact H4
  isplitl [H5]; · iapply (leave_live V c 5 t (by show idle1 5 _ = false; rw [idle5]; exact decide_eq_false (by omega))); iexact H5
  isplitl [H6]; · iapply (leave_live V c 6 t (by show idle1 6 _ = false; rw [idle6]; exact decide_eq_false (by omega))); iexact H6
  iapply (leave_idle V c 7 t (by show idle1 7 _ = true; rw [idle7]; exact decide_eq_true (by omega)) (by show win1_7.flush t = false; rw [flush7]; exact decide_eq_false (by omega))); iexists _; iexact H7

/-- The obligation at the end of a tile. -/
theorem obligation2 (c : Dev nD) (t : Fin cfg1.N) (h : 7 ≤ t.val) (h' : t.val % 7 = 6) : Obl V c t := by
  obtain ⟨k0, k1⟩ := coords1 t
  have ht := lt_N1 t
  unfold Obl
  rw [bigSep_W1, bigSep_W1]
  rw [show (dat1 V c).owesAt () t.succ = (dat1 V c).owesAt () t.castSucc from rfl]
  show iprop(inv1 V c t.val ∗ _) ⊢ wp _ _ _ _ (fun _ => iprop(inv1 V c (t.val + 1) ∗ _))
  unfold inv1
  iintro ⟨⟨Hb, Hx, %g, %hg, Hg⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4]
  iapply (step2 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) scr0 (Memref.isWhole_whole _) scr1 (Memref.isWhole_whole _) _ _ _ _ _ _ _ _ _ (fun q => absurd ((cond1_iff _).1 q) (by rw [k0]; omega)) ((cond2_iff _).2 (by rw [k0]; omega)) ((cond3_iff _).2 (by rw [k1]; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hg]; · iexact Hg
  iintro ⟨H0, H1, H2, H3, H4, H5, H6, H7, Hx, Hg⟩
  rw [RInv_tile V c t g hg h]
  rw [show egC ((grid1.coords t) 1) (B4 V c t) (tileV V c (prevPhase t)) = egV V c t from rfl, eV_step V c t d6 h]
  rw [totV_step V c t d7 ⟨h, h'⟩]
  isplitl [Hb Hx Hg]
  · isplitl [Hb]; · iexact Hb
    isplitl [Hx]; · iexact Hx
    iexists _
    isplitr; swap; (· iexact Hg)
    ipureintro; exact RInv_step V c t g hg
  isplitl [Howes]; · iexact Howes
  isplitl [H0]; · iexact H0
  isplitl [H1]; · iexact H1
  isplitl [H2]; · iexact H2
  isplitl [H3]; · iexact H3
  isplitl [H4]; · iexact H4
  isplitl [H5]; · iapply (leave_live V c 5 t (by show idle1 5 _ = false; rw [idle5]; exact decide_eq_false (by omega))); iexact H5
  isplitl [H6]; · iapply (leave_live V c 6 t (by show idle1 6 _ = false; rw [idle6]; exact decide_eq_false (by omega))); iexact H6
  iapply (leave_live V c 7 t (by show idle1 7 _ = false; rw [idle7]; exact decide_eq_false (by omega))); iexact H7

/-- The main call's body obligation. -/
theorem body_obligation1 (c : Dev nD) : BodyObligation (dat1 V c) (defs₀ (F := F)) 𝒱₀ () Set.univ := fun t => by
  by_cases h : t.val < 7
  · exact obligation0 V c t h
  by_cases h' : t.val % 7 = 6
  · exact obligation2 V c t (by omega) h'
  · exact obligation1 V c t (by omega) h'

/-- From the scratch at anything to the invariant before the first point. -/
theorem inv1_first (c : Dev nD) : (Pipeline.scopedRest (Ix := Unit) (Name := ℕ) (U := UU) (Lvl := ℕ) (Val := Elt F) spec1 c : sProp 𝕄) ⊢ inv1 V c 0 := by
  rw [scopedRest1_eq]
  unfold inv1 idleBufs
  iintro ⟨H0, H1, H2, H3, ⟨%f4, H4⟩, ⟨%f5, H5⟩⟩
  isplitl [H0 H1 H2 H3]
  · isplitl [H0]; · iexact H0
    isplitl [H1]; · iexact H1
    isplitl [H2]; · iexact H2
    iexact H3
  isplitl [H4]
  · iexists _
    rw [owns_eq c scr0 (Memref.isWhole_whole _)]
    iexists f4; isplitr; swap; (· iexact H4); ipureintro; exact rfl
  iexists _
  isplitr; swap
  · rw [owns_eq c scr1 (Memref.isWhole_whole _)]
    iexists f5; isplitr; swap; (· iexact H5); ipureintro; exact rfl
  ipureintro; exact RInv_zero V c _

/-- From the invariant to the scratch at anything. -/
theorem inv1_last (c : Dev nD) (t : ℕ) : inv1 V c t ⊢ (Pipeline.scopedRest (Ix := Unit) (Name := ℕ) (U := UU) (Lvl := ℕ) (Val := Elt F) spec1 c : sProp 𝕄) := by
  rw [scopedRest1_eq]
  unfold inv1 idleBufs
  simp only [owns_eq c scr0 (Memref.isWhole_whole _), owns_eq c scr1 (Memref.isWhole_whole _)]
  iintro ⟨⟨H0, H1, H2, H3⟩, ⟨%x, %f4, -, H4⟩, ⟨%g, -, %f5, -, H5⟩⟩
  isplitl [H0]; · iexact H0
  isplitl [H1]; · iexact H1
  isplitl [H2]; · iexact H2
  isplitl [H3]; · iexact H3
  isplitl [H4]; · iexists f4; iexact H4
  iexists f5; iexact H5

end Cert.Proof.KernelIdeal
-- ==== Proof.RunsIdeal.lean ====
/-
  The whole program's run: the two calls as regions of the launch, what they leave in the buffers, and the run theorem that reads the
  arguments and the three results off the last state.
-/
module

public import proofs.«01_k».proof.Proof.MainIdeal
public import Idealize.ShloMosaic.Lib.Pipeline.Frame
public import Idealize.ShloMosaic.Lib.Pipeline.Regions
public import Idealize.ShloMosaic.Lib.Pipeline.RegionsLoop
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation Seg HostSeg RegionSeg)

variable {F : FTy → Type} [FloatOps F]

local notation "𝕄" => MT nD τ sig Unit (Elt F) ℕ UU ℕ

variable (m : (ℓ : Loc nD τ sig) → Buf (Elt F) ℓ)

/-- What the first call leaves, buffer by buffer. -/
def out1 (r : Ref sig .tc) (c : Dev nD) : Buf (Elt F) ((c : Thread nD τ).loc r) :=
  Function.update (β := fun b : Ref sig .tc => Buf (Elt F) ((c : Thread nD τ).loc b)) (fun b => V0 m c b) main_v0 ((dat0 (fun c b => V0 m c b) c).arrAt 1 cfg0.N) r

/-- The buffers when the main call is entered. -/
abbrev VM (c : Dev nD) (b : Ref sig .tc) : Buf (Elt F) ((c : Thread nD τ).loc b) := V2 m (fun _ => out1 m) c b

/-- What the main call leaves, buffer by buffer. -/
def out3 (r : Ref sig .tc) (c : Dev nD) : Buf (Elt F) ((c : Thread nD τ).loc r) :=
  Function.update (β := fun b : Ref sig .tc => Buf (Elt F) ((c : Thread nD τ).loc b))
    (Function.update (β := fun b : Ref sig .tc => Buf (Elt F) ((c : Thread nD τ).loc b))
      (Function.update (β := fun b : Ref sig .tc => Buf (Elt F) ((c : Thread nD τ).loc b)) (fun b => V0 m c b) main_v11_0 ((dat1 (VM m) c).arrAt 5 cfg1.N))
      main_v11_1 ((dat1 (VM m) c).arrAt 6 cfg1.N)) main_v11_2 ((dat1 (VM m) c).arrAt 7 cfg1.N) r

/-- What the calls leave. -/
def outs : Outs (F := F) := fun J => match J with
  | 1 => out1 m
  | _ => out3 m

/-- What the second call finds depends on the first call's results only. -/
theorem V2_outs (c : Dev nD) : V2 m (outs m) c = V2 m (fun _ => out1 m) c := rfl

/-- After the first call its array is the one it wrote. -/
theorem V1_main_v0 (c : Dev nD) : V1 m (outs m) c main_v0 = (dat0 (fun c b => V0 m c b) c).arrAt 1 cfg0.N := by
  show Function.update (V0 m c) (Proc.devRef .tc main_v0) (out1 m main_v0 c) (Proc.devRef .tc main_v0) = _
  rw [Function.update_self]
  unfold out1
  rw [Function.update_self]

/-- After the second call its third array is the one it wrote. -/
theorem V3_main_v11_2 (c : Dev nD) : V3 m (outs m) c main_v11_2 = (dat1 (VM m) c).arrAt 7 cfg1.N := by
  show V3 m (outs m) c (Proc.devRef .tc main_v11_2) = _
  unfold V3
  rw [Function.update_self]
  show out3 m main_v11_2 c = _
  unfold out3
  rw [Function.update_self]

/-- After the second call its second array is the one it wrote. -/
theorem V3_main_v11_1 (c : Dev nD) : V3 m (outs m) c main_v11_1 = (dat1 (VM m) c).arrAt 6 cfg1.N := by
  show V3 m (outs m) c (Proc.devRef .tc main_v11_1) = _
  unfold V3
  rw [Function.update_of_ne (StableHlo.devRef_ne_of_ne (by decide)), Function.update_self]
  show out3 m main_v11_1 c = _
  unfold out3
  rw [Function.update_of_ne (by decide), Function.update_self]

/-- After the second call its first array is the one it wrote. -/
theorem V3_main_v11_0 (c : Dev nD) : V3 m (outs m) c main_v11_0 = (dat1 (VM m) c).arrAt 5 cfg1.N := by
  show V3 m (outs m) c (Proc.devRef .tc main_v11_0) = _
  unfold V3
  rw [Function.update_of_ne (StableHlo.devRef_ne_of_ne (by decide)), Function.update_of_ne (StableHlo.devRef_ne_of_ne (by decide)), Function.update_self]
  show out3 m main_v11_0 c = _
  unfold out3
  rw [Function.update_of_ne (by decide), Function.update_of_ne (by decide), Function.update_self]

/-- The proof data of the two calls. -/
def pdats : (p : Fin 2) → (c : Dev nD) → Dat τ (Elt F) Unit ℕ UU ℕ (cfgs p) c
  | ⟨0, _⟩ => fun c => dat0 (fun c b => V0 m c b) c
  | ⟨1, _⟩ => fun c => dat1 (fun c b => V2 m (outs m) c b) c

/-- No levels; nothing owed. -/
abbrev L : GSem nD τ sig → Finset Unit := fun _ => ∅
abbrev lv : GSem nD τ sig → Unit → ℕ := fun _ _ => 0

/-- The pipeline library's algebra is the whole user algebra. -/
abbrev EP : Emb (UR sig nD τ) (MT nD τ sig Unit (Elt F) ℕ UU ℕ) := emb₁

/-- What rides beside the buffers. -/
def R (c : Dev nD) : sProp 𝕄 := iprop(∃ W, owes (c : Thread nD τ) (0 : CellTallies nD τ sig Unit) W)

set_option backward.isDefEq.respectTransparency.types false in
/-- A buffer that is no array of call 0 is as it was. -/
theorem rest0 (c : Dev nD) (b : Ref sig .tc) (hb : b ∉ Finset.univ.image (Pipeline.arrRef spec0)) : V1 m (outs m) c b = V0 m c b :=
  V1_of m (outs m) c b (fun h => by
    simp only [List.mem_cons, List.not_mem_nil, _root_.or_false] at h
    rcases h with rfl
    · exact hb (Finset.mem_image.mpr ⟨1, Finset.mem_univ _, rfl⟩)
    )

set_option backward.isDefEq.respectTransparency.types false in
/-- Call 0 as a segment: its arrays taken out of the unscoped buffers, put back with what its write-backs left. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V0 m c b) c).loose
  hwaits := Pipeline.hwaits_of_owed_zero _ _ _ _ L lv 0 fun _ _ => rfl
  pre c := iprop(unscopedBufs c (fun b => V0 m c b) ∗ R c)
  post c := iprop(unscopedBufs c (fun b => V1 m (outs m) c b) ∗ R c)
  X _ := BI.emp
  Y _ := BI.emp
  Z c := Pipeline.unscopedRest (Ix := Unit) (Name := ℕ) (U := UU) (Lvl := ℕ) spec0 c (fun b => V0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c b) fun _ => rfl
    unfold R
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (fun b => V0 m c b) (fun b => V1 m (outs m) c b) ((pdats m 0 c).arrAt · cfg0.N)
      (fun w => by
        fin_cases w
        · exact ((pdats m 0 c).arrAt_in 0 rfl _).trans (V1_of m (outs m) c main_arg4 (by decide)).symm
        · exact (V1_main_v0 m c).symm
      )
      (fun b hb => rest0 m c b hb)
    unfold R
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- A buffer that is no array of call 1 is as it was. -/
theorem rest1 (c : Dev nD) (b : Ref sig .tc) (hb : b ∉ Finset.univ.image (Pipeline.arrRef spec1)) : V3 m (outs m) c b = V2 m (outs m) c b :=
  V3_of m (outs m) c b (fun h => by
    simp only [List.mem_cons, List.not_mem_nil, _root_.or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)
    )

set_option backward.isDefEq.respectTransparency.types false in
/-- Call 1 as a segment: its arrays taken out of the unscoped buffers, put back with what its write-backs left. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ L lv 1 fun _ _ => rfl
  pre c := iprop(unscopedBufs c (fun b => V2 m (outs m) c b) ∗ R c)
  post c := iprop(unscopedBufs c (fun b => V3 m (outs m) c b) ∗ R c)
  X _ := BI.emp
  Y _ := BI.emp
  Z c := Pipeline.unscopedRest (Ix := Unit) (Name := ℕ) (U := UU) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    unfold R
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = inv1 (fun c b => V2 m (outs m) c b) c 0 from rfl]
    iintro ⟨-, -, Hr⟩
    iapply (inv1_first (fun c b => V2 m (outs m) c b) c); iexact Hr
  hout c := by
    rw [Pipeline.ownSems0_none, show (pdats m 1 c).Φ (Fin.last _) = inv1 (fun c b => V2 m (outs m) c b) c cfg1.N from rfl]
    iintro Hr
    isplitr; · iempintro
    isplitr; · iempintro
    iapply (inv1_last (fun c b => V2 m (outs m) c b) c cfg1.N); iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (fun b => V2 m (outs m) c b) (fun b => V3 m (outs m) c b) ((pdats m 1 c).arrAt · cfg1.N)
      (fun w => by
        fin_cases w
        · exact ((pdats m 1 c).arrAt_in 0 rfl _).trans (V3_of m (outs m) c main_v1 (by decide)).symm
        · exact ((pdats m 1 c).arrAt_in 1 rfl _).trans (V3_of m (outs m) c main_v10 (by decide)).symm
        · exact ((pdats m 1 c).arrAt_in 2 rfl _).trans (V3_of m (outs m) c main_v2 (by decide)).symm
        · exact ((pdats m 1 c).arrAt_in 3 rfl _).trans (V3_of m (outs m) c main_arg0 (by decide)).symm
        · exact ((pdats m 1 c).arrAt_in 4 rfl _).trans (V3_of m (outs m) c main_v0 (by decide)).symm
        · exact (V3_main_v11_0 m c).symm
        · exact (V3_main_v11_1 m c).symm
        · exact (V3_main_v11_2 m c).symm
      )
      (fun b hb => rest1 m c b hb)
    unfold R
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The run: every execution ends with the arguments as they were, the three results at the last valuation and every semaphore at zero. -/
theorem run_all (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v12) = V4 m (outs m) c main_v12
      ∧ r.2.mem ((c.tc : Thread nD τ).loc main_v13) = V4 m (outs m) c main_v13
      ∧ r.2.mem ((c.tc : Thread nD τ).loc main_v15) = V4 m (outs m) c main_v15)
      ∧ r.2.sem = fun _ => 0) := by
  let ι : Unit := ()
  let O₀ : Dev nD → CellTallies nD τ sig Unit := 0
  let G : Dev nD → sProp 𝕄 := fun _ => iprop(emp)
  let E : Fin 3 → Dev nD → sProp 𝕄 := fun _ => R
  have hL : ∀ g : GSem nD τ sig, g.1.2 ≠ .tc → L g = ∅ := fun _ _ => rfl
  have hu₀ : (ownU (initOf (Pipeline.cells cfgs cellOf_inj) (Pipeline.launchToks cfgs cellOf_inj)) : sProp 𝕄) ⊢ |={Set.univ}=> iprop(BI.own (EP (initOf (Pipeline.cells cfgs cellOf_inj) (Pipeline.launchToks cfgs cellOf_inj))) ∗ bigSep Finset.univ G) := by
    iintro Hu; imodintro
    isplitl [Hu]; · iapply (show (ownU (initOf (Pipeline.cells cfgs cellOf_inj) (Pipeline.launchToks cfgs cellOf_inj)) : sProp 𝕄) ⊢ BI.own (EP (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  have hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp 𝕄) := by
    have hmono : (bigSep Finset.univ fun c : Dev nD => iprop(unscopedSems0 c ∗ owes (c : Thread nD τ) (O₀ c) ∅ ∗ Pipeline.launchCred O₀ c ∗ prngReg c (ρ c) ∗ G c) : sProp 𝕄) ⊢ bigSep Finset.univ (E 0) :=
      bigSep_mono fun c _ => by
        show _ ⊢ R c
        unfold R
        iintro ⟨-, HO, -, -, -⟩
        iexists ∅; iexact HO
    iintro ⟨H, -⟩
    imodintro
    iapply hmono; iexact H
  have hE2 : ∀ c : Dev nD, E 2 c ⊢ (iprop(∃ W, owes (c : Thread nD τ) (0 : CellTallies nD τ sig Unit) W) : sProp 𝕄) := fun c => .rfl
  have hpre0 : ∀ c : Dev nD, iprop(StableHlo.held (c : Thread nD τ) (Pipeline.ucRefs τ sig) (V0 m c) ∗ E 0 c) ⊢ (reg0 m).pre c := fun c => by
    rw [← Pipeline.unscopedBufs_held (Ix := Unit) (Name := ℕ) (U := UU) (Lvl := ℕ) c (V0 m c)]; exact .rfl
  have hpost0 : ∀ c : Dev nD, (reg0 m).post c ⊢ iprop(StableHlo.held (c : Thread nD τ) (Pipeline.ucRefs τ sig) (V1 m (outs m) c) ∗ E 1 c) := fun c => by
    rw [← Pipeline.unscopedBufs_held (Ix := Unit) (Name := ℕ) (U := UU) (Lvl := ℕ) c (V1 m (outs m) c)]; exact .rfl
  have hpre1 : ∀ c : Dev nD, iprop(StableHlo.held (c : Thread nD τ) (Pipeline.ucRefs τ sig) (V2 m (outs m) c) ∗ E 1 c) ⊢ (reg1 m).pre c := fun c => by
    rw [← Pipeline.unscopedBufs_held (Ix := Unit) (Name := ℕ) (U := UU) (Lvl := ℕ) c (V2 m (outs m) c)]; exact .rfl
  have hpost1 : ∀ c : Dev nD, (reg1 m).post c ⊢ iprop(StableHlo.held (c : Thread nD τ) (Pipeline.ucRefs τ sig) (V3 m (outs m) c) ∗ E 2 c) := fun c => by
    rw [← Pipeline.unscopedBufs_held (Ix := Unit) (Name := ℕ) (U := UU) (Lvl := ℕ) c (V3 m (outs m) c)]; exact .rfl
  refine Pipeline.θ_run_regions_kit_dev_sems (pcfgs (F := F)) adm (pdats m) ι cellOf_inj EP defs₀ 𝒱₀ L lv m ρ main
    (segs m (outs m) 𝒱₀ L lv E ι (pdats m) (reg0 m) (reg1 m))
    (fun c Q => by
      rewrite [main_chain c, Seg.run_eq_chain,
        show (segs m (outs m) 𝒱₀ L lv E ι (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨hpre0 c, hpost0 c, hpre1 c, hpost1 c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v12) = V4 m (outs m) c main_v12 ∧ s.mem ((c.tc : Thread nD τ).loc main_v13) = V4 m (outs m) c main_v13 ∧ s.mem ((c.tc : Thread nD τ).loc main_v15) = V4 m (outs m) c main_v15)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        h (Proc.devRef .tc main_v12) (Finset.mem_filter.mpr ⟨StableHlo.devRef_mem_tcRefs main_v12, by decide⟩),
        h (Proc.devRef .tc main_v13) (Finset.mem_filter.mpr ⟨StableHlo.devRef_mem_tcRefs main_v13, by decide⟩),
        h (Proc.devRef .tc main_v15) (Finset.mem_filter.mpr ⟨StableHlo.devRef_mem_tcRefs main_v15, by decide⟩)⟩
    · iexact HSI

end Cert.Proof.KernelIdeal
-- ==== Proof.RefFrame.lean ====
/-
  The reference is a program of host operations only: it runs, leaves its arguments as they were and every semaphore at zero.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.Proof.Reference

open Idealize.ShloMosaic Idealize.ShloMosaic.TcCoe Idealize.SL.Sem

/-- The reference runs, its arguments end unchanged and every semaphore reads zero. -/
theorem frame : Cert.quiescent_ReferenceIdeal := by
  intro m g _
  hlo_run
  all_goals first | exact fun _ => ⟨trivial, trivial, trivial, trivial, trivial⟩ | exact Idealize.ShloMosaic.sem_eq_zero_of_no_sems (τ := Cert.ReferenceIdeal.τ) (sig := Cert.ReferenceIdeal.sig) (by decide) _

end Cert.Proof.Reference
-- ==== Proof.SpecIdeal.lean ====
/-
  The quantities both programs compute, over the extended reals, as plain sums: the residual of the quantized weights, its product with
  `H`, and the objective by groups, by columns and in total.
-/
module

public import Idealize.ShloMosaic.Lib.Pointwise

@[expose] public section

noncomputable section

namespace Cert.Proof.Spec

open Idealize.ShloMosaic

abbrev SW : Shape := ⟨2, ![18944, 3584]⟩
abbrev SC : Shape := ⟨3, ![18944, 448, 2]⟩
abbrev SB : Shape := ⟨3, ![2, 256, 8]⟩
abbrev SS : Shape := ⟨2, ![18944, 56]⟩
abbrev SH : Shape := ⟨2, ![3584, 3584]⟩

variable (W : SW.Idx → EReal) (C : SC.Idx → BitVec 8) (B : SB.Idx → BitVec 16) (S : SS.Idx → EReal) (H : SH.Idx → EReal)

/-- Entry `d` of row `c` of codebook `m`. -/
def book (m : Fin 2) (c : BitVec 8) (d : Fin 8) : EReal := Ideal.ofBits .bf16 (B (ix3 m ⟨c.toNat, c.isLt⟩ d))

/-- The reconstructed weight: the two codebooks' entries for its group, added and scaled. -/
def hat (o : Fin 18944) (k : Fin 3584) : EReal :=
  (book B 0 (C (ix3 o ⟨k.val / 8, by omega⟩ 0)) ⟨k.val % 8, by omega⟩ + book B 1 (C (ix3 o ⟨k.val / 8, by omega⟩ 1)) ⟨k.val % 8, by omega⟩)
    * S (ix2 o ⟨k.val / 64, by omega⟩)

/-- The residual. -/
def res (o : Fin 18944) (k : Fin 3584) : EReal := W (ix2 o k) - hat C B S o k

/-- The residual times `H`. -/
def act (o : Fin 18944) (k : Fin 3584) : EReal := ∑ j : Fin 3584, res W C B S o j * H (ix2 j k)

/-- The objective of one group of 8 columns of one row. -/
def eg (o : Fin 18944) (g : Fin 448) : EReal :=
  ∑ d : Fin 8, res W C B S o ⟨8 * g.val + d.val, by omega⟩ * act W C B S H o ⟨8 * g.val + d.val, by omega⟩

/-- The objective of one row. -/
def e (o : Fin 18944) : EReal := ∑ g : Fin 448, eg W C B S H o g

/-- The whole objective. -/
def total : EReal := ∑ o : Fin 18944, e W C B S H o

end Cert.Proof.Spec
-- ==== Proof.BookIdeal.lean ====
/-
  The kernel's codebook lookup over the extended reals: the packed word gathered at `code & 127`, shifted by 16 for the low half and
  masked, read as f32, is the codebook's bf16 entry at `code`.
-/
module

public import proofs.«01_k».proof.Proof.ReadIdeal
public import proofs.«01_k».proof.Proof.SpecIdeal
public import Idealize.ShloMosaic.PureOps.Ideal.Laws

@[expose] public section

set_option maxRecDepth 16384

noncomputable section

namespace Cert.Proof.KernelIdeal

open Cert.KernelIdeal Cert.KernelIdeal.Gen
open Idealize.ShloMosaic

/-- A subnormal's fraction moved up sixteen places has the scale of the wider format. -/
theorem scale_sub (s : ℝ) (f : ℕ) : s * ((f * 2 ^ 16 : ℕ) : ℝ) * (2 : ℝ) ^ (1 - (2 ^ (8 - 1) - 1) - (23 : ℕ) : ℤ) = s * (f : ℝ) * (2 : ℝ) ^ (1 - (2 ^ (8 - 1) - 1) - (7 : ℕ) : ℤ) := by
  rw [show (1 - (2 ^ (8 - 1) - 1) - (7 : ℕ) : ℤ) = (1 - (2 ^ (8 - 1) - 1) - (23 : ℕ) : ℤ) + 16 by norm_num, zpow_add₀ (by norm_num : (2 : ℝ) ≠ 0)]
  push_cast
  norm_num
  ring

/-- A normal number's fraction moved up sixteen places has the scale of the wider format. -/
theorem scale_norm (s : ℝ) (f : ℕ) (n : ℤ) : s * ((2 ^ 23 + f * 2 ^ 16 : ℕ) : ℝ) * (2 : ℝ) ^ (n - (23 : ℕ)) = s * ((2 ^ 7 + f : ℕ) : ℝ) * (2 : ℝ) ^ (n - (7 : ℕ)) := by
  rw [show n - (7 : ℕ) = n - (23 : ℕ) + 16 by push_cast; ring, zpow_add₀ (by norm_num : (2 : ℝ) ≠ 0)]
  have h16 : (2 : ℝ) ^ (16 : ℤ) = 65536 := by norm_num
  rw [h16]
  push_cast
  ring

/-- A bf16 pattern in the high half of a word denotes as f32 what it denotes as bf16. -/
theorem ofBits_shl (b : BitVec 16) : Ideal.ofBits .f32 (BitVec.setWidth 32 b <<< 16) = Ideal.ofBits .bf16 b := by
  have hb := b.isLt
  have h1 : BitVec.extractLsb' 31 1 (BitVec.setWidth 32 b <<< 16) = BitVec.extractLsb' 15 1 b := by
    apply BitVec.eq_of_toNat_eq; simp [BitVec.extractLsb'_toNat, Nat.shiftLeft_eq, Nat.shiftRight_eq_div_pow]; omega
  have h2 : BitVec.extractLsb' 23 8 (BitVec.setWidth 32 b <<< 16) = BitVec.extractLsb' 7 8 b := by
    apply BitVec.eq_of_toNat_eq; simp [BitVec.extractLsb'_toNat, Nat.shiftLeft_eq, Nat.shiftRight_eq_div_pow]; omega
  have h3 : (BitVec.extractLsb' 0 23 (BitVec.setWidth 32 b <<< 16)).toNat = (BitVec.extractLsb' 0 7 b).toNat * 2 ^ 16 := by
    simp [BitVec.extractLsb'_toNat, Nat.shiftLeft_eq]; omega
  have hz : (BitVec.extractLsb' 0 7 b).toNat * 2 ^ 16 = 0 ↔ (BitVec.extractLsb' 0 7 b).toNat = 0 := by omega
  show Ideal.ieee 8 23 _ = Ideal.ieee 8 7 _
  unfold Ideal.ieee
  dsimp only
  rw [h1, h2, h3]
  simp only [hz, scale_sub, scale_norm]

/-- The shift plane's word for code `c`. -/
abbrev shiftOf (c : BitVec 8) : BitVec 32 := Scalar.select (Scalar.cmpi .slt (BitVec.setWidth 32 c) 128#32) 16#32 0#32
/-- The position plane's word for code `c`. -/
abbrev posOf (c : BitVec 8) : BitVec 32 := Scalar.andi (BitVec.setWidth 32 c) 127#32

/-- The shift of a code: sixteen for the lower half of the codebook, none for the upper. -/
theorem shiftOf_eq : ∀ c : BitVec 8, shiftOf c = if c.toNat < 128 then 16#32 else 0#32 := by decide +kernel
/-- The position of a code in its half of the codebook: the code modulo 128. -/
theorem posOf_eq : ∀ c : BitVec 8, (Scalar.select (IntOp.cmpi .slt (posOf c) 0#32) (IntOp.addi (posOf c) 128#32) (posOf c)).toNat % 128 = c.toNat % 128 := by decide +kernel

/-- The packed word of two bf16 patterns. -/
abbrev packed (lo hi : BitVec 16) : BitVec 32 := BitVec.setWidth 32 lo ||| (BitVec.setWidth 32 hi <<< 16)

/-- The mask's set bits are the upper sixteen. -/
theorem mask_bit : ∀ i (h : i < 32), (4294901760#32 : BitVec 32)[i] = decide (16 ≤ i) := by decide

/-- Shifted up and masked, a packed word leaves its lower pattern. -/
theorem word_lo (lo hi : BitVec 16) : IntOp.andi (IntOp.shli .vector (packed lo hi) 16#32) 4294901760#32 = BitVec.setWidth 32 lo <<< 16 := by
  show (packed lo hi <<< 16) &&& 4294901760#32 = _
  ext i hi
  rw [BitVec.getElem_and, mask_bit i hi]
  simp [BitVec.getLsbD_setWidth]
  grind

/-- Masked without a shift, a packed word leaves its upper pattern. -/
theorem word_hi (lo hi : BitVec 16) : IntOp.andi (IntOp.shli .vector (packed lo hi) 0#32) 4294901760#32 = BitVec.setWidth 32 hi <<< 16 := by
  show (packed lo hi <<< 0) &&& 4294901760#32 = _
  ext i hi
  rw [BitVec.getElem_and, mask_bit i hi]
  simp [BitVec.getLsbD_setWidth]
  grind

/-- The word looked up for code `c`, shifted and masked, denotes the half `c` names. -/
theorem word_ideal (c : BitVec 8) (lo hi : BitVec 16) :
    Ideal.ofBits .f32 (IntOp.andi (IntOp.shli .vector (packed lo hi) (shiftOf c)) 4294901760#32) = Ideal.ofBits .bf16 (if c.toNat < 128 then lo else hi) := by
  rw [shiftOf_eq]
  split
  · rw [word_lo, ofBits_shl]
  · rw [word_hi, ofBits_shl]

/-- A repeated row reads as the row. -/
theorem rep_apply (v : IVec S1x1x128 32) (d : Fin 8) (l : Fin 128) : rep v (ix2 d l) = v (ix3 0 0 l) := by
  unfold rep
  pointwise

/-- A looked-up value: the gathered word of the lane, shifted by the lane's shift and masked. -/
theorem bookV_apply (tb : IVec S1x8x128 32) (iv sv : IVec S1x1x128 32) (d : Fin 8) (l : Fin 128) (c : BitVec 8)
    (hi : iv (ix3 0 0 l) = posOf c) (hs : sv (ix3 0 0 l) = shiftOf c) :
    bookV (F := Ideal) tb iv sv (ix2 d l)
      = Ideal.ofBits .f32 (IntOp.andi (IntOp.shli .vector (tb (ix3 0 d ⟨c.toNat % 128, Nat.mod_lt _ (by decide)⟩)) (shiftOf c)) 4294901760#32) := by
  have hp := posOf_eq c
  unfold bookV
  pointwise
  simp only [rep_apply, hi, hs]
  simp only [hp]

/-- A looked-up value is the codebook's entry. -/
theorem bookV_ideal (x3 : S2x8x128.Idx → BitVec 32) (x10 : S4x64x512.Idx → BitVec 32) (B : Spec.SB.Idx → BitVec 16) (k : Fin 2) (kp ks : Fin 4) (t r : Fin 16) (d : Fin 8) (l : Fin 128) (c : BitVec 8)
    (hx3 : ∀ d p, x3 (ix3 k d p) = packed (B (ix3 k ⟨p.val, by omega⟩ d)) (B (ix3 k ⟨p.val + 128, by omega⟩ d)))
    (hi : idxV x10 kp t r (ix3 0 0 l) = posOf c) (hs : idxV x10 ks t r (ix3 0 0 l) = shiftOf c) :
    bookV (F := Ideal) (tabV x3 k) (idxV x10 kp t r) (idxV x10 ks t r) (ix2 d l) = Spec.book B k c d := by
  rw [bookV_apply _ _ _ d l c hi hs]
  have e : tabV x3 k (ix3 0 d ⟨c.toNat % 128, Nat.mod_lt _ (by decide)⟩) = packed (B (ix3 k ⟨c.toNat % 128, by omega⟩ d)) (B (ix3 k ⟨c.toNat % 128 + 128, by omega⟩ d)) := hx3 d _
  rw [e, word_ideal]
  unfold Spec.book
  have hc := c.isLt
  split
  · rename_i h; congr 4; exact Nat.mod_eq_of_lt h
  · rename_i h; congr 4; omega

end Cert.Proof.KernelIdeal
-- ==== Proof.HostIdeal.lean ====
/-
  What the main call reads, over the extended reals: the codes and scales transposed, the codebooks packed in pairs, and the argument
  left alone.
-/
module

public import proofs.«01_k».proof.Proof.RunsIdeal
public import proofs.«01_k».proof.Proof.BookIdeal
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-- The program's arguments on core `c`. -/
abbrev argW : Spec.SW.Idx → EReal := m ((c : Thread nD τ).loc main_arg0)
abbrev argC : Spec.SC.Idx → BitVec 8 := m ((c : Thread nD τ).loc main_arg1)
abbrev argB : Spec.SB.Idx → BitVec 16 := m ((c : Thread nD τ).loc main_arg2)
abbrev argS : Spec.SS.Idx → EReal := m ((c : Thread nD τ).loc main_arg3)
abbrev argH : Spec.SH.Idx → EReal := m ((c : Thread nD τ).loc main_arg4)

/-- The main call finds the weights as given. -/
theorem VM_arg0 : VM m c main_arg0 = argW m c :=
  (V2_of m _ c main_arg0 (by decide)).trans (V1_of m _ c main_arg0 (by decide))

/-- The main call finds the array that the split of `H` wrote. -/
theorem VM_v0 : VM m c main_v0 = (dat0 (fun c b => V0 m c b) c).arrAt 1 cfg0.N :=
  (V2_of m _ c main_v0 (by decide)).trans (V1_main_v0 m c)

/-- The main call's codes are the given ones, transposed. -/
theorem VM_v1 (k : Fin 2) (g : Fin 448) (o : Fin 18944) : (VM m c main_v1 : S2x448x18944.Idx → BitVec 8) (ix3 k g o) = argC m c (ix3 o g k) := by
  have e : (VM m c main_v1 : S2x448x18944.Idx → BitVec 8) = transpose S2x448x18944 [2, 1, 0] (V1 m (fun _ => out1 m) c main_arg1 : S18944x448x2.Idx → BitVec 8) transposes_S18944x448x2_S2x448x18944_2_1_0 := by
    show StableHlo.after hostOps1 _ _ = _
    after_results_simp
  rw [e, V1_of m _ c main_arg1 (by decide)]
  pointwise

/-- The main call's scales are the given ones, transposed. -/
theorem VM_v2 (s : Fin 56) (o : Fin 18944) : (VM m c main_v2 : S56x18944.Idx → EReal) (ix2 s o) = argS m c (ix2 o s) := by
  have e : (VM m c main_v2 : S56x18944.Idx → EReal) = transpose S56x18944 [1, 0] (V1 m (fun _ => out1 m) c main_arg3 : S18944x56.Idx → EReal) transposes_S18944x56_S56x18944_1_0 := by
    show StableHlo.after hostOps1 _ _ = _
    after_results_simp
  rw [e, V1_of m _ c main_arg3 (by decide)]
  pointwise

/-- A pattern or-ed with another moved up sixteen places is the packed word of the two. -/
theorem ori_shl (x y x' y' : BitVec 16) (hx : x = x') (hy : y = y') : IntOp.ori (BitVec.setWidth 32 x) (IntOp.shli .host (BitVec.setWidth 32 y) 16#32) = packed x' y' := by
  subst hx hy
  exact congrArg (BitVec.setWidth 32 x ||| ·) (if_pos (by decide))

/-- The main call's table: each word packs an entry of the lower half of a codebook with the one 128 above it. -/
theorem VM_v10 (k : Fin 2) (d : Fin 8) (p : Fin 128) : (VM m c main_v10 : S2x8x128.Idx → BitVec 32) (ix3 k d p)
    = packed (argB m c (ix3 k ⟨p.val, by omega⟩ d)) (argB m c (ix3 k ⟨p.val + 128, by omega⟩ d)) := by
  have e : (VM m c main_v10 : S2x8x128.Idx → BitVec 32) = transpose S2x8x128 [0, 2, 1]
      (ori (extractStridedSlice S2x128x8 ![0, 0, 0] (extui 32 (V1 m (fun _ => out1 m) c main_arg2 : S2x256x8.Idx → BitVec 16) natLt_16_32) slices_S2x256x8_S2x128x8_0_0_0)
        (Host.shli (extractStridedSlice S2x128x8 ![0, 128, 0] (extui 32 (V1 m (fun _ => out1 m) c main_arg2 : S2x256x8.Idx → BitVec 16) natLt_16_32) slices_S2x256x8_S2x128x8_0_128_0)
          (broadcastInDim S2x128x8 ![] bcast_S_S2x128x8 (constantI S_ 32 16#32)))) transposes_S2x128x8_S2x8x128_0_2_1 := by
    show StableHlo.after hostOps1 _ _ = _
    after_results_simp
    rfl
  rw [e, V1_of m _ c main_arg2 (by decide)]
  pointwise
  exact ori_shl _ _ _ _ rfl (congrArg (argB m c) (congrArg (fun z => ix3 k z d) (Fin.ext (Nat.add_comm _ _))))

end Cert.Proof.KernelIdeal
-- ==== Proof.PartsIdeal.lean ====
/-
  The kernel's arithmetic over the extended reals, on finite values: splitting a value into three parts gives the value and two zeros, so
  the products of parts add up to the product itself.
-/
module

public import proofs.«01_k».proof.Proof.MainIdeal
public import Idealize.ShloMosaic.Lib.Pointwise
public import Idealize.ShloMosaic.PureOps.Ideal.Laws
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe

/-- A finite value. -/
def Fin1 (x : EReal) : Prop := ∃ r : ℝ, x = (r : EReal)

/-- The constant 257. -/
theorem c257 : Ideal.ofBits .f32 0x43808000#32 = ((257 : ℝ) : EReal) := by
  simp [Ideal.ofBits, Ideal.ieee, -EReal.coe_mul]; norm_num
/-- The constant 256. -/
theorem c256 : Ideal.ofBits .f32 0x43800000#32 = ((256 : ℝ) : EReal) := by
  simp [Ideal.ofBits, Ideal.ieee, -EReal.coe_mul]; norm_num
/-- The constant 256 as a bfloat16. -/
theorem c256b : Ideal.ofBits .bf16 0x4380#16 = ((256 : ℝ) : EReal) := by
  simp [Ideal.ofBits, Ideal.ieee, -EReal.coe_mul]; norm_num
/-- The constant -1/256. -/
theorem cinv : Ideal.ofBits .bf16 0xBB80#16 = ((-(1 / 256) : ℝ) : EReal) := by
  simp [Ideal.ofBits, Ideal.ieee, -EReal.coe_mul]; norm_num
/-- The constant 257/256. -/
theorem conep : Ideal.ofBits .f32 0x3F808000#32 = ((257 / 256 : ℝ) : EReal) := by
  simp [Ideal.ofBits, Ideal.ieee, -EReal.coe_mul]; norm_num

/-- The rounding to 16 bits does nothing to a finite value. -/
theorem round16_ideal {s : Shape} (x : FVec Ideal s .f32) (i : s.Idx) (h : Fin1 (x i)) : round16 x i = x i := by
  obtain ⟨r, hr⟩ := h
  unfold round16
  show x i * Ideal.ofBits .f32 0x43808000#32 - (x i * Ideal.ofBits .f32 0x43808000#32 - x i) = x i
  rw [hr, c257, ← EReal.coe_mul, ← EReal.coe_sub, ← EReal.coe_sub]
  congr 1
  ring

/-- Neither does the truncation. -/
theorem top12_ideal {s : Shape} (x : FVec Ideal s .f32) (i : s.Idx) (h : Fin1 (x i)) : top12 x i = x i := by
  unfold top12
  have h' := round16_ideal x i h
  show Scalar.select (FloatOps.cmpf (F := Ideal) (φ := .f32) .ogt (FloatOps.absf (F := Ideal) (φ := .f32) (round16 x i)) (FloatOps.absf (F := Ideal) (φ := .f32) (x i))) _ (round16 x i) = x i
  rw [h', show FloatOps.cmpf (F := Ideal) (φ := .f32) .ogt (FloatOps.absf (F := Ideal) (φ := .f32) (x i)) (FloatOps.absf (F := Ideal) (φ := .f32) (x i)) = 0#1 by
    simp [Ideal.cmpf_def, Ideal.cmp]]
  rfl

/-- The three parts of a finite value are the value and two zeros. -/
theorem split_ideal {s : Shape} (x : FVec Ideal s .f32) (i : s.Idx) (h : Fin1 (x i)) :
    split 0 x i = x i ∧ split 1 x i = (0 : EReal) ∧ split 2 x i = (0 : EReal) := by
  have h' := top12_ideal x i h
  obtain ⟨r, hr⟩ := h
  refine ⟨rfl, ?_, ?_⟩
  · show top12 x i - x i = (0 : EReal)
    rw [h', hr, ← EReal.coe_sub, sub_self, EReal.coe_zero]
  · show x i - top12 x i = (0 : EReal)
    rw [h', hr, ← EReal.coe_sub, sub_self, EReal.coe_zero]

/-- The parts of a block of `H`, where it is finite: its transpose and two zeros. -/
theorem hpart_ideal (x : FVec Ideal S512x512 .f32) (a b : Fin 512) (h : Fin1 (x (ix2 b a))) :
    hpart x 0 (ix2 a b) = x (ix2 b a) ∧ hpart x 1 (ix2 a b) = (0 : EReal) ∧ hpart x 2 (ix2 a b) = (0 : EReal) := by
  have ht : transpose S512x512 [1, 0] x transposes_S512x512_p1_0_S512x512 (ix2 a b) = x (ix2 b a) := by pointwise
  have h' := top12_ideal (transpose S512x512 [1, 0] x transposes_S512x512_p1_0_S512x512) (ix2 a b) (by rw [ht]; exact h)
  rw [ht] at h'
  obtain ⟨r, hr⟩ := h
  refine ⟨ht, ?_, ?_⟩
  · show (top12 (transpose S512x512 [1, 0] x transposes_S512x512_p1_0_S512x512) (ix2 a b) - transpose S512x512 [1, 0] x transposes_S512x512_p1_0_S512x512 (ix2 a b)) * Ideal.ofBits .f32 0x43800000#32 = (0 : EReal)
    rw [h', ht, hr, ← EReal.coe_sub, sub_self, EReal.coe_zero, zero_mul]
  · show transpose S512x512 [1, 0] x transposes_S512x512_p1_0_S512x512 (ix2 a b) - top12 (transpose S512x512 [1, 0] x transposes_S512x512_p1_0_S512x512) (ix2 a b) = (0 : EReal)
    rw [h', ht, hr, ← EReal.coe_sub, sub_self, EReal.coe_zero]

/-- The block product as a sum. -/
theorem mm_ideal (x : FVec Ideal S512x3584 .bf16) (y : FVec Ideal S3584x512 .bf16) (a b : Fin 512) :
    mm x y (ix2 a b) = ∑ k : Fin 3584, x (ix2 a k) * y (ix2 k b) := by
  unfold mm
  pointwise

/-- A sum of reals, in the extended reals. -/
theorem sum_coe {ι : Type} (s : Finset ι) (f : ι → ℝ) : ∑ k ∈ s, ((f k : ℝ) : EReal) = ((∑ k ∈ s, f k : ℝ) : EReal) :=
  (map_sum (⟨⟨((↑) : ℝ → EReal), EReal.coe_zero⟩, EReal.coe_add⟩ : ℝ →+ EReal) f s).symm

/-- The parts' products add up to the product of the first parts, the others being zero. -/
theorem yL_ideal (h0 h1 h2 : FVec Ideal S512x3584 .bf16) (r0 r1 r2 : FVec Ideal S3584x512 .bf16)
    (fh : ∀ i, Fin1 (h0 i)) (fr : ∀ i, Fin1 (r0 i)) (zh1 : ∀ i, h1 i = (0 : EReal)) (zh2 : ∀ i, h2 i = (0 : EReal)) (zr1 : ∀ i, r1 i = (0 : EReal)) (zr2 : ∀ i, r2 i = (0 : EReal)) (a b : Fin 512) :
    yL h0 h1 h2 r0 r1 r2 (ix2 a b) = ∑ k : Fin 3584, h0 (ix2 a k) * r0 (ix2 k b) := by
  choose fh' hfh using fh
  choose fr' hfr using fr
  unfold yL
  show (mm h0 r0 (ix2 a b) + mm h1 r1 (ix2 a b)) * Ideal.ofBits .f32 0x3F808000#32 + ((mm _ _ (ix2 a b) + mm h2 r0 (ix2 a b)) + mm h0 r2 (ix2 a b)) = _
  rw [mm_ideal, mm_ideal, mm_ideal, mm_ideal, mm_ideal]
  have e0 : ∑ k : Fin 3584, h0 (ix2 a k) * r0 (ix2 k b) = ((∑ k : Fin 3584, fh' (ix2 a k) * fr' (ix2 k b) : ℝ) : EReal) := by
    rw [← sum_coe]
    exact Finset.sum_congr rfl fun k _ => by rw [hfh, hfr, EReal.coe_mul]
  have e1 : ∑ k : Fin 3584, h1 (ix2 a k) * r1 (ix2 k b) = (0 : EReal) := Finset.sum_eq_zero fun k _ => by rw [zh1, zero_mul]
  have e2 : ∑ k : Fin 3584, h2 (ix2 a k) * r0 (ix2 k b) = (0 : EReal) := Finset.sum_eq_zero fun k _ => by rw [zh2, zero_mul]
  have e3 : ∑ k : Fin 3584, h0 (ix2 a k) * r2 (ix2 k b) = (0 : EReal) := Finset.sum_eq_zero fun k _ => by rw [zr2, mul_zero]
  have e4 : ∑ k : Fin 3584, ((h0 (ix2 a k) - h1 (ix2 a k)) * Ideal.ofBits .bf16 0xBB80#16) * (r0 (ix2 k b) - r1 (ix2 k b) * Ideal.ofBits .bf16 0x4380#16)
      = ((∑ k : Fin 3584, fh' (ix2 a k) * (-(1 / 256)) * fr' (ix2 k b) : ℝ) : EReal) := by
    rw [← sum_coe]
    refine Finset.sum_congr rfl fun k _ => ?_
    rw [hfh, hfr, zh1, zr1, cinv, zero_mul, sub_zero, sub_zero, ← EReal.coe_mul, ← EReal.coe_mul]
  refine (congrArg₂ (· + ·) (congrArg₂ (· * ·) (congrArg₂ (· + ·) e0 e1) conep) (congrArg₂ (· + ·) (congrArg₂ (· + ·) e4 e2) e3)).trans ?_
  rw [e0]
  simp only [add_zero]
  rw [← EReal.coe_mul, ← EReal.coe_add]
  congr 1
  rw [Finset.sum_mul, ← Finset.sum_add_distrib]
  refine Finset.sum_congr rfl fun k _ => ?_
  ring

end Cert.Proof.KernelIdeal
-- ==== Proof.ResIdeal.lean ====
/-
  The residual block a phase leaves, over the extended reals: from the staged blocks, part 0 of every element is the residual and parts
  1 and 2 are zero.
-/
module

public import proofs.«01_k».proof.Proof.BookIdeal
public import proofs.«01_k».proof.Proof.PartsIdeal

@[expose] public section

set_option maxRecDepth 16384

noncomputable section

namespace Cert.Proof.KernelIdeal

open Cert.KernelIdeal Cert.KernelIdeal.Gen
open Idealize.ShloMosaic

/-- A reconstructed value: the two looked-up entries added and scaled. -/
theorem hatV_apply (t0 t1 : IVec S1x8x128 32) (i0 s0 i1 s1 : IVec S1x1x128 32) (sc : FVec Ideal S1x128 .f32) (d : Fin 8) (l : Fin 128) :
    hatV t0 t1 i0 s0 i1 s1 sc (ix2 d l) = ((bookV (F := Ideal) t0 i0 s0 (ix2 d l) + bookV (F := Ideal) t1 i1 s1 (ix2 d l)) * sc (ix2 0 l) : EReal) := by
  unfold hatV
  pointwise

/-- Eight rows of the residual: the transposed weights minus the reconstructed values. -/
theorem halfV_apply (w : FVec Ideal S128x128 .bf16) (q : Fin 16) (h : FVec Ideal S8x128 .f32) (d : Fin 8) (l : Fin 128) :
    halfV w q h (ix2 d l) = (w (ix2 l ⟨8 * q.val + d.val, by omega⟩) - h (ix2 d l) : EReal) := by
  unfold halfV wtV
  pointwise

/-- The first eight of sixteen rows come from the first half. -/
theorem catV_lo (x y : FVec Ideal S8x128 .f32) (r : Fin 16) (l : Fin 128) (h : r.val < 8) : catV x y (ix2 r l) = x (ix2 ⟨r.val, h⟩ l) := by
  unfold catV
  pointwise
  rw [dif_pos h]

/-- The last eight of sixteen rows come from the second half. -/
theorem catV_hi (x y : FVec Ideal S8x128 .f32) (r : Fin 16) (l : Fin 128) (h : ¬ r.val < 8) : catV x y (ix2 r l) = y (ix2 ⟨r.val - 8, by omega⟩ l) := by
  unfold catV
  pointwise
  rw [dif_neg h]

/-- 8 residual rows read at an index, from the codes. -/
theorem half_ideal (x2 : S2x64x512.Idx → BitVec 8) (x3 : S2x8x128.Idx → BitVec 32) (x4 : S8x512.Idx → EReal) (x5 : S512x512.Idx → EReal) (B : Spec.SB.Idx → BitVec 16)
    (hx3 : ∀ k d p, x3 (ix3 k d p) = packed (B (ix3 k ⟨p.val, by omega⟩ d)) (B (ix3 k ⟨p.val + 128, by omega⟩ d)))
    (t q : Fin 16) (s : Fin 2) (d : Fin 8) (l : Fin 128) :
    halfV (F := Ideal) (wV x5 t) q (hatV (tabV x3 0) (tabV x3 1) (idxV (idxs x2) 0 t q) (idxV (idxs x2) 1 t q) (idxV (idxs x2) 2 t q) (idxV (idxs x2) 3 t q) (scaleV x4 t s)) (ix2 d l)
      = (x5 (ix2 ⟨128 * (t.val / 4) + l.val, by omega⟩ ⟨128 * (t.val % 4) + (8 * q.val + d.val), by omega⟩)
        - (Spec.book B 0 (x2 (ix3 0 ⟨16 * (t.val % 4) + q.val, by omega⟩ ⟨128 * (t.val / 4) + l.val, by omega⟩)) d
          + Spec.book B 1 (x2 (ix3 1 ⟨16 * (t.val % 4) + q.val, by omega⟩ ⟨128 * (t.val / 4) + l.val, by omega⟩)) d)
          * x4 (ix2 ⟨2 * (t.val % 4) + s.val, by omega⟩ ⟨128 * (t.val / 4) + l.val, by omega⟩) : EReal) := by
  rw [halfV_apply, hatV_apply,
    bookV_ideal x3 (idxs x2) B 0 0 1 t q d l (x2 (ix3 0 ⟨16 * (t.val % 4) + q.val, by omega⟩ ⟨128 * (t.val / 4) + l.val, by omega⟩)) (hx3 0) (idxs_pos x2 0 0 rfl _ _).symm (idxs_shift x2 1 0 rfl _ _).symm,
    bookV_ideal x3 (idxs x2) B 1 2 3 t q d l (x2 (ix3 1 ⟨16 * (t.val % 4) + q.val, by omega⟩ ⟨128 * (t.val / 4) + l.val, by omega⟩)) (hx3 1) (idxs_pos x2 2 1 rfl _ _).symm (idxs_shift x2 3 1 rfl _ _).symm]
  rfl

variable (W : Spec.SW.Idx → EReal) (C : Spec.SC.Idx → BitVec 8) (B : Spec.SB.Idx → BitVec 16) (S : Spec.SS.Idx → EReal)

/-- What the staged blocks hold at tile `M` of rows and tile `n` of columns. -/
structure Staged (M : Fin 37) (n : Fin 7) (x2 : S2x64x512.Idx → BitVec 8) (x3 : S2x8x128.Idx → BitVec 32) (x4 : S8x512.Idx → EReal) (x5 : S512x512.Idx → EReal) : Prop where
  codes : ∀ (k : Fin 2) (g : Fin 64) (b : Fin 512) (o : Fin 18944) (G : Fin 448), o.val = 512 * M.val + b.val → G.val = 64 * n.val + g.val → x2 (ix3 k g b) = C (ix3 o G k)
  table : ∀ (k : Fin 2) (d : Fin 8) (p : Fin 128), x3 (ix3 k d p) = packed (B (ix3 k ⟨p.val, by omega⟩ d)) (B (ix3 k ⟨p.val + 128, by omega⟩ d))
  scale : ∀ (s : Fin 8) (b : Fin 512) (o : Fin 18944) (G : Fin 56), o.val = 512 * M.val + b.val → G.val = 8 * n.val + s.val → x4 (ix2 s b) = S (ix2 o G)
  weight : ∀ (b a : Fin 512) (o : Fin 18944) (k : Fin 3584), o.val = 512 * M.val + b.val → k.val = 512 * n.val + a.val → x5 (ix2 b a) = W (ix2 o k)

/-- Eight rows computed from the staged blocks are the residual's. -/
theorem half_res {M : Fin 37} {n : Fin 7} {x2 : S2x64x512.Idx → BitVec 8} {x3 : S2x8x128.Idx → BitVec 32} {x4 : S8x512.Idx → EReal} {x5 : S512x512.Idx → EReal} (h : Staged W C B S M n x2 x3 x4 x5)
    (t q : Fin 16) (s : Fin 2) (d : Fin 8) (l : Fin 128) (hs : s.val = q.val / 8) (o : Fin 18944) (k : Fin 3584)
    (ho : o.val = 512 * M.val + (128 * (t.val / 4) + l.val)) (hk : k.val = 512 * n.val + (128 * (t.val % 4) + (8 * q.val + d.val))) :
    halfV (F := Ideal) (wV x5 t) q (hatV (tabV x3 0) (tabV x3 1) (idxV (idxs x2) 0 t q) (idxV (idxs x2) 1 t q) (idxV (idxs x2) 2 t q) (idxV (idxs x2) 3 t q) (scaleV x4 t s)) (ix2 d l)
      = Spec.res W C B S o k := by
  have e8 : (⟨k.val % 8, Nat.mod_lt _ (by decide)⟩ : Fin 8) = d := Fin.ext (by show k.val % 8 = d.val; omega)
  rw [half_ideal x2 x3 x4 x5 B h.table, h.codes 0 _ _ o ⟨k.val / 8, by omega⟩ ho (by dsimp only; omega), h.codes 1 _ _ o ⟨k.val / 8, by omega⟩ ho (by dsimp only; omega),
    h.scale _ _ o ⟨k.val / 64, by omega⟩ ho (by dsimp only; omega), h.weight _ _ o k ho hk]
  unfold Spec.res Spec.hat
  rw [e8]

/-- Sixteen rows computed from the staged blocks are the residual's. -/
theorem rows_res {M : Fin 37} {n : Fin 7} {x2 : S2x64x512.Idx → BitVec 8} {x3 : S2x8x128.Idx → BitVec 32} {x4 : S8x512.Idx → EReal} {x5 : S512x512.Idx → EReal} (h : Staged W C B S M n x2 x3 x4 x5)
    (a b : Fin 512) (o : Fin 18944) (k : Fin 3584) (ho : o.val = 512 * M.val + b.val) (hk : k.val = 512 * n.val + a.val) :
    rowsV (F := Ideal) x3 x4 x5 (idxs x2) (tripAt a b) ⟨a.val % 128 / 16, by omega⟩ (ix2 ⟨a.val % 16, by omega⟩ ⟨b.val % 128, by omega⟩) = Spec.res W C B S o k := by
  have t4 : (tripAt a b).val / 4 = b.val / 128 := by show (4 * (b.val / 128) + a.val / 128) / 4 = _; omega
  have t5 : (tripAt a b).val % 4 = a.val / 128 := by show (4 * (b.val / 128) + a.val / 128) % 4 = _; omega
  unfold rowsV rowsOf
  by_cases h8 : a.val % 16 < 8
  · rw [catV_lo _ _ _ _ h8]
    refine half_res W C B S h _ (lo _) _ _ _ ?_ o k ?_ ?_
    · show a.val % 128 / 16 / 4 = 2 * (a.val % 128 / 16) / 8; omega
    · rw [t4]; dsimp only; omega
    · rw [t5]; show k.val = 512 * n.val + (128 * (a.val / 128) + (8 * (2 * (a.val % 128 / 16)) + a.val % 16)); omega
  · rw [catV_hi _ _ _ _ h8]
    refine half_res W C B S h _ (hi _) _ _ _ ?_ o k ?_ ?_
    · show a.val % 128 / 16 / 4 = (2 * (a.val % 128 / 16) + 1) / 8; omega
    · rw [t4]; dsimp only; omega
    · rw [t5]; show k.val = 512 * n.val + (128 * (a.val / 128) + (8 * (2 * (a.val % 128 / 16) + 1) + (a.val % 16 - 8))); omega

/-- The parts of the residual block, where the residual is finite. -/
theorem rcell_ideal {M : Fin 37} {n : Fin 7} {x2 : S2x64x512.Idx → BitVec 8} {x3 : S2x8x128.Idx → BitVec 32} {x4 : S8x512.Idx → EReal} {x5 : S512x512.Idx → EReal} (h : Staged W C B S M n x2 x3 x4 x5)
    (a b : Fin 512) (o : Fin 18944) (k : Fin 3584) (ho : o.val = 512 * M.val + b.val) (hk : k.val = 512 * n.val + a.val) (hf : Fin1 (Spec.res W C B S o k)) :
    rcell (F := Ideal) x3 x4 x5 (idxs x2) 0 a b = Spec.res W C B S o k ∧ rcell (F := Ideal) x3 x4 x5 (idxs x2) 1 a b = (0 : EReal) ∧ rcell (F := Ideal) x3 x4 x5 (idxs x2) 2 a b = (0 : EReal) := by
  have e := rows_res W C B S h a b o k ho hk
  have := split_ideal (rowsV (F := Ideal) x3 x4 x5 (idxs x2) (tripAt a b) ⟨a.val % 128 / 16, by omega⟩) (ix2 ⟨a.val % 16, by omega⟩ ⟨b.val % 128, by omega⟩) (by rw [e]; exact hf)
  rw [e] at this
  exact this

end Cert.Proof.KernelIdeal
-- ==== Proof.StagedIdeal.lean ====
/-
  The blocks the main call stages, over the extended reals, at every grid point: the codes, table, scales and weights of the point's tile,
  and the parts of `H` the first call left: `H` transposed and two planes of zeros.
-/
module

public import proofs.«01_k».proof.Proof.HostIdeal
public import proofs.«01_k».proof.Proof.ResIdeal
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat Cfg Window)

/-- The block of `H` that each grid point of the split reads. -/
theorem index0_0 : ∀ t : Fin cfg0.N, win0_0.index t = ![t.val % 7, t.val / 7] := (by decide +kernel : ∀ t : Fin grid0.N, _)
/-- The block of the parts of `H` that each grid point of the split writes. -/
theorem index0_1 : ∀ t : Fin cfg0.N, win0_1.index t = ![0, t.val / 7, t.val % 7] := (by decide +kernel : ∀ t : Fin grid0.N, _)
/-- The block of codes that each grid point reads. -/
theorem index1_0 : ∀ t : Fin cfg1.N, win1_0.index t = ![0, t.val % 7, min (t.val / 7) 36] := (by decide +kernel : ∀ t : Fin grid1.N, _)
/-- Every grid point reads the whole table. -/
theorem index1_1 : ∀ t : Fin cfg1.N, win1_1.index t = ![0, 0, 0] := (by decide +kernel : ∀ t : Fin grid1.N, _)
/-- The block of scales that each grid point reads. -/
theorem index1_2 : ∀ t : Fin cfg1.N, win1_2.index t = ![t.val % 7, min (t.val / 7) 36] := (by decide +kernel : ∀ t : Fin grid1.N, _)
/-- The block of weights that each grid point reads. -/
theorem index1_3 : ∀ t : Fin cfg1.N, win1_3.index t = ![min (t.val / 7) 36, t.val % 7] := (by decide +kernel : ∀ t : Fin grid1.N, _)
/-- The block of the parts of `H` that each grid point reads. -/
theorem index1_4 : ∀ t : Fin cfg1.N, win1_4.index t = ![0, if t.val < 7 then 0 else t.val % 7, 0] := (by decide +kernel : ∀ t : Fin grid1.N, _)

variable (m : (ℓ : Loc nD τ sig) → Buf (Elt Ideal) ℓ) (c : Dev nD)

/-- The blocks a grid point reads are those of its tile and block of columns. -/
theorem staged (p : Fin cfg1.N) (M : Fin 37) (n : Fin 7) (hM : M.val = min (p.val / 7) 36) (hn : n.val = p.val % 7) :
    Staged (argW m c) (argC m c) (argB m c) (argS m c) M n (B0 (VM m) c p) (B1 (VM m) c p) (B2 (VM m) c p) (B3 (VM m) c p) where
  codes k g b o G ho hG := by
    rw [← VM_v1]
    unfold B0
    blk_simp
    refine congrArg (VM m c main_v1) ?_
    blk_ext [index1_0]
  table k d q := by
    rw [← VM_v10]
    unfold B1
    blk_simp
    refine congrArg (VM m c main_v10) ?_
    blk_ext [index1_1]
  scale s b o G ho hG := by
    rw [← VM_v2]
    unfold B2
    blk_simp
    refine congrArg (VM m c main_v2) ?_
    blk_ext [index1_2]
  weight b a o k ho hk := by
    rw [← VM_arg0]
    unfold B3
    blk_simp
    refine congrArg (VM m c main_arg0) ?_
    blk_ext [index1_3]

/-- `H` transposed, and two planes of zeros. -/
def htG (H : Spec.SH.Idx → EReal) : S3x3584x3584.Idx → EReal := fun y => if (y 0).val = 0 then H (ix2 (y 2) (y 1)) else 0

/-- A block of parts where the block of `H` is finite. -/
theorem hblk_ideal (x : S512x512.Idx → EReal) (y : S3x512x512.Idx) (h : Fin1 (x (ix2 (y 2) (y 1)))) : hblk (F := Ideal) x y = if (y 0).val = 0 then x (ix2 (y 2) (y 1)) else (0 : EReal) := by
  have hp := hpart_ideal x (y 1) (y 2) h
  have y0 : (y 0).val < 3 := (y 0).isLt
  unfold hblk
  rcases (by omega : (y 0).val = 0 ∨ (y 0).val = 1 ∨ (y 0).val = 2) with e | e | e
  · rw [if_pos e, show y 0 = (0 : Fin 3) from Fin.ext e]; exact hp.1
  · rw [if_neg (by omega), show y 0 = (1 : Fin 3) from Fin.ext e]; exact hp.2.1
  · rw [if_neg (by omega), show y 0 = (2 : Fin 3) from Fin.ext e]; exact hp.2.2

/-- A block of `H` read at an index. -/
theorem hread (t : Fin cfg0.N) (a b : Fin 512) (i j : Fin 3584) (hi : i.val = 512 * (t.val % 7) + a.val) (hj : j.val = 512 * (t.val / 7) + b.val) :
    (((cfg0.win 0).blk t).view.read (Elt Ideal) (V0 m c main_arg4) : S512x512.Idx → EReal) (ix2 a b) = argH m c (ix2 i j) := by
  blk_simp
  refine congrArg (argH m c) ?_
  blk_ext [index0_0]

/-- The split leaves `H` transposed in the first part and zero in the other two. -/
theorem main_v0_ideal (hH : ∀ y, Fin1 (argH m c y)) : (VM m c main_v0 : S3x3584x3584.Idx → EReal) = htG (argH m c) := by
  rw [VM_v0]
  refine Dat.arrAt_eq_of_covers (dat0 (fun c b => V0 m c b) c) 1 (htG (argH m c)) (by decide +kernel) fun t hf y => ?_
  have e0 : (((win0_1.blk t).view.emb y : S3x3584x3584.Idx) 0).val = (y 0).val := by blk_simp [index0_1]
  have e1 : (((win0_1.blk t).view.emb y : S3x3584x3584.Idx) 1).val = 512 * (t.val / 7) + (y 1).val := by blk_simp [index0_1]; omega
  have e2 : (((win0_1.blk t).view.emb y : S3x3584x3584.Idx) 2).val = 512 * (t.val % 7) + (y 2).val := by blk_simp [index0_1]; omega
  blk_simp
  have er := hread m c t (y 2) (y 1) _ _ e2 e1
  refine (hblk_ideal _ y (by rw [er]; exact hH _)).trans ?_
  rw [er]
  unfold htG
  rw [e0]

/-- The staged parts of `H` at a computing point. -/
theorem B4_ideal (hH : ∀ y, Fin1 (argH m c y)) (t : Fin cfg1.N) (ht : 7 ≤ t.val) (j : Fin 3) (a : Fin 512) (k i : Fin 3584) (hi : i.val = 512 * (t.val % 7) + a.val) :
    B4 (VM m) c t (ix3 j a k) = if j.val = 0 then argH m c (ix2 k i) else (0 : EReal) := by
  have e : B4 (VM m) c t (ix3 j a k) = (VM m c main_v0 : S3x3584x3584.Idx → EReal) (ix3 j i k) := by
    unfold B4
    blk_simp
    refine congrArg (VM m c main_v0) ?_
    have : ¬ t.val < 7 := by omega
    blk_ext [index1_4, if_neg this]
  rw [e, main_v0_ideal m c hH]
  rfl

end Cert.Proof.KernelIdeal
-- ==== Proof.GroupsIdeal.lean ====
/-
  What one computing point leaves, over the extended reals: the objective of each group of its block of columns, for its tile of rows.
-/
module

public import proofs.«01_k».proof.Proof.StagedIdeal

@[expose] public section

set_option maxRecDepth 16384

noncomputable section

namespace Cert.Proof.KernelIdeal

open Cert.KernelIdeal Cert.KernelIdeal.Gen
open Idealize.ShloMosaic Idealize.ShloMosaic.TcCoe

/-- A plane of `H`'s parts read without its unit axis. -/
theorem castH_apply (x : FVec Ideal S1x512x3584 .bf16) (a : Fin 512) (k : Fin 3584) : shapeCast S512x3584 x shapeCasts_S1x512x3584_S512x3584 (ix2 a k) = x (ix3 0 a k) := by
  refine shapeCast_apply _ _ _ _ ?_
  simp only [Shape.rowMajor_val_two, Shape.rowMajor_val_three]
  simp

/-- A plane of the residual's parts read without its unit axes. -/
theorem castR_apply (x : FVec Ideal S1x1x3584x512 .bf16) (k : Fin 3584) (b : Fin 512) : shapeCast S3584x512 x shapeCasts_S1x1x3584x512_S3584x512 (ix2 k b) = x (ix4 0 0 k b) := by
  pointwise

/-- A block of the residual's parts read without its unit axes. -/
theorem castB_apply (x : FVec Ideal S1x1x512x512 .bf16) (a b : Fin 512) : shapeCast S512x512 x shapeCasts_S1x1x512x512_S512x512 (ix2 a b) = x (ix4 0 0 a b) := by
  pointwise

/-- The rows of a block counted by groups of eight. -/
theorem castG_apply (x : FVec Ideal S512x512 .f32) (g : Fin 64) (d : Fin 8) (b : Fin 512) : shapeCast S64x8x512 x shapeCasts_S512x512_S64x8x512 (ix3 g d b) = x (ix2 ⟨8 * g.val + d.val, by omega⟩ b) := by
  pointwise
  exact congrArg (fun z => x (ix2 z b)) (Fin.ext (by dsimp only; omega))

/-- The reduction over a group is a sum of eight. -/
theorem redG_apply (x : FVec Ideal S64x8x512 .f32) (g : Fin 64) (b : Fin 512) :
    multiReduction .add [1] S64x512 x 0x00000000#32 reduces_S64x8x512_S64x512 (.inl rfl) rfl (ix2 g b) = ∑ d : Fin 8, (x (ix3 g d b) : EReal) := by
  pointwise

/-- The groups of block `n` of a tile, the second and third parts being zero. -/
theorem egC_ideal (n : Fin 7) (x6 : S3x512x3584.Idx → EReal) (T : Tile Ideal) (f6 : ∀ a k, Fin1 (x6 (ix3 0 a k))) (z61 : ∀ a k, x6 (ix3 1 a k) = (0 : EReal)) (z62 : ∀ a k, x6 (ix3 2 a k) = (0 : EReal))
    (fT : ∀ a b, Fin1 (T 0 a b)) (zT1 : ∀ a b, T 1 a b = (0 : EReal)) (zT2 : ∀ a b, T 2 a b = (0 : EReal)) (g : Fin 64) (b : Fin 512) :
    egC n x6 T (ix2 g b) = ∑ d : Fin 8, ((T 0 ⟨512 * n.val + (8 * g.val + d.val), by omega⟩ b : EReal) * ∑ k : Fin 3584, (x6 (ix3 0 ⟨8 * g.val + d.val, by omega⟩ k) * T 0 k b : EReal)) := by
  unfold egC egL
  rw [redG_apply]
  refine Finset.sum_congr rfl fun d _ => ?_
  rw [castG_apply]
  have hy := yL_ideal (shapeCast S512x3584 (ldH x6 0) shapeCasts_S1x512x3584_S512x3584) (shapeCast S512x3584 (ldH x6 1) shapeCasts_S1x512x3584_S512x3584) (shapeCast S512x3584 (ldH x6 2) shapeCasts_S1x512x3584_S512x3584)
    (shapeCast S3584x512 (ldR T 0) shapeCasts_S1x1x3584x512_S3584x512) (shapeCast S3584x512 (ldR T 1) shapeCasts_S1x1x3584x512_S3584x512) (shapeCast S3584x512 (ldR T 2) shapeCasts_S1x1x3584x512_S3584x512)
    (fun i => by idx_vars i; rw [castH_apply]; exact f6 _ _) (fun i => by idx_vars i; rw [castR_apply]; exact fT _ _)
    (fun i => by idx_vars i; rw [castH_apply]; exact z61 _ _) (fun i => by idx_vars i; rw [castH_apply]; exact z62 _ _)
    (fun i => by idx_vars i; rw [castR_apply]; exact zT1 _ _) (fun i => by idx_vars i; rw [castR_apply]; exact zT2 _ _) ⟨8 * g.val + d.val, by omega⟩ b
  have hs : ∀ (u v w : FVec Ideal S512x512 .bf16) (y : FVec Ideal S512x512 .f32) (i : S512x512.Idx),
      mulf (addf (addf (extf .f32 u bitsLt_bf16_f32) (extf .f32 v bitsLt_bf16_f32)) (extf .f32 w bitsLt_bf16_f32)) y i = ((u i + v i + w i) * y i : EReal) := fun _ _ _ _ _ => rfl
  rw [hs, hy, castB_apply, castB_apply, castB_apply]
  have e1 : ldB n T 1 (ix4 0 0 ⟨8 * g.val + d.val, by omega⟩ b) = (0 : EReal) := zT1 _ _
  have e2 : ldB n T 2 (ix4 0 0 ⟨8 * g.val + d.val, by omega⟩ b) = (0 : EReal) := zT2 _ _
  rw [e1, e2, add_zero, add_zero]
  refine congrArg (_ * ·) (Finset.sum_congr rfl fun k _ => ?_)
  rw [castH_apply, castR_apply]
  rfl

variable (m : (ℓ : Loc nD τ sig) → Buf (Elt Ideal) ℓ) (c : Dev nD)

/-- The residual of the program's arguments. -/
abbrev resA (o : Fin 18944) (k : Fin 3584) : EReal := Spec.res (argW m c) (argC m c) (argB m c) (argS m c) o k

/-- What the finiteness of the arguments gives. -/
structure FinArgs : Prop where
  h : ∀ y, Fin1 (argH m c y)
  res : ∀ o k, Fin1 (resA m c o k)

/-- A decoded tile: the first part is the residual, the other two are zero. -/
theorem tileV_ideal (hf : FinArgs m c) (M : Fin 38) (hM : M.val < 37) (a : Fin 3584) (b : Fin 512) (o : Fin 18944) (ho : o.val = 512 * M.val + b.val) :
    tileV (VM m) c M 0 a b = resA m c o a ∧ tileV (VM m) c M 1 a b = (0 : EReal) ∧ tileV (VM m) c M 2 a b = (0 : EReal) :=
  rcell_ideal (argW m c) (argC m c) (argB m c) (argS m c)
    (staged m c (pointOf M a) ⟨M.val, hM⟩ ⟨a.val / 512, by omega⟩ (by show M.val = min ((7 * M.val + a.val / 512) / 7) 36; omega) (by show a.val / 512 = (7 * M.val + a.val / 512) % 7; omega))
    ⟨a.val % 512, by omega⟩ b o a ho (by dsimp only; omega) (hf.res o a)

/-- The groups' objective at a computing point, its column tile named. -/
theorem egC_point (n : Fin 7) (hf : FinArgs m c) (t : Fin cfg1.N) (ht : 7 ≤ t.val) (hn : n.val = t.val % 7) (g : Fin 64) (b : Fin 512) (o : Fin 18944) (G : Fin 448)
    (ho : o.val = 512 * (t.val / 7 - 1) + b.val) (hG : G.val = 64 * (t.val % 7) + g.val) :
    egC n (B4 (VM m) c t) (tileV (VM m) c (prevPhase t)) (ix2 g b) = Spec.eg (argW m c) (argC m c) (argB m c) (argS m c) (argH m c) o G := by
  have lt := lt_N1 t
  have hP : (prevPhase t).val < 37 := by show t.val / 7 - 1 < 37; omega
  have hb : ∀ b : Fin 512, 512 * (prevPhase t).val + b.val < 18944 := fun b => by omega
  have hT := fun a b => tileV_ideal m c hf (prevPhase t) hP a b ⟨512 * (prevPhase t).val + b.val, hb b⟩ rfl
  have h6 := fun (j : Fin 3) (a : Fin 512) (k : Fin 3584) => B4_ideal m c hf.h t ht j a k ⟨512 * (t.val % 7) + a.val, by omega⟩ rfl
  rw [egC_ideal _ _ _ (fun a k => by rw [h6]; exact hf.h _) (fun a k => (h6 1 a k).trans (if_neg (by decide))) (fun a k => (h6 2 a k).trans (if_neg (by decide)))
    (fun a b => by rw [(hT a b).1]; exact hf.res _ _) (fun a b => (hT a b).2.1) (fun a b => (hT a b).2.2)]
  unfold Spec.eg
  refine Finset.sum_congr rfl fun d _ => ?_
  have eo : (⟨512 * (prevPhase t).val + b.val, hb b⟩ : Fin 18944) = o := Fin.ext (by rw [ho]; rfl)
  rw [(hT _ b).1, eo]
  have ek : (⟨512 * n.val + (8 * g.val + d.val), by omega⟩ : Fin 3584) = ⟨8 * G.val + d.val, by omega⟩ := Fin.ext (by dsimp only; omega)
  rw [ek]
  refine congrArg (HMul.hMul (α := EReal) (β := EReal) (γ := EReal) _) ?_
  unfold Spec.act
  refine Finset.sum_congr rfl fun k _ => ?_
  rw [(hT k b).1, eo, h6, if_pos (show ((0 : Fin 3) : ℕ) = 0 from rfl), mul_comm]
  refine congrArg (HMul.hMul (α := EReal) (β := EReal) (γ := EReal) _) (congrArg (fun z => argH m c (ix2 k z)) (Fin.ext ?_))
  dsimp only
  omega

/-- The groups' objective at a computing point. -/
theorem egV_ideal (hf : FinArgs m c) (t : Fin cfg1.N) (ht : 7 ≤ t.val) (g : Fin 64) (b : Fin 512) (o : Fin 18944) (G : Fin 448)
    (ho : o.val = 512 * (t.val / 7 - 1) + b.val) (hG : G.val = 64 * (t.val % 7) + g.val) :
    egV (VM m) c t (ix2 g b) = Spec.eg (argW m c) (argC m c) (argB m c) (argS m c) (argH m c) o G :=
  egC_point m c ((grid1.coords t) 1) hf t ht (coords1 t).2 g b o G ho hG

end Cert.Proof.KernelIdeal
-- ==== Proof.SumsIdeal.lean ====
/-
  The running sums of the main call, over the extended reals: after each computing point the columns' objective so far, and after each
  tile the total so far, as sums over initial ranges.
-/
module

public import proofs.«01_k».proof.Proof.GroupsIdeal

@[expose] public section

set_option maxRecDepth 16384

noncomputable section

namespace Cert.Proof.KernelIdeal

open Cert.KernelIdeal Cert.KernelIdeal.Gen
open Idealize.ShloMosaic Idealize.ShloMosaic.TcCoe

/-- The reduction over a block's groups is a sum of 64. -/
theorem redE_apply (x : FVec Ideal S64x512 .f32) (b : Fin 512) :
    shapeCast S1x512 (multiReduction .add [0] S512 x 0x00000000#32 reduces_S64x512_S512 (.inl rfl) rfl) shapeCasts_S512_S1x512 (ix2 0 b) = ∑ g : Fin 64, (x (ix2 g b) : EReal) := by
  pointwise

/-- The first block of a row starts the row's sum. -/
theorem eC_first (eg : FVec Ideal S64x512 .f32) (x8 : S1x512.Idx → EReal) (b : Fin 512) : eC 0 eg x8 (ix2 0 b) = ∑ g : Fin 64, (eg (ix2 g b) : EReal) := redE_apply eg b

/-- A later block adds its groups to the row's sum. -/
theorem eC_next (n : ℕ) (h0 : n ≠ 0) (h7 : n < 7) (eg : FVec Ideal S64x512 .f32) (x8 : S1x512.Idx → EReal) (b : Fin 512) :
    eC n eg x8 (ix2 0 b) = (x8 (ix2 0 b) + ∑ g : Fin 64, (eg (ix2 g b) : EReal) : EReal) := by
  have hc : Scalar.cmpi .eq (BitVec.ofNat 32 n) 0#32 = 0#1 := by
    interval_cases n <;> first | exact absurd rfl h0 | decide
  unfold eC
  rw [hc]
  show (shapeCast S1x512 _ _ (ix2 0 b) + shapeCast S1x512 _ _ (ix2 0 b) : EReal) = _
  rw [redE_apply]
  refine congrArg (· + _) ?_
  pointwise

/-- The reduction over a tile's rows is a sum of 512. -/
theorem redT_apply (x : FVec Ideal S1x512 .f32) :
    extractAt ![0, 0, 0] (shapeCast S1x1x1 (multiReduction .add [1, 2] S1 (shapeCast S1x1x512 x shapeCasts_S1x512_S1x1x512) 0x00000000#32 reduces_S1x1x512_S1 (.inl rfl) rfl) shapeCasts_S1_S1x1x1) inpos_S1x1x1_p0_0_0
      = ∑ b : Fin 512, (x (ix2 0 b) : EReal) := by
  pointwise
  exact Fin.sum_univ_one _

/-- The first tile starts the total. -/
theorem totC_first (e : FVec Ideal S1x512 .f32) (x9 : S8x128.Idx → EReal) (r : Fin 8) (l : Fin 128) : totC 1 e x9 (ix2 r l) = ∑ b : Fin 512, (e (ix2 0 b) : EReal) := by
  unfold totC
  show (Ideal.ofBits .f32 0x00000000#32 + extractAt _ _ _ : EReal) = _
  rw [redT_apply]
  exact (congrArg (· + _) Ideal.ofBits_zero_f32).trans (zero_add _)

/-- A later tile adds its rows to the total. -/
theorem totC_next (m : ℕ) (h0 : 2 ≤ m) (h7 : m < 38) (e : FVec Ideal S1x512 .f32) (x9 : S8x128.Idx → EReal) (r : Fin 8) (l : Fin 128) :
    totC m e x9 (ix2 r l) = (x9 (ix2 r l) + ∑ b : Fin 512, (e (ix2 0 b) : EReal) : EReal) := by
  have hc : Scalar.cmpi .eq (BitVec.ofNat 32 m) 1#32 = 0#1 := by
    interval_cases m <;> decide
  unfold totC
  rw [hc]
  show (shapeCast S8x128 x9 _ (ix2 r l) + extractAt _ _ _ : EReal) = _
  rw [redT_apply]
  refine congrArg (· + _) ?_
  pointwise

/-! ### Sums over ranges -/

/-- A family on `Fin N` read on the naturals. -/
def onNat {N : ℕ} (f : Fin N → EReal) (k : ℕ) : EReal := if h : k < N then f ⟨k, h⟩ else 0

/-- A sum over a range of all indices is the sum over the index type. -/
theorem onNat_sum {N : ℕ} (f : Fin N → EReal) : ∑ k ∈ Finset.range N, onNat f k = ∑ k : Fin N, f k := by
  rw [Finset.sum_range]
  exact Finset.sum_congr rfl fun k _ => dif_pos k.isLt

/-- A block of consecutive terms extends a partial sum. -/
theorem onNat_block {N B : ℕ} (f : Fin N → EReal) (g : Fin B → EReal) (s : ℕ) (h : ∀ b : Fin B, ∃ hb : s + b.val < N, g b = f ⟨s + b.val, hb⟩) :
    ∑ k ∈ Finset.range s, onNat f k + ∑ b : Fin B, g b = ∑ k ∈ Finset.range (s + B), onNat f k := by
  rw [Finset.sum_range_add, Finset.sum_range (fun k => onNat f (s + k))]
  refine congrArg (_ + ·) (Finset.sum_congr rfl fun b _ => ?_)
  obtain ⟨hb, e⟩ := h b
  rw [e]
  unfold onNat
  rw [dif_pos hb]

variable (m : (ℓ : Loc nD τ sig) → Buf (Elt Ideal) ℓ) (c : Dev nD)

abbrev egA (o : Fin 18944) (G : Fin 448) : EReal := Spec.eg (argW m c) (argC m c) (argB m c) (argS m c) (argH m c) o G
abbrev eA (o : Fin 18944) : EReal := Spec.e (argW m c) (argC m c) (argB m c) (argS m c) (argH m c) o

/-- The row index of column `b` of point `k`'s tile. -/
abbrev rowAt (k : ℕ) (hk : k < cfg1.N) (b : Fin 512) : Fin 18944 := ⟨512 * (k / 7 - 1) + b.val, by have : k < 266 := lt_of_lt_of_eq hk N_1; omega⟩

/-- One step of a row's sum. -/
theorem eV_step_ideal (k : ℕ) (hk : k < cfg1.N) (h7 : 7 ≤ k) (b : Fin 512) : eV (VM m) c k hk (ix2 0 b)
    = ((if h : k % 7 = 0 then 0 else eV (VM m) c (k - 1) (Nat.lt_of_le_of_lt (Nat.sub_le _ _) hk) (ix2 0 b)) + ∑ g : Fin 64, (egV (VM m) c ⟨k, hk⟩ (ix2 g b) : EReal) : EReal) := by
  obtain ⟨k, rfl⟩ : ∃ j, k = j + 1 := ⟨k - 1, by omega⟩
  have hc := (coords1 ⟨k + 1, hk⟩).2
  by_cases h0 : (k + 1) % 7 = 0
  · rw [dif_pos h0, zero_add]
    have e : ((grid1.coords ⟨k + 1, hk⟩) 1).val = 0 := hc.trans h0
    show eC ((grid1.coords ⟨k + 1, hk⟩) 1).val _ _ (ix2 0 b) = _
    rw [e]
    exact eC_first _ _ b
  · rw [dif_neg h0]
    show eC ((grid1.coords ⟨k + 1, hk⟩) 1).val _ _ (ix2 0 b) = _
    exact eC_next _ (by rw [hc]; exact h0) (by rw [hc]; exact Nat.mod_lt _ (by decide)) _ _ b

/-- After each block a row's sum is the sum of its groups so far. -/
theorem eV_ideal (hf : FinArgs m c) (b : Fin 512) : ∀ (n : ℕ) (k : ℕ) (hk : k < cfg1.N) (_ : 7 ≤ k) (_ : k % 7 = n),
    eV (VM m) c k hk (ix2 0 b) = ∑ G ∈ Finset.range (64 * n + 64), onNat (egA m c (rowAt k hk b)) G := by
  have hblock : ∀ (k : ℕ) (hk : k < cfg1.N) (_ : 7 ≤ k), ∑ G ∈ Finset.range (64 * (k % 7)), onNat (egA m c (rowAt k hk b)) G + ∑ g : Fin 64, (egV (VM m) c ⟨k, hk⟩ (ix2 g b) : EReal)
      = ∑ G ∈ Finset.range (64 * (k % 7) + 64), onNat (egA m c (rowAt k hk b)) G := fun k hk h7 =>
    onNat_block _ _ _ fun g => ⟨by omega, egV_ideal m c hf ⟨k, hk⟩ h7 g b _ _ rfl rfl⟩
  intro n
  induction n with
  | zero =>
    intro k hk h7 hn
    rw [eV_step_ideal m c k hk h7 b, dif_pos hn, ← hn, ← hblock k hk h7, hn]
    rfl
  | succ n ih =>
    intro k hk h7 hn
    have hn0 : ¬ k % 7 = 0 := by omega
    rw [eV_step_ideal m c k hk h7 b, dif_neg hn0, ih (k - 1) _ (by omega) (by omega), ← hn, ← hblock k hk h7]
    have er : rowAt (k - 1) (Nat.lt_of_le_of_lt (Nat.sub_le _ _) hk) b = rowAt k hk b := Fin.ext (by show 512 * ((k - 1) / 7 - 1) + b.val = 512 * (k / 7 - 1) + b.val; omega)
    rw [er, show 64 * n + 64 = 64 * (k % 7) by omega]

/-- After a tile's last point: the objective of its rows. -/
theorem eV_last (hf : FinArgs m c) (k : ℕ) (hk : k < cfg1.N) (h7 : 7 ≤ k) (h6 : k % 7 = 6) (b : Fin 512) : eV (VM m) c k hk (ix2 0 b) = eA m c (rowAt k hk b) := by
  rw [eV_ideal m c hf b 6 k hk h7 h6]
  exact onNat_sum _

/-- After each grid point the total is the sum of the rows finished so far. -/
theorem totV_ideal (hf : FinArgs m c) (r : Fin 8) (l : Fin 128) : ∀ (k : ℕ) (hk : k < cfg1.N),
    totV (VM m) c k hk (ix2 r l) = ∑ o ∈ Finset.range (512 * ((k - 6) / 7)), onNat (eA m c) o := by
  intro k
  induction k with
  | zero => intro hk; exact Ideal.ofBits_zero_f32
  | succ k ih =>
    intro hk
    have hk' : k + 1 < 266 := lt_of_lt_of_eq hk N_1
    have hc := (coords1 ⟨k + 1, hk⟩).1
    by_cases h : 7 ≤ k + 1 ∧ (k + 1) % 7 = 6
    · have hb : ∑ o ∈ Finset.range (512 * ((k - 6) / 7)), onNat (eA m c) o + ∑ b : Fin 512, (eV (VM m) c (k + 1) hk (ix2 0 b) : EReal) = ∑ o ∈ Finset.range (512 * ((k + 1 - 6) / 7)), onNat (eA m c) o := by
        rw [show 512 * ((k + 1 - 6) / 7) = 512 * ((k - 6) / 7) + 512 by omega]
        refine onNat_block _ _ _ fun b => ⟨by omega, (eV_last m c hf (k + 1) hk h.1 h.2 b).trans (congrArg (eA m c) (Fin.ext ?_))⟩
        show 512 * ((k + 1) / 7 - 1) + b.val = 512 * ((k - 6) / 7) + b.val
        omega
      refine (congrFun (if_pos h) (ix2 r l)).trans ?_
      by_cases h1 : (k + 1) / 7 = 1
      · have e : ((grid1.coords ⟨k + 1, hk⟩) 0).val = 1 := hc.trans h1
        rw [e, totC_first, ← hb, show 512 * ((k - 6) / 7) = 0 by omega]
        exact (zero_add _).symm
      · rw [totC_next _ (by rw [hc]; dsimp only; omega) (by rw [hc]; dsimp only; omega), ih, hb]
    · refine (congrFun (if_neg h) (ix2 r l)).trans ?_
      rw [ih, show (k + 1 - 6) / 7 = (k - 6) / 7 by omega]

end Cert.Proof.KernelIdeal
-- ==== Proof.ResultsIdeal.lean ====
/-
  What the program leaves in its results, over the extended reals: the objective by groups, by rows and in total.
-/
module

public import proofs.«01_k».proof.Proof.SumsIdeal

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat Cfg Window)

/-- The block of the group objectives that each grid point addresses. -/
theorem index1_5 : ∀ t : Fin cfg1.N, win1_5.index t = ![if t.val < 7 then 0 else t.val % 7, t.val / 7 - 1] := (by decide +kernel : ∀ t : Fin grid1.N, _)
/-- The block of the row objectives that each grid point addresses. -/
theorem index1_6 : ∀ t : Fin cfg1.N, win1_6.index t = ![0, t.val / 7 - 1] := (by decide +kernel : ∀ t : Fin grid1.N, _)

variable (m : (ℓ : Loc nD τ sig) → Buf (Elt Ideal) ℓ) (c : Dev nD)

/-- The main call's first array holds the group objectives, transposed. -/
theorem arr5 (hf : FinArgs m c) : ((dat1 (VM m) c).arrAt 5 cfg1.N : S448x18944.Idx → EReal) = fun y => egA m c (y 1) (y 0) := by
  refine Dat.arrAt_eq_of_covers (dat1 (VM m) c) 5 (fun y : S448x18944.Idx => egA m c (y 1) (y 0)) (by decide +kernel) fun t hf' y => ?_
  have h7 : 7 ≤ t.val := of_decide_eq_true ((flush5 t).symm.trans hf')
  have e0 : (((win1_5.blk t).view.emb y : S448x18944.Idx) 0).val = 64 * (t.val % 7) + (y 0).val := by
    have : ¬ t.val < 7 := by omega
    blk_simp [index1_5, if_neg this]; omega
  have e1 : (((win1_5.blk t).view.emb y : S448x18944.Idx) 1).val = 512 * (t.val / 7 - 1) + (y 1).val := by blk_simp [index1_5]; omega
  blk_simp
  have hy : (y : S64x512.Idx) = ix2 (y 0) (y 1) := by funext a; fin_cases a <;> rfl
  refine (congrArg (egV (VM m) c t) hy).trans ?_
  exact egV_ideal m c hf t h7 (y 0) (y 1) _ _ e1 e0

/-- The main call's second array holds the row objectives. -/
theorem arr6 (hf : FinArgs m c) : ((dat1 (VM m) c).arrAt 6 cfg1.N : S1x18944.Idx → EReal) = fun y => eA m c (y 1) := by
  refine Dat.arrAt_eq_of_covers (dat1 (VM m) c) 6 (fun y : S1x18944.Idx => eA m c (y 1)) (by decide +kernel) fun t hf' y => ?_
  have h7 : 7 ≤ t.val ∧ t.val % 7 = 6 := of_decide_eq_true ((flush6 t).symm.trans hf')
  have e1 : (((win1_6.blk t).view.emb y : S1x18944.Idx) 1).val = 512 * (t.val / 7 - 1) + (y 1).val := by blk_simp [index1_6]; omega
  blk_simp
  have hy : (y : S1x512.Idx) = ix2 0 (y 1) := by
    funext a; fin_cases a
    · exact Subsingleton.elim (α := Fin 1) _ _
    · rfl
  refine (congrArg (eV (VM m) c t.val t.isLt) hy).trans ?_
  refine (eV_last m c hf t.val t.isLt h7.1 h7.2 (y 1)).trans ?_
  exact congrArg (eA m c) (Fin.ext e1.symm)

/-- The main call's third array holds the whole objective in every place. -/
theorem arr7 (hf : FinArgs m c) : ((dat1 (VM m) c).arrAt 7 cfg1.N : S8x128.Idx → EReal) = fun _ => Spec.total (argW m c) (argC m c) (argB m c) (argS m c) (argH m c) := by
  refine Dat.arrAt_eq_of_after_last (dat1 (VM m) c) 7 (⟨265, by decide⟩ : Fin cfg1.N) (by decide +kernel) (fun _ : S8x128.Idx => Spec.total (argW m c) (argC m c) (argB m c) (argS m c) (argH m c)) fun j => ?_
  blk_simp
  have hy : (j : S8x128.Idx) = ix2 (j 0) (j 1) := by funext a; fin_cases a <;> rfl
  refine (congrArg (totV (VM m) c 265 (by decide)) hy).trans ?_
  refine (totV_ideal m c hf (j 0) (j 1) 265 (by decide)).trans ?_
  exact onNat_sum (eA m c)

/-- The kernel's second result is the objective by groups. -/
theorem v13_ideal (hf : FinArgs m c) (o : Fin 18944) (g : Fin 448) : (V4 m (outs m) c main_v13 : S18944x448.Idx → EReal) (ix2 o g) = egA m c o g := by
  have e : (V4 m (outs m) c main_v13 : S18944x448.Idx → EReal) = transpose S18944x448 [1, 0] (V3 m (outs m) c main_v11_0 : S448x18944.Idx → EReal) transposes_S448x18944_S18944x448_1_0 := by
    show StableHlo.after hostOps2 _ _ = _
    after_results_simp
  rw [e, V3_main_v11_0, arr5 m c hf]
  pointwise

/-- The kernel's first result is the objective by rows. -/
theorem v12_ideal (hf : FinArgs m c) (o : Fin 18944) : (V4 m (outs m) c main_v12 : S18944.Idx → EReal) (ix1 o) = eA m c o := by
  have e : (V4 m (outs m) c main_v12 : S18944.Idx → EReal) = shapeCast S18944 (V3 m (outs m) c main_v11_1 : S1x18944.Idx → EReal) shapeCasts_S1x18944_S18944 := by
    show StableHlo.after hostOps2 _ _ = _
    after_results_simp
    rfl
  rw [e, V3_main_v11_1, arr6 m c hf]
  pointwise

/-- The kernel's third result is the whole objective. -/
theorem v15_ideal (hf : FinArgs m c) (i : S_.Idx) : (V4 m (outs m) c main_v15 : S_.Idx → EReal) i = Spec.total (argW m c) (argC m c) (argB m c) (argS m c) (argH m c) := by
  have e : (V4 m (outs m) c main_v15 : S_.Idx → EReal) = shapeCast S_ (extractStridedSlice S1x1 ![0, 0] (V3 m (outs m) c main_v11_2 : S8x128.Idx → EReal) slices_S8x128_S1x1_0_0) shapeCasts_S1x1_S_ := by
    show StableHlo.after hostOps2 _ _ = _
    after_results_simp
    rfl
  rw [e, V3_main_v11_2, arr7 m c hf]
  rfl

end Cert.Proof.KernelIdeal
-- ==== Proof.PreIdeal.lean ====
/-
  What the precondition says of the arguments: every value the kernel splits is a real number.
-/
module

public import proofs.«01_k».proof.Defs
public import proofs.«01_k».proof.Proof.GroupsIdeal
public import Idealize.ShloMosaic.Lib.ReduceAll

@[expose] public section

set_option maxRecDepth 16384

noncomputable section

namespace Cert.Proof.KernelIdeal

open Cert.KernelIdeal Cert.KernelIdeal.Gen
open Idealize.ShloMosaic Idealize.ShloMosaic.TcCoe

/-- The side conditions of the precondition's operations. -/
theorem preFacts : Cert.Pre_finite.Facts where
  bitsLt_bf16_f32 := by decide
  bcast_S_S18944x3584 := by decide
  reducesTo_S18944x3584_S_d0_1 := by decide
  h_S_ := by decide
  natLt_16_32 := by decide
  bcast_S_S2x256x8 := by decide
  reducesTo_S2x256x8_S_d0_1_2 := by decide
  bcast_S_S18944x56 := by decide
  reducesTo_S18944x56_S_d0_1 := by decide
  bcast_S_S3584x3584 := by decide
  reducesTo_S3584x3584_S_d0_1 := by decide

instance : Cert.Pre_finite.Facts := preFacts

/-- A number of absolute value below infinity is real. -/
theorem fin1_of_abs (x : EReal) (h : Ideal.cmp .olt (max x (-x)) (Ideal.ofBits .f32 0x7F800000#32) = 1#1) : Fin1 x := by
  have ht : Ideal.ofBits .f32 0x7F800000#32 = ⊤ := by
    unfold Ideal.ofBits Ideal.ieee
    simp
  rw [ht] at h
  induction x with
  | bot => simp [Ideal.cmp] at h
  | top => simp [Ideal.cmp] at h
  | coe r => exact ⟨r, rfl⟩

/-- The exponent mask's set bits are 7 to 14. -/
theorem exp_bit : ∀ i < 32, (32640#32).getLsbD i = decide (7 ≤ i ∧ i < 15) := by decide

/-- Every bit of 255 is set. -/
theorem ones_bit : ∀ i < 8, (255#8).getLsbD i = true := by decide

/-- A two-byte pattern whose exponent is not all ones is a real number. -/
theorem fin1_of_bits (b : BitVec 16) (h : IntOp.cmpi .ne (IntOp.andi (BitVec.setWidth 32 b) 32640#32) 32640#32 = 1#1) : Fin1 (Ideal.ofBits .bf16 b) := by
  have hx : ¬ (b.extractLsb' 7 8).toNat = 2 ^ 8 - 1 := by
    intro hx
    have he : b.extractLsb' 7 8 = 255#8 := BitVec.eq_of_toNat_eq hx
    have hm : IntOp.andi (BitVec.setWidth 32 b) 32640#32 = 32640#32 := by
      refine BitVec.eq_of_getLsbD_eq fun i hi => ?_
      show (BitVec.setWidth 32 b &&& 32640#32).getLsbD i = _
      rw [BitVec.getLsbD_and, exp_bit i hi]
      by_cases h7 : 7 ≤ i ∧ i < 15
      · have hb := congrArg (fun x => BitVec.getLsbD x (i - 7)) he
        simp only [BitVec.getLsbD_extractLsb', show 7 + (i - 7) = i by omega] at hb
        have ho := ones_bit (i - 7) (by omega)
        rw [BitVec.getLsbD_setWidth]
        grind
      · rw [decide_eq_false h7, Bool.and_false]
    rw [hm] at h
    exact absurd h (by decide)
  show Fin1 (Ideal.ieee 8 7 b)
  unfold Ideal.ieee
  simp only []
  rw [if_neg hx]
  split
  · exact ⟨_, rfl⟩
  · exact ⟨_, rfl⟩

/-- A sum of reals is real. -/
theorem Fin1.add {x y : EReal} (hx : Fin1 x) (hy : Fin1 y) : Fin1 (x + y) := by
  obtain ⟨a, rfl⟩ := hx
  obtain ⟨b, rfl⟩ := hy
  exact ⟨a + b, (EReal.coe_add a b).symm⟩

/-- A product of reals is real. -/
theorem Fin1.mul {x y : EReal} (hx : Fin1 x) (hy : Fin1 y) : Fin1 (x * y) := by
  obtain ⟨a, rfl⟩ := hx
  obtain ⟨b, rfl⟩ := hy
  exact ⟨a * b, (EReal.coe_mul a b).symm⟩

/-- A difference of reals is real. -/
theorem Fin1.sub {x y : EReal} (hx : Fin1 x) (hy : Fin1 y) : Fin1 (x - y) := by
  obtain ⟨a, rfl⟩ := hx
  obtain ⟨b, rfl⟩ := hy
  exact ⟨a - b, (EReal.coe_sub a b).symm⟩

section
variable (W : FVec Ideal Cert.Pre_finite.S18944x3584 .bf16) (C : IVec Cert.Pre_finite.S18944x448x2 8) (B : IVec Cert.Pre_finite.S2x256x8 16) (S : FVec Ideal Cert.Pre_finite.S18944x56 .f32) (H : FVec Ideal Cert.Pre_finite.S3584x3584 .f32)

instance : Subsingleton Cert.Pre_finite.S_.Idx := ⟨fun _ _ => funext fun a => a.elim0⟩

/-- An array whose elements all test finite is an array of reals. -/
theorem fin1_all {s : Shape} {dims : List (Fin s.rank)} (X : FVec Ideal s .f32) (hb : Cert.Pre_finite.S_.BroadcastsInDim s (![] : Fin 0 → Fin s.rank)) (hr : s.ReducesTo dims Cert.Pre_finite.S_) (hu : 0 < Cert.Pre_finite.S_.numel)
    (e : Host.reduce IntOp.andi (cmpf .olt (Host.absf X) (broadcastInDim s ![] hb (constant (F := Ideal) Cert.Pre_finite.S_ .f32 0x7F800000#32))) (constantI Cert.Pre_finite.S_ 1 1#1) hr hu ix0 = 1#1)
    (i : s.Idx) : Fin1 (X i) := by
  have h := Host.reduce_andi_all _ _ _ _ _ e i
  exact fin1_of_abs (X i) h

/-- The precondition makes the weights real. -/
theorem pre_W (h : (Cert.Pre_finite.fn W C B S H).1 = fun _ => 1#1) (i : Cert.Pre_finite.S18944x3584.Idx) : Fin1 (W i) := by
  unfold Cert.Pre_finite.fn Cert.Pre_finite.fn_part1 at h
  dsimp only at h
  exact fin1_all (extf .f32 W Cert.Pre_finite.Facts.bitsLt_bf16_f32) _ _ _ (congrFun h ix0) i

/-- The precondition makes the codebook entries real. -/
theorem pre_B (h : (Cert.Pre_finite.fn W C B S H).2.1 = fun _ => 1#1) (i : Cert.Pre_finite.S2x256x8.Idx) : Fin1 (Ideal.ofBits .bf16 (B i)) :=
  fin1_of_bits _ (Host.reduce_andi_all _ _ _ _ _ (congrFun h ix0) i)

/-- The precondition makes the scales real. -/
theorem pre_S (h : (Cert.Pre_finite.fn W C B S H).2.2.1 = fun _ => 1#1) (i : Cert.Pre_finite.S18944x56.Idx) : Fin1 (S i) := by
  unfold Cert.Pre_finite.fn Cert.Pre_finite.fn_part1 at h
  dsimp only at h
  exact fin1_all S _ _ _ (congrFun h ix0) i

/-- The precondition makes `H` real. -/
theorem pre_H (h : (Cert.Pre_finite.fn W C B S H).2.2.2 = fun _ => 1#1) (i : Cert.Pre_finite.S3584x3584.Idx) : Fin1 (H i) := by
  unfold Cert.Pre_finite.fn Cert.Pre_finite.fn_part1 at h
  dsimp only at h
  exact fin1_all H _ _ _ (congrFun h ix0) i

end

/-- The precondition makes the residual and `H` real. -/
theorem finArgs (m : (ℓ : Loc nD τ sig) → Buf (Elt Ideal) ℓ) (h : Cert.Pre_KernelIdeal_finite m) (c : Dev nD) : FinArgs m c where
  h y := pre_H _ _ _ _ _ (h c).2.2.2 y
  res o k := Fin1.sub (pre_W _ _ _ _ _ (h c).1 _)
    (Fin1.mul (Fin1.add (pre_B _ _ _ _ _ (h c).2.1 _) (pre_B _ _ _ _ _ (h c).2.1 _)) (pre_S _ _ _ _ _ (h c).2.2.1 _))

end Cert.Proof.KernelIdeal
-- ==== Proof.RefValue.lean ====
/-
  The reference's terms over the extended reals, read at an index: the residual, the objective by groups, by rows and in total.
-/
module

public import proofs.«01_k».proof.Proof.RefFrame
public import proofs.«01_k».proof.Proof.SpecIdeal
public import Idealize.ShloMosaic.Lib.ReduceAll
public import Idealize.ShloMosaic.Lib.ValueIdx

@[expose] public section

set_option maxRecDepth 16384

noncomputable section

namespace Cert.Proof.Reference

open Cert.ReferenceIdeal Cert.ReferenceIdeal.Gen
open Idealize.ShloMosaic

/-! ### The terms -/

/-- The table of sums of pairs of codebook entries. -/
def pairT (B : IVec S2x256x8 16) : FVec Ideal S65536x8 .f32 :=
  shapeCast S65536x8 (addf
    (broadcastInDim S256x256x8 ![0, 1, 2] bcast_S256x1x8_S256x256x8_0_1_2 (broadcastInDim S256x1x8 ![0, 2] bcast_S256x8_S256x1x8_0_2
      (shapeCast S256x8 (extractStridedSlice S1x256x8 ![0, 0, 0] (extf (F := Ideal) .f32 (bitcastToFloat .bf16 B) bitsLt_bf16_f32) slices_S2x256x8_S1x256x8_0_0_0) shapeCasts_S1x256x8_S256x8)))
    (broadcastInDim S256x256x8 ![0, 1, 2] bcast_S1x256x8_S256x256x8_0_1_2 (broadcastInDim S1x256x8 ![1, 2] bcast_S256x8_S1x256x8_1_2
      (shapeCast S256x8 (extractStridedSlice S1x256x8 ![1, 0, 0] (extf (F := Ideal) .f32 (bitcastToFloat .bf16 B) bitsLt_bf16_f32) slices_S2x256x8_S1x256x8_1_0_0) shapeCasts_S1x256x8_S256x8))))
    shapeCasts_S256x256x8_S65536x8

/-- The position of each group's pair in the table. -/
def posT (C : IVec S18944x448x2 8) : IVec S18944x448 32 :=
  addi (muli (extui 32 (shapeCast S18944x448 (extractStridedSlice S18944x448x1 ![0, 0, 0] C slices_S18944x448x2_S18944x448x1_0_0_0) shapeCasts_S18944x448x1_S18944x448) natLt_8_32)
      (broadcastInDim S18944x448 ![] bcast_S_S18944x448 (constantI S_ 32 256#32)))
    (extui 32 (shapeCast S18944x448 (extractStridedSlice S18944x448x1 ![0, 0, 1] C slices_S18944x448x2_S18944x448x1_0_0_1) shapeCasts_S18944x448x1_S18944x448) natLt_8_32)

/-- A position as the gather takes it: wrapped if negative. -/
def wrapT (i : IVec S18944x448 32) : IVec S18944x448x1 32 :=
  broadcastInDim S18944x448x1 ![0, 1] bcast_S18944x448_S18944x448x1_0_1
    (select (cmpi .slt i (broadcastInDim S18944x448 ![] bcast_S_S18944x448 (constantI S_ 32 0#32))) (addi i (broadcastInDim S18944x448 ![] bcast_S_S18944x448 (constantI S_ 32 65536#32))) i)

/-- Whether each position is in the table. -/
def inT (w : IVec S18944x448x1 32) : IVec S18944x448 1 :=
  Host.reduce IntOp.andi (andi (cmpi .sge w (broadcastInDim S18944x448x1 ![] bcast_S_S18944x448x1 (constantI S_ 32 0#32)))
    (cmpi .sle w (broadcastInDim S18944x448x1 ![0, 1, 2] bcast_S1x1x1_S18944x448x1_0_1_2 (broadcastInDim S1x1x1 ![2] bcast_S1_S1x1x1_2 (constantI S1 32 65535#32)))))
    (constantI S_ 1 1#1) reducesTo_S18944x448x1_S18944x448_d2 h_S_

/-- The table's rows at the positions. -/
def takeT (T : FVec Ideal S65536x8 .f32) (i : IVec S18944x448 32) : FVec Ideal S18944x448x8 .f32 :=
  select (broadcastInDim S18944x448x8 ![0, 1] bcast_S18944x448_S18944x448x8_0_1 (inT (wrapT i)))
    (Host.gather gather_S65536x8_S18944x448x1_S18944x448x8_2_0_n_n_0_2_18 T (wrapT i))
    (broadcastInDim S18944x448x8 ![] bcast_S_S18944x448x8 (constant S_ .f32 0x7FC00000#32))

/-- The residual. -/
def resT (W : FVec Ideal S18944x3584 .bf16) (T : FVec Ideal S18944x448x8 .f32) (S : FVec Ideal S18944x56 .f32) : FVec Ideal S18944x3584 .f32 :=
  subf (extf .f32 W bitsLt_bf16_f32) (shapeCast S18944x3584 (mulf (shapeCast S18944x56x64 T shapeCasts_S18944x448x8_S18944x56x64)
    (broadcastInDim S18944x56x64 ![0, 1, 2] bcast_S18944x56x1_S18944x56x64_0_1_2 (broadcastInDim S18944x56x1 ![0, 1] bcast_S18944x56_S18944x56x1_0_1 S))) shapeCasts_S18944x56x64_S18944x3584)

/-- The objective by groups. -/
def egT (R : FVec Ideal S18944x3584 .f32) (H : FVec Ideal S3584x3584 .f32) : FVec Ideal S18944x448 .f32 :=
  Host.reduceAdd (shapeCast S18944x448x8 (mulf R (Host.dotGeneral dot_S18944x3584_S3584x3584_S18944x3584_1_0_0_1_n_n (some .fp32) R H)) shapeCasts_S18944x3584_S18944x448x8)
    (constant S_ .f32 0x00000000#32) reducesTo_S18944x448x8_S18944x448_d2 h_S_

/-- The objective by rows. -/
def eT (G : FVec Ideal S18944x448 .f32) : FVec Ideal S18944 .f32 := Host.reduceAdd G (constant S_ .f32 0x00000000#32) reducesTo_S18944x448_S18944_d1 h_S_

/-- The whole objective. -/
def totalT (E : FVec Ideal S18944 .f32) : FVec Ideal S_ .f32 := Host.reduceAdd E (constant S_ .f32 0x00000000#32) reducesTo_S18944_S_d0 h_S_

/-! ### Read at an index -/

variable (W : Spec.SW.Idx → EReal) (C : Spec.SC.Idx → BitVec 8) (B : Spec.SB.Idx → BitVec 16) (S : Spec.SS.Idx → EReal) (H : Spec.SH.Idx → EReal)

/-- The table's row of a pair of codes is the sum of the two codebook entries. -/
theorem pairT_apply (x y : BitVec 8) (p : Fin 65536) (hp : p.val = 256 * x.toNat + y.toNat) (d : Fin 8) : pairT B (ix2 p d) = (Spec.book B 0 x d + Spec.book B 1 y d : EReal) := by
  have hx := x.isLt
  have hy := y.isLt
  have e0 : p.val / 256 = x.toNat := by omega
  have e1 : p.val % 256 = y.toNat := by omega
  unfold pairT
  pointwise
  simp only [e0, e1]
  rfl

/-- A group's position is its first code times 256 plus its second. -/
theorem posT_apply (o : Fin 18944) (g : Fin 448) : posT C (ix2 o g) = BitVec.setWidth 32 (C (ix3 o g 0)) * 256#32 + BitVec.setWidth 32 (C (ix3 o g 1)) := by
  unfold posT
  pointwise
  rfl

/-- The gather read at an index. -/
theorem gather_apply (T : FVec Ideal S65536x8 .f32) (w : IVec S18944x448x1 32) (o : Fin 18944) (g : Fin 448) (d : Fin 8) :
    Host.gather gather_S65536x8_S18944x448x1_S18944x448x8_2_0_n_n_0_2_18 T w (ix3 o g d) = T (ix2 ⟨min (w (ix3 o g 0)).toInt.toNat 65535, by omega⟩ d) := by
  unfold Host.gather
  refine congrArg T (funext fun a => Fin.ext ?_)
  set D : GatherDims S65536x8 S18944x448x1 S18944x448x8 := gather_S65536x8_S18944x448x1_S18944x448x8_2_0_n_n_0_2_18 with hD
  show D.start (ix3 o g d) w a + D.batchCoord (ix3 o g d) a + D.offCoord (ix3 o g d) a = _
  have hb : ∀ a', a' ∉ D.operandBatchingDims := fun a' => List.not_mem_nil
  rw [D.batchCoord_eq_zero _ _ (hb a), Nat.add_zero]
  match a with
  | ⟨0, _⟩ =>
    change D.start (ix3 o g d) w (0 : Fin 2) + D.offCoord (ix3 o g d) (0 : Fin 2) = _
    rw [D.offCoord_eq_zero _ _ (fun h => ((D.mem_sKept _).mp h).1 (List.mem_singleton.mpr rfl)), Nat.add_zero]
    unfold GatherDims.start
    rw [dif_pos (show (0 : Fin 2) ∈ D.startIndexMap from List.mem_singleton.mpr rfl)]
    have hsi : D.siIdx (ix3 o g d) ⟨List.idxOf (0 : Fin 2) D.startIndexMap, List.idxOf_lt_length_iff.2 (List.mem_singleton.mpr rfl)⟩ = ix3 o g 0 := by
      funext b; refine Fin.ext ?_
      match b with
      | ⟨0, _⟩ => rfl
      | ⟨1, _⟩ => rfl
      | ⟨2, _⟩ => rfl
    rw [hsi]
    rfl
  | ⟨1, _⟩ =>
    change D.start (ix3 o g d) w (1 : Fin 2) + D.offCoord (ix3 o g d) (1 : Fin 2) = _
    unfold GatherDims.start GatherDims.offCoord
    rw [dif_neg (show (1 : Fin 2) ∉ D.startIndexMap by decide), dif_pos ((D.mem_sKept 1).2 ⟨by decide, hb 1⟩), Nat.zero_add]
    rfl

/-- A pair's position is a row of the table. -/
theorem pos_toNat (x y : BitVec 8) : (BitVec.setWidth 32 x * 256#32 + BitVec.setWidth 32 y).toNat = 256 * x.toNat + y.toNat := by
  have hx := x.isLt
  have hy := y.isLt
  simp only [BitVec.toNat_add, BitVec.toNat_mul, BitVec.toNat_setWidth, BitVec.toNat_ofNat]
  omega

/-- A pair's position read as a signed number is the same number. -/
theorem pos_toInt (x y : BitVec 8) : (BitVec.setWidth 32 x * 256#32 + BitVec.setWidth 32 y).toInt = ((256 * x.toNat + y.toNat : ℕ) : ℤ) := by
  have hx := x.isLt
  have hy := y.isLt
  rw [BitVec.toInt_eq_toNat_of_lt (by rw [pos_toNat]; omega), pos_toNat]

/-- No position is wrapped. -/
theorem wrapT_apply (o : Fin 18944) (g : Fin 448) (z : Fin 1) : wrapT (posT C) (ix3 o g z) = posT C (ix2 o g) := by
  have h : IntOp.cmpi CmpIPredicate.slt (posT C (ix2 o g)) 0#32 = 0#1 := by
    rw [posT_apply]
    simp only [IntOp.cmpi, BitVec.slt, pos_toInt, BitVec.toInt_zero]
    rw [decide_eq_false (by omega)]
    rfl
  unfold wrapT
  pointwise
  rw [h]
  rfl

/-- Every position is in the table. -/
theorem inT_apply (o : Fin 18944) (g : Fin 448) : inT (wrapT (posT C)) (ix2 o g) = 1#1 := by
  unfold inT
  refine Host.reduce_andi_one _ _ _ _ _ rfl fun i => ?_
  idx_vars i
  pointwise
  rw [wrapT_apply, posT_apply]
  have hx := (C (ix3 i0 i1 0)).isLt
  have hy := (C (ix3 i0 i1 1)).isLt
  have e : (65535#32).toInt = 65535 := by decide
  simp only [IntOp.cmpi, BitVec.sle, pos_toInt, BitVec.toInt_zero, e]
  rw [decide_eq_true (by omega), decide_eq_true (by omega)]
  rfl

/-- The rows taken are sums of the groups' codebook entries. -/
theorem takeT_apply (o : Fin 18944) (g : Fin 448) (d : Fin 8) :
    takeT (pairT B) (posT C) (ix3 o g d) = (Spec.book B 0 (C (ix3 o g 0)) d + Spec.book B 1 (C (ix3 o g 1)) d : EReal) := by
  have hx := (C (ix3 o g 0)).isLt
  have hy := (C (ix3 o g 1)).isLt
  unfold takeT
  pointwise
  rw [inT_apply, gather_apply]
  refine pairT_apply B _ _ _ ?_ d
  show min (wrapT (posT C) (ix3 o g 0)).toInt.toNat 65535 = _
  rw [wrapT_apply, posT_apply, pos_toInt, Int.toNat_natCast]
  omega

/-- The residual from the rows taken. -/
theorem resT_cell (T : FVec Ideal S18944x448x8 .f32) (o : Fin 18944) (k : Fin 3584) :
    resT W T S (ix2 o k) = W (ix2 o k) - T (ix3 o ⟨k.val / 64 * 8 + k.val % 64 / 8, by omega⟩ ⟨k.val % 64 % 8, by omega⟩) * S (ix2 o ⟨k.val / 64, by omega⟩) := by
  unfold resT
  pointwise

/-- The reference's residual. -/
theorem resT_apply (o : Fin 18944) (k : Fin 3584) : resT W (takeT (pairT B) (posT C)) S (ix2 o k) = Spec.res W C B S o k := by
  rw [resT_cell]
  have e0 : k.val / 64 * 8 + k.val % 64 / 8 = k.val / 8 := by omega
  have e1 : k.val % 64 % 8 = k.val % 8 := by omega
  simp only [e0, e1]
  rw [takeT_apply]
  rfl

/-- The objective by groups from a residual. -/
theorem egT_cell (R : FVec Ideal S18944x3584 .f32) (o : Fin 18944) (g : Fin 448) :
    egT R H (ix2 o g) = ∑ d : Fin 8, R (ix2 o ⟨g.val * 8 + d.val, by omega⟩) * ∑ j : Fin 3584, R (ix2 o j) * H (ix2 j ⟨g.val * 8 + d.val, by omega⟩) := by
  unfold egT
  pointwise

/-- The reference's objective by groups. -/
theorem egT_apply (o : Fin 18944) (g : Fin 448) : egT (resT W (takeT (pairT B) (posT C)) S) H (ix2 o g) = Spec.eg W C B S H o g := by
  rw [egT_cell]
  unfold Spec.eg Spec.act
  refine Finset.sum_congr rfl fun d _ => ?_
  simp only [resT_apply, Nat.mul_comm g.val 8]

/-- The sum over a row's groups. -/
theorem eT_cell (G : FVec Ideal S18944x448 .f32) (o : Fin 18944) : eT G (ix1 o) = ∑ g : Fin 448, G (ix2 o g) := by
  unfold eT
  pointwise

/-- The reference's objective by rows. -/
theorem eT_apply (o : Fin 18944) : eT (egT (resT W (takeT (pairT B) (posT C)) S) H) (ix1 o) = Spec.e W C B S H o := by
  rw [eT_cell]
  exact Finset.sum_congr rfl fun g _ => egT_apply W C B S H o g

/-- The sum over the rows. -/
theorem totalT_cell (E : FVec Ideal S18944 .f32) : totalT E ix0 = ∑ o : Fin 18944, E (ix1 o) := by
  unfold totalT
  pointwise

/-- The reference's whole objective. -/
theorem totalT_apply (i : S_.Idx) : totalT (eT (egT (resT W (takeT (pairT B) (posT C)) S) H)) i = Spec.total W C B S H := by
  have hi : i = ix0 := funext fun a => a.elim0
  rw [hi, totalT_cell]
  exact Finset.sum_congr rfl fun o _ => eT_apply W C B S H o

end Cert.Proof.Reference
-- ==== Proof.RefRun.lean ====
/-
  The reference run on arguments, with its three results named.
-/
module

public import proofs.«01_k».proof.Proof.RefValue

@[expose] public section

set_option maxRecDepth 16384

noncomputable section

namespace Cert.Proof.Reference

open Cert.ReferenceIdeal Cert.ReferenceIdeal.Gen
open Idealize.ShloMosaic Idealize.ShloMosaic.TcCoe Idealize.SL.Sem

variable (m : (ℓ : Loc nD τ sig) → Buf (Elt Ideal) ℓ)

/-- The objective by groups of a memory's arguments. -/
def groups (c : Dev nD) : FVec Ideal S18944x448 .f32 :=
  egT (resT (m ((c.tc : Thread nD τ).loc main_arg0)) (takeT (pairT (m ((c.tc : Thread nD τ).loc main_arg2))) (posT (m ((c.tc : Thread nD τ).loc main_arg1)))) (m ((c.tc : Thread nD τ).loc main_arg3)))
    (m ((c.tc : Thread nD τ).loc main_arg4))

/-- The reference runs to its three results, its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v33) = eT (groups m c)
      ∧ r.2.mem ((c.tc : Thread nD τ).loc main_v32) = groups m c
      ∧ r.2.mem ((c.tc : Thread nD τ).loc main_v34) = totalT (eT (groups m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  all_goals simp -implicitDefEqProofs only [StableHlo.TRef.ofBuf, StableHlo.TRef.toBuf, cast_cast, cast_eq]
  all_goals eta_reduce
  all_goals rfl

end Cert.Proof.Reference
-- ==== Proof.Algebraic.lean ====
/-
  The idealized kernel and the reference compute the same three results.
-/
module

public import proofs.«01_k».proof.Proof.ResultsIdeal
public import proofs.«01_k».proof.Proof.PreIdeal
public import proofs.«01_k».proof.Proof.RefRun

@[expose] public section

set_option maxRecDepth 16384

noncomputable section

namespace Cert.Proof

open Idealize.ShloMosaic Idealize.ShloMosaic.TcCoe Idealize.SL.Sem
open Cert.Proof.KernelIdeal (argW argC argB argS argH)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference's memory carries the kernel's arguments. -/
abbrev Agree (c : Dev Cert.KernelIdeal.nD) : Prop :=
  m' ((c.tc : Thread Cert.ReferenceIdeal.nD Cert.ReferenceIdeal.τ).loc Cert.ReferenceIdeal.main_arg0) = argW m c
  ∧ m' ((c.tc : Thread Cert.ReferenceIdeal.nD Cert.ReferenceIdeal.τ).loc Cert.ReferenceIdeal.main_arg1) = argC m c
  ∧ m' ((c.tc : Thread Cert.ReferenceIdeal.nD Cert.ReferenceIdeal.τ).loc Cert.ReferenceIdeal.main_arg2) = argB m c
  ∧ m' ((c.tc : Thread Cert.ReferenceIdeal.nD Cert.ReferenceIdeal.τ).loc Cert.ReferenceIdeal.main_arg3) = argS m c
  ∧ m' ((c.tc : Thread Cert.ReferenceIdeal.nD Cert.ReferenceIdeal.τ).loc Cert.ReferenceIdeal.main_arg4) = argH m c

/-- The reference's objective by groups, of the kernel's arguments. -/
theorem groups_agree (c : Dev Cert.KernelIdeal.nD) (h : Agree m m' c) :
    Reference.groups m' c = Reference.egT (Reference.resT (argW m c) (Reference.takeT (Reference.pairT (argB m c)) (Reference.posT (argC m c))) (argS m c)) (argH m c) := by
  unfold Reference.groups
  rw [h.1, h.2.1, h.2.2.1, h.2.2.2.1, h.2.2.2.2]

/-- The reference's objective by groups is the kernel's second result. -/
theorem v13_agree (c : Dev Cert.KernelIdeal.nD) (hf : KernelIdeal.FinArgs m c) (h : Agree m m' c) :
    Reference.groups m' c = Cert.KernelIdeal.Gen.V4 m (KernelIdeal.outs m) c Cert.KernelIdeal.main_v13 := by
  funext i
  idx_vars i
  rw [groups_agree m m' c h, Reference.egT_apply]
  exact (KernelIdeal.v13_ideal m c hf i0 i1).symm

/-- The reference's objective by rows is the kernel's first result. -/
theorem v12_agree (c : Dev Cert.KernelIdeal.nD) (hf : KernelIdeal.FinArgs m c) (h : Agree m m' c) :
    Reference.eT (Reference.groups m' c) = Cert.KernelIdeal.Gen.V4 m (KernelIdeal.outs m) c Cert.KernelIdeal.main_v12 := by
  funext i
  idx_vars i
  rw [groups_agree m m' c h, Reference.eT_apply]
  exact (KernelIdeal.v12_ideal m c hf i0).symm

/-- The reference's whole objective is the kernel's third result. -/
theorem v15_agree (c : Dev Cert.KernelIdeal.nD) (hf : KernelIdeal.FinArgs m c) (h : Agree m m' c) :
    Reference.totalT (Reference.eT (Reference.groups m' c)) = Cert.KernelIdeal.Gen.V4 m (KernelIdeal.outs m) c Cert.KernelIdeal.main_v15 := by
  funext i
  rw [groups_agree m m' c h, Reference.totalT_apply]
  exact (KernelIdeal.v15_ideal m c hf i).symm

/-- On real arguments the idealized kernel computes the reference's three results. -/
theorem algebraic : Cert.algebraic_KernelIdeal_ReferenceIdeal_pre_finite := by
  intro m g m' g' hp ha
  refine ⟨fun c => Cert.KernelIdeal.Gen.V4 m (KernelIdeal.outs m) c Cert.KernelIdeal.main_v12, fun c => Cert.KernelIdeal.Gen.V4 m (KernelIdeal.outs m) c Cert.KernelIdeal.main_v13,
    fun c => Cert.KernelIdeal.Gen.V4 m (KernelIdeal.outs m) c Cert.KernelIdeal.main_v15, ?_, ?_⟩
  · refine (θ_run _ _ _).mono (fun r h c => ?_) (KernelIdeal.run_all m g)
    obtain ⟨h0, h1, h2, h3, h4, h12, h13, h15⟩ := h.1 c
    exact ⟨h12, h13, h15, h0, h1, h2, h3, h4⟩
  · refine (θ_run _ _ _).mono (fun r h c => ?_) (Reference.run m' g')
    obtain ⟨h33, h32, h34, hr⟩ := h c
    have hf := KernelIdeal.finArgs m hp c
    exact ⟨h33.trans (v12_agree m m' c hf (ha c)), h32.trans (v13_agree m m' c hf (ha c)), h34.trans (v15_agree m m' c hf (ha c)), hr⟩

end Cert.Proof
-- ==== Proof.lean ====
/-
  The proof of `Cert.Claim`: the runs of the three programs, put together.
-/
module

public import proofs.«01_k».proof.Defs
public import proofs.«01_k».proof.Proof.Runs
public import proofs.«01_k».proof.Proof.RunsIdeal
public import proofs.«01_k».proof.Proof.RefFrame
public import proofs.«01_k».proof.Proof.Algebraic

@[expose] public section

noncomputable section

namespace Cert.Proof

open Idealize.ShloMosaic Idealize.ShloMosaic.TcCoe Idealize.SL.Sem

/-- The kernel runs, its arguments end unchanged and every semaphore reads zero. -/
theorem frameKernel : Cert.quiescent_Kernel := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.Proof.Kernel.run_all m g)

/-- The idealized kernel runs, its arguments end unchanged and every semaphore reads zero. -/
theorem frameIdeal : Cert.quiescent_KernelIdeal := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.Proof.KernelIdeal.run_all m g)

/-- Each rewrite the idealized kernel was printed with is an instance of its rule. -/
theorem rewrites : Cert.preserves_Kernel_KernelIdeal :=
  ⟨IdealRules.bf16_pack.statement _, IdealRules.bf16_pack.statement _⟩

/-- Everything the certificate claims. -/
theorem claim : Cert.Claim :=
  ⟨Cert.Kernel.Gen.facts, Cert.KernelIdeal.Gen.facts, Cert.ReferenceIdeal.Gen.facts, Cert.Proof.KernelIdeal.preFacts,
    frameKernel, frameIdeal, fun m g _ => frameIdeal m g trivial, Cert.Proof.Reference.frame, fun m g _ => Cert.Proof.Reference.frame m g trivial, rewrites, algebraic⟩

end Cert.Proof
